-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_mid [hPre_finite_mid : Cert.Pre_finite_mid.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_mid.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_mid [hPre_finite_mid : Cert.Pre_finite_mid.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_mid.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_mid [hKernel2Ideal : Cert.Kernel2Ideal.Facts] [hPre_finite_mid : Cert.Pre_finite_mid.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_mid m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_mid [hReference2Ideal : Cert.Reference2Ideal.Facts] [hPre_finite_mid : Cert.Pre_finite_mid.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_mid m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)) (v3 : (c : Dev Cert.KernelIdeal.nD) → Buf (Elt Ideal) ((c.tc : Thread Cert.KernelIdeal.nD Cert.KernelIdeal.τ).loc Cert.KernelIdeal.main_v43_3)) (v4 : (c : Dev Cert.KernelIdeal.nD) → Buf (Elt Ideal) ((c.tc : Thread Cert.KernelIdeal.nD Cert.KernelIdeal.τ).loc Cert.KernelIdeal.main_v43_4)) (v5 : (c : Dev Cert.KernelIdeal.nD) → Buf (Elt Ideal) ((c.tc : Thread Cert.KernelIdeal.nD Cert.KernelIdeal.τ).loc Cert.KernelIdeal.main_v43_5)) (v6 : (c : Dev Cert.KernelIdeal.nD) → Buf (Elt Ideal) ((c.tc : Thread Cert.KernelIdeal.nD Cert.KernelIdeal.τ).loc Cert.KernelIdeal.main_v43_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v43_0) i = v0 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v43_1) i = v1 c i)
          ∧ (∀ i : (⟨2, ![2048, 4608]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v43_2) i = v2 c i)
          ∧ (∀ i : (⟨4, ![8, 4, 1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_v43_3) i = v3 c i)
          ∧ (∀ i : (⟨4, ![8, 4, 1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.KernelIdeal.nD Cert.KernelIdeal.τ).loc Cert.KernelIdeal.main_v43_4) i = v4 c i)
          ∧ (∀ i : (⟨3, ![8, 2048, 1]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 i = 1#1 → r.2.mem ((c.tc : Thread Cert.KernelIdeal.nD Cert.KernelIdeal.τ).loc Cert.KernelIdeal.main_v43_5) i = v5 c i)
          ∧ (∀ i : (⟨3, ![8, 2048, 1]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2 i = 1#1 → r.2.mem ((c.tc : Thread Cert.KernelIdeal.nD Cert.KernelIdeal.τ).loc Cert.KernelIdeal.main_v43_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v79) i = v0 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v80) i = v1 c i)
          ∧ (∀ i : (⟨2, ![2048, 4608]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v78) i = v2 c i)
          ∧ (∀ i : (⟨4, ![8, 4, 1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_v84) i = v3 c i)
          ∧ (∀ i : (⟨4, ![8, 4, 1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.ReferenceIdeal.nD Cert.ReferenceIdeal.τ).loc Cert.ReferenceIdeal.main_v88) i = v4 c i)
          ∧ (∀ i : (⟨3, ![8, 2048, 1]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 i = 1#1 → r.2.mem ((c.tc : Thread Cert.ReferenceIdeal.nD Cert.ReferenceIdeal.τ).loc Cert.ReferenceIdeal.main_v92) i = v5 c i)
          ∧ (∀ i : (⟨3, ![8, 2048, 1]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2 i = 1#1 → r.2.mem ((c.tc : Thread Cert.ReferenceIdeal.nD Cert.ReferenceIdeal.τ).loc Cert.ReferenceIdeal.main_v96) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_mid [hKernel2Ideal : Cert.Kernel2Ideal.Facts] [hReference2Ideal : Cert.Reference2Ideal.Facts] [hPre_finite_mid : Cert.Pre_finite_mid.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_mid m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v13) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_v5) = v2 c
          ∧ r.2.mem ((c.tc : Thread Cert.Reference6Ideal.nD Cert.Reference6Ideal.τ).loc Cert.Reference6Ideal.main_v11) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_v8) = v1 c
          ∧ r.2.mem ((c.tc : Thread Cert.Reference9Ideal.nD Cert.Reference9Ideal.τ).loc Cert.Reference9Ideal.main_v11) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v8) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v34) = v0 c
          ∧ r.2.mem ((c.tc : Thread Cert.Reference14Ideal.nD Cert.Reference14Ideal.τ).loc Cert.Reference14Ideal.main_v17) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v7) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite_mid : Cert.Pre_finite_mid.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_mid (hKernel2Ideal := hKernel2Ideal) (hPre_finite_mid := hPre_finite_mid)
    ∧ quiescent_Reference2Ideal (hReference2Ideal := hReference2Ideal)
    ∧ quiescent_Reference2Ideal_pre_finite_mid (hReference2Ideal := hReference2Ideal) (hPre_finite_mid := hPre_finite_mid)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal_pre_finite_mid (hKernel2Ideal := hKernel2Ideal) (hReference2Ideal := hReference2Ideal) (hPre_finite_mid := hPre_finite_mid)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== On_written.lean ====
abbrev S2048x16x64 : Shape := ⟨3, ![2048, 16, 64]⟩
abbrev S16x2048 : Shape := ⟨2, ![16, 2048]⟩
abbrev S2048x4608 : Shape := ⟨2, ![2048, 4608]⟩
abbrev S_ : Shape := ⟨0, ![]⟩
abbrev S2048x1024 : Shape := ⟨2, ![2048, 1024]⟩
abbrev S8x4x1x512 : Shape := ⟨4, ![8, 4, 1, 512]⟩
abbrev S8x2048x1 : Shape := ⟨3, ![8, 2048, 1]⟩

class Facts : Prop where
  bcast_S_S2048x1024 : S_.BroadcastsInDim S2048x1024 (![] : Fin 0 → Fin S2048x1024.rank)
  bcast_S_S2048x4608 : S_.BroadcastsInDim S2048x4608 (![] : Fin 0 → Fin S2048x4608.rank)
  bcast_S_S8x4x1x512 : S_.BroadcastsInDim S8x4x1x512 (![] : Fin 0 → Fin S8x4x1x512.rank)
  bcast_S_S8x2048x1 : S_.BroadcastsInDim S8x2048x1 (![] : Fin 0 → Fin S8x2048x1.rank)

variable [Facts]

def fn {F : FTy → Type} [FloatOps F] (main_arg0 : FVec F S2048x16x64 .f32) (main_arg1 : FVec F S2048x16x64 .f32) (main_arg2 : FVec F S2048x16x64 .f32) (main_arg3 : FVec F S16x2048 .f32) (main_arg4 : FVec F S2048x16x64 .f32) : IVec S2048x1024 1 × IVec S2048x1024 1 × IVec S2048x4608 1 × IVec S8x4x1x512 1 × IVec S8x4x1x512 1 × IVec S8x2048x1 1 × IVec S8x2048x1 1 :=
  let main_v0 : IVec S2048x4608 32 := iotaInDim S2048x4608 32 1
  let main_c : IVec S_ 1 := constantI S_ 1 1#1
  let main_v1 : IVec S2048x1024 1 := broadcastInDim S2048x1024 ![] bcast_S_S2048x1024 main_c
  let main_c_0 : IVec S_ 1 := constantI S_ 1 1#1
  let main_v2 : IVec S2048x1024 1 := broadcastInDim S2048x1024 ![] bcast_S_S2048x1024 main_c_0
  let main_c_1 : IVec S_ 32 := constantI S_ 32 2048#32
  let main_v3 : IVec S2048x4608 32 := broadcastInDim S2048x4608 ![] bcast_S_S2048x4608 main_c_1
  let main_v4 : IVec S2048x4608 1 := cmpi .sge main_v0 main_v3
  let main_c_2 : IVec S_ 32 := constantI S_ 32 3072#32
  let main_v5 : IVec S2048x4608 32 := broadcastInDim S2048x4608 ![] bcast_S_S2048x4608 main_c_2
  let main_v6 : IVec S2048x4608 1 := cmpi .slt main_v0 main_v5
  let main_v7 : IVec S2048x4608 1 := andi main_v4 main_v6
  let main_c_3 : IVec S_ 1 := constantI S_ 1 1#1
  let main_v8 : IVec S8x4x1x512 1 := broadcastInDim S8x4x1x512 ![] bcast_S_S8x4x1x512 main_c_3
  let main_c_4 : IVec S_ 1 := constantI S_ 1 1#1
  let main_v9 : IVec S8x4x1x512 1 := broadcastInDim S8x4x1x512 ![] bcast_S_S8x4x1x512 main_c_4
  let main_c_5 : IVec S_ 1 := constantI S_ 1 1#1
  let main_v10 : IVec S8x2048x1 1 := broadcastInDim S8x2048x1 ![] bcast_S_S8x2048x1 main_c_5
  let main_c_6 : IVec S_ 1 := constantI S_ 1 1#1
  let main_v11 : IVec S8x2048x1 1 := broadcastInDim S8x2048x1 ![] bcast_S_S8x2048x1 main_c_6
  (main_v1, main_v2, main_v7, main_v8, main_v9, main_v10, main_v11)
-- ==== Pre_finite.lean ====
abbrev S2048x16x64 : Shape := ⟨3, ![2048, 16, 64]⟩
abbrev S16x2048 : Shape := ⟨2, ![16, 2048]⟩
abbrev S_ : Shape := ⟨0, ![]⟩

class Facts : Prop where
  bcast_S_S2048x16x64 : S_.BroadcastsInDim S2048x16x64 (![] : Fin 0 → Fin S2048x16x64.rank)
  reducesTo_S2048x16x64_S_d0_1_2 : S2048x16x64.ReducesTo [0, 1, 2] S_
  h_S_ : 0 < S_.numel
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_arg4 : FVec F S2048x16x64 .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S2048x16x64 .f32 := Host.absf main_arg4
  let main_cst_6 : FVec F S_ .f32 := constant S_ .f32 0x7F800000#32
  let main_v20 : FVec F S2048x16x64 .f32 := broadcastInDim S2048x16x64 ![] bcast_S_S2048x16x64 main_cst_6
  let main_v21 : IVec S2048x16x64 1 := cmpf .olt main_v19 main_v20
  let main_c_7 : IVec S_ 1 := constantI S_ 1 1#1
  let main_v22 : IVec S_ 1 := (fun x v => Host.reduce IntOp.andi x v reducesTo_S2048x16x64_S_d0_1_2 h_S_) main_v21 main_c_7
  let main_v23 : IVec S_ 1 := andi main_v18 main_v22
  main_v23

def fn {F : FTy → Type} [FloatOps F] (main_arg0 : FVec F S2048x16x64 .f32) (main_arg1 : FVec F S2048x16x64 .f32) (main_arg2 : FVec F S2048x16x64 .f32) (main_arg3 : FVec F S16x2048 .f32) (main_arg4 : FVec F S2048x16x64 .f32) : IVec S_ 1 :=
  let main_v0 : FVec F S2048x16x64 .f32 := Host.absf main_arg0
  let main_cst : FVec F S_ .f32 := constant S_ .f32 0x7F800000#32
  let main_v1 : FVec F S2048x16x64 .f32 := broadcastInDim S2048x16x64 ![] bcast_S_S2048x16x64 main_cst
  let main_v2 : IVec S2048x16x64 1 := cmpf .olt main_v0 main_v1
  let main_c : IVec S_ 1 := constantI S_ 1 1#1
  let main_v3 : IVec S_ 1 := (fun x v => Host.reduce IntOp.andi x v reducesTo_S2048x16x64_S_d0_1_2 h_S_) main_v2 main_c
  let main_v4 : FVec F S2048x16x64 .f32 := Host.absf main_arg1
  let main_cst_0 : FVec F S_ .f32 := constant S_ .f32 0x7F800000#32
  let main_v5 : FVec F S2048x16x64 .f32 := broadcastInDim S2048x16x64 ![] bcast_S_S2048x16x64 main_cst_0
  let main_v6 : IVec S2048x16x64 1 := cmpf .olt main_v4 main_v5
  let main_c_1 : IVec S_ 1 := constantI S_ 1 1#1
  let main_v7 : IVec S_ 1 := (fun x v => Host.reduce IntOp.andi x v reducesTo_S2048x16x64_S_d0_1_2 h_S_) main_v6 main_c_1
  let main_v8 : IVec S_ 1 := andi main_v3 main_v7
  let main_v9 : FVec F S2048x16x64 .f32 := Host.absf main_arg2
  let main_cst_2 : FVec F S_ .f32 := constant S_ .f32 0x7F800000#32
  let main_v10 : FVec F S2048x16x64 .f32 := broadcastInDim S2048x16x64 ![] bcast_S_S2048x16x64 main_cst_2
  let main_v11 : IVec S2048x16x64 1 := cmpf .olt main_v9 main_v10
  let main_c_3 : IVec S_ 1 := constantI S_ 1 1#1
  let main_v12 : IVec S_ 1 := (fun x v => Host.reduce IntOp.andi x v reducesTo_S2048x16x64_S_d0_1_2 h_S_) main_v11 main_c_3
  let main_v13 : IVec S_ 1 := andi main_v8 main_v12
  let main_v14 : FVec F S16x2048 .f32 := Host.absf main_arg3
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg4 main_v13 main_v16
-- ==== Pre_finite_mid.lean ====
abbrev S2048x2048 : Shape := ⟨2, ![2048, 2048]⟩
abbrev S8x704x2048 : Shape := ⟨3, ![8, 704, 2048]⟩
abbrev S8x2048x704 : Shape := ⟨3, ![8, 2048, 704]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S8x704x2048 : S_.BroadcastsInDim S8x704x2048 (![] : Fin 0 → Fin S8x704x2048.rank)
  reducesTo_S8x704x2048_S_d0_1_2 : S8x704x2048.ReducesTo [0, 1, 2] S_
  bcast_S_S8x2048x704 : S_.BroadcastsInDim S8x2048x704 (![] : Fin 0 → Fin S8x2048x704.rank)
  reducesTo_S8x2048x704_S_d0_1_2 : S8x2048x704.ReducesTo [0, 1, 2] S_

variable [Facts]

def fn {F : FTy → Type} [FloatOps F] (main_arg0 : FVec F S2048x2048 .bf16) (main_arg1 : FVec F S8x704x2048 .bf16) (main_arg2 : FVec F S8x2048x704 .bf16) (main_arg3 : FVec F S8x2048x704 .bf16) : IVec S_ 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S8x704x2048 .bf16 := Host.absf main_arg1
  let main_cst_0 : FVec F S_ .bf16 := constant S_ .bf16 0x7F80#16
  let main_v5 : FVec F S8x704x2048 .bf16 := broadcastInDim S8x704x2048 ![] bcast_S_S8x704x2048 main_cst_0
  let main_v6 : IVec S8x704x2048 1 := cmpf .olt main_v4 main_v5
  let main_c_1 : IVec S_ 1 := constantI S_ 1 1#1
  let main_v7 : IVec S_ 1 := (fun x v => Host.reduce IntOp.andi x v reducesTo_S8x704x2048_S_d0_1_2 h_S_) main_v6 main_c_1
  let main_v8 : IVec S_ 1 := andi main_v3 main_v7
  let main_v9 : FVec F S8x2048x704 .bf16 := Host.absf main_arg3
  let main_cst_2 : FVec F S_ .bf16 := constant S_ .bf16 0x7F80#16
  let main_v10 : FVec F S8x2048x704 .bf16 := broadcastInDim S8x2048x704 ![] bcast_S_S8x2048x704 main_cst_2
  let main_v11 : IVec S8x2048x704 1 := cmpf .olt main_v9 main_v10
  let main_c_3 : IVec S_ 1 := constantI S_ 1 1#1
  let main_v12 : IVec S_ 1 := (fun x v => Host.reduce IntOp.andi x v reducesTo_S8x2048x704_S_d0_1_2 h_S_) main_v11 main_c_3
  let main_v13 : IVec S_ 1 := andi main_v8 main_v12
  main_v13
-- ==== Kernel.lean ====
abbrev S2048x16x64 : Shape := ⟨3, ![2048, 16, 64]⟩
abbrev S16x2048 : Shape := ⟨2, ![16, 2048]⟩
abbrev S2048 : Shape := ⟨1, ![2048]⟩
abbrev S16x2048x2048 : Shape := ⟨3, ![16, 2048, 2048]⟩
abbrev S_ : Shape := ⟨0, ![]⟩
abbrev S16x1x2048 : Shape := ⟨3, ![16, 1, 2048]⟩
abbrev S2048x1 : Shape := ⟨2, ![2048, 1]⟩
abbrev S1x2048 : Shape := ⟨2, ![1, 2048]⟩
abbrev S2048x2048 : Shape := ⟨2, ![2048, 2048]⟩
abbrev S16x2048x1 : Shape := ⟨3, ![16, 2048, 1]⟩
abbrev S16x64x2048 : Shape := ⟨3, ![16, 64, 2048]⟩
abbrev S2048x1024 : Shape := ⟨2, ![2048, 1024]⟩
abbrev S16x4x1x512 : Shape := ⟨4, ![16, 4, 1, 512]⟩
abbrev S8x2x2048x1 : Shape := ⟨4, ![8, 2, 2048, 1]⟩
abbrev S8x1x2048x1 : Shape := ⟨4, ![8, 1, 2048, 1]⟩
abbrev S8x2048x1 : Shape := ⟨3, ![8, 2048, 1]⟩
abbrev S2048x4608 : Shape := ⟨2, ![2048, 4608]⟩
abbrev S8x4x1x512 : Shape := ⟨4, ![8, 4, 1, 512]⟩
abbrev S512x128 : Shape := ⟨2, ![512, 128]⟩
abbrev S2048x128 : Shape := ⟨2, ![2048, 128]⟩
abbrev S1x4x1x512 : Shape := ⟨4, ![1, 4, 1, 512]⟩
abbrev S1x512x1 : Shape := ⟨3, ![1, 512, 1]⟩
abbrev S1024x512 : Shape := ⟨2, ![1024, 512]⟩
abbrev S1024x128 : Shape := ⟨2, ![1024, 128]⟩
abbrev S1024x1 : Shape := ⟨2, ![1024, 1]⟩
abbrev S4x1x512 : Shape := ⟨3, ![4, 1, 512]⟩
abbrev S512 : Shape := ⟨1, ![512]⟩
abbrev S512x1 : Shape := ⟨2, ![512, 1]⟩
abbrev S256x512 : Shape := ⟨2, ![256, 512]⟩
abbrev S1x1x1x512 : Shape := ⟨4, ![1, 1, 1, 512]⟩
abbrev S1x512 : Shape := ⟨2, ![1, 512]⟩
abbrev S1x256x1 : Shape := ⟨3, ![1, 256, 1]⟩
abbrev S256x1 : Shape := ⟨2, ![256, 1]⟩
abbrev S256 : Shape := ⟨1, ![256]⟩

abbrev nBuf : Space → Nat
  | .hbm => 63
  | .vmem => 39
  | .smem => 0
  | _ => 0

abbrev bufTy : (tb : Table) → Fin (tcTables nBuf tb) → BufTy
  | .hbm, ⟨0, _⟩ => ⟨S2048x16x64, .f32⟩
  | .hbm, ⟨1, _⟩ => ⟨S2048x16x64, .f32⟩
  | .hbm, ⟨2, _⟩ => ⟨S2048x16x64, .f32⟩
  | .hbm, ⟨3, _⟩ => ⟨S16x2048, .f32⟩
  | .hbm, ⟨4, _⟩ => ⟨S2048x16x64, .f32⟩
  | .hbm, ⟨5, _⟩ => ⟨S2048, .i32⟩
  | .hbm, ⟨6, _⟩ => ⟨S16x2048x2048, .f32⟩
  | .hbm, ⟨7, _⟩ => ⟨S_, .f32⟩
  | .hbm, ⟨8, _⟩ => ⟨S16x2048x2048, .f32⟩
  | .hbm, ⟨9, _⟩ => ⟨S16x2048x2048, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S2048x1, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .f32⟩
  | .hbm, ⟨19, _⟩ => ⟨S_, .f32⟩
  | .hbm, ⟨20, _⟩ => ⟨S16x2048x2048, .i1⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S16x2048x2048, .f32⟩
  | .hbm, ⟨33, _⟩ => ⟨S16x2048x2048, .f32⟩
  | .hbm, ⟨34, _⟩ => ⟨S16x64x2048, .f32⟩
  | .hbm, ⟨35, _⟩ => ⟨S2048x16x64, .f32⟩
  | .hbm, ⟨36, _⟩ => ⟨S16x2048x1, .f32⟩
  | .hbm, ⟨37, _⟩ => ⟨S16x2048x1, .f32⟩
  | .hbm, ⟨38, _⟩ => ⟨S_, .f32⟩
  | .hbm, ⟨39, _⟩ => ⟨S2048x16x64, .f32⟩
  | .hbm, ⟨40, _⟩ => ⟨S2048x16x64, .f32⟩
  | .hbm, ⟨41, _⟩ => ⟨S2048x1024, .f32⟩
  | .hbm, ⟨42, _⟩ => ⟨S2048x1024, .f32⟩
  | .hbm, ⟨43, _⟩ => ⟨S2048x2048, .f32⟩
  | .hbm, ⟨44, _⟩ => ⟨S2048x2048, .bf16⟩
  | .hbm, ⟨45, _⟩ => ⟨S16x4x1x512, .f32⟩
  | .hbm, ⟨46, _⟩ => ⟨S8x2x2048x1, .f32⟩
  | .hbm, ⟨47, _⟩ => ⟨S2048x1024, .f32⟩
  | .hbm, ⟨48, _⟩ => ⟨S2048x1024, .bf16⟩
  | .hbm, ⟨49, _⟩ => ⟨S2048x1024, .f32⟩
  | .hbm, ⟨50, _⟩ => ⟨S2048x1024, .f32⟩
  | .hbm, ⟨51, _⟩ => ⟨S2048x1024, .bf16⟩
  | .hbm, ⟨52, _⟩ => ⟨S8x1x2048x1, .f32⟩
  | .hbm, ⟨53, _⟩ => ⟨S8x2048x1, .f32⟩
  | .hbm, ⟨54, _⟩ => ⟨S8x1x2048x1, .f32⟩
  | .hbm, ⟨55, _⟩ => ⟨S8x2048x1, .f32⟩
  | .hbm, ⟨56, _⟩ => ⟨S2048x1024, .f32⟩
  | .hbm, ⟨57, _⟩ => ⟨S2048x1024, .f32⟩
  | .hbm, ⟨58, _⟩ => ⟨S2048x4608, .bf16⟩
  | .hbm, ⟨59, _⟩ => ⟨S8x4x1x512, .f32⟩
  | .hbm, ⟨60, _⟩ => ⟨S8x4x1x512, .f32⟩
  | .hbm, ⟨61, _⟩ => ⟨S8x2048x1, .f32⟩
  | .hbm, ⟨62, _⟩ => ⟨S8x2048x1, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S1x4x1x512, .f32⟩
  | .local _ .vmem, ⟨11, _⟩ => ⟨S1x4x1x512, .f32⟩
  | .local _ .vmem, ⟨12, _⟩ => ⟨S1x4x1x512, .f32⟩
  | .local _ .vmem, ⟨13, _⟩ => ⟨S1x4x1x512, .f32⟩
  | .local _ .vmem, ⟨14, _⟩ => ⟨S1x512x1, .f32⟩
  | .local _ .vmem, ⟨15, _⟩ => ⟨S1x512x1, .f32⟩
  | .local _ .vmem, ⟨16, _⟩ => ⟨S1x512x1, .f32⟩
  | .local _ .vmem, ⟨17, _⟩ => ⟨S1x512x1, .f32⟩
  | .local _ .vmem, ⟨18, _⟩ => ⟨S512x128, .f32⟩
  | .local _ .vmem, ⟨19, _⟩ => ⟨S512x128, .f32⟩
  | .local _ .vmem, ⟨20, _⟩ => ⟨S2048x128, .f32⟩
  | .local _ .vmem, ⟨21, _⟩ => ⟨S2048x128, .f32⟩
  | .local _ .vmem, ⟨22, _⟩ => ⟨S2048x128, .bf16⟩
  | .local _ .vmem, ⟨23, _⟩ => ⟨S2048x128, .bf16⟩
  | .local _ .vmem, ⟨24, _⟩ => ⟨S1x4x1x512, .f32⟩
  | .local _ .vmem, ⟨25, _⟩ => ⟨S1x4x1x512, .f32⟩
  | .local _ .vmem, ⟨26, _⟩ => ⟨S1x4x1x512, .f32⟩
  | .local _ .vmem, ⟨27, _⟩ => ⟨S1x4x1x512, .f32⟩
  | .local _ .vmem, ⟨28, _⟩ => ⟨S1x512x1, .f32⟩
  | .local _ .vmem, ⟨29, _⟩ => ⟨S1x512x1, .f32⟩
  | .local _ .vmem, ⟨30, _⟩ => ⟨S1x512x1, .f32⟩
  | .local _ .vmem, ⟨31, _⟩ => ⟨S1x512x1, .f32⟩
  | .local _ .vmem, ⟨32, _⟩ => ⟨S1024x512, .f32⟩
  | .local _ .vmem, ⟨33, _⟩ => ⟨S1024x512, .f32⟩
  | .local _ .vmem, ⟨34, _⟩ => ⟨S1024x512, .bf16⟩
  | .local _ .vmem, ⟨35, _⟩ => ⟨S1024x512, .bf16⟩
  | .local _ .vmem, ⟨36, _⟩ => ⟨S1024x128, .f32⟩
  | .local _ .vmem, ⟨37, _⟩ => ⟨S1024x1, .f32⟩
  | .local _ .vmem, ⟨38, _⟩ => ⟨S2048x128, .f32⟩
  | _, _ => ⟨S2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43_0 : Ref sig .tc := ⟨.hbm, 56, rfl⟩
abbrev main_v43_1 : Ref sig .tc := ⟨.hbm, 57, rfl⟩
abbrev main_v43_2 : Ref sig .tc := ⟨.hbm, 58, rfl⟩
abbrev main_v43_3 : Ref sig .tc := ⟨.hbm, 59, rfl⟩
abbrev main_v43_4 : Ref sig .tc := ⟨.hbm, 60, rfl⟩
abbrev main_v43_5 : Ref sig .tc := ⟨.hbm, 61, rfl⟩
abbrev main_v43_6 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_34 : BitVec 32 := 0#32
  let arg1 : BitVec 32 := BitVec.ofNat 32 (i 1).val
  let c512_i32 : BitVec 32 := 512#32
  let v62 : BitVec 32 := Scalar.muli arg1 c512_i32
  let c0_i32_29 : BitVec 32 := 0#32
  let v64 : BitVec 1 := Scalar.cmpi .sgt v62 c0_i32_29
  let v65 : BitVec 32 := Scalar.extui v64
  let c0_i32_30 : BitVec 32 := 0#32
  let v66 : BitVec 1 := Scalar.cmpi .slt v62 c0_i32_30
  let v67 : BitVec 32 := Scalar.extui v66
  let v68 : BitVec 32 := Scalar.subi v65 v67
  let c512_i32_28 : BitVec 32 := 512#32
  let c0_i32_31 : BitVec 32 := 0#32
  let v69 : BitVec 1 := Scalar.cmpi .sgt c512_i32_28 c0_i32_31
  let v70 : BitVec 32 := Scalar.extui v69
  let c0_i32_32 : BitVec 32 := 0#32
  let v71 : BitVec 1 := Scalar.cmpi .slt c512_i32_28 c0_i32_32
  let v72 : BitVec 32 := Scalar.extui v71
  let v73 : BitVec 32 := Scalar.subi v70 v72
  let v74 : BitVec 1 := Scalar.cmpi .ne v68 v73
  let v75 : BitVec 32 := Scalar.remsi v62 c512_i32_28
  let c0_i32_33 : BitVec 32 := 0#32
  let v76 : BitVec 1 := Scalar.cmpi .ne v75 c0_i32_33
  let v77 : BitVec 1 := Scalar.andi v74 v76
  let v63 : BitVec 32 := Scalar.divsi v62 c512_i32_28
  let c1_i32 : BitVec 32 := 1#32
  let v78 : BitVec 32 := Scalar.subi v63 c1_i32
  let v79 : BitVec 32 := Scalar.select v77 v78 v63
  let v80 : BitVec 32 := Scalar.subi v79 c0_i32_34
  let c1_i32_36 : BitVec 32 := 1#32
  let v82 : BitVec 32 := Scalar.divsi v80 c1_i32_36
  let v83 : BitVec 32 := Scalar.muli v82 c1_i32_36
  let v84 : BitVec 32 := Scalar.addi c0_i32_34 v83
  let c1_i32_37 : BitVec 32 := 1#32
  ⟨c0_i32_34, v84, c1_i32_37⟩
def k0_mult1 (i : grid0.Coords) (k0_t1 : Fin (k0_t1_loop i).trips) : BitVec 32 :=
  let c0_i32_34 : BitVec 32 := 0#32
  let c1_i32_37 : BitVec 32 := 1#32
  let arg25 : BitVec 32 := Scf.iv c0_i32_34 c1_i32_37 k0_t1
  let c512_i32_186 : BitVec 32 := 512#32
  let v316 : BitVec 32 := Scalar.muli arg25 c512_i32_186
  v316
def k0_off1 (i : grid0.Coords) (k0_t1 : Fin (k0_t1_loop i).trips) : Fin 2 → Nat :=
  let c0_i32_34 : BitVec 32 := 0#32
  let c1_i32_37 : BitVec 32 := 1#32
  let arg25 : BitVec 32 := Scf.iv c0_i32_34 c1_i32_37 k0_t1
  let c512_i32_186 : BitVec 32 := 512#32
  let v316 : BitVec 32 := Scalar.muli arg25 c512_i32_186
  let v317 : BitVec 32 := v316
  let v318 : Index := Scalar.indexCast v317
  let c0_187 : Index := 0#32
  ![v318.toNat, 0]
def k0_off2 (i : grid0.Coords) (k0_t1 : Fin (k0_t1_loop i).trips) : Fin 4 → Nat :=
  let c0_195 : Index := 0#32
  let c0_i32_34 : BitVec 32 := 0#32
  let c1_i32_37 : BitVec 32 := 1#32
  let arg25 : BitVec 32 := Scf.iv c0_i32_34 c1_i32_37 k0_t1
  let v332 : Index := Scalar.indexCast arg25
  let c0_196 : Index := 0#32
  let c0_197 : Index := 0#32
  ![0, v332.toNat, 0, 0]
@[reducible] def k0_t2_loop (i : grid0.Coords) : Scf.Loop 32 :=
  let c0_i32_34 : BitVec 32 := 0#32
  let arg1 : BitVec 32 := BitVec.ofNat 32 (i 1).val
  let c512_i32 : BitVec 32 := 512#32
  let v62 : BitVec 32 := Scalar.muli arg1 c512_i32
  let c0_i32_29 : BitVec 32 := 0#32
  let v64 : BitVec 1 := Scalar.cmpi .sgt v62 c0_i32_29
  let v65 : BitVec 32 := Scalar.extui v64
  let c0_i32_30 : BitVec 32 := 0#32
  let v66 : BitVec 1 := Scalar.cmpi .slt v62 c0_i32_30
  let v67 : BitVec 32 := Scalar.extui v66
  let v68 : BitVec 32 := Scalar.subi v65 v67
  let c512_i32_28 : BitVec 32 := 512#32
  let c0_i32_31 : BitVec 32 := 0#32
  let v69 : BitVec 1 := Scalar.cmpi .sgt c512_i32_28 c0_i32_31
  let v70 : BitVec 32 := Scalar.extui v69
  let c0_i32_32 : BitVec 32 := 0#32
  let v71 : BitVec 1 := Scalar.cmpi .slt c512_i32_28 c0_i32_32
  let v72 : BitVec 32 := Scalar.extui v71
  let v73 : BitVec 32 := Scalar.subi v70 v72
  let v74 : BitVec 1 := Scalar.cmpi .ne v68 v73
  let v75 : BitVec 32 := Scalar.remsi v62 c512_i32_28
  let c0_i32_33 : BitVec 32 := 0#32
  let v76 : BitVec 1 := Scalar.cmpi .ne v75 c0_i32_33
  let v77 : BitVec 1 := Scalar.andi v74 v76
  let v63 : BitVec 32 := Scalar.divsi v62 c512_i32_28
  let c1_i32 : BitVec 32 := 1#32
  let v78 : BitVec 32 := Scalar.subi v63 c1_i32
  let v79 : BitVec 32 := Scalar.select v77 v78 v63
  let v80 : BitVec 32 := Scalar.subi v79 c0_i32_34
  let c1_i32_36 : BitVec 32 := 1#32
  let v82 : BitVec 32 := Scalar.divsi v80 c1_i32_36
  let v83 : BitVec 32 := Scalar.muli v82 c1_i32_36
  let v84 : BitVec 32 := Scalar.addi c0_i32_34 v83
  let v81 : BitVec 32 := Scalar.addi c0_i32_34 v80
  let c1_i32_38 : BitVec 32 := 1#32
  ⟨v84, v81, c1_i32_38⟩
def k0_mult2 (i : grid0.Coords) (k0_t2 : Fin (k0_t2_loop i).trips) : BitVec 32 :=
  let c0_i32_34 : BitVec 32 := 0#32
  let arg1 : BitVec 32 := BitVec.ofNat 32 (i 1).val
  let c512_i32 : BitVec 32 := 512#32
  let v62 : BitVec 32 := Scalar.muli arg1 c512_i32
  let c0_i32_29 : BitVec 32 := 0#32
  let v64 : BitVec 1 := Scalar.cmpi .sgt v62 c0_i32_29
  let v65 : BitVec 32 := Scalar.extui v64
  let c0_i32_30 : BitVec 32 := 0#32
  let v66 : BitVec 1 := Scalar.cmpi .slt v62 c0_i32_30
  let v67 : BitVec 32 := Scalar.extui v66
  let v68 : BitVec 32 := Scalar.subi v65 v67
  let c512_i32_28 : BitVec 32 := 512#32
  let c0_i32_31 : BitVec 32 := 0#32
  let v69 : BitVec 1 := Scalar.cmpi .sgt c512_i32_28 c0_i32_31
  let v70 : BitVec 32 := Scalar.extui v69
  let c0_i32_32 : BitVec 32 := 0#32
  let v71 : BitVec 1 := Scalar.cmpi .slt c512_i32_28 c0_i32_32
  let v72 : BitVec 32 := Scalar.extui v71
  let v73 : BitVec 32 := Scalar.subi v70 v72
  let v74 : BitVec 1 := Scalar.cmpi .ne v68 v73
  let v75 : BitVec 32 := Scalar.remsi v62 c512_i32_28
  let c0_i32_33 : BitVec 32 := 0#32
  let v76 : BitVec 1 := Scalar.cmpi .ne v75 c0_i32_33
  let v77 : BitVec 1 := Scalar.andi v74 v76
  let v63 : BitVec 32 := Scalar.divsi v62 c512_i32_28
  let c1_i32 : BitVec 32 := 1#32
  let v78 : BitVec 32 := Scalar.subi v63 c1_i32
  let v79 : BitVec 32 := Scalar.select v77 v78 v63
  let v80 : BitVec 32 := Scalar.subi v79 c0_i32_34
  let c1_i32_36 : BitVec 32 := 1#32
  let v82 : BitVec 32 := Scalar.divsi v80 c1_i32_36
  let v83 : BitVec 32 := Scalar.muli v82 c1_i32_36
  let v84 : BitVec 32 := Scalar.addi c0_i32_34 v83
  let c1_i32_38 : BitVec 32 := 1#32
  let arg25 : BitVec 32 := Scf.iv v84 c1_i32_38 k0_t2
  let c512_i32_186 : BitVec 32 := 512#32
  let v316 : BitVec 32 := Scalar.muli arg25 c512_i32_186
  v316
def k0_off3 (i : grid0.Coords) (k0_t2 : Fin (k0_t2_loop i).trips) : Fin 2 → Nat :=
  let c0_i32_34 : BitVec 32 := 0#32
  let arg1 : BitVec 32 := BitVec.ofNat 32 (i 1).val
  let c512_i32 : BitVec 32 := 512#32
  let v62 : BitVec 32 := Scalar.muli arg1 c512_i32
  let c0_i32_29 : BitVec 32 := 0#32
  let v64 : BitVec 1 := Scalar.cmpi .sgt v62 c0_i32_29
  let v65 : BitVec 32 := Scalar.extui v64
  let c0_i32_30 : BitVec 32 := 0#32
  let v66 : BitVec 1 := Scalar.cmpi .slt v62 c0_i32_30
  let v67 : BitVec 32 := Scalar.extui v66
  let v68 : BitVec 32 := Scalar.subi v65 v67
  let c512_i32_28 : BitVec 32 := 512#32
  let c0_i32_31 : BitVec 32 := 0#32
  let v69 : BitVec 1 := Scalar.cmpi .sgt c512_i32_28 c0_i32_31
  let v70 : BitVec 32 := Scalar.extui v69
  let c0_i32_32 : BitVec 32 := 0#32
  let v71 : BitVec 1 := Scalar.cmpi .slt c512_i32_28 c0_i32_32
  let v72 : BitVec 32 := Scalar.extui v71
  let v73 : BitVec 32 := Scalar.subi v70 v72
  let v74 : BitVec 1 := Scalar.cmpi .ne v68 v73
  let v75 : BitVec 32 := Scalar.remsi v62 c512_i32_28
  let c0_i32_33 : BitVec 32 := 0#32
  let v76 : BitVec 1 := Scalar.cmpi .ne v75 c0_i32_33
  let v77 : BitVec 1 := Scalar.andi v74 v76
  let v63 : BitVec 32 := Scalar.divsi v62 c512_i32_28
  let c1_i32 : BitVec 32 := 1#32
  let v78 : BitVec 32 := Scalar.subi v63 c1_i32
  let v79 : BitVec 32 := Scalar.select v77 v78 v63
  let v80 : BitVec 32 := Scalar.subi v79 c0_i32_34
  let c1_i32_36 : BitVec 32 := 1#32
  let v82 : BitVec 32 := Scalar.divsi v80 c1_i32_36
  let v83 : BitVec 32 := Scalar.muli v82 c1_i32_36
  let v84 : BitVec 32 := Scalar.addi c0_i32_34 v83
  let c1_i32_38 : BitVec 32 := 1#32
  let arg25 : BitVec 32 := Scf.iv v84 c1_i32_38 k0_t2
  let c512_i32_186 : BitVec 32 := 512#32
  let v316 : BitVec 32 := Scalar.muli arg25 c512_i32_186
  let v317 : BitVec 32 := v316
  let v318 : Index := Scalar.indexCast v317
  let c0_187 : Index := 0#32
  ![v318.toNat, 0]
def k0_off4 (i : grid0.Coords) (k0_t2 : Fin (k0_t2_loop i).trips) : Fin 4 → Nat :=
  let c0_195 : Index := 0#32
  let c0_i32_34 : BitVec 32 := 0#32
  let arg1 : BitVec 32 := BitVec.ofNat 32 (i 1).val
  let c512_i32 : BitVec 32 := 512#32
  let v62 : BitVec 32 := Scalar.muli arg1 c512_i32
  let c0_i32_29 : BitVec 32 := 0#32
  let v64 : BitVec 1 := Scalar.cmpi .sgt v62 c0_i32_29
  let v65 : BitVec 32 := Scalar.extui v64
  let c0_i32_30 : BitVec 32 := 0#32
  let v66 : BitVec 1 := Scalar.cmpi .slt v62 c0_i32_30
  let v67 : BitVec 32 := Scalar.extui v66
  let v68 : BitVec 32 := Scalar.subi v65 v67
  let c512_i32_28 : BitVec 32 := 512#32
  let c0_i32_31 : BitVec 32 := 0#32
  let v69 : BitVec 1 := Scalar.cmpi .sgt c512_i32_28 c0_i32_31
  let v70 : BitVec 32 := Scalar.extui v69
  let c0_i32_32 : BitVec 32 := 0#32
  let v71 : BitVec 1 := Scalar.cmpi .slt c512_i32_28 c0_i32_32
  let v72 : BitVec 32 := Scalar.extui v71
  let v73 : BitVec 32 := Scalar.subi v70 v72
  let v74 : BitVec 1 := Scalar.cmpi .ne v68 v73
  let v75 : BitVec 32 := Scalar.remsi v62 c512_i32_28
  let c0_i32_33 : BitVec 32 := 0#32
  let v76 : BitVec 1 := Scalar.cmpi .ne v75 c0_i32_33
  let v77 : BitVec 1 := Scalar.andi v74 v76
  let v63 : BitVec 32 := Scalar.divsi v62 c512_i32_28
  let c1_i32 : BitVec 32 := 1#32
  let v78 : BitVec 32 := Scalar.subi v63 c1_i32
  let v79 : BitVec 32 := Scalar.select v77 v78 v63
  let v80 : BitVec 32 := Scalar.subi v79 c0_i32_34
  let c1_i32_36 : BitVec 32 := 1#32
  let v82 : BitVec 32 := Scalar.divsi v80 c1_i32_36
  let v83 : BitVec 32 := Scalar.muli v82 c1_i32_36
  let v84 : BitVec 32 := Scalar.addi c0_i32_34 v83
  let c1_i32_38 : BitVec 32 := 1#32
  let arg25 : BitVec 32 := Scf.iv v84 c1_i32_38 k0_t2
  let v332 : Index := Scalar.indexCast arg25
  let c0_196 : Index := 0#32
  let c0_197 : Index := 0#32
  ![0, v332.toNat, 0, 0]
def k0_mult3 (i : grid0.Coords) : BitVec 32 :=
  let arg1 : BitVec 32 := BitVec.ofNat 32 (i 1).val
  let c512_i32 : BitVec 32 := 512#32
  let v62 : BitVec 32 := Scalar.muli arg1 c512_i32
  let c0_i32_29 : BitVec 32 := 0#32
  let v64 : BitVec 1 := Scalar.cmpi .sgt v62 c0_i32_29
  let v65 : BitVec 32 := Scalar.extui v64
  let c0_i32_30 : BitVec 32 := 0#32
  let v66 : BitVec 1 := Scalar.cmpi .slt v62 c0_i32_30
  let v67 : BitVec 32 := Scalar.extui v66
  let v68 : BitVec 32 := Scalar.subi v65 v67
  let c512_i32_28 : BitVec 32 := 512#32
  let c0_i32_31 : BitVec 32 := 0#32
  let v69 : BitVec 1 := Scalar.cmpi .sgt c512_i32_28 c0_i32_31
  let v70 : BitVec 32 := Scalar.extui v69
  let c0_i32_32 : BitVec 32 := 0#32
  let v71 : BitVec 1 := Scalar.cmpi .slt c512_i32_28 c0_i32_32
  let v72 : BitVec 32 := Scalar.extui v71
  let v73 : BitVec 32 := Scalar.subi v70 v72
  let v74 : BitVec 1 := Scalar.cmpi .ne v68 v73
  let v75 : BitVec 32 := Scalar.remsi v62 c512_i32_28
  let c0_i32_33 : BitVec 32 := 0#32
  let v76 : BitVec 1 := Scalar.cmpi .ne v75 c0_i32_33
  let v77 : BitVec 1 := Scalar.andi v74 v76
  let v63 : BitVec 32 := Scalar.divsi v62 c512_i32_28
  let c1_i32 : BitVec 32 := 1#32
  let v78 : BitVec 32 := Scalar.subi v63 c1_i32
  let v79 : BitVec 32 := Scalar.select v77 v78 v63
  let c512_i32_39 : BitVec 32 := 512#32
  let v87 : BitVec 32 := Scalar.muli v79 c512_i32_39
  v87
def k0_off5 (i : grid0.Coords) : Fin 2 → Nat :=
  let arg1 : BitVec 32 := BitVec.ofNat 32 (i 1).val
  let c512_i32 : BitVec 32 := 512#32
  let v62 : BitVec 32 := Scalar.muli arg1 c512_i32
  let c0_i32_29 : BitVec 32 := 0#32
  let v64 : BitVec 1 := Scalar.cmpi .sgt v62 c0_i32_29
  let v65 : BitVec 32 := Scalar.extui v64
  let c0_i32_30 : BitVec 32 := 0#32
  let v66 : BitVec 1 := Scalar.cmpi .slt v62 c0_i32_30
  let v67 : BitVec 32 := Scalar.extui v66
  let v68 : BitVec 32 := Scalar.subi v65 v67
  let c512_i32_28 : BitVec 32 := 512#32
  let c0_i32_31 : BitVec 32 := 0#32
  let v69 : BitVec 1 := Scalar.cmpi .sgt c512_i32_28 c0_i32_31
  let v70 : BitVec 32 := Scalar.extui v69
  let c0_i32_32 : BitVec 32 := 0#32
  let v71 : BitVec 1 := Scalar.cmpi .slt c512_i32_28 c0_i32_32
  let v72 : BitVec 32 := Scalar.extui v71
  let v73 : BitVec 32 := Scalar.subi v70 v72
  let v74 : BitVec 1 := Scalar.cmpi .ne v68 v73
  let v75 : BitVec 32 := Scalar.remsi v62 c512_i32_28
  let c0_i32_33 : BitVec 32 := 0#32
  let v76 : BitVec 1 := Scalar.cmpi .ne v75 c0_i32_33
  let v77 : BitVec 1 := Scalar.andi v74 v76
  let v63 : BitVec 32 := Scalar.divsi v62 c512_i32_28
  let c1_i32 : BitVec 32 := 1#32
  let v78 : BitVec 32 := Scalar.subi v63 c1_i32
  let v79 : BitVec 32 := Scalar.select v77 v78 v63
  let c512_i32_39 : BitVec 32 := 512#32
  let v87 : BitVec 32 := Scalar.muli v79 c512_i32_39
  let v88 : BitVec 32 := v87
  let v89 : Index := Scalar.indexCast v88
  let c0_40 : Index := 0#32
  ![v89.toNat, 0]
def k0_off6 (i : grid0.Coords) : Fin 4 → Nat :=
  let c0_48 : Index := 0#32
  let arg1 : BitVec 32 := BitVec.ofNat 32 (i 1).val
  let c512_i32 : BitVec 32 := 512#32
  let v62 : BitVec 32 := Scalar.muli arg1 c512_i32
  let c0_i32_29 : BitVec 32 := 0#32
  let v64 : BitVec 1 := Scalar.cmpi .sgt v62 c0_i32_29
  let v65 : BitVec 32 := Scalar.extui v64
  let c0_i32_30 : BitVec 32 := 0#32
  let v66 : BitVec 1 := Scalar.cmpi .slt v62 c0_i32_30
  let v67 : BitVec 32 := Scalar.extui v66
  let v68 : BitVec 32 := Scalar.subi v65 v67
  let c512_i32_28 : BitVec 32 := 512#32
  let c0_i32_31 : BitVec 32 := 0#32
  let v69 : BitVec 1 := Scalar.cmpi .sgt c512_i32_28 c0_i32_31
  let v70 : BitVec 32 := Scalar.extui v69
  let c0_i32_32 : BitVec 32 := 0#32
  let v71 : BitVec 1 := Scalar.cmpi .slt c512_i32_28 c0_i32_32
  let v72 : BitVec 32 := Scalar.extui v71
  let v73 : BitVec 32 := Scalar.subi v70 v72
  let v74 : BitVec 1 := Scalar.cmpi .ne v68 v73
  let v75 : BitVec 32 := Scalar.remsi v62 c512_i32_28
  let c0_i32_33 : BitVec 32 := 0#32
  let v76 : BitVec 1 := Scalar.cmpi .ne v75 c0_i32_33
  let v77 : BitVec 1 := Scalar.andi v74 v76
  let v63 : BitVec 32 := Scalar.divsi v62 c512_i32_28
  let c1_i32 : BitVec 32 := 1#32
  let v78 : BitVec 32 := Scalar.subi v63 c1_i32
  let v79 : BitVec 32 := Scalar.select v77 v78 v63
  let v103 : Index := Scalar.indexCast v79
  let c0_49 : Index := 0#32
  let c0_50 : Index := 0#32
  ![0, v103.toNat, 0, 0]
def k0_cond2 (i : grid0.Coords) : BitVec 1 :=
  let arg1 : BitVec 32 := BitVec.ofNat 32 (i 1).val
  let c3_i32 : BitVec 32 := 3#32
  let v313 : BitVec 1 := Scalar.cmpi .eq arg1 c3_i32
  let v314 : BitVec 32 := Scalar.extui v313
  let c0_i32_185 : BitVec 32 := 0#32
  let v315 : BitVec 1 := Scalar.cmpi .ne v314 c0_i32_185
  v315

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x4x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2048x16x64 : Shape := ⟨3, ![2048, 16, 64]⟩
abbrev S16x2048 : Shape := ⟨2, ![16, 2048]⟩
abbrev S2048 : Shape := ⟨1, ![2048]⟩
abbrev S16x2048x2048 : Shape := ⟨3, ![16, 2048, 2048]⟩
abbrev S_ : Shape := ⟨0, ![]⟩
abbrev S16x2048x1 : Shape := ⟨3, ![16, 2048, 1]⟩
abbrev S16x1x2048 : Shape := ⟨3, ![16, 1, 2048]⟩
abbrev S2048x1 : Shape := ⟨2, ![2048, 1]⟩
abbrev S1x2048 : Shape := ⟨2, ![1, 2048]⟩
abbrev S2048x2048 : Shape := ⟨2, ![2048, 2048]⟩
abbrev S16x64x2048 : Shape := ⟨3, ![16, 64, 2048]⟩
abbrev S16x2048x64 : Shape := ⟨3, ![16, 2048, 64]⟩
abbrev S2048x1024 : Shape := ⟨2, ![2048, 1024]⟩
abbrev S2048x4608 : Shape := ⟨2, ![2048, 4608]⟩
abbrev S8x2x2048 : Shape := ⟨3, ![8, 2, 2048]⟩
abbrev S8x1x2048 : Shape := ⟨3, ![8, 1, 2048]⟩
abbrev S8x2048 : Shape := ⟨2, ![8, 2048]⟩
abbrev S8x4x1x512 : Shape := ⟨4, ![8, 4, 1, 512]⟩
abbrev S8x2048x1 : Shape := ⟨3, ![8, 2048, 1]⟩

abbrev nBuf : Space → Nat
  | .hbm => 130
  | .vmem => 0
  | .smem => 0
  | _ => 0

abbrev hbmTy0_0 (i : Nat) : BufTy := match i % 128 with
  | 0 => ⟨S2048x16x64, .f32⟩
  | 1 => ⟨S2048x16x64, .f32⟩
  | 2 => ⟨S2048x16x64, .f32⟩
  | 3 => ⟨S16x2048, .f32⟩
  | 4 => ⟨S2048x16x64, .f32⟩
  | 5 => ⟨S2048, .i32⟩
  | 6 => ⟨S16x2048x2048, .f32⟩
  | 7 => ⟨S_, .f32⟩
  | 8 => ⟨S16x2048x2048, .f32⟩
  | 9 => ⟨S16x2048x2048, .f32⟩
  | 10 => ⟨S16x2048x1, .f32⟩
  | 11 => ⟨S16x2048x2048, .f32⟩
  | 12 => ⟨S16x2048x2048, .f32⟩
  | 13 => ⟨S16x1x2048, .f32⟩
  | 14 => ⟨S16x2048x2048, .f32⟩
  | 15 => ⟨S16x2048x2048, .f32⟩
  | 16 => ⟨S2048x1, .i32⟩
  | 17 => ⟨S1x2048, .i32⟩
  | 18 => ⟨S2048x2048, .i32⟩
  | 19 => ⟨S2048x2048, .i32⟩
  | 20 => ⟨S2048x2048, .i1⟩
  | 21 => ⟨S_, .f32⟩
  | 22 => ⟨S_, .f32⟩
  | 23 => ⟨S16x2048x2048, .i1⟩
  | 24 => ⟨S16x2048x2048, .f32⟩
  | 25 => ⟨S16x2048x2048, .f32⟩
  | 26 => ⟨S_, .f32⟩
  | 27 => ⟨S16x2048x2048, .f32⟩
  | 28 => ⟨S_, .f32⟩
  | 29 => ⟨S16x2048, .f32⟩
  | 30 => ⟨S16x2048x1, .f32⟩
  | 31 => ⟨S16x2048x2048, .f32⟩
  | 32 => ⟨S16x2048x2048, .i1⟩
  | 33 => ⟨S16x2048x2048, .f32⟩
  | 34 => ⟨S_, .f32⟩
  | 35 => ⟨S16x2048, .f32⟩
  | 36 => ⟨S_, .f32⟩
  | 37 => ⟨S16x2048, .f32⟩
  | 38 => ⟨S16x2048, .f32⟩
  | 39 => ⟨S_, .f32⟩
  | 40 => ⟨S16x2048, .f32⟩
  | 41 => ⟨S16x2048, .i1⟩
  | 42 => ⟨S_, .f32⟩
  | 43 => ⟨S16x2048, .f32⟩
  | 44 => ⟨S16x2048, .i1⟩
  | 45 => ⟨S_, .f32⟩
  | 46 => ⟨S16x2048, .f32⟩
  | 47 => ⟨S_, .f32⟩
  | 48 => ⟨S16x2048, .f32⟩
  | 49 => ⟨S_, .f32⟩
  | 50 => ⟨S16x2048, .f32⟩
  | 51 => ⟨S16x2048, .f32⟩
  | 52 => ⟨S16x2048, .f32⟩
  | 53 => ⟨S16x2048x1, .f32⟩
  | 54 => ⟨S16x2048x2048, .f32⟩
  | 55 => ⟨S16x2048x2048, .f32⟩
  | 56 => ⟨S16x2048x2048, .f32⟩
  | 57 => ⟨S_, .f32⟩
  | 58 => ⟨S16x2048, .f32⟩
  | 59 => ⟨S16x2048x1, .f32⟩
  | 60 => ⟨S16x2048x2048, .f32⟩
  | 61 => ⟨S16x2048x2048, .f32⟩
  | 62 => ⟨S16x2048x1, .f32⟩
  | 63 => ⟨S_, .f32⟩
  | 64 => ⟨S16x2048x1, .f32⟩
  | 65 => ⟨S16x2048x1, .f32⟩
  | 66 => ⟨S16x64x2048, .f32⟩
  | 67 => ⟨S2048x16x64, .f32⟩
  | 68 => ⟨S16x64x2048, .f32⟩
  | 69 => ⟨S16x2048x2048, .f32⟩
  | 70 => ⟨S16x64x2048, .f32⟩
  | 71 => ⟨S2048x16x64, .f32⟩
  | 72 => ⟨S16x2048x2048, .f32⟩
  | 73 => ⟨S16x2048x2048, .f32⟩
  | 74 => ⟨S16x2048x2048, .f32⟩
  | 75 => ⟨S_, .f32⟩
  | 76 => ⟨S16x2048, .f32⟩
  | 77 => ⟨S16x2048x1, .f32⟩
  | 78 => ⟨S16x2048x1, .f32⟩
  | 79 => ⟨S16x2048x2048, .f32⟩
  | 80 => ⟨S16x2048x2048, .f32⟩
  | 81 => ⟨S_, .f32⟩
  | 82 => ⟨S16x2048, .f32⟩
  | 83 => ⟨S16x2048x2048, .f32⟩
  | 84 => ⟨S16x2048x2048, .f32⟩
  | 85 => ⟨S16x2048x2048, .f32⟩
  | 86 => ⟨S_, .f32⟩
  | 87 => ⟨S16x2048x2048, .f32⟩
  | 88 => ⟨S16x2048x2048, .f32⟩
  | 89 => ⟨S16x2048x2048, .f32⟩
  | 90 => ⟨S_, .f32⟩
  | 91 => ⟨S16x2048, .f32⟩
  | 92 => ⟨S16x1x2048, .f32⟩
  | 93 => ⟨S_, .f32⟩
  | 94 => ⟨S16x2048, .f32⟩
  | 95 => ⟨S_, .f32⟩
  | 96 => ⟨S16x2048, .f32⟩
  | 97 => ⟨S16x2048x1, .f32⟩
  | 98 => ⟨S_, .f32⟩
  | 99 => ⟨S16x2048, .f32⟩
  | 100 => ⟨S_, .f32⟩
  | 101 => ⟨S16x2048x2048, .f32⟩
  | 102 => ⟨S16x2048x2048, .f32⟩
  | 103 => ⟨S16x2048x64, .f32⟩
  | 104 => ⟨S2048x16x64, .f32⟩
  | 105 => ⟨S16x2048x64, .f32⟩
  | 106 => ⟨S2048x16x64, .f32⟩
  | 107 => ⟨S2048x1024, .f32⟩
  | 108 => ⟨S_, .i32⟩
  | 109 => ⟨S_, .f32⟩
  | 110 => ⟨S2048x4608, .f32⟩
  | 111 => ⟨S2048x4608, .bf16⟩
  | 112 => ⟨S2048x1024, .f32⟩
  | 113 => ⟨S2048x1024, .f32⟩
  | 114 => ⟨S8x2x2048, .f32⟩
  | 115 => ⟨S8x1x2048, .f32⟩
  | 116 => ⟨S8x2048, .f32⟩
  | 117 => ⟨S8x4x1x512, .f32⟩
  | 118 => ⟨S8x2x2048, .f32⟩
  | 119 => ⟨S8x1x2048, .f32⟩
  | 120 => ⟨S8x2048, .f32⟩
  | 121 => ⟨S8x4x1x512, .f32⟩
  | 122 => ⟨S8x2x2048, .f32⟩
  | 123 => ⟨S8x1x2048, .f32⟩
  | 124 => ⟨S8x2048, .f32⟩
  | 125 => ⟨S8x2048x1, .f32⟩
  | 126 => ⟨S8x2x2048, .f32⟩
  | 127 => ⟨S8x1x2048, .f32⟩
  | _ => ⟨S2048x16x64, .f32⟩

abbrev hbmTy0_1 (i : Nat) : BufTy := match i % 128 with
  | 0 => ⟨S8x2048, .f32⟩
  | 1 => ⟨S8x2048x1, .f32⟩
  | _ => ⟨S2048x16x64, .f32⟩

abbrev hbmTy (i : Nat) : BufTy := match i / 128 with
  | 0 => hbmTy0_0 i
  | 1 => hbmTy0_1 i
  | _ => ⟨S2048x16x64, .f32⟩

abbrev bufTy : (tb : Table) → Fin (tcTables nBuf tb) → BufTy
  | .hbm, ⟨i, _⟩ => hbmTy i
  | _, _ => ⟨S2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_cst_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c : Ref sig .tc := ⟨.hbm, 108, rfl⟩
abbrev main_call2_v0 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩

abbrev nD : Nat := 1
abbrev τ : Topo := Topo.v7x

variable {F : FTy → Type} [FloatOps F]
-- ==== Kernel2.lean ====
abbrev S2048x2048 : Shape := ⟨2, ![2048, 2048]⟩
abbrev S8x704x2048 : Shape := ⟨3, ![8, 704, 2048]⟩
abbrev S8x2048x704 : Shape := ⟨3, ![8, 2048, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S8x704x2048, .bf16⟩
  | .hbm, ⟨2, _⟩ => ⟨S8x2048x704, .bf16⟩
  | .hbm, ⟨3, _⟩ => ⟨S8x2048x704, .bf16⟩
  | .hbm, ⟨4, _⟩ => ⟨S8x2048x704, .bf16⟩
  | .hbm, ⟨5, _⟩ => ⟨S8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2048x2048 : Shape := ⟨2, ![2048, 2048]⟩
abbrev S8x704x2048 : Shape := ⟨3, ![8, 704, 2048]⟩
abbrev S8x2048x704 : Shape := ⟨3, ![8, 2048, 704]⟩
abbrev S_ : Shape := ⟨0, ![]⟩
abbrev S2048x8x704 : Shape := ⟨3, ![2048, 8, 704]⟩

abbrev nBuf : Space → Nat
  | .hbm => 33
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x704x2048, .bf16⟩
  | .hbm, ⟨2, _⟩ => ⟨S8x2048x704, .bf16⟩
  | .hbm, ⟨3, _⟩ => ⟨S8x2048x704, .bf16⟩
  | .hbm, ⟨4, _⟩ => ⟨S8x704x2048, .f32⟩
  | .hbm, ⟨5, _⟩ => ⟨S8x2048x704, .f32⟩
  | .hbm, ⟨6, _⟩ => ⟨S8x2048x704, .f32⟩
  | .hbm, ⟨7, _⟩ => ⟨S8x2048x704, .f32⟩
  | .hbm, ⟨8, _⟩ => ⟨S8x2048x704, .f32⟩
  | .hbm, ⟨9, _⟩ => ⟨S_, .f32⟩
  | .hbm, ⟨10, _⟩ => ⟨S8x2048x704, .f32⟩
  | .hbm, ⟨11, _⟩ => ⟨S8x2048x704, .f32⟩
  | .hbm, ⟨12, _⟩ => ⟨S_, .f32⟩
  | .hbm, ⟨13, _⟩ => ⟨S8x2048x704, .f32⟩
  | .hbm, ⟨14, _⟩ => ⟨S8x2048x704, .f32⟩
  | .hbm, ⟨15, _⟩ => ⟨S_, .f32⟩
  | .hbm, ⟨16, _⟩ => ⟨S8x2048x704, .f32⟩
  | .hbm, ⟨17, _⟩ => ⟨S8x2048x704, .f32⟩
  | .hbm, ⟨18, _⟩ => ⟨S8x2048x704, .f32⟩
  | .hbm, ⟨19, _⟩ => ⟨S8x2048x704, .f32⟩
  | .hbm, ⟨20, _⟩ => ⟨S8x2048x704, .f32⟩
  | .hbm, ⟨21, _⟩ => ⟨S2048x2048, .f32⟩
  | .hbm, ⟨22, _⟩ => ⟨S2048x2048, .f32⟩
  | .hbm, ⟨23, _⟩ => ⟨S2048x8x704, .f32⟩
  | .hbm, ⟨24, _⟩ => ⟨S8x2048x704, .f32⟩
  | .hbm, ⟨25, _⟩ => ⟨S8x2048x704, .f32⟩
  | .hbm, ⟨26, _⟩ => ⟨S8x2048x704, .f32⟩
  | .hbm, ⟨27, _⟩ => ⟨S8x2048x704, .f32⟩
  | .hbm, ⟨28, _⟩ => ⟨S8x2048x704, .f32⟩
  | .hbm, ⟨29, _⟩ => ⟨S8x2048x704, .f32⟩
  | .hbm, ⟨30, _⟩ => ⟨S8x2048x704, .f32⟩
  | .hbm, ⟨31, _⟩ => ⟨S8x2048x704, .bf16⟩
  | .hbm, ⟨32, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel3.lean ====
abbrev S8x2048x704 : Shape := ⟨3, ![8, 2048, 704]⟩
abbrev S2048x2048 : Shape := ⟨2, ![2048, 2048]⟩
abbrev S8x704x2048 : Shape := ⟨3, ![8, 704, 2048]⟩
abbrev S1x2048x704 : Shape := ⟨3, ![1, 2048, 704]⟩
abbrev S1x704x2048 : Shape := ⟨3, ![1, 704, 2048]⟩
abbrev S2048x704 : Shape := ⟨2, ![2048, 704]⟩
abbrev S704x2048 : Shape := ⟨2, ![704, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8x2048x704, .bf16⟩
  | .hbm, ⟨1, _⟩ => ⟨S2048x2048, .bf16⟩
  | .hbm, ⟨2, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x2048, .bf16⟩
  | .local _ .vmem, ⟨3, _⟩ => ⟨S1x704x2048, .bf16⟩
  | .local _ .vmem, ⟨4, _⟩ => ⟨S1x704x2048, .bf16⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8x2048x704 : Shape := ⟨3, ![8, 2048, 704]⟩
abbrev S2048x2048 : Shape := ⟨2, ![2048, 2048]⟩
abbrev S_ : Shape := ⟨0, ![]⟩
abbrev S8x704x2048 : Shape := ⟨3, ![8, 704, 2048]⟩
abbrev S2048x8x704 : Shape := ⟨3, ![2048, 8, 704]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S2048x2048, .bf16⟩
  | .hbm, ⟨2, _⟩ => ⟨S_, .f32⟩
  | .hbm, ⟨3, _⟩ => ⟨S8x704x2048, .f32⟩
  | .hbm, ⟨4, _⟩ => ⟨S8x2048x704, .f32⟩
  | .hbm, ⟨5, _⟩ => ⟨S2048x2048, .f32⟩
  | .hbm, ⟨6, _⟩ => ⟨S2048x2048, .f32⟩
  | .hbm, ⟨7, _⟩ => ⟨S2048x8x704, .f32⟩
  | .hbm, ⟨8, _⟩ => ⟨S8x704x2048, .f32⟩
  | .hbm, ⟨9, _⟩ => ⟨S8x704x2048, .bf16⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x2048 : Shape := ⟨2, ![2048, 2048]⟩
abbrev S8x2048x704 : Shape := ⟨3, ![8, 2048, 704]⟩
abbrev S8x704x2048 : Shape := ⟨3, ![8, 704, 2048]⟩
abbrev S2048x1024 : Shape := ⟨2, ![2048, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x2048x704, .bf16⟩
  | .hbm, ⟨3, _⟩ => ⟨S8x704x2048, .bf16⟩
  | .hbm, ⟨4, _⟩ => ⟨S8x704x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S2048x2048 : Shape := ⟨2, ![2048, 2048]⟩
abbrev S8x2048x704 : Shape := ⟨3, ![8, 2048, 704]⟩
abbrev S_ : Shape := ⟨0, ![]⟩
abbrev S8x704x2048 : Shape := ⟨3, ![8, 704, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x2048x704, .bf16⟩
  | .hbm, ⟨3, _⟩ => ⟨S_, .f32⟩
  | .hbm, ⟨4, _⟩ => ⟨S8x704x2048, .f32⟩
  | .hbm, ⟨5, _⟩ => ⟨S2048x2048, .f32⟩
  | .hbm, ⟨6, _⟩ => ⟨S8x704x2048, .f32⟩
  | .hbm, ⟨7, _⟩ => ⟨S8x2048x704, .f32⟩
  | .hbm, ⟨8, _⟩ => ⟨S2048x2048, .f32⟩
  | .hbm, ⟨9, _⟩ => ⟨S8x704x2048, .f32⟩
  | .hbm, ⟨10, _⟩ => ⟨S8x2048x704, .f32⟩
  | .hbm, ⟨11, _⟩ => ⟨S8x2048x704, .f32⟩
  | .hbm, ⟨12, _⟩ => ⟨S8x2048x704, .f32⟩
  | .hbm, ⟨13, _⟩ => ⟨S8x704x2048, .f32⟩
  | .hbm, ⟨14, _⟩ => ⟨S8x704x2048, .f32⟩
  | .hbm, ⟨15, _⟩ => ⟨S8x704x2048, .f32⟩
  | .hbm, ⟨16, _⟩ => ⟨S8x704x2048, .f32⟩
  | .hbm, ⟨17, _⟩ => ⟨S8x704x2048, .bf16⟩
  | .hbm, ⟨18, _⟩ => ⟨S8x704x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel5.lean ====
abbrev S8x2048x704 : Shape := ⟨3, ![8, 2048, 704]⟩
abbrev S8x704x2048 : Shape := ⟨3, ![8, 704, 2048]⟩
abbrev S2048x2048 : Shape := ⟨2, ![2048, 2048]⟩
abbrev S1x1024x704 : Shape := ⟨3, ![1, 1024, 704]⟩
abbrev S1x704x2048 : Shape := ⟨3, ![1, 704, 2048]⟩
abbrev S1024x2048 : Shape := ⟨2, ![1024, 2048]⟩
abbrev S1024x704 : Shape := ⟨2, ![1024, 704]⟩
abbrev S704x2048 : Shape := ⟨2, ![704, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S8x2048x704, .bf16⟩
  | .hbm, ⟨3, _⟩ => ⟨S8x704x2048, .bf16⟩
  | .hbm, ⟨4, _⟩ => ⟨S2048x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x704x2048, .bf16⟩
  | .local _ .vmem, ⟨7, _⟩ => ⟨S1x704x2048, .bf16⟩
  | .local _ .vmem, ⟨8, _⟩ => ⟨S1024x2048, .f32⟩
  | .local _ .vmem, ⟨9, _⟩ => ⟨S1024x2048, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S8x2048x704 : Shape := ⟨3, ![8, 2048, 704]⟩
abbrev S8x704x2048 : Shape := ⟨3, ![8, 704, 2048]⟩
abbrev S_ : Shape := ⟨0, ![]⟩
abbrev S2048x2048 : Shape := ⟨2, ![2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S8x2048x704, .bf16⟩
  | .hbm, ⟨3, _⟩ => ⟨S8x704x2048, .bf16⟩
  | .hbm, ⟨4, _⟩ => ⟨S_, .f32⟩
  | .hbm, ⟨5, _⟩ => ⟨S2048x2048, .f32⟩
  | .hbm, ⟨6, _⟩ => ⟨S8x704x2048, .f32⟩
  | .hbm, ⟨7, _⟩ => ⟨S8x704x2048, .f32⟩
  | .hbm, ⟨8, _⟩ => ⟨S8x2048x704, .f32⟩
  | .hbm, ⟨9, _⟩ => ⟨S8x704x2048, .f32⟩
  | .hbm, ⟨10, _⟩ => ⟨S8x704x2048, .f32⟩
  | .hbm, ⟨11, _⟩ => ⟨S8x2048x704, .f32⟩
  | .hbm, ⟨12, _⟩ => ⟨S8x2048x704, .f32⟩
  | .hbm, ⟨13, _⟩ => ⟨S8x2048x704, .f32⟩
  | .hbm, ⟨14, _⟩ => ⟨S8x704x2048, .f32⟩
  | .hbm, ⟨15, _⟩ => ⟨S2048x2048, .f32⟩
  | .hbm, ⟨16, _⟩ => ⟨S8x704x2048, .f32⟩
  | .hbm, ⟨17, _⟩ => ⟨S2048x2048, .f32⟩
  | .hbm, ⟨18, _⟩ => ⟨S2048x2048, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S8x8x2048 : Shape := ⟨3, ![8, 8, 2048]⟩
abbrev S8x2048 : Shape := ⟨2, ![8, 2048]⟩
abbrev S1x8x2048 : Shape := ⟨3, ![1, 8, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x8x2048, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .local _ .vmem, ⟨0, _⟩ => ⟨S8x8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S8x8x2048 : Shape := ⟨3, ![8, 8, 2048]⟩
abbrev S8x2048 : Shape := ⟨2, ![8, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S8x2048, .f32⟩
  | .hbm, ⟨21, _⟩ => ⟨S_, .f32⟩
  | .hbm, ⟨22, _⟩ => ⟨S8x2048, .f32⟩
  | .hbm, ⟨23, _⟩ => ⟨S8x2048, .f32⟩
  | .hbm, ⟨24, _⟩ => ⟨S_, .f32⟩
  | .hbm, ⟨25, _⟩ => ⟨S8x2048, .f32⟩
  | .hbm, ⟨26, _⟩ => ⟨S8x2048, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S8x2048, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel7.lean ====
abbrev S8x2048x704 : Shape := ⟨3, ![8, 2048, 704]⟩
abbrev S8x704x2048 : Shape := ⟨3, ![8, 704, 2048]⟩
abbrev S2048x2048 : Shape := ⟨2, ![2048, 2048]⟩
abbrev S1x1024x704 : Shape := ⟨3, ![1, 1024, 704]⟩
abbrev S1x704x2048 : Shape := ⟨3, ![1, 704, 2048]⟩
abbrev S1024x2048 : Shape := ⟨2, ![1024, 2048]⟩
abbrev S1024x704 : Shape := ⟨2, ![1024, 704]⟩
abbrev S704x2048 : Shape := ⟨2, ![704, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S2048x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S1024x2048, .f32⟩
  | .local _ .vmem, ⟨5, _⟩ => ⟨S1024x2048, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8x2048x704 : Shape := ⟨3, ![8, 2048, 704]⟩
abbrev S8x704x2048 : Shape := ⟨3, ![8, 704, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S_, .f32⟩
  | .hbm, ⟨3, _⟩ => ⟨S2048x2048, .f32⟩
  | .hbm, ⟨4, _⟩ => ⟨S8x704x2048, .f32⟩
  | .hbm, ⟨5, _⟩ => ⟨S8x704x2048, .f32⟩
  | .hbm, ⟨6, _⟩ => ⟨S8x2048x704, .f32⟩
  | .hbm, ⟨7, _⟩ => ⟨S8x2048x704, .f32⟩
  | .hbm, ⟨8, _⟩ => ⟨S8x704x2048, .f32⟩
  | .hbm, ⟨9, _⟩ => ⟨S2048x2048, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8x2048x704 : Shape := ⟨3, ![8, 2048, 704]⟩
abbrev S8x704x2048 : Shape := ⟨3, ![8, 704, 2048]⟩
abbrev S2048x2048 : Shape := ⟨2, ![2048, 2048]⟩
abbrev S1x1024x704 : Shape := ⟨3, ![1, 1024, 704]⟩
abbrev S1x704x2048 : Shape := ⟨3, ![1, 704, 2048]⟩
abbrev S1024x2048 : Shape := ⟨2, ![1024, 2048]⟩
abbrev S1024x704 : Shape := ⟨2, ![1024, 704]⟩
abbrev S704x2048 : Shape := ⟨2, ![704, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S2048x2048, .f32⟩
  | .hbm, ⟨3, _⟩ => ⟨S2048x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference8Ideal.lean ====
abbrev S8x2048x704 : Shape := ⟨3, ![8, 2048, 704]⟩
abbrev S8x704x2048 : Shape := ⟨3, ![8, 704, 2048]⟩
abbrev S2048x2048 : Shape := ⟨2, ![2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S8x704x2048, .f32⟩
  | .hbm, ⟨6, _⟩ => ⟨S8x704x2048, .f32⟩
  | .hbm, ⟨7, _⟩ => ⟨S8x2048x704, .f32⟩
  | .hbm, ⟨8, _⟩ => ⟨S8x2048x704, .f32⟩
  | .hbm, ⟨9, _⟩ => ⟨S8x704x2048, .f32⟩
  | .hbm, ⟨10, _⟩ => ⟨S2048x2048, .f32⟩
  | .hbm, ⟨11, _⟩ => ⟨S2048x2048, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel9.lean ====
abbrev S2048x2048 : Shape := ⟨2, ![2048, 2048]⟩
abbrev S8x704x2048 : Shape := ⟨3, ![8, 704, 2048]⟩
abbrev S8x2048x704 : Shape := ⟨3, ![8, 2048, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S8x704x2048, .bf16⟩
  | .hbm, ⟨2, _⟩ => ⟨S8x704x2048, .bf16⟩
  | .hbm, ⟨3, _⟩ => ⟨S8x2048x704, .bf16⟩
  | .hbm, ⟨4, _⟩ => ⟨S8x2048x704, .bf16⟩
  | .hbm, ⟨5, _⟩ => ⟨S8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S2048x2048 : Shape := ⟨2, ![2048, 2048]⟩
abbrev S8x704x2048 : Shape := ⟨3, ![8, 704, 2048]⟩
abbrev S8x2048x704 : Shape := ⟨3, ![8, 2048, 704]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x704x2048, .bf16⟩
  | .hbm, ⟨2, _⟩ => ⟨S8x704x2048, .bf16⟩
  | .hbm, ⟨3, _⟩ => ⟨S2048x2048, .f32⟩
  | .hbm, ⟨4, _⟩ => ⟨S8x704x2048, .f32⟩
  | .hbm, ⟨5, _⟩ => ⟨S8x704x2048, .f32⟩
  | .hbm, ⟨6, _⟩ => ⟨S8x2048x704, .f32⟩
  | .hbm, ⟨7, _⟩ => ⟨S8x704x2048, .f32⟩
  | .hbm, ⟨8, _⟩ => ⟨S8x704x2048, .f32⟩
  | .hbm, ⟨9, _⟩ => ⟨S8x2048x704, .f32⟩
  | .hbm, ⟨10, _⟩ => ⟨S8x2048x704, .bf16⟩
  | .hbm, ⟨11, _⟩ => ⟨S8x2048x704, .bf16⟩
  | .hbm, ⟨12, _⟩ => ⟨S8x2048x704, .f32⟩
  | .hbm, ⟨13, _⟩ => ⟨S8x2048x704, .f32⟩
  | .hbm, ⟨14, _⟩ => ⟨S_, .f32⟩
  | .hbm, ⟨15, _⟩ => ⟨S8x2048x704, .f32⟩
  | .hbm, ⟨16, _⟩ => ⟨S8x2048x704, .f32⟩
  | .hbm, ⟨17, _⟩ => ⟨S_, .f32⟩
  | .hbm, ⟨18, _⟩ => ⟨S8x2048x704, .f32⟩
  | .hbm, ⟨19, _⟩ => ⟨S8x2048x704, .f32⟩
  | .hbm, ⟨20, _⟩ => ⟨S8x2048x704, .f32⟩
  | .hbm, ⟨21, _⟩ => ⟨S8x2048x704, .f32⟩
  | .hbm, ⟨22, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel10.lean ====
abbrev S2048x2048 : Shape := ⟨2, ![2048, 2048]⟩
abbrev S8x704x2048 : Shape := ⟨3, ![8, 704, 2048]⟩
abbrev S8x2048x704 : Shape := ⟨3, ![8, 2048, 704]⟩
abbrev S512x2048 : Shape := ⟨2, ![512, 2048]⟩
abbrev S1x704x2048 : Shape := ⟨3, ![1, 704, 2048]⟩
abbrev S1x512x704 : Shape := ⟨3, ![1, 512, 704]⟩
abbrev S704x2048 : Shape := ⟨2, ![704, 2048]⟩
abbrev S512x704 : Shape := ⟨2, ![512, 704]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x704x2048, .bf16⟩
  | .hbm, ⟨2, _⟩ => ⟨S8x2048x704, .bf16⟩
  | .local _ .vmem, ⟨0, _⟩ => ⟨S512x2048, .bf16⟩
  | .local _ .vmem, ⟨1, _⟩ => ⟨S512x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x512x704, .bf16⟩
  | .local _ .vmem, ⟨5, _⟩ => ⟨S1x512x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x2048 : Shape := ⟨2, ![2048, 2048]⟩
abbrev S8x704x2048 : Shape := ⟨3, ![8, 704, 2048]⟩
abbrev S8x2048x704 : Shape := ⟨3, ![8, 2048, 704]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x704x2048, .bf16⟩
  | .hbm, ⟨2, _⟩ => ⟨S2048x2048, .f32⟩
  | .hbm, ⟨3, _⟩ => ⟨S8x704x2048, .f32⟩
  | .hbm, ⟨4, _⟩ => ⟨S8x704x2048, .f32⟩
  | .hbm, ⟨5, _⟩ => ⟨S8x2048x704, .f32⟩
  | .hbm, ⟨6, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S2048x2048 : Shape := ⟨2, ![2048, 2048]⟩
abbrev S8x704x2048 : Shape := ⟨3, ![8, 704, 2048]⟩
abbrev S8x2048x704 : Shape := ⟨3, ![8, 2048, 704]⟩
abbrev S512x2048 : Shape := ⟨2, ![512, 2048]⟩
abbrev S1x704x2048 : Shape := ⟨3, ![1, 704, 2048]⟩
abbrev S1x512x704 : Shape := ⟨3, ![1, 512, 704]⟩
abbrev S704x2048 : Shape := ⟨2, ![704, 2048]⟩
abbrev S512x704 : Shape := ⟨2, ![512, 704]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S8x704x2048, .bf16⟩
  | .hbm, ⟨2, _⟩ => ⟨S8x2048x704, .bf16⟩
  | .hbm, ⟨3, _⟩ => ⟨S8x2048x704, .bf16⟩
  | .hbm, ⟨4, _⟩ => ⟨S8x2048x704, .bf16⟩
  | .local _ .vmem, ⟨0, _⟩ => ⟨S512x2048, .bf16⟩
  | .local _ .vmem, ⟨1, _⟩ => ⟨S512x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S2048x2048 : Shape := ⟨2, ![2048, 2048]⟩
abbrev S8x704x2048 : Shape := ⟨3, ![8, 704, 2048]⟩
abbrev S8x2048x704 : Shape := ⟨3, ![8, 2048, 704]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x704x2048, .bf16⟩
  | .hbm, ⟨2, _⟩ => ⟨S8x2048x704, .bf16⟩
  | .hbm, ⟨3, _⟩ => ⟨S2048x2048, .f32⟩
  | .hbm, ⟨4, _⟩ => ⟨S8x704x2048, .f32⟩
  | .hbm, ⟨5, _⟩ => ⟨S8x704x2048, .f32⟩
  | .hbm, ⟨6, _⟩ => ⟨S8x2048x704, .f32⟩
  | .hbm, ⟨7, _⟩ => ⟨S8x2048x704, .bf16⟩
  | .hbm, ⟨8, _⟩ => ⟨S8x2048x704, .f32⟩
  | .hbm, ⟨9, _⟩ => ⟨S8x2048x704, .f32⟩
  | .hbm, ⟨10, _⟩ => ⟨S8x2048x704, .f32⟩
  | .hbm, ⟨11, _⟩ => ⟨S_, .f32⟩
  | .hbm, ⟨12, _⟩ => ⟨S8x2048x704, .f32⟩
  | .hbm, ⟨13, _⟩ => ⟨S8x2048x704, .f32⟩
  | .hbm, ⟨14, _⟩ => ⟨S_, .f32⟩
  | .hbm, ⟨15, _⟩ => ⟨S8x2048x704, .f32⟩
  | .hbm, ⟨16, _⟩ => ⟨S8x2048x704, .f32⟩
  | .hbm, ⟨17, _⟩ => ⟨S8x2048x704, .f32⟩
  | .hbm, ⟨18, _⟩ => ⟨S8x2048x704, .f32⟩
  | .hbm, ⟨19, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel12.lean ====
abbrev S8x2048x704 : Shape := ⟨3, ![8, 2048, 704]⟩
abbrev S8x704x2048 : Shape := ⟨3, ![8, 704, 2048]⟩
abbrev S2048x2048 : Shape := ⟨2, ![2048, 2048]⟩
abbrev S1x512x704 : Shape := ⟨3, ![1, 512, 704]⟩
abbrev S1x704x2048 : Shape := ⟨3, ![1, 704, 2048]⟩
abbrev S512x2048 : Shape := ⟨2, ![512, 2048]⟩
abbrev S512x704 : Shape := ⟨2, ![512, 704]⟩
abbrev S704x2048 : Shape := ⟨2, ![704, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S2048x2048, .f32⟩
  | .hbm, ⟨3, _⟩ => ⟨S2048x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8x2048x704 : Shape := ⟨3, ![8, 2048, 704]⟩
abbrev S8x704x2048 : Shape := ⟨3, ![8, 704, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S2048x2048, .f32⟩
  | .hbm, ⟨3, _⟩ => ⟨S8x2048x704, .f32⟩
  | .hbm, ⟨4, _⟩ => ⟨S8x704x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel13.lean ====
abbrev S8x2048x704 : Shape := ⟨3, ![8, 2048, 704]⟩
abbrev S8x704x2048 : Shape := ⟨3, ![8, 704, 2048]⟩
abbrev S2048x2048 : Shape := ⟨2, ![2048, 2048]⟩
abbrev S1x1024x704 : Shape := ⟨3, ![1, 1024, 704]⟩
abbrev S1x704x2048 : Shape := ⟨3, ![1, 704, 2048]⟩
abbrev S1024x2048 : Shape := ⟨2, ![1024, 2048]⟩
abbrev S1024x704 : Shape := ⟨2, ![1024, 704]⟩
abbrev S704x2048 : Shape := ⟨2, ![704, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S2048x2048, .f32⟩
  | .hbm, ⟨3, _⟩ => ⟨S2048x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8x2048x704 : Shape := ⟨3, ![8, 2048, 704]⟩
abbrev S8x704x2048 : Shape := ⟨3, ![8, 704, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S2048x2048, .f32⟩
  | .hbm, ⟨3, _⟩ => ⟨S8x2048x704, .f32⟩
  | .hbm, ⟨4, _⟩ => ⟨S8x704x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel14.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel15.lean ====
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S2048x2048 : Shape := ⟨2, ![2048, 2048]⟩
abbrev S4624x2048 : Shape := ⟨2, ![4624, 2048]⟩
abbrev S2048x4608 : Shape := ⟨2, ![2048, 4608]⟩
abbrev S512x2048 : Shape := ⟨2, ![512, 2048]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4624x2048, .bf16⟩
  | .hbm, ⟨2, _⟩ => ⟨S2048x4608, .f32⟩
  | .hbm, ⟨3, _⟩ => ⟨S2048x4608, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![9, 1], ![false, false]⟩

def k0_mult1 (i : grid0.Coords) : BitVec 32 :=
  let arg0 : BitVec 32 := BitVec.ofNat 32 (i 0).val
  let c512_i32 : BitVec 32 := 512#32
  let v0 : BitVec 32 := Scalar.muli arg0 c512_i32
  let c16_i32 : BitVec 32 := 16#32
  let c6_i32 : BitVec 32 := 6#32
  let v1 : BitVec 1 := Scalar.cmpi .sge arg0 c6_i32
  let v2 : BitVec 32 := Scalar.extui v1
  let v3 : BitVec 32 := Scalar.muli c16_i32 v2
  let v4 : BitVec 32 := Scalar.addi v0 v3
  v4
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c6_i32 : BitVec 32 := 6#32
  let v1 : BitVec 1 := Scalar.cmpi .sge arg0 c6_i32
  let v2 : BitVec 32 := Scalar.extui v1
  let c16_i32 : BitVec 32 := 16#32
  let v3 : BitVec 32 := Scalar.muli c16_i32 v2
  let v4 : BitVec 32 := Scalar.addi v0 v3
  let v5 : BitVec 32 := v4
  let c0_i32 : BitVec 32 := 0#32
  let c0_i32_0 : BitVec 32 := 0#32
  ![v5.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference17Ideal.lean ====
abbrev S2048x2048 : Shape := ⟨2, ![2048, 2048]⟩
abbrev S4624x2048 : Shape := ⟨2, ![4624, 2048]⟩
abbrev S3072x2048 : Shape := ⟨2, ![3072, 2048]⟩
abbrev S1536x2048 : Shape := ⟨2, ![1536, 2048]⟩
abbrev S4608x2048 : Shape := ⟨2, ![4608, 2048]⟩
abbrev S2048x4608 : Shape := ⟨2, ![2048, 4608]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4624x2048, .bf16⟩
  | .hbm, ⟨2, _⟩ => ⟨S3072x2048, .bf16⟩
  | .hbm, ⟨3, _⟩ => ⟨S1536x2048, .bf16⟩
  | .hbm, ⟨4, _⟩ => ⟨S4608x2048, .bf16⟩
  | .hbm, ⟨5, _⟩ => ⟨S2048x2048, .f32⟩
  | .hbm, ⟨6, _⟩ => ⟨S4608x2048, .f32⟩
  | .hbm, ⟨7, _⟩ => ⟨S2048x4608, .f32⟩
  | .hbm, ⟨8, _⟩ => ⟨S2048x4608, .f32⟩
  | .hbm, ⟨9, _⟩ => ⟨S2048x4608, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel18.lean ====
abbrev S2048x4608 : Shape := ⟨2, ![2048, 4608]⟩
abbrev S4624x2048 : Shape := ⟨2, ![4624, 2048]⟩
abbrev S2048x128 : Shape := ⟨2, ![2048, 128]⟩
abbrev S128x2048 : Shape := ⟨2, ![128, 2048]⟩
abbrev S2048x2048 : Shape := ⟨2, ![2048, 2048]⟩
abbrev S1024x512 : Shape := ⟨2, ![1024, 512]⟩
abbrev S512x2048 : Shape := ⟨2, ![512, 2048]⟩
abbrev S1024x128 : Shape := ⟨2, ![1024, 128]⟩
abbrev S1024x2048 : Shape := ⟨2, ![1024, 2048]⟩

abbrev nBuf : Space → Nat
  | .hbm => 5
  | .vmem => 9
  | .smem => 0
  | _ => 0

abbrev bufTy : (tb : Table) → Fin (tcTables nBuf tb) → BufTy
  | .hbm, ⟨0, _⟩ => ⟨S2048x4608, .bf16⟩
  | .hbm, ⟨1, _⟩ => ⟨S4624x2048, .bf16⟩
  | .hbm, ⟨2, _⟩ => ⟨S2048x128, .bf16⟩
  | .hbm, ⟨3, _⟩ => ⟨S128x2048, .bf16⟩
  | .hbm, ⟨4, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x128, .bf16⟩
  | .local _ .vmem, ⟨5, _⟩ => ⟨S1024x128, .bf16⟩
  | .local _ .vmem, ⟨6, _⟩ => ⟨S128x2048, .bf16⟩
  | .local _ .vmem, ⟨7, _⟩ => ⟨S1024x2048, .f32⟩
  | .local _ .vmem, ⟨8, _⟩ => ⟨S1024x2048, .f32⟩
  | _, _ => ⟨S2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 9], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c16_i32 : BitVec 32 := 16#32
  let c6_i32 : BitVec 32 := 6#32
  let v1 : BitVec 1 := Scalar.cmpi .sge arg1 c6_i32
  let v2 : BitVec 32 := Scalar.extui v1
  let v3 : BitVec 32 := Scalar.muli c16_i32 v2
  let v4 : BitVec 32 := Scalar.addi v0 v3
  v4
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c6_i32 : BitVec 32 := 6#32
  let v1 : BitVec 1 := Scalar.cmpi .sge arg1 c6_i32
  let v2 : BitVec 32 := Scalar.extui v1
  let c16_i32 : BitVec 32 := 16#32
  let v3 : BitVec 32 := Scalar.muli c16_i32 v2
  let v4 : BitVec 32 := Scalar.addi v0 v3
  let v5 : BitVec 32 := v4
  let c0_i32 : BitVec 32 := 0#32
  let c0_i32_0 : BitVec 32 := 0#32
  ![v5.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference18Ideal.lean ====
abbrev S2048x4608 : Shape := ⟨2, ![2048, 4608]⟩
abbrev S4624x2048 : Shape := ⟨2, ![4624, 2048]⟩
abbrev S2048x128 : Shape := ⟨2, ![2048, 128]⟩
abbrev S128x2048 : Shape := ⟨2, ![128, 2048]⟩
abbrev S3072x2048 : Shape := ⟨2, ![3072, 2048]⟩
abbrev S1536x2048 : Shape := ⟨2, ![1536, 2048]⟩
abbrev S4608x2048 : Shape := ⟨2, ![4608, 2048]⟩
abbrev S_ : Shape := ⟨0, ![]⟩
abbrev S2048x2048 : Shape := ⟨2, ![2048, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x4608, .bf16⟩
  | .hbm, ⟨1, _⟩ => ⟨S4624x2048, .bf16⟩
  | .hbm, ⟨2, _⟩ => ⟨S2048x128, .bf16⟩
  | .hbm, ⟨3, _⟩ => ⟨S128x2048, .bf16⟩
  | .hbm, ⟨4, _⟩ => ⟨S3072x2048, .bf16⟩
  | .hbm, ⟨5, _⟩ => ⟨S1536x2048, .bf16⟩
  | .hbm, ⟨6, _⟩ => ⟨S4608x2048, .bf16⟩
  | .hbm, ⟨7, _⟩ => ⟨S_, .f32⟩
  | .hbm, ⟨8, _⟩ => ⟨S2048x2048, .f32⟩
  | .hbm, ⟨9, _⟩ => ⟨S4608x2048, .f32⟩
  | .hbm, ⟨10, _⟩ => ⟨S2048x4608, .f32⟩
  | .hbm, ⟨11, _⟩ => ⟨S2048x4608, .f32⟩
  | .hbm, ⟨12, _⟩ => ⟨S128x2048, .f32⟩
  | .hbm, ⟨13, _⟩ => ⟨S2048x128, .f32⟩
  | .hbm, ⟨14, _⟩ => ⟨S2048x128, .f32⟩
  | .hbm, ⟨15, _⟩ => ⟨S2048x4608, .f32⟩
  | .hbm, ⟨16, _⟩ => ⟨S2048x128, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.FoxKernelIdeal.Model.lean ====
module

public import proofs.«01_k».proof.Proof.Gen.KernelIdeal.Frame
public import proofs.«01_k».proof.Proof.Gen.KernelIdeal.Loops
public import Idealize.ShloMosaic.Lib.Pipeline.ValueKit

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- A buffer's values with a list of rectangles written over it, the last write first in the list. -/
def ov {s : Shape} {e : EltTy} : List (View.Piece (Elt F) s e) → Vec F s e → Vec F s e
  | [], X => X
  | p :: L, X => p.1.overlay (ov L X) p.2

theorem read_writes_ov {κ : Kind} {sp : Space} {s : Shape} {e : EltTy} (v : View sig κ sp s e) (f : v.ty.Contents (Elt F)) :
    ∀ L : List (View.Piece (Elt F) s e), v.read (Elt F) (v.writes (Elt F) f L) = ov L (v.read (Elt F) f)
  | [] => rfl
  | p :: L => by
    funext y
    by_cases hy : y ∈ p.1.set
    · obtain ⟨r, w⟩ := p
      obtain ⟨x, rfl⟩ : ∃ x, r.emb x = y := r.exists_idx_of_mem hy
      rw [View.read_writes_cons_emb]; exact (r.overlay_emb _ _ x).symm
    · have hy' : y ∉ Finset.univ.map p.1.emb := by rwa [Rect.map_emb_univ]
      rw [View.writes_cons, View.read_slice_write_of_not_mem p.1 _ _ _ hy']
      exact (congrFun (read_writes_ov v f L) y).trans (p.1.overlay_of_not_mem _ _ hy).symm

/-- What one step of the key loop reads: the query tile and the output gradient's, each once per head with the other head's
    lanes zero; the key and value rows of the chunk, its decay rows, the tile's log-sums and the row sums of `do · o`;
    and, for the masked chunk, the tile's number, its first row and the distances of a strip. -/
structure In (F : FTy → Type) where
  q : FVec F S1024x128 .bf16
  d : FVec F S1024x128 .bf16
  kb : Vec F S512x128 .bf16
  vb : Vec F S512x128 .bf16
  ca : Vec F S1x1x1x512 .f32
  cb : Vec F S1x1x1x512 .f32
  la : Vec F S1x512x1 .f32
  lb : Vec F S1x512x1 .f32
  ds : Vec F S1024x1 .f32
  a1 : BitVec 32
  rel : IVec S256x512 32
  a88 : BitVec 32
  lo : IVec S512x128 1

def u_v336 (I : In F) : Vec F S256x512 .f32 :=
  (View.ld (View.canon [⟨(Rect.unit (s := S1024x512) ![0, 0] S1024x512.size inb_S1024x512_S1024x512_0_0), (k0_pay3 I.q I.kb)⟩]) (Rect.unit (s := S1024x512) ![0, 0] S256x512.size inb_S1024x512_S256x512_0_0))
def u_v339 (I : In F) : Vec F S1x256x1 .f32 :=
  (View.ld I.la (Rect.unit (s := S1x512x1) ![0, 0, 0] S1x256x1.size inb_S1x512x1_S1x256x1_0_0_0))
def u_v344 (I : In F) : Vec F S256x512 .f32 :=
  (View.ld (View.canon [⟨(Rect.unit (s := S1024x512) ![0, 0] S1024x512.size inb_S1024x512_S1024x512_0_0), (k0_pay4 I.d I.vb)⟩]) (Rect.unit (s := S1024x512) ![0, 0] S256x512.size inb_S1024x512_S256x512_0_0))
def u_v345 (I : In F) : Vec F S256x1 .f32 :=
  (View.ld I.ds (Rect.unit (s := S1024x1) ![0, 0] S256x1.size inb_S1024x1_S256x1_0_0))
def u_v320 (I : In F) : FVec F S512x128 .bf16 :=
  k0_pay2 I.kb
def u_v334 (I : In F) : FVec F S1x512 .f32 :=
  k0_pay5 I.ca
def u_v335 (I : In F) : FVec F S1x512 .f32 :=
  k0_pay6 (F := F)
def u_v348 (I : In F) : FVec F S256x512 .f32 :=
  k0_pay8 I.ca (u_v336 I) (u_v339 I) (u_v344 I) (u_v345 I)
def u_v349 (I : In F) : FVec F S256x512 .bf16 :=
  k0_pay9 I.ca (u_v336 I) (u_v339 I)
def u_v368 (I : In F) : Vec F S256x512 .f32 :=
  (View.ld (View.canon [⟨(Rect.unit (s := S1024x512) ![0, 0] S1024x512.size inb_S1024x512_S1024x512_0_0), (k0_pay3 I.q I.kb)⟩]) (Rect.unit (s := S1024x512) ![256, 0] S256x512.size inb_S1024x512_S256x512_256_0))
def u_v371 (I : In F) : Vec F S1x256x1 .f32 :=
  (View.ld I.la (Rect.unit (s := S1x512x1) ![0, 256, 0] S1x256x1.size inb_S1x512x1_S1x256x1_0_256_0))
def u_v376 (I : In F) : Vec F S256x512 .f32 :=
  (View.ld (View.canon [⟨(Rect.unit (s := S1024x512) ![0, 0] S1024x512.size inb_S1024x512_S1024x512_0_0), (k0_pay4 I.d I.vb)⟩]) (Rect.unit (s := S1024x512) ![256, 0] S256x512.size inb_S1024x512_S256x512_256_0))
def u_v377 (I : In F) : Vec F S256x1 .f32 :=
  (View.ld I.ds (Rect.unit (s := S1024x1) ![256, 0] S256x1.size inb_S1024x1_S256x1_256_0))
def u_v359 (I : In F) : FVec F S1x512 .f32 :=
  k0_pay12 (u_v335 I) (u_v348 I)
def u_v380 (I : In F) : FVec F S256x512 .f32 :=
  k0_pay15 (u_v334 I) (u_v368 I) (u_v371 I) (u_v376 I) (u_v377 I)
def u_v384 (I : In F) : FVec F S256x512 .bf16 :=
  k0_pay16 (u_v334 I) (u_v368 I) (u_v371 I)
def u_v412 (I : In F) : Vec F S256x512 .f32 :=
  (View.ld (View.canon [⟨(Rect.unit (s := S1024x512) ![0, 0] S1024x512.size inb_S1024x512_S1024x512_0_0), (k0_pay3 I.q I.kb)⟩]) (Rect.unit (s := S1024x512) ![512, 0] S256x512.size inb_S1024x512_S256x512_512_0))
def u_v415 (I : In F) : Vec F S1x256x1 .f32 :=
  (View.ld I.lb (Rect.unit (s := S1x512x1) ![0, 0, 0] S1x256x1.size inb_S1x512x1_S1x256x1_0_0_0))
def u_v410 (I : In F) : FVec F S1x512 .f32 :=
  k0_pay20 I.cb
def u_v411 (I : In F) : FVec F S1x512 .f32 :=
  k0_pay21 (F := F)
def u_v414 (I : In F) : FVec F S256x512 .f32 :=
  k0_pay22 I.cb (u_v412 I)
def u_v420 (I : In F) : Vec F S256x512 .f32 :=
  (View.ld (View.canon [⟨(Rect.unit (s := S1024x512) ![0, 0] S1024x512.size inb_S1024x512_S1024x512_0_0), (k0_pay4 I.d I.vb)⟩]) (Rect.unit (s := S1024x512) ![512, 0] S256x512.size inb_S1024x512_S256x512_512_0))
def u_v421 (I : In F) : Vec F S256x1 .f32 :=
  (View.ld I.ds (Rect.unit (s := S1024x1) ![512, 0] S256x1.size inb_S1024x1_S256x1_512_0))
def u_v444 (I : In F) : Vec F S256x512 .f32 :=
  (View.ld (View.canon [⟨(Rect.unit (s := S1024x512) ![0, 0] S1024x512.size inb_S1024x512_S1024x512_0_0), (k0_pay3 I.q I.kb)⟩]) (Rect.unit (s := S1024x512) ![768, 0] S256x512.size inb_S1024x512_S256x512_768_0))
def u_v447 (I : In F) : Vec F S1x256x1 .f32 :=
  (View.ld I.lb (Rect.unit (s := S1x512x1) ![0, 256, 0] S1x256x1.size inb_S1x512x1_S1x256x1_0_256_0))
def u_v435 (I : In F) : FVec F S1x512 .f32 :=
  k0_pay27 (u_v411 I) (u_v414 I) (u_v415 I) (u_v420 I) (u_v421 I)
def u_v451 (I : In F) : FVec F S256x512 .f32 :=
  k0_pay29 (u_v410 I) (u_v444 I) (u_v447 I)
def u_v452 (I : In F) : Vec F S256x512 .f32 :=
  (View.ld (View.canon [⟨(Rect.unit (s := S1024x512) ![0, 0] S1024x512.size inb_S1024x512_S1024x512_0_0), (k0_pay4 I.d I.vb)⟩]) (Rect.unit (s := S1024x512) ![768, 0] S256x512.size inb_S1024x512_S256x512_768_0))
def u_v453 (I : In F) : Vec F S256x1 .f32 :=
  (View.ld I.ds (Rect.unit (s := S1024x1) ![768, 0] S256x1.size inb_S1024x1_S256x1_768_0))
def u_v487 (I : In F) : Vec F S1024x512 .bf16 :=
  (View.ld (View.canon [⟨(Rect.unit (s := S1024x512) ![768, 0] S256x512.size inb_S1024x512_S256x512_768_0), (k0_pay32 (u_v451 I) (u_v452 I) (u_v453 I))⟩, ⟨(Rect.unit (s := S1024x512) ![512, 0] S256x512.size inb_S1024x512_S256x512_512_0), (k0_pay26 (u_v414 I) (u_v415 I) (u_v420 I) (u_v421 I))⟩, ⟨(Rect.unit (s := S1024x512) ![256, 0] S256x512.size inb_S1024x512_S256x512_256_0), (k0_pay17 (u_v380 I))⟩, ⟨(Rect.unit (s := S1024x512) ![0, 0] S256x512.size inb_S1024x512_S256x512_0_0), (k0_pay11 (u_v348 I))⟩]) (Rect.unit (s := S1024x512) ![0, 0] S1024x512.size inb_S1024x512_S1024x512_0_0))
def u_v494 (I : In F) : Vec F S1024x512 .bf16 :=
  (View.ld (View.canon [⟨(Rect.unit (s := S1024x512) ![768, 0] S256x512.size inb_S1024x512_S256x512_768_0), (k0_pay31 (u_v451 I))⟩, ⟨(Rect.unit (s := S1024x512) ![512, 0] S256x512.size inb_S1024x512_S256x512_512_0), (k0_pay25 (u_v414 I) (u_v415 I))⟩, ⟨(Rect.unit (s := S1024x512) ![256, 0] S256x512.size inb_S1024x512_S256x512_256_0), (u_v384 I)⟩, ⟨(Rect.unit (s := S1024x512) ![0, 0] S256x512.size inb_S1024x512_S256x512_0_0), (k0_pay10 (u_v349 I))⟩]) (Rect.unit (s := S1024x512) ![0, 0] S1024x512.size inb_S1024x512_S1024x512_0_0))
def u_v502 (I : In F) : Vec F S1024x512 .bf16 :=
  (View.ld (View.canon [⟨(Rect.unit (s := S1024x512) ![768, 0] S256x512.size inb_S1024x512_S256x512_768_0), (k0_pay32 (u_v451 I) (u_v452 I) (u_v453 I))⟩, ⟨(Rect.unit (s := S1024x512) ![512, 0] S256x512.size inb_S1024x512_S256x512_512_0), (k0_pay26 (u_v414 I) (u_v415 I) (u_v420 I) (u_v421 I))⟩, ⟨(Rect.unit (s := S1024x512) ![256, 0] S256x512.size inb_S1024x512_S256x512_256_0), (k0_pay17 (u_v380 I))⟩, ⟨(Rect.unit (s := S1024x512) ![0, 0] S256x512.size inb_S1024x512_S256x512_0_0), (k0_pay11 (u_v348 I))⟩]) (Rect.unit (s := S1024x512) ![0, 0] S1024x512.size inb_S1024x512_S1024x512_0_0))
def w_v107 (I : In F) : Vec F S256x512 .f32 :=
  (View.ld (View.canon [⟨(Rect.unit (s := S1024x512) ![0, 0] S1024x512.size inb_S1024x512_S1024x512_0_0), (k0_pay92 I.q I.kb)⟩]) (Rect.unit (s := S1024x512) ![0, 0] S256x512.size inb_S1024x512_S256x512_0_0))
def w_v91 (I : In F) : FVec F S512x128 .bf16 :=
  k0_pay91 I.kb
def w_v105 (I : In F) : FVec F S1x512 .f32 :=
  k0_pay94 I.ca
def w_v106 (I : In F) : FVec F S1x512 .f32 :=
  k0_pay95 (F := F)
def w_v108 (I : In F) : FVec F S256x512 .f32 :=
  k0_pay96 I.ca
def w_v117 (I : In F) : Vec F S1x256x1 .f32 :=
  (View.ld I.la (Rect.unit (s := S1x512x1) ![0, 0, 0] S1x256x1.size inb_S1x512x1_S1x256x1_0_0_0))
def w_v122 (I : In F) : Vec F S256x512 .f32 :=
  (View.ld (View.canon [⟨(Rect.unit (s := S1024x512) ![0, 0] S1024x512.size inb_S1024x512_S1024x512_0_0), (k0_pay93 I.d I.vb)⟩]) (Rect.unit (s := S1024x512) ![0, 0] S256x512.size inb_S1024x512_S256x512_0_0))
def w_v123 (I : In F) : Vec F S256x1 .f32 :=
  (View.ld I.ds (Rect.unit (s := S1024x1) ![0, 0] S256x1.size inb_S1024x1_S256x1_0_0))
def w_v137 (I : In F) : FVec F S1x512 .f32 :=
  k0_pay101 I.a1 I.rel I.a88 (w_v106 I) (w_v107 I) (w_v108 I) (w_v117 I) (w_v122 I) (w_v123 I)
def w_v146 (I : In F) : Vec F S256x512 .f32 :=
  (View.ld (View.canon [⟨(Rect.unit (s := S1024x512) ![0, 0] S1024x512.size inb_S1024x512_S1024x512_0_0), (k0_pay92 I.q I.kb)⟩]) (Rect.unit (s := S1024x512) ![256, 0] S256x512.size inb_S1024x512_S256x512_256_0))
def w_v156 (I : In F) : Vec F S1x256x1 .f32 :=
  (View.ld I.la (Rect.unit (s := S1x512x1) ![0, 256, 0] S1x256x1.size inb_S1x512x1_S1x256x1_0_256_0))
def w_v161 (I : In F) : Vec F S256x512 .f32 :=
  (View.ld (View.canon [⟨(Rect.unit (s := S1024x512) ![0, 0] S1024x512.size inb_S1024x512_S1024x512_0_0), (k0_pay93 I.d I.vb)⟩]) (Rect.unit (s := S1024x512) ![256, 0] S256x512.size inb_S1024x512_S256x512_256_0))
def w_v162 (I : In F) : Vec F S256x1 .f32 :=
  (View.ld I.ds (Rect.unit (s := S1024x1) ![256, 0] S256x1.size inb_S1024x1_S256x1_256_0))
def w_v176 (I : In F) : FVec F S1x512 .f32 :=
  k0_pay108 I.a1 I.rel I.a88 (w_v105 I) (w_v137 I) (w_v146 I) (w_v156 I) (w_v161 I) (w_v162 I)
def w_v180 (I : In F) : FVec F S256x1 .f32 :=
  k0_pay110 I.a1 I.rel I.a88 (w_v105 I) (w_v146 I) (w_v156 I) (w_v161 I) (w_v162 I)
def w_v197 (I : In F) : Vec F S256x512 .f32 :=
  (View.ld (View.canon [⟨(Rect.unit (s := S1024x512) ![0, 0] S1024x512.size inb_S1024x512_S1024x512_0_0), (k0_pay92 I.q I.kb)⟩]) (Rect.unit (s := S1024x512) ![512, 0] S256x512.size inb_S1024x512_S256x512_512_0))
def w_v207 (I : In F) : Vec F S1x256x1 .f32 :=
  (View.ld I.lb (Rect.unit (s := S1x512x1) ![0, 0, 0] S1x256x1.size inb_S1x512x1_S1x256x1_0_0_0))
def w_v212 (I : In F) : Vec F S256x512 .f32 :=
  (View.ld (View.canon [⟨(Rect.unit (s := S1024x512) ![0, 0] S1024x512.size inb_S1024x512_S1024x512_0_0), (k0_pay93 I.d I.vb)⟩]) (Rect.unit (s := S1024x512) ![512, 0] S256x512.size inb_S1024x512_S256x512_512_0))
def w_v213 (I : In F) : Vec F S256x1 .f32 :=
  (View.ld I.ds (Rect.unit (s := S1024x1) ![512, 0] S256x1.size inb_S1024x1_S256x1_512_0))
def w_v195 (I : In F) : FVec F S1x512 .f32 :=
  k0_pay113 I.cb
def w_v196 (I : In F) : FVec F S1x512 .f32 :=
  k0_pay114 (F := F)
def w_v211 (I : In F) : FVec F S256x512 .f32 :=
  k0_pay115 I.a1 I.rel I.a88 I.cb (w_v197 I) (w_v207 I)
def w_v236 (I : In F) : Vec F S256x512 .f32 :=
  (View.ld (View.canon [⟨(Rect.unit (s := S1024x512) ![0, 0] S1024x512.size inb_S1024x512_S1024x512_0_0), (k0_pay92 I.q I.kb)⟩]) (Rect.unit (s := S1024x512) ![768, 0] S256x512.size inb_S1024x512_S256x512_768_0))
def w_v246 (I : In F) : Vec F S1x256x1 .f32 :=
  (View.ld I.lb (Rect.unit (s := S1x512x1) ![0, 256, 0] S1x256x1.size inb_S1x512x1_S1x256x1_0_256_0))
def w_v227 (I : In F) : FVec F S1x512 .f32 :=
  k0_pay119 (w_v196 I) (w_v211 I) (w_v212 I) (w_v213 I)
def w_v250 (I : In F) : FVec F S256x512 .f32 :=
  k0_pay121 I.a1 I.rel I.a88 (w_v195 I) (w_v236 I) (w_v246 I)
def w_v251 (I : In F) : Vec F S256x512 .f32 :=
  (View.ld (View.canon [⟨(Rect.unit (s := S1024x512) ![0, 0] S1024x512.size inb_S1024x512_S1024x512_0_0), (k0_pay93 I.d I.vb)⟩]) (Rect.unit (s := S1024x512) ![768, 0] S256x512.size inb_S1024x512_S256x512_768_0))
def w_v252 (I : In F) : Vec F S256x1 .f32 :=
  (View.ld I.ds (Rect.unit (s := S1024x1) ![768, 0] S256x1.size inb_S1024x1_S256x1_768_0))
def w_v286 (I : In F) : Vec F S1024x512 .bf16 :=
  (View.ld (View.canon [⟨(Rect.unit (s := S1024x512) ![768, 0] S256x512.size inb_S1024x512_S256x512_768_0), (k0_pay124 (w_v250 I) (w_v251 I) (w_v252 I))⟩, ⟨(Rect.unit (s := S1024x512) ![512, 0] S256x512.size inb_S1024x512_S256x512_512_0), (k0_pay118 (w_v211 I) (w_v212 I) (w_v213 I))⟩, ⟨(Rect.unit (s := S1024x512) ![256, 0] S256x512.size inb_S1024x512_S256x512_256_0), (k0_pay107 I.a1 I.rel I.a88 (w_v105 I) (w_v146 I) (w_v156 I) (w_v161 I) (w_v162 I))⟩, ⟨(Rect.unit (s := S1024x512) ![0, 0] S256x512.size inb_S1024x512_S256x512_0_0), (k0_pay100 I.a1 I.rel I.a88 (w_v107 I) (w_v108 I) (w_v117 I) (w_v122 I) (w_v123 I))⟩]) (Rect.unit (s := S1024x512) ![0, 0] S1024x512.size inb_S1024x512_S1024x512_0_0))
def w_v293 (I : In F) : Vec F S1024x512 .bf16 :=
  (View.ld (View.canon [⟨(Rect.unit (s := S1024x512) ![768, 0] S256x512.size inb_S1024x512_S256x512_768_0), (k0_pay123 (w_v250 I))⟩, ⟨(Rect.unit (s := S1024x512) ![512, 0] S256x512.size inb_S1024x512_S256x512_512_0), (k0_pay117 (w_v211 I))⟩, ⟨(Rect.unit (s := S1024x512) ![256, 0] S256x512.size inb_S1024x512_S256x512_256_0), (k0_pay106 I.a1 I.rel I.a88 (w_v105 I) (w_v146 I) (w_v156 I))⟩, ⟨(Rect.unit (s := S1024x512) ![0, 0] S256x512.size inb_S1024x512_S256x512_0_0), (k0_pay99 I.a1 I.rel I.a88 (w_v107 I) (w_v108 I) (w_v117 I))⟩]) (Rect.unit (s := S1024x512) ![0, 0] S1024x512.size inb_S1024x512_S1024x512_0_0))
def w_v301 (I : In F) : Vec F S1024x512 .bf16 :=
  (View.ld (View.canon [⟨(Rect.unit (s := S1024x512) ![768, 0] S256x512.size inb_S1024x512_S256x512_768_0), (k0_pay124 (w_v250 I) (w_v251 I) (w_v252 I))⟩, ⟨(Rect.unit (s := S1024x512) ![512, 0] S256x512.size inb_S1024x512_S256x512_512_0), (k0_pay118 (w_v211 I) (w_v212 I) (w_v213 I))⟩, ⟨(Rect.unit (s := S1024x512) ![256, 0] S256x512.size inb_S1024x512_S256x512_256_0), (k0_pay107 I.a1 I.rel I.a88 (w_v105 I) (w_v146 I) (w_v156 I) (w_v161 I) (w_v162 I))⟩, ⟨(Rect.unit (s := S1024x512) ![0, 0] S256x512.size inb_S1024x512_S256x512_0_0), (k0_pay100 I.a1 I.rel I.a88 (w_v107 I) (w_v108 I) (w_v117 I) (w_v122 I) (w_v123 I))⟩]) (Rect.unit (s := S1024x512) ![0, 0] S1024x512.size inb_S1024x512_S1024x512_0_0))
def u_n12 (I : In F) (o : Fin S2048x128.rank → ℕ) (ho : ∀ a, o a + S512x128.size a ≤ S2048x128.size a) (X12 : Vec F S2048x128 .f32) : Vec F S2048x128 .f32 :=
  ov [⟨(Rect.unit (s := S2048x128) o S512x128.size ho), (k0_pay85 I.q (View.ld X12 (Rect.unit (s := S2048x128) o S512x128.size ho)) (u_v487 I))⟩] X12
def u_n14 (I : In F) (p : Fin S1x4x1x512.rank → ℕ) (hp : ∀ a, p a + S1x1x1x512.size a ≤ S1x4x1x512.size a) (X14 : Vec F S1x4x1x512 .f32) : Vec F S1x4x1x512 .f32 :=
  ov [⟨(Rect.unit (s := S1x4x1x512) p S1x1x1x512.size hp), (k0_pay19 (u_v359 I) (u_v380 I) (View.ld X14 (Rect.unit (s := S1x4x1x512) p S1x1x1x512.size hp)))⟩] X14
def u_n15 (I : In F) (p : Fin S1x4x1x512.rank → ℕ) (hp : ∀ a, p a + S1x1x1x512.size a ≤ S1x4x1x512.size a) (X15 : Vec F S1x4x1x512 .f32) : Vec F S1x4x1x512 .f32 :=
  ov [⟨(Rect.unit (s := S1x4x1x512) p S1x1x1x512.size hp), (k0_pay34 (u_v435 I) (u_v451 I) (u_v452 I) (u_v453 I) (View.ld X15 (Rect.unit (s := S1x4x1x512) p S1x1x1x512.size hp)))⟩] X15
def u_n16 (I : In F) (X16 : Vec F S1x512x1 .f32) : Vec F S1x512x1 .f32 :=
  ov [⟨(Rect.unit (s := S1x512x1) ![0, 256, 0] S1x256x1.size inb_S1x512x1_S1x256x1_0_256_0), (k0_pay18 (u_v380 I) (View.ld X16 (Rect.unit (s := S1x512x1) ![0, 256, 0] S1x256x1.size inb_S1x512x1_S1x256x1_0_256_0)))⟩, ⟨(Rect.unit (s := S1x512x1) ![0, 0, 0] S1x256x1.size inb_S1x512x1_S1x256x1_0_0_0), (k0_pay13 (u_v348 I) (View.ld X16 (Rect.unit (s := S1x512x1) ![0, 0, 0] S1x256x1.size inb_S1x512x1_S1x256x1_0_0_0)))⟩] X16
def u_n17 (I : In F) (X17 : Vec F S1x512x1 .f32) : Vec F S1x512x1 .f32 :=
  ov [⟨(Rect.unit (s := S1x512x1) ![0, 256, 0] S1x256x1.size inb_S1x512x1_S1x256x1_0_256_0), (k0_pay33 (u_v451 I) (u_v452 I) (u_v453 I) (View.ld X17 (Rect.unit (s := S1x512x1) ![0, 256, 0] S1x256x1.size inb_S1x512x1_S1x256x1_0_256_0)))⟩, ⟨(Rect.unit (s := S1x512x1) ![0, 0, 0] S1x256x1.size inb_S1x512x1_S1x256x1_0_0_0), (k0_pay28 (u_v414 I) (u_v415 I) (u_v420 I) (u_v421 I) (View.ld X17 (Rect.unit (s := S1x512x1) ![0, 0, 0] S1x256x1.size inb_S1x512x1_S1x256x1_0_0_0)))⟩] X17
def u_n22 (I : In F) (X22 : Vec F S1024x128 .f32) : Vec F S1024x128 .f32 :=
  ov [⟨(Rect.unit (s := S1024x128) ![0, 0] S1024x128.size inb_S1024x128_S1024x128_0_0), (k0_pay87 (u_v320 I) (View.ld X22 (Rect.unit (s := S1024x128) ![0, 0] S1024x128.size inb_S1024x128_S1024x128_0_0)) (u_v502 I))⟩] X22
def u_n24 (I : In F) (o : Fin S2048x128.rank → ℕ) (ho : ∀ a, o a + S512x128.size a ≤ S2048x128.size a) (X24 : Vec F S2048x128 .f32) : Vec F S2048x128 .f32 :=
  ov [⟨(Rect.unit (s := S2048x128) o S512x128.size ho), (k0_pay86 I.d (View.ld X24 (Rect.unit (s := S2048x128) o S512x128.size ho)) (u_v494 I))⟩] X24
def w_n12 (I : In F) (o : Fin S2048x128.rank → ℕ) (ho : ∀ a, o a + S512x128.size a ≤ S2048x128.size a) (X12 : Vec F S2048x128 .f32) : Vec F S2048x128 .f32 :=
  ov [⟨(Rect.unit (s := S2048x128) o S512x128.size ho), (k0_pay127 I.q (View.ld X12 (Rect.unit (s := S2048x128) o S512x128.size ho)) (w_v286 I))⟩] X12
def w_n14 (I : In F) (p : Fin S1x4x1x512.rank → ℕ) (hp : ∀ a, p a + S1x1x1x512.size a ≤ S1x4x1x512.size a) (X14 : Vec F S1x4x1x512 .f32) : Vec F S1x4x1x512 .f32 :=
  ov [⟨(Rect.unit (s := S1x4x1x512) p S1x1x1x512.size hp), (k0_pay112 (w_v176 I) (View.ld X14 (Rect.unit (s := S1x4x1x512) p S1x1x1x512.size hp)))⟩] X14
def w_n15 (I : In F) (p : Fin S1x4x1x512.rank → ℕ) (hp : ∀ a, p a + S1x1x1x512.size a ≤ S1x4x1x512.size a) (X15 : Vec F S1x4x1x512 .f32) : Vec F S1x4x1x512 .f32 :=
  ov [⟨(Rect.unit (s := S1x4x1x512) p S1x1x1x512.size hp), (k0_pay126 (w_v227 I) (w_v250 I) (w_v251 I) (w_v252 I) (View.ld X15 (Rect.unit (s := S1x4x1x512) p S1x1x1x512.size hp)))⟩] X15
def w_n16 (I : In F) (X16 : Vec F S1x512x1 .f32) : Vec F S1x512x1 .f32 :=
  ov [⟨(Rect.unit (s := S1x512x1) ![0, 256, 0] S1x256x1.size inb_S1x512x1_S1x256x1_0_256_0), (k0_pay111 (k0_pay109 (View.ld X16 (Rect.unit (s := S1x512x1) ![0, 256, 0] S1x256x1.size inb_S1x512x1_S1x256x1_0_256_0))) (w_v180 I))⟩, ⟨(Rect.unit (s := S1x512x1) ![0, 0, 0] S1x256x1.size inb_S1x512x1_S1x256x1_0_0_0), (k0_pay103 (k0_pay102 I.a1 I.rel I.a88 (w_v107 I) (w_v108 I) (w_v117 I) (w_v122 I) (w_v123 I) (View.ld X16 (Rect.unit (s := S1x512x1) ![0, 0, 0] S1x256x1.size inb_S1x512x1_S1x256x1_0_0_0))))⟩] X16
def w_n17 (I : In F) (X17 : Vec F S1x512x1 .f32) : Vec F S1x512x1 .f32 :=
  ov [⟨(Rect.unit (s := S1x512x1) ![0, 256, 0] S1x256x1.size inb_S1x512x1_S1x256x1_0_256_0), (k0_pay125 (w_v250 I) (w_v251 I) (w_v252 I) (View.ld X17 (Rect.unit (s := S1x512x1) ![0, 256, 0] S1x256x1.size inb_S1x512x1_S1x256x1_0_256_0)))⟩, ⟨(Rect.unit (s := S1x512x1) ![0, 0, 0] S1x256x1.size inb_S1x512x1_S1x256x1_0_0_0), (k0_pay120 (w_v211 I) (w_v212 I) (w_v213 I) (View.ld X17 (Rect.unit (s := S1x512x1) ![0, 0, 0] S1x256x1.size inb_S1x512x1_S1x256x1_0_0_0)))⟩] X17
def w_n22 (I : In F) (X22 : Vec F S1024x128 .f32) : Vec F S1024x128 .f32 :=
  ov [⟨(Rect.unit (s := S1024x128) ![0, 0] S1024x128.size inb_S1024x128_S1024x128_0_0), (k0_pay129 (w_v91 I) (View.ld X22 (Rect.unit (s := S1024x128) ![0, 0] S1024x128.size inb_S1024x128_S1024x128_0_0)) (w_v301 I))⟩] X22
def w_n24 (I : In F) (o : Fin S2048x128.rank → ℕ) (ho : ∀ a, o a + S512x128.size a ≤ S2048x128.size a) (X24 : Vec F S2048x128 .f32) : Vec F S2048x128 .f32 :=
  ov [⟨(Rect.unit (s := S2048x128) o S512x128.size ho), (k0_pay128 I.d (View.ld X24 (Rect.unit (s := S2048x128) o S512x128.size ho)) (w_v293 I))⟩] X24
def w_n11 (I : In F) (X22 : Vec F S1024x128 .f32) : Vec F S512x128 .f32 :=
  View.canon [⟨(Rect.unit (s := S512x128) ![0, 0] S512x128.size inb_S512x128_S512x128_0_0), (k0_pay130 I.lo (View.ld (View.canon [⟨(Rect.unit (s := S1024x128) ![0, 0] S1024x128.size inb_S1024x128_S1024x128_0_0), (k0_pay129 (w_v91 I) (View.ld X22 (Rect.unit (s := S1024x128) ![0, 0] S1024x128.size inb_S1024x128_S1024x128_0_0)) (w_v301 I))⟩]) (Rect.unit (s := S1024x128) ![0, 0] S512x128.size inb_S1024x128_S512x128_0_0)) (View.ld (View.canon [⟨(Rect.unit (s := S1024x128) ![0, 0] S1024x128.size inb_S1024x128_S1024x128_0_0), (k0_pay129 (w_v91 I) (View.ld X22 (Rect.unit (s := S1024x128) ![0, 0] S1024x128.size inb_S1024x128_S1024x128_0_0)) (w_v301 I))⟩]) (Rect.unit (s := S1024x128) ![512, 0] S512x128.size inb_S1024x128_S512x128_512_0)))⟩]

end Cert.KernelIdeal.Fox

end
-- ==== Proof.FoxKernelIdeal.Loop.lean ====
module

public import proofs.«01_k».proof.Proof.FoxKernelIdeal.Model
public import Idealize.ShloMosaic.Lib.WholeRead

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's buffers. -/
structure Mems where
  arg2 : Memref sig .tc .vmem S512x128 .bf16
  harg2 : arg2.IsWhole
  arg3 : Memref sig .tc .vmem S2048x128 .bf16
  harg3 : arg3.IsWhole
  arg4 : Memref sig .tc .vmem S2048x128 .bf16
  harg4 : arg4.IsWhole
  arg5 : Memref sig .tc .vmem S512x128 .f32
  harg5 : arg5.IsWhole
  arg6 : Memref sig .tc .vmem S512x128 .bf16
  harg6 : arg6.IsWhole
  arg7 : Memref sig .tc .vmem S1x4x1x512 .f32
  harg7 : arg7.IsWhole
  arg8 : Memref sig .tc .vmem S1x4x1x512 .f32
  harg8 : arg8.IsWhole
  arg9 : Memref sig .tc .vmem S1x512x1 .f32
  harg9 : arg9.IsWhole
  arg10 : Memref sig .tc .vmem S1x512x1 .f32
  harg10 : arg10.IsWhole
  arg11 : Memref sig .tc .vmem S512x128 .f32
  harg11 : arg11.IsWhole
  arg12 : Memref sig .tc .vmem S2048x128 .f32
  harg12 : arg12.IsWhole
  arg13 : Memref sig .tc .vmem S2048x128 .bf16
  harg13 : arg13.IsWhole
  arg14 : Memref sig .tc .vmem S1x4x1x512 .f32
  harg14 : arg14.IsWhole
  arg15 : Memref sig .tc .vmem S1x4x1x512 .f32
  harg15 : arg15.IsWhole
  arg16 : Memref sig .tc .vmem S1x512x1 .f32
  harg16 : arg16.IsWhole
  arg17 : Memref sig .tc .vmem S1x512x1 .f32
  harg17 : arg17.IsWhole
  arg18 : Memref sig .tc .vmem S1024x512 .f32
  harg18 : arg18.IsWhole
  arg19 : Memref sig .tc .vmem S1024x512 .f32
  harg19 : arg19.IsWhole
  arg20 : Memref sig .tc .vmem S1024x512 .bf16
  harg20 : arg20.IsWhole
  arg21 : Memref sig .tc .vmem S1024x512 .bf16
  harg21 : arg21.IsWhole
  arg22 : Memref sig .tc .vmem S1024x128 .f32
  harg22 : arg22.IsWhole
  arg23 : Memref sig .tc .vmem S1024x1 .f32
  harg23 : arg23.IsWhole
  arg24 : Memref sig .tc .vmem S2048x128 .f32
  harg24 : arg24.IsWhole

/-- What the key loop reads: the two query tiles, the inputs' blocks and the row sums. -/
structure Base (F : FTy → Type) where
  q : FVec F S1024x128 .bf16
  d : FVec F S1024x128 .bf16
  X3 : Vec F S2048x128 .bf16
  X4 : Vec F S2048x128 .bf16
  X7 : Vec F S1x4x1x512 .f32
  X8 : Vec F S1x4x1x512 .f32
  X9 : Vec F S1x512x1 .f32
  X10 : Vec F S1x512x1 .f32
  X23 : Vec F S1024x1 .f32

/-- What trip `k` of the unmasked loop reads of it. -/
def Base.at1 (B : Base F) (i : grid0.Coords) (k : Fin (k0_t1_loop i).trips) : In F where
  q := B.q
  d := B.d
  kb := View.ld B.X3 (Rect.unit (s := S2048x128) (k0_off1 i k) S512x128.size (k0_off1_inb i k))
  vb := View.ld B.X4 (Rect.unit (s := S2048x128) (k0_off1 i k) S512x128.size (k0_off1_inb i k))
  ca := View.ld B.X7 (Rect.unit (s := S1x4x1x512) (k0_off2 i k) S1x1x1x512.size (k0_off2_inb i k))
  cb := View.ld B.X8 (Rect.unit (s := S1x4x1x512) (k0_off2 i k) S1x1x1x512.size (k0_off2_inb i k))
  la := B.X9
  lb := B.X10
  ds := B.X23
  a1 := 0
  rel := fun _ => 0
  a88 := 0
  lo := fun _ => 0

theorem writes_unread {κ : Kind} {sp : Space} {s : Shape} {e : EltTy} {m : Memref sig κ sp s e} (h : m.IsWhole) (X : Vec F s e)
    (L : List (View.Piece (Elt F) s e)) : m.view.writes (Elt F) (h.unread X) L = h.unread (ov L X) :=
  h.eq_unread (by rw [read_writes_ov, h.read_unread])

theorem readAt_unread' {κ : Kind} {sp : Space} {s : Shape} {e : EltTy} {m : Memref sig κ sp s e} (h : m.IsWhole) (X : Vec F s e)
    (r : Rect s) : View.readAt (Elt F) m.view r.toLoadRect (h.unread X) = View.ld X r :=
  funext fun x => h.readAt_unread X r.toLoadRect x

theorem readCov_ld {κ : Kind} {sp : Space} {s : Shape} {e : EltTy} (v : View sig κ sp s e) (L : List (View.Piece (Elt F) s e))
    (r : Rect s) : v.readCov L r.toLoadRect = View.ld (View.canon L) r := View.readCov_eq_canon' v L r.toLoadRect

theorem own_eq (c : Dev nD) {sp : Space} {s : Shape} {e : EltTy} (m : Memref sig .tc sp s e) {f g : m.view.ty.Contents (Elt F)} (h : f = g) :
    ((m.view.loc (c : Thread nD τ) ↦[m.view.set]{fullShare} f) : sProp 𝕄) ⊢ (m.view.loc (c : Thread nD τ) ↦[m.view.set]{fullShare} g) := by subst h; exact Entails.rfl

variable (c : Dev nD) (i : grid0.Coords) (M : Mems)

set_option maxHeartbeats 4000000 in
theorem trip (B : Base F) (v62 c512 v63 v68 v70 v72 : BitVec 32) (k : Fin (k0_t1_loop i).trips) (E : Set ℕ) (acc : BitVec 32) (X12 : Vec F S2048x128 .f32) (X14 : Vec F S1x4x1x512 .f32) (X15 : Vec F S1x4x1x512 .f32) (X16 : Vec F S1x512x1 .f32) (X17 : Vec F S1x512x1 .f32) (X22 : Vec F S1024x128 .f32) (X24 : Vec F S2048x128 .f32) (f18 : BufTy.Contents (Elt F) M.arg18.view.ty) (f19 : BufTy.Contents (Elt F) M.arg19.view.ty) (f20 : BufTy.Contents (Elt F) M.arg20.view.ty) (f21 : BufTy.Contents (Elt F) M.arg21.view.ty) :
    (iprop((M.arg3.view.loc (c : Thread nD τ) ↦[M.arg3.view.set]{fullShare} (M.harg3.unread B.X3)) ∗ (M.arg4.view.loc (c : Thread nD τ) ↦[M.arg4.view.set]{fullShare} (M.harg4.unread B.X4)) ∗ (M.arg7.view.loc (c : Thread nD τ) ↦[M.arg7.view.set]{fullShare} (M.harg7.unread B.X7)) ∗ (M.arg8.view.loc (c : Thread nD τ) ↦[M.arg8.view.set]{fullShare} (M.harg8.unread B.X8)) ∗ (M.arg9.view.loc (c : Thread nD τ) ↦[M.arg9.view.set]{fullShare} (M.harg9.unread B.X9)) ∗ (M.arg10.view.loc (c : Thread nD τ) ↦[M.arg10.view.set]{fullShare} (M.harg10.unread B.X10)) ∗ (M.arg23.view.loc (c : Thread nD τ) ↦[M.arg23.view.set]{fullShare} (M.harg23.unread B.X23)) ∗ (M.arg12.view.loc (c : Thread nD τ) ↦[M.arg12.view.set]{fullShare} (M.harg12.unread X12)) ∗ (M.arg14.view.loc (c : Thread nD τ) ↦[M.arg14.view.set]{fullShare} (M.harg14.unread X14)) ∗ (M.arg15.view.loc (c : Thread nD τ) ↦[M.arg15.view.set]{fullShare} (M.harg15.unread X15)) ∗ (M.arg16.view.loc (c : Thread nD τ) ↦[M.arg16.view.set]{fullShare} (M.harg16.unread X16)) ∗ (M.arg17.view.loc (c : Thread nD τ) ↦[M.arg17.view.set]{fullShare} (M.harg17.unread X17)) ∗ (M.arg18.view.loc (c : Thread nD τ) ↦[M.arg18.view.set]{fullShare} f18) ∗ (M.arg19.view.loc (c : Thread nD τ) ↦[M.arg19.view.set]{fullShare} f19) ∗ (M.arg20.view.loc (c : Thread nD τ) ↦[M.arg20.view.set]{fullShare} f20) ∗ (M.arg21.view.loc (c : Thread nD τ) ↦[M.arg21.view.set]{fullShare} f21) ∗ (M.arg22.view.loc (c : Thread nD τ) ↦[M.arg22.view.set]{fullShare} (M.harg22.unread X22)) ∗ (M.arg24.view.loc (c : Thread nD τ) ↦[M.arg24.view.set]{fullShare} (M.harg24.unread X24))) : sProp 𝕄) ⊢ wp frame (wpE (defs₀ (F := F)) Variants.none (c : Thread nD τ) none) E
        (k0_t1_body (F := F) i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 B.q B.d v62 c512 v63 v68 v70 v72 k acc)
        (fun yld => iprop((M.arg3.view.loc (c : Thread nD τ) ↦[M.arg3.view.set]{fullShare} (M.harg3.unread B.X3)) ∗ (M.arg4.view.loc (c : Thread nD τ) ↦[M.arg4.view.set]{fullShare} (M.harg4.unread B.X4)) ∗ (M.arg7.view.loc (c : Thread nD τ) ↦[M.arg7.view.set]{fullShare} (M.harg7.unread B.X7)) ∗ (M.arg8.view.loc (c : Thread nD τ) ↦[M.arg8.view.set]{fullShare} (M.harg8.unread B.X8)) ∗ (M.arg9.view.loc (c : Thread nD τ) ↦[M.arg9.view.set]{fullShare} (M.harg9.unread B.X9)) ∗ (M.arg10.view.loc (c : Thread nD τ) ↦[M.arg10.view.set]{fullShare} (M.harg10.unread B.X10)) ∗ (M.arg23.view.loc (c : Thread nD τ) ↦[M.arg23.view.set]{fullShare} (M.harg23.unread B.X23)) ∗ (M.arg12.view.loc (c : Thread nD τ) ↦[M.arg12.view.set]{fullShare} (M.harg12.unread (u_n12 (B.at1 i k) (k0_off1 i k) (k0_off1_inb i k) X12))) ∗ (M.arg14.view.loc (c : Thread nD τ) ↦[M.arg14.view.set]{fullShare} (M.harg14.unread (u_n14 (B.at1 i k) (k0_off2 i k) (k0_off2_inb i k) X14))) ∗ (M.arg15.view.loc (c : Thread nD τ) ↦[M.arg15.view.set]{fullShare} (M.harg15.unread (u_n15 (B.at1 i k) (k0_off2 i k) (k0_off2_inb i k) X15))) ∗ (M.arg16.view.loc (c : Thread nD τ) ↦[M.arg16.view.set]{fullShare} (M.harg16.unread (u_n16 (B.at1 i k) X16))) ∗ (M.arg17.view.loc (c : Thread nD τ) ↦[M.arg17.view.set]{fullShare} (M.harg17.unread (u_n17 (B.at1 i k) X17))) ∗ (∃ f, (M.arg18.view.loc (c : Thread nD τ) ↦[M.arg18.view.set]{fullShare} f)) ∗ (∃ f, (M.arg19.view.loc (c : Thread nD τ) ↦[M.arg19.view.set]{fullShare} f)) ∗ (∃ f, (M.arg20.view.loc (c : Thread nD τ) ↦[M.arg20.view.set]{fullShare} f)) ∗ (∃ f, (M.arg21.view.loc (c : Thread nD τ) ↦[M.arg21.view.set]{fullShare} f)) ∗ (M.arg22.view.loc (c : Thread nD τ) ↦[M.arg22.view.set]{fullShare} (M.harg22.unread (u_n22 (B.at1 i k) X22))) ∗ (M.arg24.view.loc (c : Thread nD τ) ↦[M.arg24.view.set]{fullShare} (M.harg24.unread (u_n24 (B.at1 i k) (k0_off1 i k) (k0_off1_inb i k) X24))))) := by
  unfold k0_t1_body
  simp only [k0_part1_eq_skeleton, k0_part2_eq_skeleton, k0_part3_eq_skeleton, k0_part4_eq_skeleton, k0_part5_eq_skeleton]
  iintro ⟨HR3, HR4, HR7, HR8, HR9, HR10, HR23, HW12, HW14, HW15, HW16, HW17, HW18, HW19, HW20, HW21, HW22, HW24⟩
  sl_exec
  sl_step
  isplitl [HR3]; · iexact HR3
  isplitl [HR4]; · iexact HR4
  isplitl [HR7]; · iexact HR7
  isplitl [HR8]; · iexact HR8
  isplitl [HR9]; · iexact HR9
  isplitl [HR10]; · iexact HR10
  isplitl [HR23]; · iexact HR23
  isplitl [HW12]
  · iapply (own_eq c M.arg12 ?e12) $$ HW12
    case e12 =>
      rw [writes_unread]; refine congrArg _ ?_
      delta trip.sl.v420 trip.sl.v468 trip.sl.v368 trip.sl.r_5 trip.sl.r_4 trip.sl.v452 trip.sl.r_7 trip.sl.v412 trip.sl.r_9 trip.sl.HW18_1 trip.sl.r trip.sl.HW21_4 trip.sl.v487 trip.sl.r_1 trip.sl.r_10 trip.sl.v344 trip.sl.HW20_4 trip.sl.v376 trip.sl.HW19_1 trip.sl.v316 trip.sl.r_3 trip.sl.v444 trip.sl.v392 trip.sl.r_11 trip.sl.r_8 trip.sl.r_6 trip.sl.v494 trip.sl.v336 trip.sl.arg25 trip.sl.r_2
      simp only [readAt_unread', readCov_ld]
      rfl
  isplitl [HW14]
  · iapply (own_eq c M.arg14 ?e14) $$ HW14
    case e14 =>
      rw [writes_unread]; refine congrArg _ ?_
      delta trip.sl.v420 trip.sl.v468 trip.sl.v368 trip.sl.r_5 trip.sl.r_4 trip.sl.v452 trip.sl.r_7 trip.sl.v412 trip.sl.r_9 trip.sl.HW18_1 trip.sl.r trip.sl.HW21_4 trip.sl.v487 trip.sl.r_1 trip.sl.r_10 trip.sl.v344 trip.sl.HW20_4 trip.sl.v376 trip.sl.HW19_1 trip.sl.v316 trip.sl.r_3 trip.sl.v444 trip.sl.v392 trip.sl.r_11 trip.sl.r_8 trip.sl.r_6 trip.sl.v494 trip.sl.v336 trip.sl.arg25 trip.sl.r_2
      simp only [readAt_unread', readCov_ld]
      rfl
  isplitl [HW15]
  · iapply (own_eq c M.arg15 ?e15) $$ HW15
    case e15 =>
      rw [writes_unread]; refine congrArg _ ?_
      delta trip.sl.v420 trip.sl.v468 trip.sl.v368 trip.sl.r_5 trip.sl.r_4 trip.sl.v452 trip.sl.r_7 trip.sl.v412 trip.sl.r_9 trip.sl.HW18_1 trip.sl.r trip.sl.HW21_4 trip.sl.v487 trip.sl.r_1 trip.sl.r_10 trip.sl.v344 trip.sl.HW20_4 trip.sl.v376 trip.sl.HW19_1 trip.sl.v316 trip.sl.r_3 trip.sl.v444 trip.sl.v392 trip.sl.r_11 trip.sl.r_8 trip.sl.r_6 trip.sl.v494 trip.sl.v336 trip.sl.arg25 trip.sl.r_2
      simp only [readAt_unread', readCov_ld]
      rfl
  isplitl [HW16]
  · iapply (own_eq c M.arg16 ?e16) $$ HW16
    case e16 =>
      rw [writes_unread]; refine congrArg _ ?_
      delta trip.sl.v420 trip.sl.v468 trip.sl.v368 trip.sl.r_5 trip.sl.r_4 trip.sl.v452 trip.sl.r_7 trip.sl.v412 trip.sl.r_9 trip.sl.HW18_1 trip.sl.r trip.sl.HW21_4 trip.sl.v487 trip.sl.r_1 trip.sl.r_10 trip.sl.v344 trip.sl.HW20_4 trip.sl.v376 trip.sl.HW19_1 trip.sl.v316 trip.sl.r_3 trip.sl.v444 trip.sl.v392 trip.sl.r_11 trip.sl.r_8 trip.sl.r_6 trip.sl.v494 trip.sl.v336 trip.sl.arg25 trip.sl.r_2
      simp only [readAt_unread', readCov_ld]
      rfl
  isplitl [HW17]
  · iapply (own_eq c M.arg17 ?e17) $$ HW17
    case e17 =>
      rw [writes_unread]; refine congrArg _ ?_
      delta trip.sl.v420 trip.sl.v468 trip.sl.v368 trip.sl.r_5 trip.sl.r_4 trip.sl.v452 trip.sl.r_7 trip.sl.v412 trip.sl.r_9 trip.sl.HW18_1 trip.sl.r trip.sl.HW21_4 trip.sl.v487 trip.sl.r_1 trip.sl.r_10 trip.sl.v344 trip.sl.HW20_4 trip.sl.v376 trip.sl.HW19_1 trip.sl.v316 trip.sl.r_3 trip.sl.v444 trip.sl.v392 trip.sl.r_11 trip.sl.r_8 trip.sl.r_6 trip.sl.v494 trip.sl.v336 trip.sl.arg25 trip.sl.r_2
      simp only [readAt_unread', readCov_ld]
      rfl
  isplitl [HW18]
  · iexists _; iexact HW18
  isplitl [HW19]
  · iexists _; iexact HW19
  isplitl [HW20]
  · iexists _; iexact HW20
  isplitl [HW21]
  · iexists _; iexact HW21
  isplitl [HW22]
  · iapply (own_eq c M.arg22 ?e22) $$ HW22
    case e22 =>
      rw [writes_unread]; refine congrArg _ ?_
      delta trip.sl.v420 trip.sl.v468 trip.sl.v368 trip.sl.r_5 trip.sl.r_4 trip.sl.v452 trip.sl.r_7 trip.sl.v412 trip.sl.r_9 trip.sl.HW18_1 trip.sl.r trip.sl.HW21_4 trip.sl.v487 trip.sl.r_1 trip.sl.r_10 trip.sl.v344 trip.sl.HW20_4 trip.sl.v376 trip.sl.HW19_1 trip.sl.v316 trip.sl.r_3 trip.sl.v444 trip.sl.v392 trip.sl.r_11 trip.sl.r_8 trip.sl.r_6 trip.sl.v494 trip.sl.v336 trip.sl.arg25 trip.sl.r_2
      simp only [readAt_unread', readCov_ld]
      rfl
  iapply (own_eq c M.arg24 ?e24) $$ HW24
  case e24 =>
    rw [writes_unread]; refine congrArg _ ?_
    delta trip.sl.v420 trip.sl.v468 trip.sl.v368 trip.sl.r_5 trip.sl.r_4 trip.sl.v452 trip.sl.r_7 trip.sl.v412 trip.sl.r_9 trip.sl.HW18_1 trip.sl.r trip.sl.HW21_4 trip.sl.v487 trip.sl.r_1 trip.sl.r_10 trip.sl.v344 trip.sl.HW20_4 trip.sl.v376 trip.sl.HW19_1 trip.sl.v316 trip.sl.r_3 trip.sl.v444 trip.sl.v392 trip.sl.r_11 trip.sl.r_8 trip.sl.r_6 trip.sl.v494 trip.sl.v336 trip.sl.arg25 trip.sl.r_2
    simp only [readAt_unread', readCov_ld]
    rfl

/-- The buffer `arg12` before trip `n` of the unmasked loop. -/
def s12 (i : grid0.Coords) (B : Base F) (X12 : Vec F S2048x128 .f32) : ℕ → Vec F S2048x128 .f32
  | 0 => X12
  | n + 1 => if h : n < (k0_t1_loop i).trips then u_n12 (B.at1 i ⟨n, h⟩) (k0_off1 i ⟨n, h⟩) (k0_off1_inb i ⟨n, h⟩) (s12 i B X12 n) else s12 i B X12 n

theorem s12_succ (i : grid0.Coords) (B : Base F) (X12 : Vec F S2048x128 .f32) (k : Fin (k0_t1_loop i).trips) :
    s12 i B X12 (k.val + 1) = u_n12 (B.at1 i k) (k0_off1 i k) (k0_off1_inb i k) (s12 i B X12 k.val) := by
  rw [s12]; exact dif_pos k.isLt

/-- The buffer `arg14` before trip `n` of the unmasked loop. -/
def s14 (i : grid0.Coords) (B : Base F) (X14 : Vec F S1x4x1x512 .f32) : ℕ → Vec F S1x4x1x512 .f32
  | 0 => X14
  | n + 1 => if h : n < (k0_t1_loop i).trips then u_n14 (B.at1 i ⟨n, h⟩) (k0_off2 i ⟨n, h⟩) (k0_off2_inb i ⟨n, h⟩) (s14 i B X14 n) else s14 i B X14 n

theorem s14_succ (i : grid0.Coords) (B : Base F) (X14 : Vec F S1x4x1x512 .f32) (k : Fin (k0_t1_loop i).trips) :
    s14 i B X14 (k.val + 1) = u_n14 (B.at1 i k) (k0_off2 i k) (k0_off2_inb i k) (s14 i B X14 k.val) := by
  rw [s14]; exact dif_pos k.isLt

/-- The buffer `arg15` before trip `n` of the unmasked loop. -/
def s15 (i : grid0.Coords) (B : Base F) (X15 : Vec F S1x4x1x512 .f32) : ℕ → Vec F S1x4x1x512 .f32
  | 0 => X15
  | n + 1 => if h : n < (k0_t1_loop i).trips then u_n15 (B.at1 i ⟨n, h⟩) (k0_off2 i ⟨n, h⟩) (k0_off2_inb i ⟨n, h⟩) (s15 i B X15 n) else s15 i B X15 n

theorem s15_succ (i : grid0.Coords) (B : Base F) (X15 : Vec F S1x4x1x512 .f32) (k : Fin (k0_t1_loop i).trips) :
    s15 i B X15 (k.val + 1) = u_n15 (B.at1 i k) (k0_off2 i k) (k0_off2_inb i k) (s15 i B X15 k.val) := by
  rw [s15]; exact dif_pos k.isLt

/-- The buffer `arg16` before trip `n` of the unmasked loop. -/
def s16 (i : grid0.Coords) (B : Base F) (X16 : Vec F S1x512x1 .f32) : ℕ → Vec F S1x512x1 .f32
  | 0 => X16
  | n + 1 => if h : n < (k0_t1_loop i).trips then u_n16 (B.at1 i ⟨n, h⟩) (s16 i B X16 n) else s16 i B X16 n

theorem s16_succ (i : grid0.Coords) (B : Base F) (X16 : Vec F S1x512x1 .f32) (k : Fin (k0_t1_loop i).trips) :
    s16 i B X16 (k.val + 1) = u_n16 (B.at1 i k) (s16 i B X16 k.val) := by
  rw [s16]; exact dif_pos k.isLt

/-- The buffer `arg17` before trip `n` of the unmasked loop. -/
def s17 (i : grid0.Coords) (B : Base F) (X17 : Vec F S1x512x1 .f32) : ℕ → Vec F S1x512x1 .f32
  | 0 => X17
  | n + 1 => if h : n < (k0_t1_loop i).trips then u_n17 (B.at1 i ⟨n, h⟩) (s17 i B X17 n) else s17 i B X17 n

theorem s17_succ (i : grid0.Coords) (B : Base F) (X17 : Vec F S1x512x1 .f32) (k : Fin (k0_t1_loop i).trips) :
    s17 i B X17 (k.val + 1) = u_n17 (B.at1 i k) (s17 i B X17 k.val) := by
  rw [s17]; exact dif_pos k.isLt

/-- The buffer `arg22` before trip `n` of the unmasked loop. -/
def s22 (i : grid0.Coords) (B : Base F) (X22 : Vec F S1024x128 .f32) : ℕ → Vec F S1024x128 .f32
  | 0 => X22
  | n + 1 => if h : n < (k0_t1_loop i).trips then u_n22 (B.at1 i ⟨n, h⟩) (s22 i B X22 n) else s22 i B X22 n

theorem s22_succ (i : grid0.Coords) (B : Base F) (X22 : Vec F S1024x128 .f32) (k : Fin (k0_t1_loop i).trips) :
    s22 i B X22 (k.val + 1) = u_n22 (B.at1 i k) (s22 i B X22 k.val) := by
  rw [s22]; exact dif_pos k.isLt

/-- The buffer `arg24` before trip `n` of the unmasked loop. -/
def s24 (i : grid0.Coords) (B : Base F) (X24 : Vec F S2048x128 .f32) : ℕ → Vec F S2048x128 .f32
  | 0 => X24
  | n + 1 => if h : n < (k0_t1_loop i).trips then u_n24 (B.at1 i ⟨n, h⟩) (k0_off1 i ⟨n, h⟩) (k0_off1_inb i ⟨n, h⟩) (s24 i B X24 n) else s24 i B X24 n

theorem s24_succ (i : grid0.Coords) (B : Base F) (X24 : Vec F S2048x128 .f32) (k : Fin (k0_t1_loop i).trips) :
    s24 i B X24 (k.val + 1) = u_n24 (B.at1 i k) (k0_off1 i k) (k0_off1_inb i k) (s24 i B X24 k.val) := by
  rw [s24]; exact dif_pos k.isLt

set_option warn.classDefReducibility false in
/-- The unmasked loop by its invariant: before trip `k` the accumulators hold what the trips before left. -/
@[sl_loop] def loopInv_k0_t1 (E : Set ℕ) (v19 v28 : FVec F S1024x128 .bf16) (v62 c512 v63 v68 v70 v72 : BitVec 32) (X3 : Vec F S2048x128 .bf16) (X4 : Vec F S2048x128 .bf16) (X7 : Vec F S1x4x1x512 .f32) (X8 : Vec F S1x4x1x512 .f32) (X9 : Vec F S1x512x1 .f32) (X10 : Vec F S1x512x1 .f32) (X23 : Vec F S1024x1 .f32) (X12 : Vec F S2048x128 .f32) (X14 : Vec F S1x4x1x512 .f32) (X15 : Vec F S1x4x1x512 .f32) (X16 : Vec F S1x512x1 .f32) (X17 : Vec F S1x512x1 .f32) (X22 : Vec F S1024x128 .f32) (X24 : Vec F S2048x128 .f32) (init : BitVec 32) :
    LoopInvTy_k0_t1 (F := F) Unit ℕ (UR sig nD τ) ℕ Variants.none c none E i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 v19 v28 v62 c512 v63 v68 v70 v72 init where
  inv := fun k acc => iprop((M.arg3.view.loc (c : Thread nD τ) ↦[M.arg3.view.set]{fullShare} (M.harg3.unread X3)) ∗ (M.arg4.view.loc (c : Thread nD τ) ↦[M.arg4.view.set]{fullShare} (M.harg4.unread X4)) ∗ (M.arg7.view.loc (c : Thread nD τ) ↦[M.arg7.view.set]{fullShare} (M.harg7.unread X7)) ∗ (M.arg8.view.loc (c : Thread nD τ) ↦[M.arg8.view.set]{fullShare} (M.harg8.unread X8)) ∗ (M.arg9.view.loc (c : Thread nD τ) ↦[M.arg9.view.set]{fullShare} (M.harg9.unread X9)) ∗ (M.arg10.view.loc (c : Thread nD τ) ↦[M.arg10.view.set]{fullShare} (M.harg10.unread X10)) ∗ (M.arg23.view.loc (c : Thread nD τ) ↦[M.arg23.view.set]{fullShare} (M.harg23.unread X23)) ∗ (∃ f, (M.arg12.view.loc (c : Thread nD τ) ↦[M.arg12.view.set]{fullShare} f) ∗ ⌜f = M.harg12.unread (s12 i (⟨v19, v28, X3, X4, X7, X8, X9, X10, X23⟩ : Base F) X12 k)⌝) ∗ (∃ f, (M.arg14.view.loc (c : Thread nD τ) ↦[M.arg14.view.set]{fullShare} f) ∗ ⌜f = M.harg14.unread (s14 i (⟨v19, v28, X3, X4, X7, X8, X9, X10, X23⟩ : Base F) X14 k)⌝) ∗ (∃ f, (M.arg15.view.loc (c : Thread nD τ) ↦[M.arg15.view.set]{fullShare} f) ∗ ⌜f = M.harg15.unread (s15 i (⟨v19, v28, X3, X4, X7, X8, X9, X10, X23⟩ : Base F) X15 k)⌝) ∗ (∃ f, (M.arg16.view.loc (c : Thread nD τ) ↦[M.arg16.view.set]{fullShare} f) ∗ ⌜f = M.harg16.unread (s16 i (⟨v19, v28, X3, X4, X7, X8, X9, X10, X23⟩ : Base F) X16 k)⌝) ∗ (∃ f, (M.arg17.view.loc (c : Thread nD τ) ↦[M.arg17.view.set]{fullShare} f) ∗ ⌜f = M.harg17.unread (s17 i (⟨v19, v28, X3, X4, X7, X8, X9, X10, X23⟩ : Base F) X17 k)⌝) ∗ (∃ f, (M.arg18.view.loc (c : Thread nD τ) ↦[M.arg18.view.set]{fullShare} f)) ∗ (∃ f, (M.arg19.view.loc (c : Thread nD τ) ↦[M.arg19.view.set]{fullShare} f)) ∗ (∃ f, (M.arg20.view.loc (c : Thread nD τ) ↦[M.arg20.view.set]{fullShare} f)) ∗ (∃ f, (M.arg21.view.loc (c : Thread nD τ) ↦[M.arg21.view.set]{fullShare} f)) ∗ (∃ f, (M.arg22.view.loc (c : Thread nD τ) ↦[M.arg22.view.set]{fullShare} f) ∗ ⌜f = M.harg22.unread (s22 i (⟨v19, v28, X3, X4, X7, X8, X9, X10, X23⟩ : Base F) X22 k)⌝) ∗ (∃ f, (M.arg24.view.loc (c : Thread nD τ) ↦[M.arg24.view.set]{fullShare} f) ∗ ⌜f = M.harg24.unread (s24 i (⟨v19, v28, X3, X4, X7, X8, X9, X10, X23⟩ : Base F) X24 k)⌝))
  step k acc := by
    iintro ⟨HR3, HR4, HR7, HR8, HR9, HR10, HR23, ⟨%f12, HW12, %h12⟩, ⟨%f14, HW14, %h14⟩, ⟨%f15, HW15, %h15⟩, ⟨%f16, HW16, %h16⟩, ⟨%f17, HW17, %h17⟩, ⟨%f18, HW18⟩, ⟨%f19, HW19⟩, ⟨%f20, HW20⟩, ⟨%f21, HW21⟩, ⟨%f22, HW22, %h22⟩, ⟨%f24, HW24, %h24⟩⟩
    subst h12 h14 h15 h16 h17 h22 h24
    iapply (wp_wand_r Idealize.ShloMosaic.frame (wpE (defs₀ (F := F)) Variants.none (c : Thread nD τ) none) E)
    isplitl [HR3 HR4 HR7 HR8 HR9 HR10 HR23 HW12 HW14 HW15 HW16 HW17 HW18 HW19 HW20 HW21 HW22 HW24]
    · iapply (trip c i M (⟨v19, v28, X3, X4, X7, X8, X9, X10, X23⟩ : Base F) v62 c512 v63 v68 v70 v72 k E acc (s12 i (⟨v19, v28, X3, X4, X7, X8, X9, X10, X23⟩ : Base F) X12 k.val) (s14 i (⟨v19, v28, X3, X4, X7, X8, X9, X10, X23⟩ : Base F) X14 k.val) (s15 i (⟨v19, v28, X3, X4, X7, X8, X9, X10, X23⟩ : Base F) X15 k.val) (s16 i (⟨v19, v28, X3, X4, X7, X8, X9, X10, X23⟩ : Base F) X16 k.val) (s17 i (⟨v19, v28, X3, X4, X7, X8, X9, X10, X23⟩ : Base F) X17 k.val) (s22 i (⟨v19, v28, X3, X4, X7, X8, X9, X10, X23⟩ : Base F) X22 k.val) (s24 i (⟨v19, v28, X3, X4, X7, X8, X9, X10, X23⟩ : Base F) X24 k.val) f18 f19 f20 f21)
      isplitl [HR3]; · iexact HR3
      isplitl [HR4]; · iexact HR4
      isplitl [HR7]; · iexact HR7
      isplitl [HR8]; · iexact HR8
      isplitl [HR9]; · iexact HR9
      isplitl [HR10]; · iexact HR10
      isplitl [HR23]; · iexact HR23
      isplitl [HW12]; · iexact HW12
      isplitl [HW14]; · iexact HW14
      isplitl [HW15]; · iexact HW15
      isplitl [HW16]; · iexact HW16
      isplitl [HW17]; · iexact HW17
      isplitl [HW18]; · iexact HW18
      isplitl [HW19]; · iexact HW19
      isplitl [HW20]; · iexact HW20
      isplitl [HW21]; · iexact HW21
      isplitl [HW22]; · iexact HW22
      iexact HW24
    · iintro %yld ⟨HR3, HR4, HR7, HR8, HR9, HR10, HR23, HW12, HW14, HW15, HW16, HW17, HW18, HW19, HW20, HW21, HW22, HW24⟩
      simp only [s12_succ, s14_succ, s15_succ, s16_succ, s17_succ, s22_succ, s24_succ]
      isplitl [HR3]; · iexact HR3
      isplitl [HR4]; · iexact HR4
      isplitl [HR7]; · iexact HR7
      isplitl [HR8]; · iexact HR8
      isplitl [HR9]; · iexact HR9
      isplitl [HR10]; · iexact HR10
      isplitl [HR23]; · iexact HR23
      isplitl [HW12]
      · iexists _; isplitl [HW12]; · iexact HW12
        ipureintro; rfl
      isplitl [HW14]
      · iexists _; isplitl [HW14]; · iexact HW14
        ipureintro; rfl
      isplitl [HW15]
      · iexists _; isplitl [HW15]; · iexact HW15
        ipureintro; rfl
      isplitl [HW16]
      · iexists _; isplitl [HW16]; · iexact HW16
        ipureintro; rfl
      isplitl [HW17]
      · iexists _; isplitl [HW17]; · iexact HW17
        ipureintro; rfl
      isplitl [HW18]
      · iexact HW18
      isplitl [HW19]
      · iexact HW19
      isplitl [HW20]
      · iexact HW20
      isplitl [HW21]
      · iexact HW21
      isplitl [HW22]
      · iexists _; isplitl [HW22]; · iexact HW22
        ipureintro; rfl
      iexists _; isplitl [HW24]; · iexact HW24
      ipureintro; rfl

end Cert.KernelIdeal.Fox

end
-- ==== Proof.FoxKernelIdeal.Point.lean ====
module

public import proofs.«01_k».proof.Proof.FoxKernelIdeal.Loop

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first row of the point's own chunk of keys. -/
def row0 (i : grid0.Coords) : BitVec 32 :=
  let arg1 : BitVec 32 := BitVec.ofNat 32 (i 1).val
  let v62 : BitVec 32 := Scalar.muli arg1 512#32
  let v63 : BitVec 32 := Scalar.divsi v62 512#32
  let v64 : BitVec 1 := Scalar.cmpi .sgt v62 0#32
  let v65 : BitVec 32 := Scalar.extui v64
  let v66 : BitVec 1 := Scalar.cmpi .slt v62 0#32
  let v67 : BitVec 32 := Scalar.extui v66
  let v68 : BitVec 32 := Scalar.subi v65 v67
  let v69 : BitVec 1 := Scalar.cmpi .sgt 512#32 0#32
  let v70 : BitVec 32 := Scalar.extui v69
  let v71 : BitVec 1 := Scalar.cmpi .slt 512#32 0#32
  let v72 : BitVec 32 := Scalar.extui v71
  let v73 : BitVec 32 := Scalar.subi v70 v72
  let v74 : BitVec 1 := Scalar.cmpi .ne v68 v73
  let v75 : BitVec 32 := Scalar.remsi v62 512#32
  let v76 : BitVec 1 := Scalar.cmpi .ne v75 0#32
  let v77 : BitVec 1 := Scalar.andi v74 v76
  let v78 : BitVec 32 := Scalar.subi v63 1#32
  let v79 : BitVec 32 := Scalar.select v77 v78 v63
  let v80 : BitVec 32 := Scalar.subi v79 0#32
  let v82 : BitVec 32 := Scalar.divsi v80 1#32
  let v83 : BitVec 32 := Scalar.muli v82 1#32
  let v84 : BitVec 32 := Scalar.addi 0#32 v83
  let v87 : BitVec 32 := Scalar.muli v79 512#32
  let v88 : BitVec 32 := v87
  v88

/-- The zeros `arg12` starts from. -/
def z12 : Vec F S2048x128 .f32 := View.canon [⟨(Rect.unit (s := S2048x128) ![0, 0] S2048x128.size inb_S2048x128_S2048x128_0_0), k0_pay68 (F := F)⟩]
/-- The zeros `arg24` starts from. -/
def z24 : Vec F S2048x128 .f32 := View.canon [⟨(Rect.unit (s := S2048x128) ![0, 0] S2048x128.size inb_S2048x128_S2048x128_0_0), k0_pay69 (F := F)⟩]
/-- The zeros `arg14` starts from. -/
def z14 : Vec F S1x4x1x512 .f32 := View.canon [⟨(Rect.unit (s := S1x4x1x512) ![0, 0, 0, 0] S1x4x1x512.size inb_S1x4x1x512_S1x4x1x512_0_0_0_0), k0_pay70 (F := F)⟩]
/-- The zeros `arg15` starts from. -/
def z15 : Vec F S1x4x1x512 .f32 := View.canon [⟨(Rect.unit (s := S1x4x1x512) ![0, 0, 0, 0] S1x4x1x512.size inb_S1x4x1x512_S1x4x1x512_0_0_0_0), k0_pay71 (F := F)⟩]
/-- The zeros `arg22` starts from. -/
def z22 : Vec F S1024x128 .f32 := View.canon [⟨(Rect.unit (s := S1024x128) ![0, 0] S1024x128.size inb_S1024x128_S1024x128_0_0), k0_pay81 (F := F)⟩]
/-- The zeros `arg16` starts from. -/
def z16 : Vec F S1x512x1 .f32 := View.canon [⟨(Rect.unit (s := S1x512x1) ![0, 0, 0] S1x512x1.size inb_S1x512x1_S1x512x1_0_0_0), k0_pay82 (F := F)⟩]
/-- The zeros `arg17` starts from. -/
def z17 : Vec F S1x512x1 .f32 := View.canon [⟨(Rect.unit (s := S1x512x1) ![0, 0, 0] S1x512x1.size inb_S1x512x1_S1x512x1_0_0_0), k0_pay83 (F := F)⟩]

/-- The row sums of `do · o`, the first head's rows first. -/
def dsum (X5 : Vec F S512x128 .f32) (X6 : Vec F S512x128 .bf16) : Vec F S1024x1 .f32 :=
  View.canon [⟨Rect.unit (s := S1024x1) ![512, 0] S512x1.size inb_S1024x1_S512x1_512_0, k0_pay80 k0_pay73 (k0_pay77 (View.ld X6 (Rect.unit (s := S512x128) ![0, 0] S512x128.size inb_S512x128_S512x128_0_0)) (View.ld X5 (Rect.unit (s := S512x128) ![0, 0] S512x128.size inb_S512x128_S512x128_0_0)))⟩,
    ⟨Rect.unit (s := S1024x1) ![0, 0] S512x1.size inb_S1024x1_S512x1_0_0, k0_pay79 (k0_pay78 (View.ld X6 (Rect.unit (s := S512x128) ![0, 0] S512x128.size inb_S512x128_S512x128_0_0)) (View.ld X5 (Rect.unit (s := S512x128) ![0, 0] S512x128.size inb_S512x128_S512x128_0_0)))⟩]

/-- The input blocks of one grid point. -/
structure Blk (F : FTy → Type) where
  X2 : Vec F S512x128 .bf16
  X3 : Vec F S2048x128 .bf16
  X4 : Vec F S2048x128 .bf16
  X5 : Vec F S512x128 .f32
  X6 : Vec F S512x128 .bf16
  X7 : Vec F S1x4x1x512 .f32
  X8 : Vec F S1x4x1x512 .f32
  X9 : Vec F S1x512x1 .f32
  X10 : Vec F S1x512x1 .f32

/-- What the key loop of a point reads. -/
def Blk.base (B : Blk F) : Base F where
  q := k0_pay75 (View.ld B.X2 (Rect.unit (s := S512x128) ![0, 0] S512x128.size inb_S512x128_S512x128_0_0))
  d := k0_pay76 (View.ld B.X6 (Rect.unit (s := S512x128) ![0, 0] S512x128.size inb_S512x128_S512x128_0_0))
  X3 := B.X3
  X4 := B.X4
  X7 := B.X7
  X8 := B.X8
  X9 := B.X9
  X10 := B.X10
  X23 := dsum B.X5 B.X6

/-- What the masked chunk reads. -/
def Base.at2 (B : Base F) (i : grid0.Coords) : In F where
  q := B.q
  d := B.d
  kb := View.ld B.X3 (Rect.unit (s := S2048x128) (k0_off5 i) S512x128.size (k0_off5_inb i))
  vb := View.ld B.X4 (Rect.unit (s := S2048x128) (k0_off5 i) S512x128.size (k0_off5_inb i))
  ca := View.ld B.X7 (Rect.unit (s := S1x4x1x512) (k0_off6 i) S1x1x1x512.size (k0_off6_inb i))
  cb := View.ld B.X8 (Rect.unit (s := S1x4x1x512) (k0_off6 i) S1x1x1x512.size (k0_off6_inb i))
  la := B.X9
  lb := B.X10
  ds := B.X23
  a1 := BitVec.ofNat 32 (i 1).val
  rel := k0_pay84
  a88 := row0 i
  lo := k0_pay73

/-- What a point leaves in `arg12`, from what it found there. -/
def o12 (i : grid0.Coords) (B : Base F) (X12 : Vec F S2048x128 .f32) : Vec F S2048x128 .f32 :=
  w_n12 (B.at2 i) (k0_off5 i) (k0_off5_inb i) (s12 i B X12 (k0_t1_loop i).trips)
/-- What a point leaves in `arg14`, from what it found there. -/
def o14 (i : grid0.Coords) (B : Base F) (X14 : Vec F S1x4x1x512 .f32) : Vec F S1x4x1x512 .f32 :=
  w_n14 (B.at2 i) (k0_off6 i) (k0_off6_inb i) (s14 i B X14 (k0_t1_loop i).trips)
/-- What a point leaves in `arg15`, from what it found there. -/
def o15 (i : grid0.Coords) (B : Base F) (X15 : Vec F S1x4x1x512 .f32) : Vec F S1x4x1x512 .f32 :=
  w_n15 (B.at2 i) (k0_off6 i) (k0_off6_inb i) (s15 i B X15 (k0_t1_loop i).trips)
/-- What a point leaves in `arg16`, from what it found there. -/
def o16 (i : grid0.Coords) (B : Base F) (X16 : Vec F S1x512x1 .f32) : Vec F S1x512x1 .f32 :=
  w_n16 (B.at2 i) (s16 i B X16 (k0_t1_loop i).trips)
/-- What a point leaves in `arg17`, from what it found there. -/
def o17 (i : grid0.Coords) (B : Base F) (X17 : Vec F S1x512x1 .f32) : Vec F S1x512x1 .f32 :=
  w_n17 (B.at2 i) (s17 i B X17 (k0_t1_loop i).trips)
/-- What a point leaves in `arg22`, from what it found there. -/
def o22 (i : grid0.Coords) (B : Base F) (X22 : Vec F S1024x128 .f32) : Vec F S1024x128 .f32 :=
  w_n22 (B.at2 i) (s22 i B X22 (k0_t1_loop i).trips)
/-- What a point leaves in `arg24`, from what it found there. -/
def o24 (i : grid0.Coords) (B : Base F) (X24 : Vec F S2048x128 .f32) : Vec F S2048x128 .f32 :=
  w_n24 (B.at2 i) (k0_off5 i) (k0_off5_inb i) (s24 i B X24 (k0_t1_loop i).trips)
/-- The tile's gradient of the queries. -/
def o11 (i : grid0.Coords) (B : Base F) : Vec F S512x128 .f32 := w_n11 (B.at2 i) (s22 i B z22 (k0_t1_loop i).trips)
/-- The gradient of the values, once the last tile is through. -/
def o13 (X24 : Vec F S2048x128 .f32) : Vec F S2048x128 .bf16 := View.canon [⟨(Rect.unit (s := S2048x128) ![0, 0] S2048x128.size inb_S2048x128_S2048x128_0_0), k0_pay1 (View.ld X24 (Rect.unit (s := S2048x128) ![0, 0] S2048x128.size inb_S2048x128_S2048x128_0_0))⟩]

theorem writes_cover {κ : Kind} {sp : Space} {s : Shape} {e : EltTy} {m : Memref sig κ sp s e} (h : m.IsWhole)
    (f : BufTy.Contents (Elt F) m.view.ty) (L : List (View.Piece (Elt F) s e)) (hL : ∀ y : s.Idx, ∃ q ∈ L, y ∈ q.1.set) :
    m.view.writes (Elt F) f L = h.unread (View.canon L) :=
  h.eq_unread (View.read_writes_eq_canon _ f L hL)

theorem writes_junk {κ : Kind} {sp : Space} {s : Shape} {e : EltTy} {m : Memref sig κ sp s e} (h : m.IsWhole)
    (L : List (View.Piece (Elt F) s e)) : m.view.writes (Elt F) m.view.junk L = h.unread (View.canon L) :=
  h.eq_unread (View.read_writes_junk_eq_canon _ _)

end Cert.KernelIdeal.Fox

end
-- ==== Proof.FoxKernelIdeal.BodyA.lean ====
module

public import proofs.«01_k».proof.Proof.FoxKernelIdeal.Point

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (M : Mems)

set_option maxHeartbeats 8000000 in
theorem bodyA (hc0 : Scalar.cmpi .ne (Scalar.extui (Scalar.cmpi .eq (BitVec.ofNat 32 (i 1).val) 0#32)) 0#32 = (1#1 : BitVec 1)) (hc1 : ¬ k0_cond2 i = 1#1) (B : Blk F) (E : Set ℕ) (f12 : BufTy.Contents (Elt F) M.arg12.view.ty) (f14 : BufTy.Contents (Elt F) M.arg14.view.ty) (f15 : BufTy.Contents (Elt F) M.arg15.view.ty) (f24 : BufTy.Contents (Elt F) M.arg24.view.ty) (f11 : BufTy.Contents (Elt F) M.arg11.view.ty) (f13 : BufTy.Contents (Elt F) M.arg13.view.ty) (f16 : BufTy.Contents (Elt F) M.arg16.view.ty) (f17 : BufTy.Contents (Elt F) M.arg17.view.ty) (f18 : BufTy.Contents (Elt F) M.arg18.view.ty) (f19 : BufTy.Contents (Elt F) M.arg19.view.ty) (f20 : BufTy.Contents (Elt F) M.arg20.view.ty) (f21 : BufTy.Contents (Elt F) M.arg21.view.ty) (f22 : BufTy.Contents (Elt F) M.arg22.view.ty) (f23 : BufTy.Contents (Elt F) M.arg23.view.ty) :
    (iprop((M.arg2.view.loc (c : Thread nD τ) ↦[M.arg2.view.set]{fullShare} (M.harg2.unread B.X2)) ∗ (M.arg3.view.loc (c : Thread nD τ) ↦[M.arg3.view.set]{fullShare} (M.harg3.unread B.X3)) ∗ (M.arg4.view.loc (c : Thread nD τ) ↦[M.arg4.view.set]{fullShare} (M.harg4.unread B.X4)) ∗ (M.arg5.view.loc (c : Thread nD τ) ↦[M.arg5.view.set]{fullShare} (M.harg5.unread B.X5)) ∗ (M.arg6.view.loc (c : Thread nD τ) ↦[M.arg6.view.set]{fullShare} (M.harg6.unread B.X6)) ∗ (M.arg7.view.loc (c : Thread nD τ) ↦[M.arg7.view.set]{fullShare} (M.harg7.unread B.X7)) ∗ (M.arg8.view.loc (c : Thread nD τ) ↦[M.arg8.view.set]{fullShare} (M.harg8.unread B.X8)) ∗ (M.arg9.view.loc (c : Thread nD τ) ↦[M.arg9.view.set]{fullShare} (M.harg9.unread B.X9)) ∗ (M.arg10.view.loc (c : Thread nD τ) ↦[M.arg10.view.set]{fullShare} (M.harg10.unread B.X10)) ∗ (M.arg11.view.loc (c : Thread nD τ) ↦[M.arg11.view.set]{fullShare} f11) ∗ (M.arg12.view.loc (c : Thread nD τ) ↦[M.arg12.view.set]{fullShare} f12) ∗ (M.arg13.view.loc (c : Thread nD τ) ↦[M.arg13.view.set]{fullShare} f13) ∗ (M.arg14.view.loc (c : Thread nD τ) ↦[M.arg14.view.set]{fullShare} f14) ∗ (M.arg15.view.loc (c : Thread nD τ) ↦[M.arg15.view.set]{fullShare} f15) ∗ (M.arg16.view.loc (c : Thread nD τ) ↦[M.arg16.view.set]{fullShare} f16) ∗ (M.arg17.view.loc (c : Thread nD τ) ↦[M.arg17.view.set]{fullShare} f17) ∗ (M.arg18.view.loc (c : Thread nD τ) ↦[M.arg18.view.set]{fullShare} f18) ∗ (M.arg19.view.loc (c : Thread nD τ) ↦[M.arg19.view.set]{fullShare} f19) ∗ (M.arg20.view.loc (c : Thread nD τ) ↦[M.arg20.view.set]{fullShare} f20) ∗ (M.arg21.view.loc (c : Thread nD τ) ↦[M.arg21.view.set]{fullShare} f21) ∗ (M.arg22.view.loc (c : Thread nD τ) ↦[M.arg22.view.set]{fullShare} f22) ∗ (M.arg23.view.loc (c : Thread nD τ) ↦[M.arg23.view.set]{fullShare} f23) ∗ (M.arg24.view.loc (c : Thread nD τ) ↦[M.arg24.view.set]{fullShare} f24)) : sProp 𝕄) ⊢ wp frame (wpE (defs₀ (F := F)) Variants.none (c : Thread nD τ) none) E
        (cc0_fox_attention_bwd (F := F) i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24)
        (fun _ => iprop((M.arg2.view.loc (c : Thread nD τ) ↦[M.arg2.view.set]{fullShare} (M.harg2.unread B.X2)) ∗ (M.arg3.view.loc (c : Thread nD τ) ↦[M.arg3.view.set]{fullShare} (M.harg3.unread B.X3)) ∗ (M.arg4.view.loc (c : Thread nD τ) ↦[M.arg4.view.set]{fullShare} (M.harg4.unread B.X4)) ∗ (M.arg5.view.loc (c : Thread nD τ) ↦[M.arg5.view.set]{fullShare} (M.harg5.unread B.X5)) ∗ (M.arg6.view.loc (c : Thread nD τ) ↦[M.arg6.view.set]{fullShare} (M.harg6.unread B.X6)) ∗ (M.arg7.view.loc (c : Thread nD τ) ↦[M.arg7.view.set]{fullShare} (M.harg7.unread B.X7)) ∗ (M.arg8.view.loc (c : Thread nD τ) ↦[M.arg8.view.set]{fullShare} (M.harg8.unread B.X8)) ∗ (M.arg9.view.loc (c : Thread nD τ) ↦[M.arg9.view.set]{fullShare} (M.harg9.unread B.X9)) ∗ (M.arg10.view.loc (c : Thread nD τ) ↦[M.arg10.view.set]{fullShare} (M.harg10.unread B.X10)) ∗ (M.arg11.view.loc (c : Thread nD τ) ↦[M.arg11.view.set]{fullShare} (M.harg11.unread (o11 i B.base))) ∗ (M.arg12.view.loc (c : Thread nD τ) ↦[M.arg12.view.set]{fullShare} (M.harg12.unread (o12 i B.base z12))) ∗ (M.arg13.view.loc (c : Thread nD τ) ↦[M.arg13.view.set]{fullShare} f13) ∗ (M.arg14.view.loc (c : Thread nD τ) ↦[M.arg14.view.set]{fullShare} (M.harg14.unread (o14 i B.base z14))) ∗ (M.arg15.view.loc (c : Thread nD τ) ↦[M.arg15.view.set]{fullShare} (M.harg15.unread (o15 i B.base z15))) ∗ (M.arg16.view.loc (c : Thread nD τ) ↦[M.arg16.view.set]{fullShare} (M.harg16.unread (o16 i B.base z16))) ∗ (M.arg17.view.loc (c : Thread nD τ) ↦[M.arg17.view.set]{fullShare} (M.harg17.unread (o17 i B.base z17))) ∗ (∃ f, (M.arg18.view.loc (c : Thread nD τ) ↦[M.arg18.view.set]{fullShare} f)) ∗ (∃ f, (M.arg19.view.loc (c : Thread nD τ) ↦[M.arg19.view.set]{fullShare} f)) ∗ (∃ f, (M.arg20.view.loc (c : Thread nD τ) ↦[M.arg20.view.set]{fullShare} f)) ∗ (∃ f, (M.arg21.view.loc (c : Thread nD τ) ↦[M.arg21.view.set]{fullShare} f)) ∗ (∃ f, (M.arg22.view.loc (c : Thread nD τ) ↦[M.arg22.view.set]{fullShare} f)) ∗ (∃ f, (M.arg23.view.loc (c : Thread nD τ) ↦[M.arg23.view.set]{fullShare} f)) ∗ (M.arg24.view.loc (c : Thread nD τ) ↦[M.arg24.view.set]{fullShare} (M.harg24.unread (o24 i B.base z24))))) := by
  have htr : (k0_t2_loop i).trips = 0 := Nat.le_zero.mp (k0_t2_abs i).2.1
  simp only [cc0_fox_attention_bwd_eq_skeleton]; unfold cc0_fox_attention_bwd_skel
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  iintro ⟨H2, H3, H4, H5, H6, H7, H8, H9, H10, H11, H12, H13, H14, H15, H16, H17, H18, H19, H20, H21, H22, H23, H24⟩
  sl_exec (disch := first | sl_exact hc0 | sl_exact hc1)
  rw [show M.arg12.view.writes (Elt F) M.arg12.view.junk bodyA.sl.H12_1 = M.harg12.unread z12 from (writes_junk M.harg12 _).trans (by delta bodyA.sl.H12_1; rfl)]
  rw [show M.arg14.view.writes (Elt F) M.arg14.view.junk bodyA.sl.H14_1 = M.harg14.unread z14 from (writes_junk M.harg14 _).trans (by delta bodyA.sl.H14_1; rfl)]
  rw [show M.arg15.view.writes (Elt F) M.arg15.view.junk bodyA.sl.H15_1 = M.harg15.unread z15 from (writes_junk M.harg15 _).trans (by delta bodyA.sl.H15_1; rfl)]
  rw [show M.arg24.view.writes (Elt F) M.arg24.view.junk bodyA.sl.H24_1 = M.harg24.unread z24 from (writes_junk M.harg24 _).trans (by delta bodyA.sl.H24_1; rfl)]
  rw [show M.arg16.view.writes (Elt F) M.arg16.view.junk bodyA.sl.H16_1 = M.harg16.unread z16 from (writes_junk M.harg16 _).trans (by delta bodyA.sl.H16_1; rfl)]
  rw [show M.arg17.view.writes (Elt F) M.arg17.view.junk bodyA.sl.H17_1 = M.harg17.unread z17 from (writes_junk M.harg17 _).trans (by delta bodyA.sl.H17_1; rfl)]
  rw [show M.arg22.view.writes (Elt F) M.arg22.view.junk bodyA.sl.H22_1 = M.harg22.unread z22 from (writes_junk M.harg22 _).trans (by delta bodyA.sl.H22_1; rfl)]
  rw [show M.arg23.view.writes (Elt F) M.arg23.view.junk (bodyA.sl.H23_2 M B) = M.harg23.unread (dsum B.X5 B.X6) from (writes_junk M.harg23 _).trans (by
    delta bodyA.sl.H23_2 bodyA.sl.r_2 bodyA.sl.r_3; simp only [readAt_unread']; rfl)]
  rw [show bodyA.sl.r M B = B.base.q from by delta bodyA.sl.r; simp only [readAt_unread']; rfl,
    show bodyA.sl.r_1 M B = B.base.d from by delta bodyA.sl.r_1; simp only [readAt_unread']; rfl]
  sl_exec (disch := first | sl_exact hc0 | sl_exact hc1)
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iapply (own_eq c M.arg11 ?e11) $$ H11
    case e11 => rw [writes_cover M.harg11 _ _ (View.cover_of_wholeMem _ (by sl_whole_mem))]; refine congrArg _ ?_; delta bodyA.sl.r_10 bodyA.sl.v75 bodyA.sl.v197 bodyA.sl.v66 bodyA.sl.v80 bodyA.sl.v62 bodyA.sl.v138 bodyA.sl.r_11 bodyA.sl.r_15 bodyA.sl.v87 bodyA.sl.v65 bodyA.sl.v67 bodyA.sl.H22_1 bodyA.sl.v293 bodyA.sl.v79 bodyA.sl.r_8 bodyA.sl.r_5 bodyA.sl.v84 bodyA.sl.H12_1 bodyA.sl.v78 bodyA.sl.r bodyA.sl.r_6 bodyA.sl.v82 bodyA.sl.v228 bodyA.sl.v286 bodyA.sl.H22_1_1 bodyA.sl.v267 bodyA.sl.r_2 bodyA.sl.r_3 bodyA.sl.v314 bodyA.sl.H20_4 bodyA.sl.v74 bodyA.sl.v107 bodyA.sl.v284 bodyA.sl.H15_1 bodyA.sl.H19_1 bodyA.sl.v212 bodyA.sl.H14_1 bodyA.sl.v146 bodyA.sl.r_13 bodyA.sl.v313 bodyA.sl.H23_2 bodyA.sl.v251 bodyA.sl.v276 bodyA.sl.v308 bodyA.sl.v307 bodyA.sl.r_9 bodyA.sl.v292 bodyA.sl.H17_1 bodyA.sl.v1 bodyA.sl.H21_4 bodyA.sl.r_14 bodyA.sl.v64 bodyA.sl.v68 bodyA.sl.H16_1 bodyA.sl.v236 bodyA.sl.v186 bodyA.sl.v300 bodyA.sl.r_16 bodyA.sl.v177 bodyA.sl.v63 bodyA.sl.r_1 bodyA.sl.v83 bodyA.sl.v76 bodyA.sl.v0 bodyA.sl.r_4 bodyA.sl.v77 bodyA.sl.H24_1 bodyA.sl.v161 bodyA.sl.H18_1 bodyA.sl.v2 bodyA.sl.r_7 bodyA.sl.r_12 bodyA.sl.v122 ; simp only [readAt_unread', readCov_ld]; rfl
  isplitl [H12]
  · iapply (own_eq c M.arg12 ?e12) $$ H12
    case e12 => rw [writes_unread]; refine congrArg _ ?_; delta bodyA.sl.r_10 bodyA.sl.v75 bodyA.sl.v197 bodyA.sl.v66 bodyA.sl.v80 bodyA.sl.v62 bodyA.sl.v138 bodyA.sl.r_11 bodyA.sl.r_15 bodyA.sl.v87 bodyA.sl.v65 bodyA.sl.v67 bodyA.sl.H22_1 bodyA.sl.v293 bodyA.sl.v79 bodyA.sl.r_8 bodyA.sl.r_5 bodyA.sl.v84 bodyA.sl.H12_1 bodyA.sl.v78 bodyA.sl.r bodyA.sl.r_6 bodyA.sl.v82 bodyA.sl.v228 bodyA.sl.v286 bodyA.sl.H22_1_1 bodyA.sl.v267 bodyA.sl.r_2 bodyA.sl.r_3 bodyA.sl.v314 bodyA.sl.H20_4 bodyA.sl.v74 bodyA.sl.v107 bodyA.sl.v284 bodyA.sl.H15_1 bodyA.sl.H19_1 bodyA.sl.v212 bodyA.sl.H14_1 bodyA.sl.v146 bodyA.sl.r_13 bodyA.sl.v313 bodyA.sl.H23_2 bodyA.sl.v251 bodyA.sl.v276 bodyA.sl.v308 bodyA.sl.v307 bodyA.sl.r_9 bodyA.sl.v292 bodyA.sl.H17_1 bodyA.sl.v1 bodyA.sl.H21_4 bodyA.sl.r_14 bodyA.sl.v64 bodyA.sl.v68 bodyA.sl.H16_1 bodyA.sl.v236 bodyA.sl.v186 bodyA.sl.v300 bodyA.sl.r_16 bodyA.sl.v177 bodyA.sl.v63 bodyA.sl.r_1 bodyA.sl.v83 bodyA.sl.v76 bodyA.sl.v0 bodyA.sl.r_4 bodyA.sl.v77 bodyA.sl.H24_1 bodyA.sl.v161 bodyA.sl.H18_1 bodyA.sl.v2 bodyA.sl.r_7 bodyA.sl.r_12 bodyA.sl.v122 ; simp only [readAt_unread', readCov_ld]; rfl
  isplitl [H13]
  · iexact H13
  isplitl [H14]
  · iapply (own_eq c M.arg14 ?e14) $$ H14
    case e14 => rw [writes_unread]; refine congrArg _ ?_; delta bodyA.sl.r_10 bodyA.sl.v75 bodyA.sl.v197 bodyA.sl.v66 bodyA.sl.v80 bodyA.sl.v62 bodyA.sl.v138 bodyA.sl.r_11 bodyA.sl.r_15 bodyA.sl.v87 bodyA.sl.v65 bodyA.sl.v67 bodyA.sl.H22_1 bodyA.sl.v293 bodyA.sl.v79 bodyA.sl.r_8 bodyA.sl.r_5 bodyA.sl.v84 bodyA.sl.H12_1 bodyA.sl.v78 bodyA.sl.r bodyA.sl.r_6 bodyA.sl.v82 bodyA.sl.v228 bodyA.sl.v286 bodyA.sl.H22_1_1 bodyA.sl.v267 bodyA.sl.r_2 bodyA.sl.r_3 bodyA.sl.v314 bodyA.sl.H20_4 bodyA.sl.v74 bodyA.sl.v107 bodyA.sl.v284 bodyA.sl.H15_1 bodyA.sl.H19_1 bodyA.sl.v212 bodyA.sl.H14_1 bodyA.sl.v146 bodyA.sl.r_13 bodyA.sl.v313 bodyA.sl.H23_2 bodyA.sl.v251 bodyA.sl.v276 bodyA.sl.v308 bodyA.sl.v307 bodyA.sl.r_9 bodyA.sl.v292 bodyA.sl.H17_1 bodyA.sl.v1 bodyA.sl.H21_4 bodyA.sl.r_14 bodyA.sl.v64 bodyA.sl.v68 bodyA.sl.H16_1 bodyA.sl.v236 bodyA.sl.v186 bodyA.sl.v300 bodyA.sl.r_16 bodyA.sl.v177 bodyA.sl.v63 bodyA.sl.r_1 bodyA.sl.v83 bodyA.sl.v76 bodyA.sl.v0 bodyA.sl.r_4 bodyA.sl.v77 bodyA.sl.H24_1 bodyA.sl.v161 bodyA.sl.H18_1 bodyA.sl.v2 bodyA.sl.r_7 bodyA.sl.r_12 bodyA.sl.v122 ; simp only [readAt_unread', readCov_ld]; rfl
  isplitl [H15]
  · iapply (own_eq c M.arg15 ?e15) $$ H15
    case e15 => rw [writes_unread]; refine congrArg _ ?_; delta bodyA.sl.r_10 bodyA.sl.v75 bodyA.sl.v197 bodyA.sl.v66 bodyA.sl.v80 bodyA.sl.v62 bodyA.sl.v138 bodyA.sl.r_11 bodyA.sl.r_15 bodyA.sl.v87 bodyA.sl.v65 bodyA.sl.v67 bodyA.sl.H22_1 bodyA.sl.v293 bodyA.sl.v79 bodyA.sl.r_8 bodyA.sl.r_5 bodyA.sl.v84 bodyA.sl.H12_1 bodyA.sl.v78 bodyA.sl.r bodyA.sl.r_6 bodyA.sl.v82 bodyA.sl.v228 bodyA.sl.v286 bodyA.sl.H22_1_1 bodyA.sl.v267 bodyA.sl.r_2 bodyA.sl.r_3 bodyA.sl.v314 bodyA.sl.H20_4 bodyA.sl.v74 bodyA.sl.v107 bodyA.sl.v284 bodyA.sl.H15_1 bodyA.sl.H19_1 bodyA.sl.v212 bodyA.sl.H14_1 bodyA.sl.v146 bodyA.sl.r_13 bodyA.sl.v313 bodyA.sl.H23_2 bodyA.sl.v251 bodyA.sl.v276 bodyA.sl.v308 bodyA.sl.v307 bodyA.sl.r_9 bodyA.sl.v292 bodyA.sl.H17_1 bodyA.sl.v1 bodyA.sl.H21_4 bodyA.sl.r_14 bodyA.sl.v64 bodyA.sl.v68 bodyA.sl.H16_1 bodyA.sl.v236 bodyA.sl.v186 bodyA.sl.v300 bodyA.sl.r_16 bodyA.sl.v177 bodyA.sl.v63 bodyA.sl.r_1 bodyA.sl.v83 bodyA.sl.v76 bodyA.sl.v0 bodyA.sl.r_4 bodyA.sl.v77 bodyA.sl.H24_1 bodyA.sl.v161 bodyA.sl.H18_1 bodyA.sl.v2 bodyA.sl.r_7 bodyA.sl.r_12 bodyA.sl.v122 ; simp only [readAt_unread', readCov_ld]; rfl
  isplitl [H16]
  · iapply (own_eq c M.arg16 ?e16) $$ H16
    case e16 => rw [writes_unread]; refine congrArg _ ?_; delta bodyA.sl.r_10 bodyA.sl.v75 bodyA.sl.v197 bodyA.sl.v66 bodyA.sl.v80 bodyA.sl.v62 bodyA.sl.v138 bodyA.sl.r_11 bodyA.sl.r_15 bodyA.sl.v87 bodyA.sl.v65 bodyA.sl.v67 bodyA.sl.H22_1 bodyA.sl.v293 bodyA.sl.v79 bodyA.sl.r_8 bodyA.sl.r_5 bodyA.sl.v84 bodyA.sl.H12_1 bodyA.sl.v78 bodyA.sl.r bodyA.sl.r_6 bodyA.sl.v82 bodyA.sl.v228 bodyA.sl.v286 bodyA.sl.H22_1_1 bodyA.sl.v267 bodyA.sl.r_2 bodyA.sl.r_3 bodyA.sl.v314 bodyA.sl.H20_4 bodyA.sl.v74 bodyA.sl.v107 bodyA.sl.v284 bodyA.sl.H15_1 bodyA.sl.H19_1 bodyA.sl.v212 bodyA.sl.H14_1 bodyA.sl.v146 bodyA.sl.r_13 bodyA.sl.v313 bodyA.sl.H23_2 bodyA.sl.v251 bodyA.sl.v276 bodyA.sl.v308 bodyA.sl.v307 bodyA.sl.r_9 bodyA.sl.v292 bodyA.sl.H17_1 bodyA.sl.v1 bodyA.sl.H21_4 bodyA.sl.r_14 bodyA.sl.v64 bodyA.sl.v68 bodyA.sl.H16_1 bodyA.sl.v236 bodyA.sl.v186 bodyA.sl.v300 bodyA.sl.r_16 bodyA.sl.v177 bodyA.sl.v63 bodyA.sl.r_1 bodyA.sl.v83 bodyA.sl.v76 bodyA.sl.v0 bodyA.sl.r_4 bodyA.sl.v77 bodyA.sl.H24_1 bodyA.sl.v161 bodyA.sl.H18_1 bodyA.sl.v2 bodyA.sl.r_7 bodyA.sl.r_12 bodyA.sl.v122 ; simp only [readAt_unread', readCov_ld]; rfl
  isplitl [H17]
  · iapply (own_eq c M.arg17 ?e17) $$ H17
    case e17 => rw [writes_unread]; refine congrArg _ ?_; delta bodyA.sl.r_10 bodyA.sl.v75 bodyA.sl.v197 bodyA.sl.v66 bodyA.sl.v80 bodyA.sl.v62 bodyA.sl.v138 bodyA.sl.r_11 bodyA.sl.r_15 bodyA.sl.v87 bodyA.sl.v65 bodyA.sl.v67 bodyA.sl.H22_1 bodyA.sl.v293 bodyA.sl.v79 bodyA.sl.r_8 bodyA.sl.r_5 bodyA.sl.v84 bodyA.sl.H12_1 bodyA.sl.v78 bodyA.sl.r bodyA.sl.r_6 bodyA.sl.v82 bodyA.sl.v228 bodyA.sl.v286 bodyA.sl.H22_1_1 bodyA.sl.v267 bodyA.sl.r_2 bodyA.sl.r_3 bodyA.sl.v314 bodyA.sl.H20_4 bodyA.sl.v74 bodyA.sl.v107 bodyA.sl.v284 bodyA.sl.H15_1 bodyA.sl.H19_1 bodyA.sl.v212 bodyA.sl.H14_1 bodyA.sl.v146 bodyA.sl.r_13 bodyA.sl.v313 bodyA.sl.H23_2 bodyA.sl.v251 bodyA.sl.v276 bodyA.sl.v308 bodyA.sl.v307 bodyA.sl.r_9 bodyA.sl.v292 bodyA.sl.H17_1 bodyA.sl.v1 bodyA.sl.H21_4 bodyA.sl.r_14 bodyA.sl.v64 bodyA.sl.v68 bodyA.sl.H16_1 bodyA.sl.v236 bodyA.sl.v186 bodyA.sl.v300 bodyA.sl.r_16 bodyA.sl.v177 bodyA.sl.v63 bodyA.sl.r_1 bodyA.sl.v83 bodyA.sl.v76 bodyA.sl.v0 bodyA.sl.r_4 bodyA.sl.v77 bodyA.sl.H24_1 bodyA.sl.v161 bodyA.sl.H18_1 bodyA.sl.v2 bodyA.sl.r_7 bodyA.sl.r_12 bodyA.sl.v122 ; simp only [readAt_unread', readCov_ld]; rfl
  isplitl [H18]
  · iexists _; iexact H18
  isplitl [H19]
  · iexists _; iexact H19
  isplitl [H20]
  · iexists _; iexact H20
  isplitl [H21]
  · iexists _; iexact H21
  isplitl [H22]
  · iexists _; iexact H22
  isplitl [H23]
  · iexists _; iexact H23
  iapply (own_eq c M.arg24 ?e24) $$ H24
  case e24 => rw [writes_unread]; refine congrArg _ ?_; delta bodyA.sl.r_10 bodyA.sl.v75 bodyA.sl.v197 bodyA.sl.v66 bodyA.sl.v80 bodyA.sl.v62 bodyA.sl.v138 bodyA.sl.r_11 bodyA.sl.r_15 bodyA.sl.v87 bodyA.sl.v65 bodyA.sl.v67 bodyA.sl.H22_1 bodyA.sl.v293 bodyA.sl.v79 bodyA.sl.r_8 bodyA.sl.r_5 bodyA.sl.v84 bodyA.sl.H12_1 bodyA.sl.v78 bodyA.sl.r bodyA.sl.r_6 bodyA.sl.v82 bodyA.sl.v228 bodyA.sl.v286 bodyA.sl.H22_1_1 bodyA.sl.v267 bodyA.sl.r_2 bodyA.sl.r_3 bodyA.sl.v314 bodyA.sl.H20_4 bodyA.sl.v74 bodyA.sl.v107 bodyA.sl.v284 bodyA.sl.H15_1 bodyA.sl.H19_1 bodyA.sl.v212 bodyA.sl.H14_1 bodyA.sl.v146 bodyA.sl.r_13 bodyA.sl.v313 bodyA.sl.H23_2 bodyA.sl.v251 bodyA.sl.v276 bodyA.sl.v308 bodyA.sl.v307 bodyA.sl.r_9 bodyA.sl.v292 bodyA.sl.H17_1 bodyA.sl.v1 bodyA.sl.H21_4 bodyA.sl.r_14 bodyA.sl.v64 bodyA.sl.v68 bodyA.sl.H16_1 bodyA.sl.v236 bodyA.sl.v186 bodyA.sl.v300 bodyA.sl.r_16 bodyA.sl.v177 bodyA.sl.v63 bodyA.sl.r_1 bodyA.sl.v83 bodyA.sl.v76 bodyA.sl.v0 bodyA.sl.r_4 bodyA.sl.v77 bodyA.sl.H24_1 bodyA.sl.v161 bodyA.sl.H18_1 bodyA.sl.v2 bodyA.sl.r_7 bodyA.sl.r_12 bodyA.sl.v122 ; simp only [readAt_unread', readCov_ld]; rfl

end Cert.KernelIdeal.Fox

end
-- ==== Proof.FoxKernelIdeal.Data.lean ====
module

public import proofs.«01_k».proof.Proof.FoxKernelIdeal.Point
public import Idealize.ShloMosaic.Lib.Claim

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Ownership and raw contents -/

theorem owns_in {c : Dev nD} {sp : Space} {s : Shape} {e : EltTy} {r : Memref sig .tc sp s e} (h : r.IsWhole) (X : Vec F s e) :
    (owns (c : Thread nD τ) r fullShare X : sProp 𝕄) ⊢ (r.view.loc (c : Thread nD τ) ↦[r.view.set]{fullShare} (h.unread X)) := by
  unfold owns; iintro ⟨%f, %hf, H⟩
  rw [h.eq_unread hf]; iexact H

theorem owns_out {c : Dev nD} {sp : Space} {s : Shape} {e : EltTy} {r : Memref sig .tc sp s e} (h : r.IsWhole) (X : Vec F s e) :
    ((r.view.loc (c : Thread nD τ) ↦[r.view.set]{fullShare} (h.unread X)) : sProp 𝕄) ⊢ owns (c : Thread nD τ) r fullShare X := by
  unfold owns; iintro H
  iexists _; isplitr
  swap; · iexact H
  ipureintro; exact h.read_unread X

theorem owns_some {c : Dev nD} {sp : Space} {s : Shape} {e : EltTy} {r : Memref sig .tc sp s e} :
    (iprop(∃ f, (r.view.loc (c : Thread nD τ) ↦[r.view.set]{fullShare} f)) : sProp 𝕄) ⊢ iprop(∃ X : Vec F s e, owns (c : Thread nD τ) r fullShare X) := by
  unfold owns; iintro ⟨%f, H⟩
  iexists _; iexists f; isplitr
  swap; · iexact H
  ipureintro; rfl

/-! ## The body's two conditions -/

theorem hcond0 (t : Fin cfg0.N) : Scalar.cmpi .ne (Scalar.extui (Scalar.cmpi .eq (BitVec.ofNat 32 (grid0.coords t 1).val) 0#32)) 0#32 = (1#1 : BitVec 1) ↔ t.val % 4 = 0 := by
  have ht : t.val < 32 := Nat.lt_of_lt_of_eq t.isLt N_0
  have e1 : (grid0.coords t 1).val = t.val / 1 % 4 := Pipeline.Grid.coords_val t 1 (by decide) rfl
  simp only [e1]
  word_cmp

theorem hcond2 (t : Fin cfg0.N) : k0_cond2 (grid0.coords t) = 1#1 ↔ t.val % 4 = 3 := by
  have ht : t.val < 32 := Nat.lt_of_lt_of_eq t.isLt N_0
  have e1 : (grid0.coords t 1).val = t.val / 1 % 4 := Pipeline.Grid.coords_val t 1 (by decide) rfl
  simp only [k0_cond2, e1]
  word_cmp

/-! ## What the point is called with -/

abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x4x1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x4x1x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x512x1 .f32 := win0_15.stage (cfg0.slots t 15)
abbrev hs0_15 (t : Fin cfg0.N) : (ms0_15 t).IsWhole := hstage0_15 ((cfg0.slots t 15).cast nbuf0_15)
abbrev scM0_0 : Memref sig .tc .vmem S1024x512 .f32 := Memref.whole cc0_scratch0
abbrev scM0_1 : Memref sig .tc .vmem S1024x512 .f32 := Memref.whole cc0_scratch1
abbrev scM0_2 : Memref sig .tc .vmem S1024x512 .bf16 := Memref.whole cc0_scratch2
abbrev scM0_3 : Memref sig .tc .vmem S1024x512 .bf16 := Memref.whole cc0_scratch3
abbrev scM0_4 : Memref sig .tc .vmem S1024x128 .f32 := Memref.whole cc0_scratch4
abbrev scM0_5 : Memref sig .tc .vmem S1024x1 .f32 := Memref.whole cc0_scratch5
abbrev scM0_6 : Memref sig .tc .vmem S2048x128 .f32 := Memref.whole cc0_scratch6

/-- The buffers of point `t`. -/
abbrev memsAt (t : Fin cfg0.N) : Mems where
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg10 := ms0_8 t
  harg10 := hs0_8 t
  arg11 := ms0_9 t
  harg11 := hs0_9 t
  arg12 := ms0_10 t
  harg12 := hs0_10 t
  arg13 := ms0_11 t
  harg13 := hs0_11 t
  arg14 := ms0_12 t
  harg14 := hs0_12 t
  arg15 := ms0_13 t
  harg15 := hs0_13 t
  arg16 := ms0_14 t
  harg16 := hs0_14 t
  arg17 := ms0_15 t
  harg17 := hs0_15 t
  arg18 := scM0_0
  harg18 := Memref.isWhole_whole _
  arg19 := scM0_1
  harg19 := Memref.isWhole_whole _
  arg20 := scM0_2
  harg20 := Memref.isWhole_whole _
  arg21 := scM0_3
  harg21 := Memref.isWhole_whole _
  arg22 := scM0_4
  harg22 := Memref.isWhole_whole _
  arg23 := scM0_5
  harg23 := Memref.isWhole_whole _
  arg24 := scM0_6
  harg24 := Memref.isWhole_whole _

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- What a point carries to the next: the gradient of the keys, the two rows of column sums, the gradient of the values. -/
structure Carr (F : FTy → Type) where
  c12 : Vec F S2048x128 .f32
  c14 : Vec F S1x4x1x512 .f32
  c15 : Vec F S1x4x1x512 .f32
  c24 : Vec F S2048x128 .f32

def Carr.zero : Carr F := ⟨z12, z14, z15, z24⟩

/-- One point's step. -/
def Carr.nxt (i : grid0.Coords) (B : Base F) (p : Carr F) : Carr F := ⟨o12 i B p.c12, o14 i B p.c14, o15 i B p.c15, o24 i B p.c24⟩

/-- The input blocks of point `t`. -/
def blk (c : Dev nD) (t : Fin cfg0.N) : Blk F := ⟨iblk m c 0 t, iblk m c 1 t, iblk m c 2 t, iblk m c 3 t, iblk m c 4 t, iblk m c 5 t, iblk m c 6 t, iblk m c 7 t, iblk m c 8 t⟩

/-- What is carried into position `n` before the first tile of a pair resets it. -/
def carr (c : Dev nD) : ℕ → Carr F
  | 0 => .zero
  | n + 1 => if h : n < cfg0.N then Carr.nxt (grid0.coords ⟨n, h⟩) (blk m c ⟨n, h⟩).base (if n % 4 = 0 then .zero else carr c n) else carr c n

theorem carr_first (c : Dev nD) (t : Fin cfg0.N) (h : t.val % 4 = 0) :
    carr m c (t.val + 1) = Carr.nxt (grid0.coords t) (blk m c t).base .zero := by
  rw [carr, dif_pos t.isLt, if_pos h]

theorem carr_later (c : Dev nD) (t : Fin cfg0.N) (h : ¬ t.val % 4 = 0) :
    carr m c (t.val + 1) = Carr.nxt (grid0.coords t) (blk m c t).base (carr m c t.val) := by
  rw [carr, dif_pos t.isLt, if_neg h]

/-! ## The proof data -/

/-- The region invariant before position `n`. -/
def PhiS (c : Dev nD) : (n : ℕ) → n ≤ cfg0.N → sProp 𝕄
  | 0, _ => Pipeline.ΦA spec0 c
  | n + 1, _ => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare (carr m c (n + 1)).c24) ∗ (∃ r, prngReg c r))

theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare (carr m c (n + 1)).c24) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare (carr m c n).c24) ∗ (∃ r, prngReg c r)) := by
  cases n with
  | zero => exact absurd rfl hz
  | succ n => rfl

/-- What the accumulator holds may be forgotten. -/
theorem PhiS_any (c : Dev nD) (n : ℕ) (h : n ≤ cfg0.N) : PhiS m c n h ⊢ (Pipeline.ΦA spec0 c : sProp 𝕄) := by
  cases n with
  | zero => exact Idealize.SL.BI.Entails.refl _
  | succ n =>
    rw [PhiS_succ, PhiA0_eq]
    iintro ⟨⟨HS0, HS1, HS2, HS3, HS4, HS5, HS6⟩, Hg⟩
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexists _; iexact HS6
    iexact Hg

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => o11 (grid0.coords t) (blk m c t).base
    | ⟨10, _⟩ => (carr m c (t.val + 1)).c12
    | ⟨11, _⟩ => o13 (carr m c (t.val + 1)).c24
    | ⟨12, _⟩ => (carr m c (t.val + 1)).c14
    | ⟨13, _⟩ => (carr m c (t.val + 1)).c15
    | ⟨14, _⟩ => o16 (grid0.coords t) (blk m c t).base z16
    | ⟨15, _⟩ => o17 (grid0.coords t) (blk m c t).base z17
    | ⟨_ + 16, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = o11 (grid0.coords t) (blk m c t).base := by dsimp only [dats]
theorem after0_10 (c : Dev nD) (t : Fin cfg0.N) : (dats m 0 c).after 10 t = (carr m c (t.val + 1)).c12 := by dsimp only [dats]
theorem after0_11 (c : Dev nD) (t : Fin cfg0.N) : (dats m 0 c).after 11 t = o13 (carr m c (t.val + 1)).c24 := by dsimp only [dats]
theorem after0_12 (c : Dev nD) (t : Fin cfg0.N) : (dats m 0 c).after 12 t = (carr m c (t.val + 1)).c14 := by dsimp only [dats]
theorem after0_13 (c : Dev nD) (t : Fin cfg0.N) : (dats m 0 c).after 13 t = (carr m c (t.val + 1)).c15 := by dsimp only [dats]
theorem after0_14 (c : Dev nD) (t : Fin cfg0.N) : (dats m 0 c).after 14 t = o16 (grid0.coords t) (blk m c t).base z16 := by dsimp only [dats]
theorem after0_15 (c : Dev nD) (t : Fin cfg0.N) : (dats m 0 c).after 15 t = o17 (grid0.coords t) (blk m c t).base z17 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_10 (c : Dev nD) (t : Fin cfg0.N) (h0 : ¬t.val % 4 = 0) (d) :
    (dats m 0 c).before 10 t d = (carr m c t.val).c12 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  rw [after0_10]; dsimp only; rw [Nat.sub_add_cancel (by omega)]
theorem before0_12 (c : Dev nD) (t : Fin cfg0.N) (h0 : ¬t.val % 4 = 0) (d) :
    (dats m 0 c).before 12 t d = (carr m c t.val).c14 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  rw [after0_12]; dsimp only; rw [Nat.sub_add_cancel (by omega)]
theorem before0_13 (c : Dev nD) (t : Fin cfg0.N) (h0 : ¬t.val % 4 = 0) (d) :
    (dats m 0 c).before 13 t d = (carr m c t.val).c15 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  rw [after0_13]; dsimp only; rw [Nat.sub_add_cancel (by omega)]

/-! ## The body obligation -/

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)))

/-- and what it returns, but for the window of the values' gradient. -/
def bodyPost (c : Dev nD) (t : Fin cfg0.N) (v : sProp 𝕄) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ v ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t))

end Cert.KernelIdeal.Fox

end
-- ==== Proof.FoxKernelIdeal.SoundA.lean ====
module

public import proofs.«01_k».proof.Proof.FoxKernelIdeal.BodyA
public import proofs.«01_k».proof.Proof.FoxKernelIdeal.Data

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 40000000 in
theorem sound_bodyA (c : Dev nD) (t : Fin cfg0.N) (h0 : t.val % 4 = 0) :
    bodyPre m c t ⊢ wp frame (wpE (defs₀ (F := F)) Variants.none c none) Set.univ (bodyAt0 t) (fun _ => bodyPost m c t (iprop(∃ d, owns (c : Thread nD τ) (ms0_11 t) fullShare ((dats m 0 c).before 11 t d)))) := by
  unfold bodyPre bodyPost
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_12, after0_13, after0_14, after0_15]
  rw [show (dats m 0 c).Φ t.succ = PhiS m c (t.val + 1) t.isLt from rfl, PhiS_succ, carr_first m c t h0, PhiS_castSucc m c t]
  have e := PhiS_any m c t.val (Nat.le_of_lt t.isLt)
  rw [PhiA0_eq] at e
  iintro ⟨HΦ, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  ihave HΦ' := e $$ HΦ
  icases HΦ' with ⟨⟨⟨%d18, H18⟩, ⟨%d19, H19⟩, ⟨%d20, H20⟩, ⟨%d21, H21⟩, ⟨%d22, H22⟩, ⟨%d23, H23⟩, ⟨%d24, H24⟩⟩, Hg⟩
  ihave G2 := (owns_in (memsAt t).harg2 _) $$ H2
  ihave G3 := (owns_in (memsAt t).harg3 _) $$ H3
  ihave G4 := (owns_in (memsAt t).harg4 _) $$ H4
  ihave G5 := (owns_in (memsAt t).harg5 _) $$ H5
  ihave G6 := (owns_in (memsAt t).harg6 _) $$ H6
  ihave G7 := (owns_in (memsAt t).harg7 _) $$ H7
  ihave G8 := (owns_in (memsAt t).harg8 _) $$ H8
  ihave G9 := (owns_in (memsAt t).harg9 _) $$ H9
  ihave G10 := (owns_in (memsAt t).harg10 _) $$ H10
  ihave G11 := (owns_in (memsAt t).harg11 _) $$ H11
  ihave G12 := (owns_in (memsAt t).harg12 _) $$ H12
  ihave G13 := (owns_in (memsAt t).harg13 _) $$ H13
  ihave G14 := (owns_in (memsAt t).harg14 _) $$ H14
  ihave G15 := (owns_in (memsAt t).harg15 _) $$ H15
  ihave G16 := (owns_in (memsAt t).harg16 _) $$ H16
  ihave G17 := (owns_in (memsAt t).harg17 _) $$ H17
  ihave G18 := (owns_in (memsAt t).harg18 _) $$ H18
  ihave G19 := (owns_in (memsAt t).harg19 _) $$ H19
  ihave G20 := (owns_in (memsAt t).harg20 _) $$ H20
  ihave G21 := (owns_in (memsAt t).harg21 _) $$ H21
  ihave G22 := (owns_in (memsAt t).harg22 _) $$ H22
  ihave G23 := (owns_in (memsAt t).harg23 _) $$ H23
  ihave G24 := (owns_in (memsAt t).harg24 _) $$ H24
  iapply (wp_wand_r Idealize.ShloMosaic.frame (wpE (defs₀ (F := F)) Variants.none (c : Thread nD τ) none) Set.univ)
  isplitl [G2 G3 G4 G5 G6 G7 G8 G9 G10 G11 G12 G13 G14 G15 G16 G17 G18 G19 G20 G21 G22 G23 G24]
  · iapply (bodyA c (grid0.coords t) (memsAt t) ((hcond0 t).mpr h0) (fun h => absurd ((hcond2 t).mp h) (by omega)) (blk m c t) Set.univ _ _ _ _ _ _ _ _ _ _ _ _ _ _)
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    isplitl [G18]; · iexact G18
    isplitl [G19]; · iexact G19
    isplitl [G20]; · iexact G20
    isplitl [G21]; · iexact G21
    isplitl [G22]; · iexact G22
    isplitl [G23]; · iexact G23
    iexact G24
  · iintro %_u ⟨G2, G3, G4, G5, G6, G7, G8, G9, G10, G11, G12, G13, G14, G15, G16, G17, G18, G19, G20, G21, G22, G23, G24⟩
    isplitl [G18 G19 G20 G21 G22 G23 G24 Hg]
    · isplitl [G18 G19 G20 G21 G22 G23 G24]
      · isplitl [G18]; · iapply (owns_some (F := F)) $$ G18
        isplitl [G19]; · iapply (owns_some (F := F)) $$ G19
        isplitl [G20]; · iapply (owns_some (F := F)) $$ G20
        isplitl [G21]; · iapply (owns_some (F := F)) $$ G21
        isplitl [G22]; · iapply (owns_some (F := F)) $$ G22
        isplitl [G23]; · iapply (owns_some (F := F)) $$ G23
        iapply (owns_out (Memref.isWhole_whole _) _) $$ G24
      iexact Hg
    isplitl [Ho]; · iexact Ho
    isplitl [G2]; · iapply (owns_out (memsAt t).harg2 _) $$ G2
    isplitl [G3]; · iapply (owns_out (memsAt t).harg3 _) $$ G3
    isplitl [G4]; · iapply (owns_out (memsAt t).harg4 _) $$ G4
    isplitl [G5]; · iapply (owns_out (memsAt t).harg5 _) $$ G5
    isplitl [G6]; · iapply (owns_out (memsAt t).harg6 _) $$ G6
    isplitl [G7]; · iapply (owns_out (memsAt t).harg7 _) $$ G7
    isplitl [G8]; · iapply (owns_out (memsAt t).harg8 _) $$ G8
    isplitl [G9]; · iapply (owns_out (memsAt t).harg9 _) $$ G9
    isplitl [G10]; · iapply (owns_out (memsAt t).harg10 _) $$ G10
    isplitl [G11]; · iapply (owns_out (memsAt t).harg11 _) $$ G11
    isplitl [G12]; · iapply (owns_out (memsAt t).harg12 _) $$ G12
    isplitl [G13]; · iexists _; iapply (owns_out (memsAt t).harg13 _) $$ G13
    isplitl [G14]; · iapply (owns_out (memsAt t).harg14 _) $$ G14
    isplitl [G15]; · iapply (owns_out (memsAt t).harg15 _) $$ G15
    isplitl [G16]; · iapply (owns_out (memsAt t).harg16 _) $$ G16
    iapply (owns_out (memsAt t).harg17 _) $$ G17

end Cert.KernelIdeal.Fox

end
-- ==== Proof.FoxKernelIdeal.BodyB.lean ====
module

public import proofs.«01_k».proof.Proof.FoxKernelIdeal.Point

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (M : Mems)

set_option maxHeartbeats 8000000 in
theorem bodyB (hc0 : ¬ Scalar.cmpi .ne (Scalar.extui (Scalar.cmpi .eq (BitVec.ofNat 32 (i 1).val) 0#32)) 0#32 = (1#1 : BitVec 1)) (hc1 : ¬ k0_cond2 i = 1#1) (B : Blk F) (E : Set ℕ) (X12 : Vec F S2048x128 .f32) (X14 : Vec F S1x4x1x512 .f32) (X15 : Vec F S1x4x1x512 .f32) (X24 : Vec F S2048x128 .f32) (f11 : BufTy.Contents (Elt F) M.arg11.view.ty) (f13 : BufTy.Contents (Elt F) M.arg13.view.ty) (f16 : BufTy.Contents (Elt F) M.arg16.view.ty) (f17 : BufTy.Contents (Elt F) M.arg17.view.ty) (f18 : BufTy.Contents (Elt F) M.arg18.view.ty) (f19 : BufTy.Contents (Elt F) M.arg19.view.ty) (f20 : BufTy.Contents (Elt F) M.arg20.view.ty) (f21 : BufTy.Contents (Elt F) M.arg21.view.ty) (f22 : BufTy.Contents (Elt F) M.arg22.view.ty) (f23 : BufTy.Contents (Elt F) M.arg23.view.ty) :
    (iprop((M.arg2.view.loc (c : Thread nD τ) ↦[M.arg2.view.set]{fullShare} (M.harg2.unread B.X2)) ∗ (M.arg3.view.loc (c : Thread nD τ) ↦[M.arg3.view.set]{fullShare} (M.harg3.unread B.X3)) ∗ (M.arg4.view.loc (c : Thread nD τ) ↦[M.arg4.view.set]{fullShare} (M.harg4.unread B.X4)) ∗ (M.arg5.view.loc (c : Thread nD τ) ↦[M.arg5.view.set]{fullShare} (M.harg5.unread B.X5)) ∗ (M.arg6.view.loc (c : Thread nD τ) ↦[M.arg6.view.set]{fullShare} (M.harg6.unread B.X6)) ∗ (M.arg7.view.loc (c : Thread nD τ) ↦[M.arg7.view.set]{fullShare} (M.harg7.unread B.X7)) ∗ (M.arg8.view.loc (c : Thread nD τ) ↦[M.arg8.view.set]{fullShare} (M.harg8.unread B.X8)) ∗ (M.arg9.view.loc (c : Thread nD τ) ↦[M.arg9.view.set]{fullShare} (M.harg9.unread B.X9)) ∗ (M.arg10.view.loc (c : Thread nD τ) ↦[M.arg10.view.set]{fullShare} (M.harg10.unread B.X10)) ∗ (M.arg11.view.loc (c : Thread nD τ) ↦[M.arg11.view.set]{fullShare} f11) ∗ (M.arg12.view.loc (c : Thread nD τ) ↦[M.arg12.view.set]{fullShare} (M.harg12.unread X12)) ∗ (M.arg13.view.loc (c : Thread nD τ) ↦[M.arg13.view.set]{fullShare} f13) ∗ (M.arg14.view.loc (c : Thread nD τ) ↦[M.arg14.view.set]{fullShare} (M.harg14.unread X14)) ∗ (M.arg15.view.loc (c : Thread nD τ) ↦[M.arg15.view.set]{fullShare} (M.harg15.unread X15)) ∗ (M.arg16.view.loc (c : Thread nD τ) ↦[M.arg16.view.set]{fullShare} f16) ∗ (M.arg17.view.loc (c : Thread nD τ) ↦[M.arg17.view.set]{fullShare} f17) ∗ (M.arg18.view.loc (c : Thread nD τ) ↦[M.arg18.view.set]{fullShare} f18) ∗ (M.arg19.view.loc (c : Thread nD τ) ↦[M.arg19.view.set]{fullShare} f19) ∗ (M.arg20.view.loc (c : Thread nD τ) ↦[M.arg20.view.set]{fullShare} f20) ∗ (M.arg21.view.loc (c : Thread nD τ) ↦[M.arg21.view.set]{fullShare} f21) ∗ (M.arg22.view.loc (c : Thread nD τ) ↦[M.arg22.view.set]{fullShare} f22) ∗ (M.arg23.view.loc (c : Thread nD τ) ↦[M.arg23.view.set]{fullShare} f23) ∗ (M.arg24.view.loc (c : Thread nD τ) ↦[M.arg24.view.set]{fullShare} (M.harg24.unread X24))) : sProp 𝕄) ⊢ wp frame (wpE (defs₀ (F := F)) Variants.none (c : Thread nD τ) none) E
        (cc0_fox_attention_bwd (F := F) i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24)
        (fun _ => iprop((M.arg2.view.loc (c : Thread nD τ) ↦[M.arg2.view.set]{fullShare} (M.harg2.unread B.X2)) ∗ (M.arg3.view.loc (c : Thread nD τ) ↦[M.arg3.view.set]{fullShare} (M.harg3.unread B.X3)) ∗ (M.arg4.view.loc (c : Thread nD τ) ↦[M.arg4.view.set]{fullShare} (M.harg4.unread B.X4)) ∗ (M.arg5.view.loc (c : Thread nD τ) ↦[M.arg5.view.set]{fullShare} (M.harg5.unread B.X5)) ∗ (M.arg6.view.loc (c : Thread nD τ) ↦[M.arg6.view.set]{fullShare} (M.harg6.unread B.X6)) ∗ (M.arg7.view.loc (c : Thread nD τ) ↦[M.arg7.view.set]{fullShare} (M.harg7.unread B.X7)) ∗ (M.arg8.view.loc (c : Thread nD τ) ↦[M.arg8.view.set]{fullShare} (M.harg8.unread B.X8)) ∗ (M.arg9.view.loc (c : Thread nD τ) ↦[M.arg9.view.set]{fullShare} (M.harg9.unread B.X9)) ∗ (M.arg10.view.loc (c : Thread nD τ) ↦[M.arg10.view.set]{fullShare} (M.harg10.unread B.X10)) ∗ (M.arg11.view.loc (c : Thread nD τ) ↦[M.arg11.view.set]{fullShare} (M.harg11.unread (o11 i B.base))) ∗ (M.arg12.view.loc (c : Thread nD τ) ↦[M.arg12.view.set]{fullShare} (M.harg12.unread (o12 i B.base X12))) ∗ (M.arg13.view.loc (c : Thread nD τ) ↦[M.arg13.view.set]{fullShare} f13) ∗ (M.arg14.view.loc (c : Thread nD τ) ↦[M.arg14.view.set]{fullShare} (M.harg14.unread (o14 i B.base X14))) ∗ (M.arg15.view.loc (c : Thread nD τ) ↦[M.arg15.view.set]{fullShare} (M.harg15.unread (o15 i B.base X15))) ∗ (M.arg16.view.loc (c : Thread nD τ) ↦[M.arg16.view.set]{fullShare} (M.harg16.unread (o16 i B.base z16))) ∗ (M.arg17.view.loc (c : Thread nD τ) ↦[M.arg17.view.set]{fullShare} (M.harg17.unread (o17 i B.base z17))) ∗ (∃ f, (M.arg18.view.loc (c : Thread nD τ) ↦[M.arg18.view.set]{fullShare} f)) ∗ (∃ f, (M.arg19.view.loc (c : Thread nD τ) ↦[M.arg19.view.set]{fullShare} f)) ∗ (∃ f, (M.arg20.view.loc (c : Thread nD τ) ↦[M.arg20.view.set]{fullShare} f)) ∗ (∃ f, (M.arg21.view.loc (c : Thread nD τ) ↦[M.arg21.view.set]{fullShare} f)) ∗ (∃ f, (M.arg22.view.loc (c : Thread nD τ) ↦[M.arg22.view.set]{fullShare} f)) ∗ (∃ f, (M.arg23.view.loc (c : Thread nD τ) ↦[M.arg23.view.set]{fullShare} f)) ∗ (M.arg24.view.loc (c : Thread nD τ) ↦[M.arg24.view.set]{fullShare} (M.harg24.unread (o24 i B.base X24))))) := by
  have htr : (k0_t2_loop i).trips = 0 := Nat.le_zero.mp (k0_t2_abs i).2.1
  simp only [cc0_fox_attention_bwd_eq_skeleton]; unfold cc0_fox_attention_bwd_skel
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  iintro ⟨H2, H3, H4, H5, H6, H7, H8, H9, H10, H11, H12, H13, H14, H15, H16, H17, H18, H19, H20, H21, H22, H23, H24⟩
  sl_exec (disch := first | sl_exact hc0 | sl_exact hc1)
  rw [show M.arg16.view.writes (Elt F) M.arg16.view.junk bodyB.sl.H16_1 = M.harg16.unread z16 from (writes_junk M.harg16 _).trans (by delta bodyB.sl.H16_1; rfl)]
  rw [show M.arg17.view.writes (Elt F) M.arg17.view.junk bodyB.sl.H17_1 = M.harg17.unread z17 from (writes_junk M.harg17 _).trans (by delta bodyB.sl.H17_1; rfl)]
  rw [show M.arg22.view.writes (Elt F) M.arg22.view.junk bodyB.sl.H22_1 = M.harg22.unread z22 from (writes_junk M.harg22 _).trans (by delta bodyB.sl.H22_1; rfl)]
  rw [show M.arg23.view.writes (Elt F) M.arg23.view.junk (bodyB.sl.H23_2 M B) = M.harg23.unread (dsum B.X5 B.X6) from (writes_junk M.harg23 _).trans (by
    delta bodyB.sl.H23_2 bodyB.sl.r_2 bodyB.sl.r_3; simp only [readAt_unread']; rfl)]
  rw [show bodyB.sl.r M B = B.base.q from by delta bodyB.sl.r; simp only [readAt_unread']; rfl,
    show bodyB.sl.r_1 M B = B.base.d from by delta bodyB.sl.r_1; simp only [readAt_unread']; rfl]
  sl_exec (disch := first | sl_exact hc0 | sl_exact hc1)
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iapply (own_eq c M.arg11 ?e11) $$ H11
    case e11 => rw [writes_cover M.harg11 _ _ (View.cover_of_wholeMem _ (by sl_whole_mem))]; refine congrArg _ ?_; delta bodyB.sl.v307 bodyB.sl.v314 bodyB.sl.v66 bodyB.sl.v197 bodyB.sl.v84 bodyB.sl.r_4 bodyB.sl.v78 bodyB.sl.v161 bodyB.sl.v64 bodyB.sl.r_16 bodyB.sl.v286 bodyB.sl.v308 bodyB.sl.v1 bodyB.sl.v75 bodyB.sl.v2 bodyB.sl.r_3 bodyB.sl.r bodyB.sl.v251 bodyB.sl.r_15 bodyB.sl.v63 bodyB.sl.v228 bodyB.sl.r_8 bodyB.sl.v80 bodyB.sl.r_10 bodyB.sl.H21_4 bodyB.sl.r_13 bodyB.sl.r_1 bodyB.sl.v0 bodyB.sl.v138 bodyB.sl.r_9 bodyB.sl.r_7 bodyB.sl.v177 bodyB.sl.H19_1 bodyB.sl.v122 bodyB.sl.v76 bodyB.sl.v87 bodyB.sl.H18_1 bodyB.sl.H22_1 bodyB.sl.v146 bodyB.sl.v313 bodyB.sl.v62 bodyB.sl.v74 bodyB.sl.H16_1 bodyB.sl.r_5 bodyB.sl.v77 bodyB.sl.r_2 bodyB.sl.v212 bodyB.sl.v236 bodyB.sl.H17_1 bodyB.sl.r_11 bodyB.sl.H23_2 bodyB.sl.v79 bodyB.sl.H20_4 bodyB.sl.v65 bodyB.sl.v300 bodyB.sl.r_14 bodyB.sl.v82 bodyB.sl.r_6 bodyB.sl.H22_1_1 bodyB.sl.v293 bodyB.sl.v267 bodyB.sl.v67 bodyB.sl.v83 bodyB.sl.r_12 bodyB.sl.v107 bodyB.sl.v68 ; simp only [readAt_unread', readCov_ld]; rfl
  isplitl [H12]
  · iapply (own_eq c M.arg12 ?e12) $$ H12
    case e12 => rw [writes_unread]; refine congrArg _ ?_; delta bodyB.sl.v307 bodyB.sl.v314 bodyB.sl.v66 bodyB.sl.v197 bodyB.sl.v84 bodyB.sl.r_4 bodyB.sl.v78 bodyB.sl.v161 bodyB.sl.v64 bodyB.sl.r_16 bodyB.sl.v286 bodyB.sl.v308 bodyB.sl.v1 bodyB.sl.v75 bodyB.sl.v2 bodyB.sl.r_3 bodyB.sl.r bodyB.sl.v251 bodyB.sl.r_15 bodyB.sl.v63 bodyB.sl.v228 bodyB.sl.r_8 bodyB.sl.v80 bodyB.sl.r_10 bodyB.sl.H21_4 bodyB.sl.r_13 bodyB.sl.r_1 bodyB.sl.v0 bodyB.sl.v138 bodyB.sl.r_9 bodyB.sl.r_7 bodyB.sl.v177 bodyB.sl.H19_1 bodyB.sl.v122 bodyB.sl.v76 bodyB.sl.v87 bodyB.sl.H18_1 bodyB.sl.H22_1 bodyB.sl.v146 bodyB.sl.v313 bodyB.sl.v62 bodyB.sl.v74 bodyB.sl.H16_1 bodyB.sl.r_5 bodyB.sl.v77 bodyB.sl.r_2 bodyB.sl.v212 bodyB.sl.v236 bodyB.sl.H17_1 bodyB.sl.r_11 bodyB.sl.H23_2 bodyB.sl.v79 bodyB.sl.H20_4 bodyB.sl.v65 bodyB.sl.v300 bodyB.sl.r_14 bodyB.sl.v82 bodyB.sl.r_6 bodyB.sl.H22_1_1 bodyB.sl.v293 bodyB.sl.v267 bodyB.sl.v67 bodyB.sl.v83 bodyB.sl.r_12 bodyB.sl.v107 bodyB.sl.v68 ; simp only [readAt_unread', readCov_ld]; rfl
  isplitl [H13]
  · iexact H13
  isplitl [H14]
  · iapply (own_eq c M.arg14 ?e14) $$ H14
    case e14 => rw [writes_unread]; refine congrArg _ ?_; delta bodyB.sl.v307 bodyB.sl.v314 bodyB.sl.v66 bodyB.sl.v197 bodyB.sl.v84 bodyB.sl.r_4 bodyB.sl.v78 bodyB.sl.v161 bodyB.sl.v64 bodyB.sl.r_16 bodyB.sl.v286 bodyB.sl.v308 bodyB.sl.v1 bodyB.sl.v75 bodyB.sl.v2 bodyB.sl.r_3 bodyB.sl.r bodyB.sl.v251 bodyB.sl.r_15 bodyB.sl.v63 bodyB.sl.v228 bodyB.sl.r_8 bodyB.sl.v80 bodyB.sl.r_10 bodyB.sl.H21_4 bodyB.sl.r_13 bodyB.sl.r_1 bodyB.sl.v0 bodyB.sl.v138 bodyB.sl.r_9 bodyB.sl.r_7 bodyB.sl.v177 bodyB.sl.H19_1 bodyB.sl.v122 bodyB.sl.v76 bodyB.sl.v87 bodyB.sl.H18_1 bodyB.sl.H22_1 bodyB.sl.v146 bodyB.sl.v313 bodyB.sl.v62 bodyB.sl.v74 bodyB.sl.H16_1 bodyB.sl.r_5 bodyB.sl.v77 bodyB.sl.r_2 bodyB.sl.v212 bodyB.sl.v236 bodyB.sl.H17_1 bodyB.sl.r_11 bodyB.sl.H23_2 bodyB.sl.v79 bodyB.sl.H20_4 bodyB.sl.v65 bodyB.sl.v300 bodyB.sl.r_14 bodyB.sl.v82 bodyB.sl.r_6 bodyB.sl.H22_1_1 bodyB.sl.v293 bodyB.sl.v267 bodyB.sl.v67 bodyB.sl.v83 bodyB.sl.r_12 bodyB.sl.v107 bodyB.sl.v68 ; simp only [readAt_unread', readCov_ld]; rfl
  isplitl [H15]
  · iapply (own_eq c M.arg15 ?e15) $$ H15
    case e15 => rw [writes_unread]; refine congrArg _ ?_; delta bodyB.sl.v307 bodyB.sl.v314 bodyB.sl.v66 bodyB.sl.v197 bodyB.sl.v84 bodyB.sl.r_4 bodyB.sl.v78 bodyB.sl.v161 bodyB.sl.v64 bodyB.sl.r_16 bodyB.sl.v286 bodyB.sl.v308 bodyB.sl.v1 bodyB.sl.v75 bodyB.sl.v2 bodyB.sl.r_3 bodyB.sl.r bodyB.sl.v251 bodyB.sl.r_15 bodyB.sl.v63 bodyB.sl.v228 bodyB.sl.r_8 bodyB.sl.v80 bodyB.sl.r_10 bodyB.sl.H21_4 bodyB.sl.r_13 bodyB.sl.r_1 bodyB.sl.v0 bodyB.sl.v138 bodyB.sl.r_9 bodyB.sl.r_7 bodyB.sl.v177 bodyB.sl.H19_1 bodyB.sl.v122 bodyB.sl.v76 bodyB.sl.v87 bodyB.sl.H18_1 bodyB.sl.H22_1 bodyB.sl.v146 bodyB.sl.v313 bodyB.sl.v62 bodyB.sl.v74 bodyB.sl.H16_1 bodyB.sl.r_5 bodyB.sl.v77 bodyB.sl.r_2 bodyB.sl.v212 bodyB.sl.v236 bodyB.sl.H17_1 bodyB.sl.r_11 bodyB.sl.H23_2 bodyB.sl.v79 bodyB.sl.H20_4 bodyB.sl.v65 bodyB.sl.v300 bodyB.sl.r_14 bodyB.sl.v82 bodyB.sl.r_6 bodyB.sl.H22_1_1 bodyB.sl.v293 bodyB.sl.v267 bodyB.sl.v67 bodyB.sl.v83 bodyB.sl.r_12 bodyB.sl.v107 bodyB.sl.v68 ; simp only [readAt_unread', readCov_ld]; rfl
  isplitl [H16]
  · iapply (own_eq c M.arg16 ?e16) $$ H16
    case e16 => rw [writes_unread]; refine congrArg _ ?_; delta bodyB.sl.v307 bodyB.sl.v314 bodyB.sl.v66 bodyB.sl.v197 bodyB.sl.v84 bodyB.sl.r_4 bodyB.sl.v78 bodyB.sl.v161 bodyB.sl.v64 bodyB.sl.r_16 bodyB.sl.v286 bodyB.sl.v308 bodyB.sl.v1 bodyB.sl.v75 bodyB.sl.v2 bodyB.sl.r_3 bodyB.sl.r bodyB.sl.v251 bodyB.sl.r_15 bodyB.sl.v63 bodyB.sl.v228 bodyB.sl.r_8 bodyB.sl.v80 bodyB.sl.r_10 bodyB.sl.H21_4 bodyB.sl.r_13 bodyB.sl.r_1 bodyB.sl.v0 bodyB.sl.v138 bodyB.sl.r_9 bodyB.sl.r_7 bodyB.sl.v177 bodyB.sl.H19_1 bodyB.sl.v122 bodyB.sl.v76 bodyB.sl.v87 bodyB.sl.H18_1 bodyB.sl.H22_1 bodyB.sl.v146 bodyB.sl.v313 bodyB.sl.v62 bodyB.sl.v74 bodyB.sl.H16_1 bodyB.sl.r_5 bodyB.sl.v77 bodyB.sl.r_2 bodyB.sl.v212 bodyB.sl.v236 bodyB.sl.H17_1 bodyB.sl.r_11 bodyB.sl.H23_2 bodyB.sl.v79 bodyB.sl.H20_4 bodyB.sl.v65 bodyB.sl.v300 bodyB.sl.r_14 bodyB.sl.v82 bodyB.sl.r_6 bodyB.sl.H22_1_1 bodyB.sl.v293 bodyB.sl.v267 bodyB.sl.v67 bodyB.sl.v83 bodyB.sl.r_12 bodyB.sl.v107 bodyB.sl.v68 ; simp only [readAt_unread', readCov_ld]; rfl
  isplitl [H17]
  · iapply (own_eq c M.arg17 ?e17) $$ H17
    case e17 => rw [writes_unread]; refine congrArg _ ?_; delta bodyB.sl.v307 bodyB.sl.v314 bodyB.sl.v66 bodyB.sl.v197 bodyB.sl.v84 bodyB.sl.r_4 bodyB.sl.v78 bodyB.sl.v161 bodyB.sl.v64 bodyB.sl.r_16 bodyB.sl.v286 bodyB.sl.v308 bodyB.sl.v1 bodyB.sl.v75 bodyB.sl.v2 bodyB.sl.r_3 bodyB.sl.r bodyB.sl.v251 bodyB.sl.r_15 bodyB.sl.v63 bodyB.sl.v228 bodyB.sl.r_8 bodyB.sl.v80 bodyB.sl.r_10 bodyB.sl.H21_4 bodyB.sl.r_13 bodyB.sl.r_1 bodyB.sl.v0 bodyB.sl.v138 bodyB.sl.r_9 bodyB.sl.r_7 bodyB.sl.v177 bodyB.sl.H19_1 bodyB.sl.v122 bodyB.sl.v76 bodyB.sl.v87 bodyB.sl.H18_1 bodyB.sl.H22_1 bodyB.sl.v146 bodyB.sl.v313 bodyB.sl.v62 bodyB.sl.v74 bodyB.sl.H16_1 bodyB.sl.r_5 bodyB.sl.v77 bodyB.sl.r_2 bodyB.sl.v212 bodyB.sl.v236 bodyB.sl.H17_1 bodyB.sl.r_11 bodyB.sl.H23_2 bodyB.sl.v79 bodyB.sl.H20_4 bodyB.sl.v65 bodyB.sl.v300 bodyB.sl.r_14 bodyB.sl.v82 bodyB.sl.r_6 bodyB.sl.H22_1_1 bodyB.sl.v293 bodyB.sl.v267 bodyB.sl.v67 bodyB.sl.v83 bodyB.sl.r_12 bodyB.sl.v107 bodyB.sl.v68 ; simp only [readAt_unread', readCov_ld]; rfl
  isplitl [H18]
  · iexists _; iexact H18
  isplitl [H19]
  · iexists _; iexact H19
  isplitl [H20]
  · iexists _; iexact H20
  isplitl [H21]
  · iexists _; iexact H21
  isplitl [H22]
  · iexists _; iexact H22
  isplitl [H23]
  · iexists _; iexact H23
  iapply (own_eq c M.arg24 ?e24) $$ H24
  case e24 => rw [writes_unread]; refine congrArg _ ?_; delta bodyB.sl.v307 bodyB.sl.v314 bodyB.sl.v66 bodyB.sl.v197 bodyB.sl.v84 bodyB.sl.r_4 bodyB.sl.v78 bodyB.sl.v161 bodyB.sl.v64 bodyB.sl.r_16 bodyB.sl.v286 bodyB.sl.v308 bodyB.sl.v1 bodyB.sl.v75 bodyB.sl.v2 bodyB.sl.r_3 bodyB.sl.r bodyB.sl.v251 bodyB.sl.r_15 bodyB.sl.v63 bodyB.sl.v228 bodyB.sl.r_8 bodyB.sl.v80 bodyB.sl.r_10 bodyB.sl.H21_4 bodyB.sl.r_13 bodyB.sl.r_1 bodyB.sl.v0 bodyB.sl.v138 bodyB.sl.r_9 bodyB.sl.r_7 bodyB.sl.v177 bodyB.sl.H19_1 bodyB.sl.v122 bodyB.sl.v76 bodyB.sl.v87 bodyB.sl.H18_1 bodyB.sl.H22_1 bodyB.sl.v146 bodyB.sl.v313 bodyB.sl.v62 bodyB.sl.v74 bodyB.sl.H16_1 bodyB.sl.r_5 bodyB.sl.v77 bodyB.sl.r_2 bodyB.sl.v212 bodyB.sl.v236 bodyB.sl.H17_1 bodyB.sl.r_11 bodyB.sl.H23_2 bodyB.sl.v79 bodyB.sl.H20_4 bodyB.sl.v65 bodyB.sl.v300 bodyB.sl.r_14 bodyB.sl.v82 bodyB.sl.r_6 bodyB.sl.H22_1_1 bodyB.sl.v293 bodyB.sl.v267 bodyB.sl.v67 bodyB.sl.v83 bodyB.sl.r_12 bodyB.sl.v107 bodyB.sl.v68 ; simp only [readAt_unread', readCov_ld]; rfl

end Cert.KernelIdeal.Fox

end
-- ==== Proof.FoxKernelIdeal.SoundB.lean ====
module

public import proofs.«01_k».proof.Proof.FoxKernelIdeal.BodyB
public import proofs.«01_k».proof.Proof.FoxKernelIdeal.Data

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 40000000 in
theorem sound_bodyB (c : Dev nD) (t : Fin cfg0.N) (h0 : ¬ t.val % 4 = 0) (h1 : ¬ t.val % 4 = 3) :
    bodyPre m c t ⊢ wp frame (wpE (defs₀ (F := F)) Variants.none c none) Set.univ (bodyAt0 t) (fun _ => bodyPost m c t (iprop(∃ d, owns (c : Thread nD τ) (ms0_11 t) fullShare ((dats m 0 c).before 11 t d)))) := by
  unfold bodyPre bodyPost
  simp only [before0_0, before0_1, before0_2, before0_3, before0_4, before0_5, before0_6, before0_7, before0_8]
  simp only [before0_10 m c t h0, before0_12 m c t h0, before0_13 m c t h0]
  rw [show (dats m 0 c).owesAt () t.succ = (dats m 0 c).owesAt () t.castSucc from rfl,
    after0_0, after0_1, after0_2, after0_3, after0_4, after0_5, after0_6, after0_7, after0_8, after0_9, after0_10, after0_12, after0_13, after0_14, after0_15]
  rw [show (dats m 0 c).Φ t.succ = PhiS m c (t.val + 1) t.isLt from rfl, PhiS_succ, carr_later m c t h0, PhiS_castSucc m c t]
  rw [PhiS_pos m c _ _ (fun h => h0 (by rw [h]))]
  iintro ⟨⟨⟨⟨%d18, H18⟩, ⟨%d19, H19⟩, ⟨%d20, H20⟩, ⟨%d21, H21⟩, ⟨%d22, H22⟩, ⟨%d23, H23⟩, H24⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  ihave G2 := (owns_in (memsAt t).harg2 _) $$ H2
  ihave G3 := (owns_in (memsAt t).harg3 _) $$ H3
  ihave G4 := (owns_in (memsAt t).harg4 _) $$ H4
  ihave G5 := (owns_in (memsAt t).harg5 _) $$ H5
  ihave G6 := (owns_in (memsAt t).harg6 _) $$ H6
  ihave G7 := (owns_in (memsAt t).harg7 _) $$ H7
  ihave G8 := (owns_in (memsAt t).harg8 _) $$ H8
  ihave G9 := (owns_in (memsAt t).harg9 _) $$ H9
  ihave G10 := (owns_in (memsAt t).harg10 _) $$ H10
  ihave G11 := (owns_in (memsAt t).harg11 _) $$ H11
  ihave G12 := (owns_in (memsAt t).harg12 _) $$ H12
  ihave G13 := (owns_in (memsAt t).harg13 _) $$ H13
  ihave G14 := (owns_in (memsAt t).harg14 _) $$ H14
  ihave G15 := (owns_in (memsAt t).harg15 _) $$ H15
  ihave G16 := (owns_in (memsAt t).harg16 _) $$ H16
  ihave G17 := (owns_in (memsAt t).harg17 _) $$ H17
  ihave G18 := (owns_in (memsAt t).harg18 _) $$ H18
  ihave G19 := (owns_in (memsAt t).harg19 _) $$ H19
  ihave G20 := (owns_in (memsAt t).harg20 _) $$ H20
  ihave G21 := (owns_in (memsAt t).harg21 _) $$ H21
  ihave G22 := (owns_in (memsAt t).harg22 _) $$ H22
  ihave G23 := (owns_in (memsAt t).harg23 _) $$ H23
  ihave G24 := (owns_in (memsAt t).harg24 _) $$ H24
  iapply (wp_wand_r Idealize.ShloMosaic.frame (wpE (defs₀ (F := F)) Variants.none (c : Thread nD τ) none) Set.univ)
  isplitl [G2 G3 G4 G5 G6 G7 G8 G9 G10 G11 G12 G13 G14 G15 G16 G17 G18 G19 G20 G21 G22 G23 G24]
  · iapply (bodyB c (grid0.coords t) (memsAt t) (fun h => h0 ((hcond0 t).mp h)) (fun h => h1 ((hcond2 t).mp h)) (blk m c t) Set.univ (carr m c t.val).c12 (carr m c t.val).c14 (carr m c t.val).c15 (carr m c t.val).c24 _ _ _ _ _ _ _ _ _ _)
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    isplitl [G18]; · iexact G18
    isplitl [G19]; · iexact G19
    isplitl [G20]; · iexact G20
    isplitl [G21]; · iexact G21
    isplitl [G22]; · iexact G22
    isplitl [G23]; · iexact G23
    iexact G24
  · iintro %_u ⟨G2, G3, G4, G5, G6, G7, G8, G9, G10, G11, G12, G13, G14, G15, G16, G17, G18, G19, G20, G21, G22, G23, G24⟩
    isplitl [G18 G19 G20 G21 G22 G23 G24 Hg]
    · isplitl [G18 G19 G20 G21 G22 G23 G24]
      · isplitl [G18]; · iapply (owns_some (F := F)) $$ G18
        isplitl [G19]; · iapply (owns_some (F := F)) $$ G19
        isplitl [G20]; · iapply (owns_some (F := F)) $$ G20
        isplitl [G21]; · iapply (owns_some (F := F)) $$ G21
        isplitl [G22]; · iapply (owns_some (F := F)) $$ G22
        isplitl [G23]; · iapply (owns_some (F := F)) $$ G23
        iapply (owns_out (Memref.isWhole_whole _) _) $$ G24
      iexact Hg
    isplitl [Ho]; · iexact Ho
    isplitl [G2]; · iapply (owns_out (memsAt t).harg2 _) $$ G2
    isplitl [G3]; · iapply (owns_out (memsAt t).harg3 _) $$ G3
    isplitl [G4]; · iapply (owns_out (memsAt t).harg4 _) $$ G4
    isplitl [G5]; · iapply (owns_out (memsAt t).harg5 _) $$ G5
    isplitl [G6]; · iapply (owns_out (memsAt t).harg6 _) $$ G6
    isplitl [G7]; · iapply (owns_out (memsAt t).harg7 _) $$ G7
    isplitl [G8]; · iapply (owns_out (memsAt t).harg8 _) $$ G8
    isplitl [G9]; · iapply (owns_out (memsAt t).harg9 _) $$ G9
    isplitl [G10]; · iapply (owns_out (memsAt t).harg10 _) $$ G10
    isplitl [G11]; · iapply (owns_out (memsAt t).harg11 _) $$ G11
    isplitl [G12]; · iapply (owns_out (memsAt t).harg12 _) $$ G12
    isplitl [G13]; · iexists _; iapply (owns_out (memsAt t).harg13 _) $$ G13
    isplitl [G14]; · iapply (owns_out (memsAt t).harg14 _) $$ G14
    isplitl [G15]; · iapply (owns_out (memsAt t).harg15 _) $$ G15
    isplitl [G16]; · iapply (owns_out (memsAt t).harg16 _) $$ G16
    iapply (owns_out (memsAt t).harg17 _) $$ G17

end Cert.KernelIdeal.Fox

end
-- ==== Proof.FoxKernelIdeal.BodyC.lean ====
module

public import proofs.«01_k».proof.Proof.FoxKernelIdeal.Point

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (M : Mems)

set_option maxHeartbeats 8000000 in
theorem bodyC (hc0 : ¬ Scalar.cmpi .ne (Scalar.extui (Scalar.cmpi .eq (BitVec.ofNat 32 (i 1).val) 0#32)) 0#32 = (1#1 : BitVec 1)) (hc1 : k0_cond2 i = 1#1) (B : Blk F) (E : Set ℕ) (X12 : Vec F S2048x128 .f32) (X14 : Vec F S1x4x1x512 .f32) (X15 : Vec F S1x4x1x512 .f32) (X24 : Vec F S2048x128 .f32) (f11 : BufTy.Contents (Elt F) M.arg11.view.ty) (f13 : BufTy.Contents (Elt F) M.arg13.view.ty) (f16 : BufTy.Contents (Elt F) M.arg16.view.ty) (f17 : BufTy.Contents (Elt F) M.arg17.view.ty) (f18 : BufTy.Contents (Elt F) M.arg18.view.ty) (f19 : BufTy.Contents (Elt F) M.arg19.view.ty) (f20 : BufTy.Contents (Elt F) M.arg20.view.ty) (f21 : BufTy.Contents (Elt F) M.arg21.view.ty) (f22 : BufTy.Contents (Elt F) M.arg22.view.ty) (f23 : BufTy.Contents (Elt F) M.arg23.view.ty) :
    (iprop((M.arg2.view.loc (c : Thread nD τ) ↦[M.arg2.view.set]{fullShare} (M.harg2.unread B.X2)) ∗ (M.arg3.view.loc (c : Thread nD τ) ↦[M.arg3.view.set]{fullShare} (M.harg3.unread B.X3)) ∗ (M.arg4.view.loc (c : Thread nD τ) ↦[M.arg4.view.set]{fullShare} (M.harg4.unread B.X4)) ∗ (M.arg5.view.loc (c : Thread nD τ) ↦[M.arg5.view.set]{fullShare} (M.harg5.unread B.X5)) ∗ (M.arg6.view.loc (c : Thread nD τ) ↦[M.arg6.view.set]{fullShare} (M.harg6.unread B.X6)) ∗ (M.arg7.view.loc (c : Thread nD τ) ↦[M.arg7.view.set]{fullShare} (M.harg7.unread B.X7)) ∗ (M.arg8.view.loc (c : Thread nD τ) ↦[M.arg8.view.set]{fullShare} (M.harg8.unread B.X8)) ∗ (M.arg9.view.loc (c : Thread nD τ) ↦[M.arg9.view.set]{fullShare} (M.harg9.unread B.X9)) ∗ (M.arg10.view.loc (c : Thread nD τ) ↦[M.arg10.view.set]{fullShare} (M.harg10.unread B.X10)) ∗ (M.arg11.view.loc (c : Thread nD τ) ↦[M.arg11.view.set]{fullShare} f11) ∗ (M.arg12.view.loc (c : Thread nD τ) ↦[M.arg12.view.set]{fullShare} (M.harg12.unread X12)) ∗ (M.arg13.view.loc (c : Thread nD τ) ↦[M.arg13.view.set]{fullShare} f13) ∗ (M.arg14.view.loc (c : Thread nD τ) ↦[M.arg14.view.set]{fullShare} (M.harg14.unread X14)) ∗ (M.arg15.view.loc (c : Thread nD τ) ↦[M.arg15.view.set]{fullShare} (M.harg15.unread X15)) ∗ (M.arg16.view.loc (c : Thread nD τ) ↦[M.arg16.view.set]{fullShare} f16) ∗ (M.arg17.view.loc (c : Thread nD τ) ↦[M.arg17.view.set]{fullShare} f17) ∗ (M.arg18.view.loc (c : Thread nD τ) ↦[M.arg18.view.set]{fullShare} f18) ∗ (M.arg19.view.loc (c : Thread nD τ) ↦[M.arg19.view.set]{fullShare} f19) ∗ (M.arg20.view.loc (c : Thread nD τ) ↦[M.arg20.view.set]{fullShare} f20) ∗ (M.arg21.view.loc (c : Thread nD τ) ↦[M.arg21.view.set]{fullShare} f21) ∗ (M.arg22.view.loc (c : Thread nD τ) ↦[M.arg22.view.set]{fullShare} f22) ∗ (M.arg23.view.loc (c : Thread nD τ) ↦[M.arg23.view.set]{fullShare} f23) ∗ (M.arg24.view.loc (c : Thread nD τ) ↦[M.arg24.view.set]{fullShare} (M.harg24.unread X24))) : sProp 𝕄) ⊢ wp frame (wpE (defs₀ (F := F)) Variants.none (c : Thread nD τ) none) E
        (cc0_fox_attention_bwd (F := F) i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24)
        (fun _ => iprop((M.arg2.view.loc (c : Thread nD τ) ↦[M.arg2.view.set]{fullShare} (M.harg2.unread B.X2)) ∗ (M.arg3.view.loc (c : Thread nD τ) ↦[M.arg3.view.set]{fullShare} (M.harg3.unread B.X3)) ∗ (M.arg4.view.loc (c : Thread nD τ) ↦[M.arg4.view.set]{fullShare} (M.harg4.unread B.X4)) ∗ (M.arg5.view.loc (c : Thread nD τ) ↦[M.arg5.view.set]{fullShare} (M.harg5.unread B.X5)) ∗ (M.arg6.view.loc (c : Thread nD τ) ↦[M.arg6.view.set]{fullShare} (M.harg6.unread B.X6)) ∗ (M.arg7.view.loc (c : Thread nD τ) ↦[M.arg7.view.set]{fullShare} (M.harg7.unread B.X7)) ∗ (M.arg8.view.loc (c : Thread nD τ) ↦[M.arg8.view.set]{fullShare} (M.harg8.unread B.X8)) ∗ (M.arg9.view.loc (c : Thread nD τ) ↦[M.arg9.view.set]{fullShare} (M.harg9.unread B.X9)) ∗ (M.arg10.view.loc (c : Thread nD τ) ↦[M.arg10.view.set]{fullShare} (M.harg10.unread B.X10)) ∗ (M.arg11.view.loc (c : Thread nD τ) ↦[M.arg11.view.set]{fullShare} (M.harg11.unread (o11 i B.base))) ∗ (M.arg12.view.loc (c : Thread nD τ) ↦[M.arg12.view.set]{fullShare} (M.harg12.unread (o12 i B.base X12))) ∗ (M.arg13.view.loc (c : Thread nD τ) ↦[M.arg13.view.set]{fullShare} (M.harg13.unread (o13 (o24 i B.base X24)))) ∗ (M.arg14.view.loc (c : Thread nD τ) ↦[M.arg14.view.set]{fullShare} (M.harg14.unread (o14 i B.base X14))) ∗ (M.arg15.view.loc (c : Thread nD τ) ↦[M.arg15.view.set]{fullShare} (M.harg15.unread (o15 i B.base X15))) ∗ (M.arg16.view.loc (c : Thread nD τ) ↦[M.arg16.view.set]{fullShare} (M.harg16.unread (o16 i B.base z16))) ∗ (M.arg17.view.loc (c : Thread nD τ) ↦[M.arg17.view.set]{fullShare} (M.harg17.unread (o17 i B.base z17))) ∗ (∃ f, (M.arg18.view.loc (c : Thread nD τ) ↦[M.arg18.view.set]{fullShare} f)) ∗ (∃ f, (M.arg19.view.loc (c : Thread nD τ) ↦[M.arg19.view.set]{fullShare} f)) ∗ (∃ f, (M.arg20.view.loc (c : Thread nD τ) ↦[M.arg20.view.set]{fullShare} f)) ∗ (∃ f, (M.arg21.view.loc (c : Thread nD τ) ↦[M.arg21.view.set]{fullShare} f)) ∗ (∃ f, (M.arg22.view.loc (c : Thread nD τ) ↦[M.arg22.view.set]{fullShare} f)) ∗ (∃ f, (M.arg23.view.loc (c : Thread nD τ) ↦[M.arg23.view.set]{fullShare} f)) ∗ (M.arg24.view.loc (c : Thread nD τ) ↦[M.arg24.view.set]{fullShare} (M.harg24.unread (o24 i B.base X24))))) := by
  have htr : (k0_t2_loop i).trips = 0 := Nat.le_zero.mp (k0_t2_abs i).2.1
  simp only [cc0_fox_attention_bwd_eq_skeleton]; unfold cc0_fox_attention_bwd_skel
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  iintro ⟨H2, H3, H4, H5, H6, H7, H8, H9, H10, H11, H12, H13, H14, H15, H16, H17, H18, H19, H20, H21, H22, H23, H24⟩
  sl_exec (disch := first | sl_exact hc0 | sl_exact hc1)
  rw [show M.arg16.view.writes (Elt F) M.arg16.view.junk bodyC.sl.H16_1 = M.harg16.unread z16 from (writes_junk M.harg16 _).trans (by delta bodyC.sl.H16_1; rfl)]
  rw [show M.arg17.view.writes (Elt F) M.arg17.view.junk bodyC.sl.H17_1 = M.harg17.unread z17 from (writes_junk M.harg17 _).trans (by delta bodyC.sl.H17_1; rfl)]
  rw [show M.arg22.view.writes (Elt F) M.arg22.view.junk bodyC.sl.H22_1 = M.harg22.unread z22 from (writes_junk M.harg22 _).trans (by delta bodyC.sl.H22_1; rfl)]
  rw [show M.arg23.view.writes (Elt F) M.arg23.view.junk (bodyC.sl.H23_2 M B) = M.harg23.unread (dsum B.X5 B.X6) from (writes_junk M.harg23 _).trans (by
    delta bodyC.sl.H23_2 bodyC.sl.r_2 bodyC.sl.r_3; simp only [readAt_unread']; rfl)]
  rw [show bodyC.sl.r M B = B.base.q from by delta bodyC.sl.r; simp only [readAt_unread']; rfl,
    show bodyC.sl.r_1 M B = B.base.d from by delta bodyC.sl.r_1; simp only [readAt_unread']; rfl]
  sl_exec (disch := first | sl_exact hc0 | sl_exact hc1)
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iapply (own_eq c M.arg11 ?e11) $$ H11
    case e11 => rw [writes_cover M.harg11 _ _ (View.cover_of_wholeMem _ (by sl_whole_mem))]; refine congrArg _ ?_; delta bodyC.sl.v67 bodyC.sl.v300 bodyC.sl.r bodyC.sl.v0 bodyC.sl.v74 bodyC.sl.v68 bodyC.sl.r_9 bodyC.sl.v236 bodyC.sl.r_10 bodyC.sl.v2 bodyC.sl.v80 bodyC.sl.v107 bodyC.sl.H23_2 bodyC.sl.r_14 bodyC.sl.r_2 bodyC.sl.v1 bodyC.sl.v84 bodyC.sl.r_1 bodyC.sl.v161 bodyC.sl.v82 bodyC.sl.v177 bodyC.sl.v75 bodyC.sl.v307 bodyC.sl.r_11 bodyC.sl.v63 bodyC.sl.v313 bodyC.sl.v83 bodyC.sl.v66 bodyC.sl.H21_4 bodyC.sl.v316 bodyC.sl.r_12 bodyC.sl.v87 bodyC.sl.r_16 bodyC.sl.v122 bodyC.sl.H18_1 bodyC.sl.v64 bodyC.sl.r_7 bodyC.sl.v76 bodyC.sl.v197 bodyC.sl.H22_1 bodyC.sl.v251 bodyC.sl.H19_1 bodyC.sl.r_3 bodyC.sl.r_4 bodyC.sl.r_13 bodyC.sl.v62 bodyC.sl.v65 bodyC.sl.v138 bodyC.sl.H22_1_1 bodyC.sl.r_15 bodyC.sl.H20_4 bodyC.sl.v146 bodyC.sl.H24_1 bodyC.sl.r_5 bodyC.sl.v286 bodyC.sl.v79 bodyC.sl.v228 bodyC.sl.H17_1 bodyC.sl.v77 bodyC.sl.r_6 bodyC.sl.v267 bodyC.sl.H16_1 bodyC.sl.v212 bodyC.sl.r_8 bodyC.sl.v314 bodyC.sl.v293 bodyC.sl.v78 bodyC.sl.v308 ; simp only [readAt_unread', readCov_ld]; rfl
  isplitl [H12]
  · iapply (own_eq c M.arg12 ?e12) $$ H12
    case e12 => rw [writes_unread]; refine congrArg _ ?_; delta bodyC.sl.v67 bodyC.sl.v300 bodyC.sl.r bodyC.sl.v0 bodyC.sl.v74 bodyC.sl.v68 bodyC.sl.r_9 bodyC.sl.v236 bodyC.sl.r_10 bodyC.sl.v2 bodyC.sl.v80 bodyC.sl.v107 bodyC.sl.H23_2 bodyC.sl.r_14 bodyC.sl.r_2 bodyC.sl.v1 bodyC.sl.v84 bodyC.sl.r_1 bodyC.sl.v161 bodyC.sl.v82 bodyC.sl.v177 bodyC.sl.v75 bodyC.sl.v307 bodyC.sl.r_11 bodyC.sl.v63 bodyC.sl.v313 bodyC.sl.v83 bodyC.sl.v66 bodyC.sl.H21_4 bodyC.sl.v316 bodyC.sl.r_12 bodyC.sl.v87 bodyC.sl.r_16 bodyC.sl.v122 bodyC.sl.H18_1 bodyC.sl.v64 bodyC.sl.r_7 bodyC.sl.v76 bodyC.sl.v197 bodyC.sl.H22_1 bodyC.sl.v251 bodyC.sl.H19_1 bodyC.sl.r_3 bodyC.sl.r_4 bodyC.sl.r_13 bodyC.sl.v62 bodyC.sl.v65 bodyC.sl.v138 bodyC.sl.H22_1_1 bodyC.sl.r_15 bodyC.sl.H20_4 bodyC.sl.v146 bodyC.sl.H24_1 bodyC.sl.r_5 bodyC.sl.v286 bodyC.sl.v79 bodyC.sl.v228 bodyC.sl.H17_1 bodyC.sl.v77 bodyC.sl.r_6 bodyC.sl.v267 bodyC.sl.H16_1 bodyC.sl.v212 bodyC.sl.r_8 bodyC.sl.v314 bodyC.sl.v293 bodyC.sl.v78 bodyC.sl.v308 ; simp only [readAt_unread', readCov_ld]; rfl
  isplitl [H13]
  · iapply (own_eq c M.arg13 ?e13) $$ H13
    case e13 => rw [writes_cover M.harg13 _ _ (View.cover_of_wholeMem _ (by sl_whole_mem))]; refine congrArg _ ?_; delta bodyC.sl.v67 bodyC.sl.v300 bodyC.sl.r bodyC.sl.v0 bodyC.sl.v74 bodyC.sl.v68 bodyC.sl.r_9 bodyC.sl.v236 bodyC.sl.r_10 bodyC.sl.v2 bodyC.sl.v80 bodyC.sl.v107 bodyC.sl.H23_2 bodyC.sl.r_14 bodyC.sl.r_2 bodyC.sl.v1 bodyC.sl.v84 bodyC.sl.r_1 bodyC.sl.v161 bodyC.sl.v82 bodyC.sl.v177 bodyC.sl.v75 bodyC.sl.v307 bodyC.sl.r_11 bodyC.sl.v63 bodyC.sl.v313 bodyC.sl.v83 bodyC.sl.v66 bodyC.sl.H21_4 bodyC.sl.v316 bodyC.sl.r_12 bodyC.sl.v87 bodyC.sl.r_16 bodyC.sl.v122 bodyC.sl.H18_1 bodyC.sl.v64 bodyC.sl.r_7 bodyC.sl.v76 bodyC.sl.v197 bodyC.sl.H22_1 bodyC.sl.v251 bodyC.sl.H19_1 bodyC.sl.r_3 bodyC.sl.r_4 bodyC.sl.r_13 bodyC.sl.v62 bodyC.sl.v65 bodyC.sl.v138 bodyC.sl.H22_1_1 bodyC.sl.r_15 bodyC.sl.H20_4 bodyC.sl.v146 bodyC.sl.H24_1 bodyC.sl.r_5 bodyC.sl.v286 bodyC.sl.v79 bodyC.sl.v228 bodyC.sl.H17_1 bodyC.sl.v77 bodyC.sl.r_6 bodyC.sl.v267 bodyC.sl.H16_1 bodyC.sl.v212 bodyC.sl.r_8 bodyC.sl.v314 bodyC.sl.v293 bodyC.sl.v78 bodyC.sl.v308 ; simp only [readAt_unread', readCov_ld, writes_unread]; rfl
  isplitl [H14]
  · iapply (own_eq c M.arg14 ?e14) $$ H14
    case e14 => rw [writes_unread]; refine congrArg _ ?_; delta bodyC.sl.v67 bodyC.sl.v300 bodyC.sl.r bodyC.sl.v0 bodyC.sl.v74 bodyC.sl.v68 bodyC.sl.r_9 bodyC.sl.v236 bodyC.sl.r_10 bodyC.sl.v2 bodyC.sl.v80 bodyC.sl.v107 bodyC.sl.H23_2 bodyC.sl.r_14 bodyC.sl.r_2 bodyC.sl.v1 bodyC.sl.v84 bodyC.sl.r_1 bodyC.sl.v161 bodyC.sl.v82 bodyC.sl.v177 bodyC.sl.v75 bodyC.sl.v307 bodyC.sl.r_11 bodyC.sl.v63 bodyC.sl.v313 bodyC.sl.v83 bodyC.sl.v66 bodyC.sl.H21_4 bodyC.sl.v316 bodyC.sl.r_12 bodyC.sl.v87 bodyC.sl.r_16 bodyC.sl.v122 bodyC.sl.H18_1 bodyC.sl.v64 bodyC.sl.r_7 bodyC.sl.v76 bodyC.sl.v197 bodyC.sl.H22_1 bodyC.sl.v251 bodyC.sl.H19_1 bodyC.sl.r_3 bodyC.sl.r_4 bodyC.sl.r_13 bodyC.sl.v62 bodyC.sl.v65 bodyC.sl.v138 bodyC.sl.H22_1_1 bodyC.sl.r_15 bodyC.sl.H20_4 bodyC.sl.v146 bodyC.sl.H24_1 bodyC.sl.r_5 bodyC.sl.v286 bodyC.sl.v79 bodyC.sl.v228 bodyC.sl.H17_1 bodyC.sl.v77 bodyC.sl.r_6 bodyC.sl.v267 bodyC.sl.H16_1 bodyC.sl.v212 bodyC.sl.r_8 bodyC.sl.v314 bodyC.sl.v293 bodyC.sl.v78 bodyC.sl.v308 ; simp only [readAt_unread', readCov_ld]; rfl
  isplitl [H15]
  · iapply (own_eq c M.arg15 ?e15) $$ H15
    case e15 => rw [writes_unread]; refine congrArg _ ?_; delta bodyC.sl.v67 bodyC.sl.v300 bodyC.sl.r bodyC.sl.v0 bodyC.sl.v74 bodyC.sl.v68 bodyC.sl.r_9 bodyC.sl.v236 bodyC.sl.r_10 bodyC.sl.v2 bodyC.sl.v80 bodyC.sl.v107 bodyC.sl.H23_2 bodyC.sl.r_14 bodyC.sl.r_2 bodyC.sl.v1 bodyC.sl.v84 bodyC.sl.r_1 bodyC.sl.v161 bodyC.sl.v82 bodyC.sl.v177 bodyC.sl.v75 bodyC.sl.v307 bodyC.sl.r_11 bodyC.sl.v63 bodyC.sl.v313 bodyC.sl.v83 bodyC.sl.v66 bodyC.sl.H21_4 bodyC.sl.v316 bodyC.sl.r_12 bodyC.sl.v87 bodyC.sl.r_16 bodyC.sl.v122 bodyC.sl.H18_1 bodyC.sl.v64 bodyC.sl.r_7 bodyC.sl.v76 bodyC.sl.v197 bodyC.sl.H22_1 bodyC.sl.v251 bodyC.sl.H19_1 bodyC.sl.r_3 bodyC.sl.r_4 bodyC.sl.r_13 bodyC.sl.v62 bodyC.sl.v65 bodyC.sl.v138 bodyC.sl.H22_1_1 bodyC.sl.r_15 bodyC.sl.H20_4 bodyC.sl.v146 bodyC.sl.H24_1 bodyC.sl.r_5 bodyC.sl.v286 bodyC.sl.v79 bodyC.sl.v228 bodyC.sl.H17_1 bodyC.sl.v77 bodyC.sl.r_6 bodyC.sl.v267 bodyC.sl.H16_1 bodyC.sl.v212 bodyC.sl.r_8 bodyC.sl.v314 bodyC.sl.v293 bodyC.sl.v78 bodyC.sl.v308 ; simp only [readAt_unread', readCov_ld]; rfl
  isplitl [H16]
  · iapply (own_eq c M.arg16 ?e16) $$ H16
    case e16 => rw [writes_unread]; refine congrArg _ ?_; delta bodyC.sl.v67 bodyC.sl.v300 bodyC.sl.r bodyC.sl.v0 bodyC.sl.v74 bodyC.sl.v68 bodyC.sl.r_9 bodyC.sl.v236 bodyC.sl.r_10 bodyC.sl.v2 bodyC.sl.v80 bodyC.sl.v107 bodyC.sl.H23_2 bodyC.sl.r_14 bodyC.sl.r_2 bodyC.sl.v1 bodyC.sl.v84 bodyC.sl.r_1 bodyC.sl.v161 bodyC.sl.v82 bodyC.sl.v177 bodyC.sl.v75 bodyC.sl.v307 bodyC.sl.r_11 bodyC.sl.v63 bodyC.sl.v313 bodyC.sl.v83 bodyC.sl.v66 bodyC.sl.H21_4 bodyC.sl.v316 bodyC.sl.r_12 bodyC.sl.v87 bodyC.sl.r_16 bodyC.sl.v122 bodyC.sl.H18_1 bodyC.sl.v64 bodyC.sl.r_7 bodyC.sl.v76 bodyC.sl.v197 bodyC.sl.H22_1 bodyC.sl.v251 bodyC.sl.H19_1 bodyC.sl.r_3 bodyC.sl.r_4 bodyC.sl.r_13 bodyC.sl.v62 bodyC.sl.v65 bodyC.sl.v138 bodyC.sl.H22_1_1 bodyC.sl.r_15 bodyC.sl.H20_4 bodyC.sl.v146 bodyC.sl.H24_1 bodyC.sl.r_5 bodyC.sl.v286 bodyC.sl.v79 bodyC.sl.v228 bodyC.sl.H17_1 bodyC.sl.v77 bodyC.sl.r_6 bodyC.sl.v267 bodyC.sl.H16_1 bodyC.sl.v212 bodyC.sl.r_8 bodyC.sl.v314 bodyC.sl.v293 bodyC.sl.v78 bodyC.sl.v308 ; simp only [readAt_unread', readCov_ld]; rfl
  isplitl [H17]
  · iapply (own_eq c M.arg17 ?e17) $$ H17
    case e17 => rw [writes_unread]; refine congrArg _ ?_; delta bodyC.sl.v67 bodyC.sl.v300 bodyC.sl.r bodyC.sl.v0 bodyC.sl.v74 bodyC.sl.v68 bodyC.sl.r_9 bodyC.sl.v236 bodyC.sl.r_10 bodyC.sl.v2 bodyC.sl.v80 bodyC.sl.v107 bodyC.sl.H23_2 bodyC.sl.r_14 bodyC.sl.r_2 bodyC.sl.v1 bodyC.sl.v84 bodyC.sl.r_1 bodyC.sl.v161 bodyC.sl.v82 bodyC.sl.v177 bodyC.sl.v75 bodyC.sl.v307 bodyC.sl.r_11 bodyC.sl.v63 bodyC.sl.v313 bodyC.sl.v83 bodyC.sl.v66 bodyC.sl.H21_4 bodyC.sl.v316 bodyC.sl.r_12 bodyC.sl.v87 bodyC.sl.r_16 bodyC.sl.v122 bodyC.sl.H18_1 bodyC.sl.v64 bodyC.sl.r_7 bodyC.sl.v76 bodyC.sl.v197 bodyC.sl.H22_1 bodyC.sl.v251 bodyC.sl.H19_1 bodyC.sl.r_3 bodyC.sl.r_4 bodyC.sl.r_13 bodyC.sl.v62 bodyC.sl.v65 bodyC.sl.v138 bodyC.sl.H22_1_1 bodyC.sl.r_15 bodyC.sl.H20_4 bodyC.sl.v146 bodyC.sl.H24_1 bodyC.sl.r_5 bodyC.sl.v286 bodyC.sl.v79 bodyC.sl.v228 bodyC.sl.H17_1 bodyC.sl.v77 bodyC.sl.r_6 bodyC.sl.v267 bodyC.sl.H16_1 bodyC.sl.v212 bodyC.sl.r_8 bodyC.sl.v314 bodyC.sl.v293 bodyC.sl.v78 bodyC.sl.v308 ; simp only [readAt_unread', readCov_ld]; rfl
  isplitl [H18]
  · iexists _; iexact H18
  isplitl [H19]
  · iexists _; iexact H19
  isplitl [H20]
  · iexists _; iexact H20
  isplitl [H21]
  · iexists _; iexact H21
  isplitl [H22]
  · iexists _; iexact H22
  isplitl [H23]
  · iexists _; iexact H23
  iapply (own_eq c M.arg24 ?e24) $$ H24
  case e24 => rw [writes_unread]; refine congrArg _ ?_; delta bodyC.sl.v67 bodyC.sl.v300 bodyC.sl.r bodyC.sl.v0 bodyC.sl.v74 bodyC.sl.v68 bodyC.sl.r_9 bodyC.sl.v236 bodyC.sl.r_10 bodyC.sl.v2 bodyC.sl.v80 bodyC.sl.v107 bodyC.sl.H23_2 bodyC.sl.r_14 bodyC.sl.r_2 bodyC.sl.v1 bodyC.sl.v84 bodyC.sl.r_1 bodyC.sl.v161 bodyC.sl.v82 bodyC.sl.v177 bodyC.sl.v75 bodyC.sl.v307 bodyC.sl.r_11 bodyC.sl.v63 bodyC.sl.v313 bodyC.sl.v83 bodyC.sl.v66 bodyC.sl.H21_4 bodyC.sl.v316 bodyC.sl.r_12 bodyC.sl.v87 bodyC.sl.r_16 bodyC.sl.v122 bodyC.sl.H18_1 bodyC.sl.v64 bodyC.sl.r_7 bodyC.sl.v76 bodyC.sl.v197 bodyC.sl.H22_1 bodyC.sl.v251 bodyC.sl.H19_1 bodyC.sl.r_3 bodyC.sl.r_4 bodyC.sl.r_13 bodyC.sl.v62 bodyC.sl.v65 bodyC.sl.v138 bodyC.sl.H22_1_1 bodyC.sl.r_15 bodyC.sl.H20_4 bodyC.sl.v146 bodyC.sl.H24_1 bodyC.sl.r_5 bodyC.sl.v286 bodyC.sl.v79 bodyC.sl.v228 bodyC.sl.H17_1 bodyC.sl.v77 bodyC.sl.r_6 bodyC.sl.v267 bodyC.sl.H16_1 bodyC.sl.v212 bodyC.sl.r_8 bodyC.sl.v314 bodyC.sl.v293 bodyC.sl.v78 bodyC.sl.v308 ; simp only [readAt_unread', readCov_ld]; rfl

end Cert.KernelIdeal.Fox

end
-- ==== Proof.FoxKernelIdeal.SoundC.lean ====
module

public import proofs.«01_k».proof.Proof.FoxKernelIdeal.BodyC
public import proofs.«01_k».proof.Proof.FoxKernelIdeal.Data

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 40000000 in
theorem sound_bodyC (c : Dev nD) (t : Fin cfg0.N) (h0 : ¬ t.val % 4 = 0) (h1 : t.val % 4 = 3) :
    bodyPre m c t ⊢ wp frame (wpE (defs₀ (F := F)) Variants.none c none) Set.univ (bodyAt0 t) (fun _ => bodyPost m c t (owns (c : Thread nD τ) (ms0_11 t) fullShare ((dats m 0 c).after 11 t))) := by
  unfold bodyPre bodyPost
  simp only [before0_0, before0_1, before0_2, before0_3, before0_4, before0_5, before0_6, before0_7, before0_8]
  simp only [before0_10 m c t h0, before0_12 m c t h0, before0_13 m c t h0]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.succ = PhiS m c (t.val + 1) t.isLt from rfl, PhiS_succ, carr_later m c t h0, PhiS_castSucc m c t]
  rw [PhiS_pos m c _ _ (fun h => h0 (by rw [h]))]
  iintro ⟨⟨⟨⟨%d18, H18⟩, ⟨%d19, H19⟩, ⟨%d20, H20⟩, ⟨%d21, H21⟩, ⟨%d22, H22⟩, ⟨%d23, H23⟩, H24⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  ihave G2 := (owns_in (memsAt t).harg2 _) $$ H2
  ihave G3 := (owns_in (memsAt t).harg3 _) $$ H3
  ihave G4 := (owns_in (memsAt t).harg4 _) $$ H4
  ihave G5 := (owns_in (memsAt t).harg5 _) $$ H5
  ihave G6 := (owns_in (memsAt t).harg6 _) $$ H6
  ihave G7 := (owns_in (memsAt t).harg7 _) $$ H7
  ihave G8 := (owns_in (memsAt t).harg8 _) $$ H8
  ihave G9 := (owns_in (memsAt t).harg9 _) $$ H9
  ihave G10 := (owns_in (memsAt t).harg10 _) $$ H10
  ihave G11 := (owns_in (memsAt t).harg11 _) $$ H11
  ihave G12 := (owns_in (memsAt t).harg12 _) $$ H12
  ihave G13 := (owns_in (memsAt t).harg13 _) $$ H13
  ihave G14 := (owns_in (memsAt t).harg14 _) $$ H14
  ihave G15 := (owns_in (memsAt t).harg15 _) $$ H15
  ihave G16 := (owns_in (memsAt t).harg16 _) $$ H16
  ihave G17 := (owns_in (memsAt t).harg17 _) $$ H17
  ihave G18 := (owns_in (memsAt t).harg18 _) $$ H18
  ihave G19 := (owns_in (memsAt t).harg19 _) $$ H19
  ihave G20 := (owns_in (memsAt t).harg20 _) $$ H20
  ihave G21 := (owns_in (memsAt t).harg21 _) $$ H21
  ihave G22 := (owns_in (memsAt t).harg22 _) $$ H22
  ihave G23 := (owns_in (memsAt t).harg23 _) $$ H23
  ihave G24 := (owns_in (memsAt t).harg24 _) $$ H24
  iapply (wp_wand_r Idealize.ShloMosaic.frame (wpE (defs₀ (F := F)) Variants.none (c : Thread nD τ) none) Set.univ)
  isplitl [G2 G3 G4 G5 G6 G7 G8 G9 G10 G11 G12 G13 G14 G15 G16 G17 G18 G19 G20 G21 G22 G23 G24]
  · iapply (bodyC c (grid0.coords t) (memsAt t) (fun h => h0 ((hcond0 t).mp h)) ((hcond2 t).mpr h1) (blk m c t) Set.univ (carr m c t.val).c12 (carr m c t.val).c14 (carr m c t.val).c15 (carr m c t.val).c24 _ _ _ _ _ _ _ _ _ _)
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    isplitl [G18]; · iexact G18
    isplitl [G19]; · iexact G19
    isplitl [G20]; · iexact G20
    isplitl [G21]; · iexact G21
    isplitl [G22]; · iexact G22
    isplitl [G23]; · iexact G23
    iexact G24
  · iintro %_u ⟨G2, G3, G4, G5, G6, G7, G8, G9, G10, G11, G12, G13, G14, G15, G16, G17, G18, G19, G20, G21, G22, G23, G24⟩
    isplitl [G18 G19 G20 G21 G22 G23 G24 Hg]
    · isplitl [G18 G19 G20 G21 G22 G23 G24]
      · isplitl [G18]; · iapply (owns_some (F := F)) $$ G18
        isplitl [G19]; · iapply (owns_some (F := F)) $$ G19
        isplitl [G20]; · iapply (owns_some (F := F)) $$ G20
        isplitl [G21]; · iapply (owns_some (F := F)) $$ G21
        isplitl [G22]; · iapply (owns_some (F := F)) $$ G22
        isplitl [G23]; · iapply (owns_some (F := F)) $$ G23
        iapply (owns_out (Memref.isWhole_whole _) _) $$ G24
      iexact Hg
    isplitl [Ho]; · iexact Ho
    isplitl [G2]; · iapply (owns_out (memsAt t).harg2 _) $$ G2
    isplitl [G3]; · iapply (owns_out (memsAt t).harg3 _) $$ G3
    isplitl [G4]; · iapply (owns_out (memsAt t).harg4 _) $$ G4
    isplitl [G5]; · iapply (owns_out (memsAt t).harg5 _) $$ G5
    isplitl [G6]; · iapply (owns_out (memsAt t).harg6 _) $$ G6
    isplitl [G7]; · iapply (owns_out (memsAt t).harg7 _) $$ G7
    isplitl [G8]; · iapply (owns_out (memsAt t).harg8 _) $$ G8
    isplitl [G9]; · iapply (owns_out (memsAt t).harg9 _) $$ G9
    isplitl [G10]; · iapply (owns_out (memsAt t).harg10 _) $$ G10
    isplitl [G11]; · iapply (owns_out (memsAt t).harg11 _) $$ G11
    isplitl [G12]; · iapply (owns_out (memsAt t).harg12 _) $$ G12
    isplitl [G13]; · iapply (owns_out (memsAt t).harg13 _) $$ G13
    isplitl [G14]; · iapply (owns_out (memsAt t).harg14 _) $$ G14
    isplitl [G15]; · iapply (owns_out (memsAt t).harg15 _) $$ G15
    isplitl [G16]; · iapply (owns_out (memsAt t).harg16 _) $$ G16
    iapply (owns_out (memsAt t).harg17 _) $$ G17

end Cert.KernelIdeal.Fox

end
-- ==== Proof.FoxKernelIdeal.Run.lean ====
module

public import proofs.«01_k».proof.Proof.FoxKernelIdeal.SoundA
public import proofs.«01_k».proof.Proof.FoxKernelIdeal.SoundB
public import proofs.«01_k».proof.Proof.FoxKernelIdeal.SoundC
public import Idealize.ShloMosaic.Lib.Claim

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem idle_11 (t : Fin cfg0.N) (h : t.val % 4 = 3) : idle0 11 (grid0.coords t) = false := by
  show (!(k0_cond2 (grid0.coords t) == 1#1)) = false
  rw [(hcond2 t).mpr h]; rfl

theorem idle_11' (t : Fin cfg0.N) (h : ¬ t.val % 4 = 3) : idle0 11 (grid0.coords t) = true := by
  show (!(k0_cond2 (grid0.coords t) == 1#1)) = true
  rw [Bool.not_eq_true', beq_eq_false_iff_ne]; exact fun h' => h ((hcond2 t).mp h')

set_option maxHeartbeats 1600000 in
theorem body_obligation (c : Dev nD) : BodyObligation (dats (F := F) m 0 c) (defs₀ (F := F)) Variants.none () Set.univ := fun t => by
  rw [bigSep_W0, bigSep_W0, defs₀_row]
  by_cases h1 : t.val % 4 = 3
  · simp only [idle_11 t h1]
    exact triple_restated (sound_bodyC m c t (by omega) h1) rfl .rfl fun _ => .rfl
  · have hf : (cfg0.win 11).flush t = false := Bool.eq_false_iff.mpr fun h => h1 ((flush0_11 t).mp h)
    simp only [idle_11' t h1, hf]
    by_cases h0 : t.val % 4 = 0
    · exact triple_restated (sound_bodyA m c t h0) rfl .rfl fun _ => .rfl
    · exact triple_restated (sound_bodyB m c t h0 h1) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N le_rfl from rfl]
  exact PhiS_any m c _ _

/-! ## The run and the frame -/

set_option backward.isDefEq.respectTransparency.types false in
/-- The launch, every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Fox

end
-- ==== Proof.FoxKernelIdeal.Chunk.lean ====
module
public import proofs.«01_k».proof.Proof.FoxKernelIdeal.Model
public import Idealize.ShloMosaic.Lib.Pointwise
@[expose] public section
set_option maxRecDepth 16384
noncomputable section
namespace Cert.KernelIdeal.Fox
open Cert.KernelIdeal Cert.KernelIdeal.Gen
open Idealize.ShloMosaic Idealize.ShloMosaic.TcCoe Idealize.SL.Sem
open Idealize.ShloMosaic.Pipeline (Dat)

/-- The log-sum and decay rows of stack row `x`. -/
def lrow (I : In Ideal) (x : Fin 1024) : EReal := if h : (x : ℕ) < 512 then (I.la : FVec Ideal S1x512x1 .f32) (ix3 0 ⟨x, h⟩ 0) else (I.lb : FVec Ideal S1x512x1 .f32) (ix3 0 ⟨x - 512, by omega⟩ 0)
def crow (I : In Ideal) (x : Fin 1024) (j : Fin 512) : EReal := if (x : ℕ) < 512 then (I.ca : FVec Ideal S1x1x1x512 .f32) (ix4 0 0 0 j) else (I.cb : FVec Ideal S1x1x1x512 .f32) (ix4 0 0 0 j)
def SE (I : In Ideal) (x : Fin 1024) (j : Fin 512) : EReal := ∑ l : Fin 128, I.q (ix2 x l) * (I.kb : FVec Ideal S512x128 .bf16) (ix2 j l)
def VE (I : In Ideal) (x : Fin 1024) (j : Fin 512) : EReal := ∑ l : Fin 128, I.d (ix2 x l) * (I.vb : FVec Ideal S512x128 .bf16) (ix2 j l)
/-- The weights of the unmasked chunk. -/
def PE (I : In Ideal) (x : Fin 1024) (j : Fin 512) : EReal := Ideal.exp (SE I x j - crow I x j - lrow I x)
def DE (I : In Ideal) (x : Fin 1024) (j : Fin 512) : EReal := PE I x j * (VE I x j - (I.ds : FVec Ideal S1024x1 .f32) (ix2 x 0))

theorem u_v336_at (I : In Ideal) (r : Fin 256) (j : Fin 512) : u_v336 I (ix2 r j) = SE I ⟨r, by omega⟩ j := by
  unfold u_v336 SE
  pointwise
  canon_tiles x h
  obtain ⟨x0, x1, rfl⟩ : ∃ x0 x1, x = ix2 x0 x1 := ⟨x 0, x 1, eq_ix2 x⟩
  have e0 : x0 = ⟨r, by omega⟩ := Fin.ext h0.symm
  have e1 : x1 = j := Fin.ext h1.symm
  pointwise [k0_pay3, k0_pay2]
  rw [e0, e1]
theorem u_v344_at (I : In Ideal) (r : Fin 256) (j : Fin 512) : u_v344 I (ix2 r j) = VE I ⟨r, by omega⟩ j := by
  unfold u_v344 VE
  pointwise
  canon_tiles x h
  obtain ⟨x0, x1, rfl⟩ : ∃ x0 x1, x = ix2 x0 x1 := ⟨x 0, x 1, eq_ix2 x⟩
  have e0 : x0 = ⟨r, by omega⟩ := Fin.ext h0.symm
  have e1 : x1 = j := Fin.ext h1.symm
  pointwise [k0_pay4]
  rw [e0, e1]
theorem u_v345_at (I : In Ideal) (r : Fin 256) : u_v345 I (ix2 r 0) = (I.ds : FVec Ideal S1024x1 .f32) (ix2 ⟨r, by omega⟩ 0) := by
  unfold u_v345
  pointwise
theorem u_v339_at (I : In Ideal) (r : Fin 256) : u_v339 I (ix3 0 r 0) = lrow I ⟨r, by omega⟩ := by
  unfold u_v339 lrow
  rw [dif_pos (by simp only []; omega)]
  pointwise
  try (refine congrArg _ ?_; idx_ext)
theorem u_v368_at (I : In Ideal) (r : Fin 256) (j : Fin 512) : u_v368 I (ix2 r j) = SE I ⟨256 + r, by omega⟩ j := by
  unfold u_v368 SE
  pointwise
  canon_tiles x h
  obtain ⟨x0, x1, rfl⟩ : ∃ x0 x1, x = ix2 x0 x1 := ⟨x 0, x 1, eq_ix2 x⟩
  have e0 : x0 = ⟨256 + r, by omega⟩ := Fin.ext h0.symm
  have e1 : x1 = j := Fin.ext h1.symm
  pointwise [k0_pay3, k0_pay2]
  rw [e0, e1]
theorem u_v376_at (I : In Ideal) (r : Fin 256) (j : Fin 512) : u_v376 I (ix2 r j) = VE I ⟨256 + r, by omega⟩ j := by
  unfold u_v376 VE
  pointwise
  canon_tiles x h
  obtain ⟨x0, x1, rfl⟩ : ∃ x0 x1, x = ix2 x0 x1 := ⟨x 0, x 1, eq_ix2 x⟩
  have e0 : x0 = ⟨256 + r, by omega⟩ := Fin.ext h0.symm
  have e1 : x1 = j := Fin.ext h1.symm
  pointwise [k0_pay4]
  rw [e0, e1]
theorem u_v377_at (I : In Ideal) (r : Fin 256) : u_v377 I (ix2 r 0) = (I.ds : FVec Ideal S1024x1 .f32) (ix2 ⟨256 + r, by omega⟩ 0) := by
  unfold u_v377
  pointwise
theorem u_v371_at (I : In Ideal) (r : Fin 256) : u_v371 I (ix3 0 r 0) = lrow I ⟨256 + r, by omega⟩ := by
  unfold u_v371 lrow
  rw [dif_pos (by simp only []; omega)]
  pointwise
  try (refine congrArg _ ?_; idx_ext)
theorem u_v412_at (I : In Ideal) (r : Fin 256) (j : Fin 512) : u_v412 I (ix2 r j) = SE I ⟨512 + r, by omega⟩ j := by
  unfold u_v412 SE
  pointwise
  canon_tiles x h
  obtain ⟨x0, x1, rfl⟩ : ∃ x0 x1, x = ix2 x0 x1 := ⟨x 0, x 1, eq_ix2 x⟩
  have e0 : x0 = ⟨512 + r, by omega⟩ := Fin.ext h0.symm
  have e1 : x1 = j := Fin.ext h1.symm
  pointwise [k0_pay3, k0_pay2]
  rw [e0, e1]
theorem u_v420_at (I : In Ideal) (r : Fin 256) (j : Fin 512) : u_v420 I (ix2 r j) = VE I ⟨512 + r, by omega⟩ j := by
  unfold u_v420 VE
  pointwise
  canon_tiles x h
  obtain ⟨x0, x1, rfl⟩ : ∃ x0 x1, x = ix2 x0 x1 := ⟨x 0, x 1, eq_ix2 x⟩
  have e0 : x0 = ⟨512 + r, by omega⟩ := Fin.ext h0.symm
  have e1 : x1 = j := Fin.ext h1.symm
  pointwise [k0_pay4]
  rw [e0, e1]
theorem u_v421_at (I : In Ideal) (r : Fin 256) : u_v421 I (ix2 r 0) = (I.ds : FVec Ideal S1024x1 .f32) (ix2 ⟨512 + r, by omega⟩ 0) := by
  unfold u_v421
  pointwise
theorem u_v415_at (I : In Ideal) (r : Fin 256) : u_v415 I (ix3 0 r 0) = lrow I ⟨512 + r, by omega⟩ := by
  unfold u_v415 lrow
  rw [dif_neg (by simp only []; omega)]
  pointwise
  try (refine congrArg _ ?_; idx_ext)
theorem u_v444_at (I : In Ideal) (r : Fin 256) (j : Fin 512) : u_v444 I (ix2 r j) = SE I ⟨768 + r, by omega⟩ j := by
  unfold u_v444 SE
  pointwise
  canon_tiles x h
  obtain ⟨x0, x1, rfl⟩ : ∃ x0 x1, x = ix2 x0 x1 := ⟨x 0, x 1, eq_ix2 x⟩
  have e0 : x0 = ⟨768 + r, by omega⟩ := Fin.ext h0.symm
  have e1 : x1 = j := Fin.ext h1.symm
  pointwise [k0_pay3, k0_pay2]
  rw [e0, e1]
theorem u_v452_at (I : In Ideal) (r : Fin 256) (j : Fin 512) : u_v452 I (ix2 r j) = VE I ⟨768 + r, by omega⟩ j := by
  unfold u_v452 VE
  pointwise
  canon_tiles x h
  obtain ⟨x0, x1, rfl⟩ : ∃ x0 x1, x = ix2 x0 x1 := ⟨x 0, x 1, eq_ix2 x⟩
  have e0 : x0 = ⟨768 + r, by omega⟩ := Fin.ext h0.symm
  have e1 : x1 = j := Fin.ext h1.symm
  pointwise [k0_pay4]
  rw [e0, e1]
theorem u_v453_at (I : In Ideal) (r : Fin 256) : u_v453 I (ix2 r 0) = (I.ds : FVec Ideal S1024x1 .f32) (ix2 ⟨768 + r, by omega⟩ 0) := by
  unfold u_v453
  pointwise
theorem u_v447_at (I : In Ideal) (r : Fin 256) : u_v447 I (ix3 0 r 0) = lrow I ⟨768 + r, by omega⟩ := by
  unfold u_v447 lrow
  rw [dif_neg (by simp only []; omega)]
  pointwise
  try (refine congrArg _ ?_; idx_ext)
theorem w_v107_at (I : In Ideal) (r : Fin 256) (j : Fin 512) : w_v107 I (ix2 r j) = SE I ⟨r, by omega⟩ j := by
  unfold w_v107 SE
  pointwise
  canon_tiles x h
  obtain ⟨x0, x1, rfl⟩ : ∃ x0 x1, x = ix2 x0 x1 := ⟨x 0, x 1, eq_ix2 x⟩
  have e0 : x0 = ⟨r, by omega⟩ := Fin.ext h0.symm
  have e1 : x1 = j := Fin.ext h1.symm
  pointwise [k0_pay92, k0_pay91]
  rw [e0, e1]
theorem w_v122_at (I : In Ideal) (r : Fin 256) (j : Fin 512) : w_v122 I (ix2 r j) = VE I ⟨r, by omega⟩ j := by
  unfold w_v122 VE
  pointwise
  canon_tiles x h
  obtain ⟨x0, x1, rfl⟩ : ∃ x0 x1, x = ix2 x0 x1 := ⟨x 0, x 1, eq_ix2 x⟩
  have e0 : x0 = ⟨r, by omega⟩ := Fin.ext h0.symm
  have e1 : x1 = j := Fin.ext h1.symm
  pointwise [k0_pay93]
  rw [e0, e1]
theorem w_v123_at (I : In Ideal) (r : Fin 256) : w_v123 I (ix2 r 0) = (I.ds : FVec Ideal S1024x1 .f32) (ix2 ⟨r, by omega⟩ 0) := by
  unfold w_v123
  pointwise
theorem w_v117_at (I : In Ideal) (r : Fin 256) : w_v117 I (ix3 0 r 0) = lrow I ⟨r, by omega⟩ := by
  unfold w_v117 lrow
  rw [dif_pos (by simp only []; omega)]
  pointwise
  try (refine congrArg _ ?_; idx_ext)
theorem w_v146_at (I : In Ideal) (r : Fin 256) (j : Fin 512) : w_v146 I (ix2 r j) = SE I ⟨256 + r, by omega⟩ j := by
  unfold w_v146 SE
  pointwise
  canon_tiles x h
  obtain ⟨x0, x1, rfl⟩ : ∃ x0 x1, x = ix2 x0 x1 := ⟨x 0, x 1, eq_ix2 x⟩
  have e0 : x0 = ⟨256 + r, by omega⟩ := Fin.ext h0.symm
  have e1 : x1 = j := Fin.ext h1.symm
  pointwise [k0_pay92, k0_pay91]
  rw [e0, e1]
theorem w_v161_at (I : In Ideal) (r : Fin 256) (j : Fin 512) : w_v161 I (ix2 r j) = VE I ⟨256 + r, by omega⟩ j := by
  unfold w_v161 VE
  pointwise
  canon_tiles x h
  obtain ⟨x0, x1, rfl⟩ : ∃ x0 x1, x = ix2 x0 x1 := ⟨x 0, x 1, eq_ix2 x⟩
  have e0 : x0 = ⟨256 + r, by omega⟩ := Fin.ext h0.symm
  have e1 : x1 = j := Fin.ext h1.symm
  pointwise [k0_pay93]
  rw [e0, e1]
theorem w_v162_at (I : In Ideal) (r : Fin 256) : w_v162 I (ix2 r 0) = (I.ds : FVec Ideal S1024x1 .f32) (ix2 ⟨256 + r, by omega⟩ 0) := by
  unfold w_v162
  pointwise
theorem w_v156_at (I : In Ideal) (r : Fin 256) : w_v156 I (ix3 0 r 0) = lrow I ⟨256 + r, by omega⟩ := by
  unfold w_v156 lrow
  rw [dif_pos (by simp only []; omega)]
  pointwise
  try (refine congrArg _ ?_; idx_ext)
theorem w_v197_at (I : In Ideal) (r : Fin 256) (j : Fin 512) : w_v197 I (ix2 r j) = SE I ⟨512 + r, by omega⟩ j := by
  unfold w_v197 SE
  pointwise
  canon_tiles x h
  obtain ⟨x0, x1, rfl⟩ : ∃ x0 x1, x = ix2 x0 x1 := ⟨x 0, x 1, eq_ix2 x⟩
  have e0 : x0 = ⟨512 + r, by omega⟩ := Fin.ext h0.symm
  have e1 : x1 = j := Fin.ext h1.symm
  pointwise [k0_pay92, k0_pay91]
  rw [e0, e1]
theorem w_v212_at (I : In Ideal) (r : Fin 256) (j : Fin 512) : w_v212 I (ix2 r j) = VE I ⟨512 + r, by omega⟩ j := by
  unfold w_v212 VE
  pointwise
  canon_tiles x h
  obtain ⟨x0, x1, rfl⟩ : ∃ x0 x1, x = ix2 x0 x1 := ⟨x 0, x 1, eq_ix2 x⟩
  have e0 : x0 = ⟨512 + r, by omega⟩ := Fin.ext h0.symm
  have e1 : x1 = j := Fin.ext h1.symm
  pointwise [k0_pay93]
  rw [e0, e1]
theorem w_v213_at (I : In Ideal) (r : Fin 256) : w_v213 I (ix2 r 0) = (I.ds : FVec Ideal S1024x1 .f32) (ix2 ⟨512 + r, by omega⟩ 0) := by
  unfold w_v213
  pointwise
theorem w_v207_at (I : In Ideal) (r : Fin 256) : w_v207 I (ix3 0 r 0) = lrow I ⟨512 + r, by omega⟩ := by
  unfold w_v207 lrow
  rw [dif_neg (by simp only []; omega)]
  pointwise
  try (refine congrArg _ ?_; idx_ext)
theorem w_v236_at (I : In Ideal) (r : Fin 256) (j : Fin 512) : w_v236 I (ix2 r j) = SE I ⟨768 + r, by omega⟩ j := by
  unfold w_v236 SE
  pointwise
  canon_tiles x h
  obtain ⟨x0, x1, rfl⟩ : ∃ x0 x1, x = ix2 x0 x1 := ⟨x 0, x 1, eq_ix2 x⟩
  have e0 : x0 = ⟨768 + r, by omega⟩ := Fin.ext h0.symm
  have e1 : x1 = j := Fin.ext h1.symm
  pointwise [k0_pay92, k0_pay91]
  rw [e0, e1]
theorem w_v251_at (I : In Ideal) (r : Fin 256) (j : Fin 512) : w_v251 I (ix2 r j) = VE I ⟨768 + r, by omega⟩ j := by
  unfold w_v251 VE
  pointwise
  canon_tiles x h
  obtain ⟨x0, x1, rfl⟩ : ∃ x0 x1, x = ix2 x0 x1 := ⟨x 0, x 1, eq_ix2 x⟩
  have e0 : x0 = ⟨768 + r, by omega⟩ := Fin.ext h0.symm
  have e1 : x1 = j := Fin.ext h1.symm
  pointwise [k0_pay93]
  rw [e0, e1]
theorem w_v252_at (I : In Ideal) (r : Fin 256) : w_v252 I (ix2 r 0) = (I.ds : FVec Ideal S1024x1 .f32) (ix2 ⟨768 + r, by omega⟩ 0) := by
  unfold w_v252
  pointwise
theorem w_v246_at (I : In Ideal) (r : Fin 256) : w_v246 I (ix3 0 r 0) = lrow I ⟨768 + r, by omega⟩ := by
  unfold w_v246 lrow
  rw [dif_neg (by simp only []; omega)]
  pointwise
  try (refine congrArg _ ?_; idx_ext)

/-- The masked chunk's words: the distances of a strip, and its first row. -/
def Msk (I : In Ideal) : Prop := I.rel = k0_pay84 ∧ I.a88 = Scalar.muli I.a1 512#32
def PM (I : In Ideal) (x : Fin 1024) (j : Fin 512) : EReal := if (j : ℕ) ≤ (x : ℕ) % 512 then PE I x j else 0
def DM (I : In Ideal) (x : Fin 1024) (j : Fin 512) : EReal := PM I x j * (VE I x j - (I.ds : FVec Ideal S1024x1 .f32) (ix2 x 0))

theorem sge_bit (a : BitVec 32) (r : Fin 256) (j : Fin 512) (st : BitVec 32) (s : ℕ) (hs : st = BitVec.ofNat 32 s) (h : s ≤ 256) :
    IntOp.cmpi CmpIPredicate.sge (k0_pay84 (ix2 r j)) (Scalar.subi a (Scalar.addi a st)) = if (j : ℕ) ≤ s + r then 1#1 else 0#1 := by
  pointwise [k0_pay84]
  have e : Scalar.subi a (Scalar.addi a st) = - st := by
    show a - (a + st) = -st
    bv_omega
  rw [e]; clear e
  have hr := r.isLt
  have hj := j.isLt
  have h1 : (BitVec.ofNat 32 (r : ℕ) - BitVec.ofNat 32 (j : ℕ)).toInt = (r : ℤ) - (j : ℤ) := by
    rw [BitVec.toInt_sub, BitVec.toInt_ofNat', BitVec.toInt_ofNat']
    simp [Int.bmod]; omega
  have h2 : (-st).toInt = -(s : ℤ) := by
    subst hs
    rw [BitVec.toInt_neg, BitVec.toInt_ofNat']
    simp [Int.bmod]; omega
  show BitVec.ofBool ((-st).sle (BitVec.ofNat 32 (r : ℕ) - BitVec.ofNat 32 (j : ℕ))) = _
  rw [BitVec.sle_eq_decide, h1, h2]
  by_cases hc : (j : ℕ) ≤ s + r
  · rw [if_pos hc, decide_eq_true (by omega)]; rfl
  · rw [if_neg hc, decide_eq_false (by omega)]; rfl

theorem exp_mask (b : BitVec 1) (s l : EReal) :
    Ideal.exp (Scalar.select b s (Named.named (F := Ideal) κ "mask" (φ := .f32) 4048155338#32) - l) = if b = 1#1 then Ideal.exp (s - l) else 0 := by
  have hn : (Named.named (F := Ideal) κ "mask" (φ := .f32) 4048155338#32 : EReal) = ⊥ := rfl
  rw [hn]
  by_cases h : b = 1#1
  · rw [if_pos h, h]; rfl
  · rw [if_neg h]
    have h0 : b = 0#1 := by revert h; revert b; decide
    rw [h0]
    show Ideal.exp (⊥ - l) = 0
    rw [EReal.bot_sub]; rfl

/-- A strip of the masked chunk. -/
theorem mask_strip (I : In Ideal) (hI : Msk I) (r : Fin 256) (j : Fin 512) (x : Fin 1024) (st : BitVec 32) (s : ℕ) (hs : st = BitVec.ofNat 32 s)
    (h : s ≤ 256) (hx : (x : ℕ) % 512 = s + r) :
    Ideal.exp (Scalar.select (IntOp.cmpi CmpIPredicate.sge (I.rel (ix2 r j)) (Scalar.subi I.a88 (Scalar.addi (Scalar.muli I.a1 512#32) st)))
      (SE I x j - crow I x j) (Named.named (F := Ideal) κ "mask" (φ := .f32) 4048155338#32) - lrow I x) = PM I x j := by
  rw [exp_mask, hI.1, hI.2, sge_bit _ r j st s hs h, PM, hx, PE]
  by_cases hc : (j : ℕ) ≤ s + r
  · simp only [if_pos hc, ↓reduceIte]
  · simp only [if_neg hc]; rfl

theorem mask_strip0 (I : In Ideal) (hI : Msk I) (r : Fin 256) (j : Fin 512) (x : Fin 1024) (hx : (x : ℕ) % 512 = r) :
    Ideal.exp (Scalar.select (IntOp.cmpi CmpIPredicate.sge (I.rel (ix2 r j)) (Scalar.subi I.a88 (Scalar.addi (Scalar.muli I.a1 512#32) 0#32)))
      (SE I x j - crow I x j) (Named.named (F := Ideal) κ "mask" (φ := .f32) 4048155338#32) - lrow I x) = PM I x j :=
  mask_strip I hI r j x 0#32 0 rfl (by omega) (by omega)
theorem mask_strip1 (I : In Ideal) (hI : Msk I) (r : Fin 256) (j : Fin 512) (x : Fin 1024) (hx : (x : ℕ) % 512 = 256 + r) :
    Ideal.exp (Scalar.select (IntOp.cmpi CmpIPredicate.sge (I.rel (ix2 r j)) (Scalar.subi I.a88 (Scalar.addi (Scalar.muli I.a1 512#32) 256#32)))
      (SE I x j - crow I x j) (Named.named (F := Ideal) κ "mask" (φ := .f32) 4048155338#32) - lrow I x) = PM I x j :=
  mask_strip I hI r j x 256#32 256 rfl (by omega) (by omega)

theorem crow_lo (I : In Ideal) (x : Fin 1024) (j : Fin 512) (h : (x : ℕ) < 512) : (I.ca : FVec Ideal S1x1x1x512 .f32) (ix4 0 0 0 j) = crow I x j := (if_pos h).symm
theorem crow_hi (I : In Ideal) (x : Fin 1024) (j : Fin 512) (h : ¬ (x : ℕ) < 512) : (I.cb : FVec Ideal S1x1x1x512 .f32) (ix4 0 0 0 j) = crow I x j := (if_neg h).symm

theorem ov_in {s : Shape} {e : EltTy} (o size : Fin s.rank → ℕ) (h) (X : Vec Ideal s e) (v) (L) (z : s.Idx) (x : (Rect.unit (s := s) o size h).shape.Idx)
    (hx : ∀ a, (z a : ℕ) = o a + x a) : ov (F := Ideal) (⟨Rect.unit (s := s) o size h, v⟩ :: L) X z = v x := by
  have hz : z = (Rect.unit (s := s) o size h).emb x := by
    funext a; apply Fin.ext; rw [hx a]; simp
  rw [hz, ov]; exact Rect.overlay_emb _ _ _ x
theorem ov_out {s : Shape} {e : EltTy} (o size : Fin s.rank → ℕ) (h) (X : Vec Ideal s e) (v) (L) (z : s.Idx) (a : Fin s.rank)
    (hz : ¬ (o a ≤ (z a : ℕ) ∧ (z a : ℕ) < o a + size a)) : ov (F := Ideal) (⟨Rect.unit (s := s) o size h, v⟩ :: L) X z = ov L X z := by
  rw [ov]; exact Rect.overlay_of_not_mem _ _ _ fun hm => hz ((Rect.mem_set_unit (off := o) (size := size) (inb := h) |>.mp hm) a)

theorem u_v494_at (I : In Ideal) (x : Fin 1024) (j : Fin 512) : u_v494 I (ix2 x j) = PE I x j := by
  unfold u_v494
  pointwise
  canon_tiles y h
  · obtain ⟨y0, y1, rfl⟩ : ∃ y0 y1, y = ix2 y0 y1 := ⟨y 0, y 1, eq_ix2 y⟩
    have e0 : x = ⟨768 + y0, by omega⟩ := Fin.ext h0
    have e1 : j = y1 := Fin.ext h1
    rw [e0, e1]; clear h0 h1 e0 e1
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_hi I ⟨768 + y0, by omega⟩ y1 (by simp only []; omega)]
    rfl
  · obtain ⟨y0, y1, rfl⟩ : ∃ y0 y1, y = ix2 y0 y1 := ⟨y 0, y 1, eq_ix2 y⟩
    have e0 : x = ⟨512 + y0, by omega⟩ := Fin.ext h0
    have e1 : j = y1 := Fin.ext h1
    rw [e0, e1]; clear h0 h1 e0 e1
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_hi I ⟨512 + y0, by omega⟩ y1 (by simp only []; omega)]
    rfl
  · obtain ⟨y0, y1, rfl⟩ : ∃ y0 y1, y = ix2 y0 y1 := ⟨y 0, y 1, eq_ix2 y⟩
    have e0 : x = ⟨256 + y0, by omega⟩ := Fin.ext h0
    have e1 : j = y1 := Fin.ext h1
    rw [e0, e1]; clear h0 h1 e0 e1
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_lo I ⟨256 + y0, by omega⟩ y1 (by simp only []; omega)]
    rfl
  · obtain ⟨y0, y1, rfl⟩ : ∃ y0 y1, y = ix2 y0 y1 := ⟨y 0, y 1, eq_ix2 y⟩
    have e0 : x = ⟨y0, by omega⟩ := Fin.ext h0
    have e1 : j = y1 := Fin.ext h1
    rw [e0, e1]; clear h0 h1 e0 e1
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_lo I ⟨y0, by omega⟩ y1 (by simp only []; omega)]
    rfl

theorem u_v487_at (I : In Ideal) (x : Fin 1024) (j : Fin 512) : u_v487 I (ix2 x j) = DE I x j := by
  unfold u_v487
  pointwise
  canon_tiles y h
  · obtain ⟨y0, y1, rfl⟩ : ∃ y0 y1, y = ix2 y0 y1 := ⟨y 0, y 1, eq_ix2 y⟩
    have e0 : x = ⟨768 + y0, by omega⟩ := Fin.ext h0
    have e1 : j = y1 := Fin.ext h1
    rw [e0, e1]; clear h0 h1 e0 e1
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_hi I ⟨768 + y0, by omega⟩ y1 (by simp only []; omega)]
    rfl
  · obtain ⟨y0, y1, rfl⟩ : ∃ y0 y1, y = ix2 y0 y1 := ⟨y 0, y 1, eq_ix2 y⟩
    have e0 : x = ⟨512 + y0, by omega⟩ := Fin.ext h0
    have e1 : j = y1 := Fin.ext h1
    rw [e0, e1]; clear h0 h1 e0 e1
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_hi I ⟨512 + y0, by omega⟩ y1 (by simp only []; omega)]
    rfl
  · obtain ⟨y0, y1, rfl⟩ : ∃ y0 y1, y = ix2 y0 y1 := ⟨y 0, y 1, eq_ix2 y⟩
    have e0 : x = ⟨256 + y0, by omega⟩ := Fin.ext h0
    have e1 : j = y1 := Fin.ext h1
    rw [e0, e1]; clear h0 h1 e0 e1
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_lo I ⟨256 + y0, by omega⟩ y1 (by simp only []; omega)]
    rfl
  · obtain ⟨y0, y1, rfl⟩ : ∃ y0 y1, y = ix2 y0 y1 := ⟨y 0, y 1, eq_ix2 y⟩
    have e0 : x = ⟨y0, by omega⟩ := Fin.ext h0
    have e1 : j = y1 := Fin.ext h1
    rw [e0, e1]; clear h0 h1 e0 e1
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_lo I ⟨y0, by omega⟩ y1 (by simp only []; omega)]
    rfl

theorem u_v502_at (I : In Ideal) (x : Fin 1024) (j : Fin 512) : u_v502 I (ix2 x j) = DE I x j := by
  unfold u_v502
  pointwise
  canon_tiles y h
  · obtain ⟨y0, y1, rfl⟩ : ∃ y0 y1, y = ix2 y0 y1 := ⟨y 0, y 1, eq_ix2 y⟩
    have e0 : x = ⟨768 + y0, by omega⟩ := Fin.ext h0
    have e1 : j = y1 := Fin.ext h1
    rw [e0, e1]; clear h0 h1 e0 e1
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_hi I ⟨768 + y0, by omega⟩ y1 (by simp only []; omega)]
    rfl
  · obtain ⟨y0, y1, rfl⟩ : ∃ y0 y1, y = ix2 y0 y1 := ⟨y 0, y 1, eq_ix2 y⟩
    have e0 : x = ⟨512 + y0, by omega⟩ := Fin.ext h0
    have e1 : j = y1 := Fin.ext h1
    rw [e0, e1]; clear h0 h1 e0 e1
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_hi I ⟨512 + y0, by omega⟩ y1 (by simp only []; omega)]
    rfl
  · obtain ⟨y0, y1, rfl⟩ : ∃ y0 y1, y = ix2 y0 y1 := ⟨y 0, y 1, eq_ix2 y⟩
    have e0 : x = ⟨256 + y0, by omega⟩ := Fin.ext h0
    have e1 : j = y1 := Fin.ext h1
    rw [e0, e1]; clear h0 h1 e0 e1
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_lo I ⟨256 + y0, by omega⟩ y1 (by simp only []; omega)]
    rfl
  · obtain ⟨y0, y1, rfl⟩ : ∃ y0 y1, y = ix2 y0 y1 := ⟨y 0, y 1, eq_ix2 y⟩
    have e0 : x = ⟨y0, by omega⟩ := Fin.ext h0
    have e1 : j = y1 := Fin.ext h1
    rw [e0, e1]; clear h0 h1 e0 e1
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_lo I ⟨y0, by omega⟩ y1 (by simp only []; omega)]
    rfl

theorem w_v293_at (I : In Ideal) (hI : Msk I) (x : Fin 1024) (j : Fin 512) : w_v293 I (ix2 x j) = PM I x j := by
  unfold w_v293
  pointwise
  canon_tiles y h
  · obtain ⟨y0, y1, rfl⟩ : ∃ y0 y1, y = ix2 y0 y1 := ⟨y 0, y 1, eq_ix2 y⟩
    have e0 : x = ⟨768 + y0, by omega⟩ := Fin.ext h0
    have e1 : j = y1 := Fin.ext h1
    rw [e0, e1]; clear h0 h1 e0 e1
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_hi I ⟨768 + y0, by omega⟩ y1 (by simp only []; omega)]
    rw [mask_strip1 I hI _ _ _ (by simp only []; omega)]
  · obtain ⟨y0, y1, rfl⟩ : ∃ y0 y1, y = ix2 y0 y1 := ⟨y 0, y 1, eq_ix2 y⟩
    have e0 : x = ⟨512 + y0, by omega⟩ := Fin.ext h0
    have e1 : j = y1 := Fin.ext h1
    rw [e0, e1]; clear h0 h1 e0 e1
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_hi I ⟨512 + y0, by omega⟩ y1 (by simp only []; omega)]
    rw [mask_strip0 I hI _ _ _ (by simp only []; omega)]
  · obtain ⟨y0, y1, rfl⟩ : ∃ y0 y1, y = ix2 y0 y1 := ⟨y 0, y 1, eq_ix2 y⟩
    have e0 : x = ⟨256 + y0, by omega⟩ := Fin.ext h0
    have e1 : j = y1 := Fin.ext h1
    rw [e0, e1]; clear h0 h1 e0 e1
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_lo I ⟨256 + y0, by omega⟩ y1 (by simp only []; omega)]
    rw [mask_strip1 I hI _ _ _ (by simp only []; omega)]
  · obtain ⟨y0, y1, rfl⟩ : ∃ y0 y1, y = ix2 y0 y1 := ⟨y 0, y 1, eq_ix2 y⟩
    have e0 : x = ⟨y0, by omega⟩ := Fin.ext h0
    have e1 : j = y1 := Fin.ext h1
    rw [e0, e1]; clear h0 h1 e0 e1
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_lo I ⟨y0, by omega⟩ y1 (by simp only []; omega)]
    rw [mask_strip0 I hI _ _ _ (by simp only []; omega)]

theorem w_v286_at (I : In Ideal) (hI : Msk I) (x : Fin 1024) (j : Fin 512) : w_v286 I (ix2 x j) = DM I x j := by
  unfold w_v286
  pointwise
  canon_tiles y h
  · obtain ⟨y0, y1, rfl⟩ : ∃ y0 y1, y = ix2 y0 y1 := ⟨y 0, y 1, eq_ix2 y⟩
    have e0 : x = ⟨768 + y0, by omega⟩ := Fin.ext h0
    have e1 : j = y1 := Fin.ext h1
    rw [e0, e1]; clear h0 h1 e0 e1
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_hi I ⟨768 + y0, by omega⟩ y1 (by simp only []; omega)]
    rw [mask_strip1 I hI _ _ _ (by simp only []; omega)]
    rfl
  · obtain ⟨y0, y1, rfl⟩ : ∃ y0 y1, y = ix2 y0 y1 := ⟨y 0, y 1, eq_ix2 y⟩
    have e0 : x = ⟨512 + y0, by omega⟩ := Fin.ext h0
    have e1 : j = y1 := Fin.ext h1
    rw [e0, e1]; clear h0 h1 e0 e1
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_hi I ⟨512 + y0, by omega⟩ y1 (by simp only []; omega)]
    rw [mask_strip0 I hI _ _ _ (by simp only []; omega)]
    rfl
  · obtain ⟨y0, y1, rfl⟩ : ∃ y0 y1, y = ix2 y0 y1 := ⟨y 0, y 1, eq_ix2 y⟩
    have e0 : x = ⟨256 + y0, by omega⟩ := Fin.ext h0
    have e1 : j = y1 := Fin.ext h1
    rw [e0, e1]; clear h0 h1 e0 e1
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_lo I ⟨256 + y0, by omega⟩ y1 (by simp only []; omega)]
    rw [mask_strip1 I hI _ _ _ (by simp only []; omega)]
    rfl
  · obtain ⟨y0, y1, rfl⟩ : ∃ y0 y1, y = ix2 y0 y1 := ⟨y 0, y 1, eq_ix2 y⟩
    have e0 : x = ⟨y0, by omega⟩ := Fin.ext h0
    have e1 : j = y1 := Fin.ext h1
    rw [e0, e1]; clear h0 h1 e0 e1
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_lo I ⟨y0, by omega⟩ y1 (by simp only []; omega)]
    rw [mask_strip0 I hI _ _ _ (by simp only []; omega)]
    rfl

theorem w_v301_at (I : In Ideal) (hI : Msk I) (x : Fin 1024) (j : Fin 512) : w_v301 I (ix2 x j) = DM I x j := by
  unfold w_v301
  pointwise
  canon_tiles y h
  · obtain ⟨y0, y1, rfl⟩ : ∃ y0 y1, y = ix2 y0 y1 := ⟨y 0, y 1, eq_ix2 y⟩
    have e0 : x = ⟨768 + y0, by omega⟩ := Fin.ext h0
    have e1 : j = y1 := Fin.ext h1
    rw [e0, e1]; clear h0 h1 e0 e1
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_hi I ⟨768 + y0, by omega⟩ y1 (by simp only []; omega)]
    rw [mask_strip1 I hI _ _ _ (by simp only []; omega)]
    rfl
  · obtain ⟨y0, y1, rfl⟩ : ∃ y0 y1, y = ix2 y0 y1 := ⟨y 0, y 1, eq_ix2 y⟩
    have e0 : x = ⟨512 + y0, by omega⟩ := Fin.ext h0
    have e1 : j = y1 := Fin.ext h1
    rw [e0, e1]; clear h0 h1 e0 e1
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_hi I ⟨512 + y0, by omega⟩ y1 (by simp only []; omega)]
    rw [mask_strip0 I hI _ _ _ (by simp only []; omega)]
    rfl
  · obtain ⟨y0, y1, rfl⟩ : ∃ y0 y1, y = ix2 y0 y1 := ⟨y 0, y 1, eq_ix2 y⟩
    have e0 : x = ⟨256 + y0, by omega⟩ := Fin.ext h0
    have e1 : j = y1 := Fin.ext h1
    rw [e0, e1]; clear h0 h1 e0 e1
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_lo I ⟨256 + y0, by omega⟩ y1 (by simp only []; omega)]
    rw [mask_strip1 I hI _ _ _ (by simp only []; omega)]
    rfl
  · obtain ⟨y0, y1, rfl⟩ : ∃ y0 y1, y = ix2 y0 y1 := ⟨y 0, y 1, eq_ix2 y⟩
    have e0 : x = ⟨y0, by omega⟩ := Fin.ext h0
    have e1 : j = y1 := Fin.ext h1
    rw [e0, e1]; clear h0 h1 e0 e1
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at, crow_lo I ⟨y0, by omega⟩ y1 (by simp only []; omega)]
    rw [mask_strip0 I hI _ _ _ (by simp only []; omega)]
    rfl

theorem uD_lo (I : In Ideal) (x : Fin 1024) (j : Fin 512) (h : (x : ℕ) < 512) :
    Ideal.exp (SE I x j - (I.ca : FVec Ideal S1x1x1x512 .f32) (ix4 0 0 0 j) - lrow I x) * (VE I x j - (I.ds : FVec Ideal S1024x1 .f32) (ix2 x 0)) = DE I x j := by
  rw [crow_lo I x j h]; rfl

theorem uD_hi (I : In Ideal) (x : Fin 1024) (j : Fin 512) (h : ¬ (x : ℕ) < 512) :
    Ideal.exp (SE I x j - (I.cb : FVec Ideal S1x1x1x512 .f32) (ix4 0 0 0 j) - lrow I x) * (VE I x j - (I.ds : FVec Ideal S1024x1 .f32) (ix2 x 0)) = DE I x j := by
  rw [crow_hi I x j h]; rfl

theorem wD_lo0 (I : In Ideal) (hI : Msk I) (r : Fin 256) (x : Fin 1024) (j : Fin 512) (h : (x : ℕ) < 512) (hx : (x : ℕ) % 512 = r) :
    Ideal.exp (Scalar.select (IntOp.cmpi CmpIPredicate.sge (I.rel (ix2 r j)) (Scalar.subi I.a88 (Scalar.addi (Scalar.muli I.a1 512#32) 0#32)))
      (SE I x j - (I.ca : FVec Ideal S1x1x1x512 .f32) (ix4 0 0 0 j)) (Named.named (F := Ideal) κ "mask" (φ := .f32) 4048155338#32) - lrow I x)
      * (VE I x j - (I.ds : FVec Ideal S1024x1 .f32) (ix2 x 0)) = DM I x j := by
  rw [crow_lo I x j h, mask_strip0 I hI r j x hx]; rfl

theorem wD_lo1 (I : In Ideal) (hI : Msk I) (r : Fin 256) (x : Fin 1024) (j : Fin 512) (h : (x : ℕ) < 512) (hx : (x : ℕ) % 512 = 256 + r) :
    Ideal.exp (Scalar.select (IntOp.cmpi CmpIPredicate.sge (I.rel (ix2 r j)) (Scalar.subi I.a88 (Scalar.addi (Scalar.muli I.a1 512#32) 256#32)))
      (SE I x j - (I.ca : FVec Ideal S1x1x1x512 .f32) (ix4 0 0 0 j)) (Named.named (F := Ideal) κ "mask" (φ := .f32) 4048155338#32) - lrow I x)
      * (VE I x j - (I.ds : FVec Ideal S1024x1 .f32) (ix2 x 0)) = DM I x j := by
  rw [crow_lo I x j h, mask_strip1 I hI r j x hx]; rfl

theorem wD_hi0 (I : In Ideal) (hI : Msk I) (r : Fin 256) (x : Fin 1024) (j : Fin 512) (h : ¬ (x : ℕ) < 512) (hx : (x : ℕ) % 512 = r) :
    Ideal.exp (Scalar.select (IntOp.cmpi CmpIPredicate.sge (I.rel (ix2 r j)) (Scalar.subi I.a88 (Scalar.addi (Scalar.muli I.a1 512#32) 0#32)))
      (SE I x j - (I.cb : FVec Ideal S1x1x1x512 .f32) (ix4 0 0 0 j)) (Named.named (F := Ideal) κ "mask" (φ := .f32) 4048155338#32) - lrow I x)
      * (VE I x j - (I.ds : FVec Ideal S1024x1 .f32) (ix2 x 0)) = DM I x j := by
  rw [crow_hi I x j h, mask_strip0 I hI r j x hx]; rfl

theorem wD_hi1 (I : In Ideal) (hI : Msk I) (r : Fin 256) (x : Fin 1024) (j : Fin 512) (h : ¬ (x : ℕ) < 512) (hx : (x : ℕ) % 512 = 256 + r) :
    Ideal.exp (Scalar.select (IntOp.cmpi CmpIPredicate.sge (I.rel (ix2 r j)) (Scalar.subi I.a88 (Scalar.addi (Scalar.muli I.a1 512#32) 256#32)))
      (SE I x j - (I.cb : FVec Ideal S1x1x1x512 .f32) (ix4 0 0 0 j)) (Named.named (F := Ideal) κ "mask" (φ := .f32) 4048155338#32) - lrow I x)
      * (VE I x j - (I.ds : FVec Ideal S1024x1 .f32) (ix2 x 0)) = DM I x j := by
  rw [crow_hi I x j h, mask_strip1 I hI r j x hx]; rfl

theorem u_n12_in (I : In Ideal) (o ho) (X : Vec Ideal S2048x128 .f32) (kc : ℕ) (hk : o = ![512 * kc, 0]) (j : Fin 512) (l : Fin 128) (hy : 512 * kc + j < 2048) :
    u_n12 I o ho X (ix2 ⟨512 * kc + j, hy⟩ l) = (X : FVec Ideal S2048x128 .f32) (ix2 ⟨512 * kc + j, hy⟩ l) + ∑ x : Fin 1024, DE I x j * I.q (ix2 x l) := by
  subst hk
  unfold u_n12
  rw [ov_in _ _ _ _ _ _ _ (ix2 j l) (by intro a; fin_cases a <;> simp)]
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v487_at I ]

theorem u_n12_out (I : In Ideal) (o ho) (X : Vec Ideal S2048x128 .f32) (kc : ℕ) (hk : o = ![512 * kc, 0]) (y : Fin 2048) (l : Fin 128) (hy : (y : ℕ) / 512 ≠ kc) :
    u_n12 I o ho X (ix2 y l) = (X : FVec Ideal S2048x128 .f32) (ix2 y l) := by
  subst hk
  unfold u_n12
  rw [ov_out _ _ _ _ _ _ _ 0 (by simp; omega)]; rfl

theorem u_n24_in (I : In Ideal) (o ho) (X : Vec Ideal S2048x128 .f32) (kc : ℕ) (hk : o = ![512 * kc, 0]) (j : Fin 512) (l : Fin 128) (hy : 512 * kc + j < 2048) :
    u_n24 I o ho X (ix2 ⟨512 * kc + j, hy⟩ l) = (X : FVec Ideal S2048x128 .f32) (ix2 ⟨512 * kc + j, hy⟩ l) + ∑ x : Fin 1024, PE I x j * I.d (ix2 x l) := by
  subst hk
  unfold u_n24
  rw [ov_in _ _ _ _ _ _ _ (ix2 j l) (by intro a; fin_cases a <;> simp)]
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v494_at I ]

theorem u_n24_out (I : In Ideal) (o ho) (X : Vec Ideal S2048x128 .f32) (kc : ℕ) (hk : o = ![512 * kc, 0]) (y : Fin 2048) (l : Fin 128) (hy : (y : ℕ) / 512 ≠ kc) :
    u_n24 I o ho X (ix2 y l) = (X : FVec Ideal S2048x128 .f32) (ix2 y l) := by
  subst hk
  unfold u_n24
  rw [ov_out _ _ _ _ _ _ _ 0 (by simp; omega)]; rfl

theorem u_n14_in (I : In Ideal) (o : Fin S1x4x1x512.rank → ℕ) (ho) (X : Vec Ideal S1x4x1x512 .f32) (kc : Fin 4) (hk : o = ![0, (kc : ℕ), 0, 0]) (j : Fin 512) :
    u_n14 I o ho X (ix4 0 kc 0 j) = (X : FVec Ideal S1x4x1x512 .f32) (ix4 0 kc 0 j) - (∑ r : Fin 256, DE I ⟨r, by omega⟩ j + ∑ r : Fin 256, DE I ⟨256 + r, by omega⟩ j) := by
  subst hk
  unfold u_n14
  rw [ov_in _ _ _ _ _ _ _ (ix4 0 0 0 j) (by intro a; fin_cases a <;> simp)]
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at]
  refine congrArg₂ (· - ·) rfl (congrArg₂ (· + ·) (Finset.sum_congr rfl fun x _ => ?_) (Finset.sum_congr rfl fun x _ => ?_))
  · exact uD_lo I ⟨x, by omega⟩ j (by simp only []; omega)
  · exact uD_lo I ⟨256 + x, by omega⟩ j (by simp only []; omega)

theorem u_n14_out (I : In Ideal) (o : Fin S1x4x1x512.rank → ℕ) (ho) (X : Vec Ideal S1x4x1x512 .f32) (kc : Fin 4) (hk : o = ![0, (kc : ℕ), 0, 0]) (a : Fin 4) (ha : a ≠ kc) (j : Fin 512) :
    u_n14 I o ho X (ix4 0 a 0 j) = (X : FVec Ideal S1x4x1x512 .f32) (ix4 0 a 0 j) := by
  subst hk
  unfold u_n14
  rw [ov_out _ _ _ _ _ _ _ 1 (by simp; omega)]; rfl

theorem u_n15_in (I : In Ideal) (o : Fin S1x4x1x512.rank → ℕ) (ho) (X : Vec Ideal S1x4x1x512 .f32) (kc : Fin 4) (hk : o = ![0, (kc : ℕ), 0, 0]) (j : Fin 512) :
    u_n15 I o ho X (ix4 0 kc 0 j) = (X : FVec Ideal S1x4x1x512 .f32) (ix4 0 kc 0 j) - (∑ r : Fin 256, DE I ⟨512 + r, by omega⟩ j + ∑ r : Fin 256, DE I ⟨768 + r, by omega⟩ j) := by
  subst hk
  unfold u_n15
  rw [ov_in _ _ _ _ _ _ _ (ix4 0 0 0 j) (by intro a; fin_cases a <;> simp)]
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at]
  refine congrArg₂ (· - ·) rfl (congrArg₂ (· + ·) (Finset.sum_congr rfl fun x _ => ?_) (Finset.sum_congr rfl fun x _ => ?_))
  · exact uD_hi I ⟨512 + x, by omega⟩ j (by simp only []; omega)
  · exact uD_hi I ⟨768 + x, by omega⟩ j (by simp only []; omega)

theorem u_n15_out (I : In Ideal) (o : Fin S1x4x1x512.rank → ℕ) (ho) (X : Vec Ideal S1x4x1x512 .f32) (kc : Fin 4) (hk : o = ![0, (kc : ℕ), 0, 0]) (a : Fin 4) (ha : a ≠ kc) (j : Fin 512) :
    u_n15 I o ho X (ix4 0 a 0 j) = (X : FVec Ideal S1x4x1x512 .f32) (ix4 0 a 0 j) := by
  subst hk
  unfold u_n15
  rw [ov_out _ _ _ _ _ _ _ 1 (by simp; omega)]; rfl

theorem u_n16_at (I : In Ideal) (X : Vec Ideal S1x512x1 .f32) (r : Fin 512) :
    u_n16 I X (ix3 0 r 0) = (X : FVec Ideal S1x512x1 .f32) (ix3 0 r 0) + ∑ j : Fin 512, DE I ⟨r, by omega⟩ j := by
  unfold u_n16
  by_cases hr : (r : ℕ) < 256
  · obtain ⟨q, hq⟩ : ∃ q : Fin 256, (r : ℕ) = q := ⟨⟨r, hr⟩, rfl⟩
    have e : r = ⟨q, by omega⟩ := Fin.ext hq
    rw [e]
    rw [ov_out _ _ _ _ _ _ _ 1 (by simp), ov_in _ _ _ _ _ _ _ (ix3 0 q 0) (by intro a; fin_cases a <;> simp)]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at]
    refine congrArg₂ (· + ·) rfl (Finset.sum_congr rfl fun j _ => ?_)
    exact (uD_lo I ⟨q, by omega⟩ j (by simp only []; omega)).trans (congrArg (DE I · j) (Fin.ext (by simp only [])))
  · obtain ⟨q, hq⟩ : ∃ q : Fin 256, (r : ℕ) = 256 + q := ⟨⟨r - 256, by omega⟩, by simp only []; omega⟩
    have e : r = ⟨256 + q, by omega⟩ := Fin.ext hq
    rw [e]
    rw [ov_in _ _ _ _ _ _ _ (ix3 0 q 0) (by intro a; fin_cases a <;> simp)]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at]
    refine congrArg₂ (· + ·) rfl (Finset.sum_congr rfl fun j _ => ?_)
    exact (uD_lo I ⟨256 + q, by omega⟩ j (by simp only []; omega)).trans (congrArg (DE I · j) (Fin.ext (by simp only []; try omega)))

theorem u_n17_at (I : In Ideal) (X : Vec Ideal S1x512x1 .f32) (r : Fin 512) :
    u_n17 I X (ix3 0 r 0) = (X : FVec Ideal S1x512x1 .f32) (ix3 0 r 0) + ∑ j : Fin 512, DE I ⟨512 + r, by omega⟩ j := by
  unfold u_n17
  by_cases hr : (r : ℕ) < 256
  · obtain ⟨q, hq⟩ : ∃ q : Fin 256, (r : ℕ) = q := ⟨⟨r, hr⟩, rfl⟩
    have e : r = ⟨q, by omega⟩ := Fin.ext hq
    rw [e]
    rw [ov_out _ _ _ _ _ _ _ 1 (by simp), ov_in _ _ _ _ _ _ _ (ix3 0 q 0) (by intro a; fin_cases a <;> simp)]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at]
    refine congrArg₂ (· + ·) rfl (Finset.sum_congr rfl fun j _ => ?_)
    exact (uD_hi I ⟨512 + q, by omega⟩ j (by simp only []; omega)).trans (congrArg (DE I · j) (Fin.ext (by simp only [])))
  · obtain ⟨q, hq⟩ : ∃ q : Fin 256, (r : ℕ) = 256 + q := ⟨⟨r - 256, by omega⟩, by simp only []; omega⟩
    have e : r = ⟨256 + q, by omega⟩ := Fin.ext hq
    rw [e]
    rw [ov_in _ _ _ _ _ _ _ (ix3 0 q 0) (by intro a; fin_cases a <;> simp)]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at]
    refine congrArg₂ (· + ·) rfl (Finset.sum_congr rfl fun j _ => ?_)
    exact (uD_hi I ⟨768 + q, by omega⟩ j (by simp only []; omega)).trans (congrArg (DE I · j) (Fin.ext (by simp only []; try omega)))

theorem u_n22_at (I : In Ideal) (X : Vec Ideal S1024x128 .f32) (x : Fin 1024) (l : Fin 128) :
    u_n22 I X (ix2 x l) = (X : FVec Ideal S1024x128 .f32) (ix2 x l) + ∑ j : Fin 512, DE I x j * (I.kb : FVec Ideal S512x128 .bf16) (ix2 j l) := by
  unfold u_n22
  rw [ov_in _ _ _ _ _ _ _ (ix2 x l) (by intro a; fin_cases a <;> simp)]
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay2, k0_pay85, k0_pay86, k0_pay87, u_v320, u_v334, u_v335, u_v348, u_v349, u_v359, u_v380, u_v384, u_v410, u_v411, u_v414, u_v435, u_v451, u_v502_at I ]

theorem w_n12_in (I : In Ideal) (hI : Msk I) (o ho) (X : Vec Ideal S2048x128 .f32) (kc : ℕ) (hk : o = ![512 * kc, 0]) (j : Fin 512) (l : Fin 128) (hy : 512 * kc + j < 2048) :
    w_n12 I o ho X (ix2 ⟨512 * kc + j, hy⟩ l) = (X : FVec Ideal S2048x128 .f32) (ix2 ⟨512 * kc + j, hy⟩ l) + ∑ x : Fin 1024, DM I x j * I.q (ix2 x l) := by
  subst hk
  unfold w_n12
  rw [ov_in _ _ _ _ _ _ _ (ix2 j l) (by intro a; fin_cases a <;> simp)]
  pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v286_at I hI ]

theorem w_n12_out (I : In Ideal) (o ho) (X : Vec Ideal S2048x128 .f32) (kc : ℕ) (hk : o = ![512 * kc, 0]) (y : Fin 2048) (l : Fin 128) (hy : (y : ℕ) / 512 ≠ kc) :
    w_n12 I o ho X (ix2 y l) = (X : FVec Ideal S2048x128 .f32) (ix2 y l) := by
  subst hk
  unfold w_n12
  rw [ov_out _ _ _ _ _ _ _ 0 (by simp; omega)]; rfl

theorem w_n24_in (I : In Ideal) (hI : Msk I) (o ho) (X : Vec Ideal S2048x128 .f32) (kc : ℕ) (hk : o = ![512 * kc, 0]) (j : Fin 512) (l : Fin 128) (hy : 512 * kc + j < 2048) :
    w_n24 I o ho X (ix2 ⟨512 * kc + j, hy⟩ l) = (X : FVec Ideal S2048x128 .f32) (ix2 ⟨512 * kc + j, hy⟩ l) + ∑ x : Fin 1024, PM I x j * I.d (ix2 x l) := by
  subst hk
  unfold w_n24
  rw [ov_in _ _ _ _ _ _ _ (ix2 j l) (by intro a; fin_cases a <;> simp)]
  pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v293_at I hI ]

theorem w_n24_out (I : In Ideal) (o ho) (X : Vec Ideal S2048x128 .f32) (kc : ℕ) (hk : o = ![512 * kc, 0]) (y : Fin 2048) (l : Fin 128) (hy : (y : ℕ) / 512 ≠ kc) :
    w_n24 I o ho X (ix2 y l) = (X : FVec Ideal S2048x128 .f32) (ix2 y l) := by
  subst hk
  unfold w_n24
  rw [ov_out _ _ _ _ _ _ _ 0 (by simp; omega)]; rfl

theorem w_n14_in (I : In Ideal) (hI : Msk I) (o : Fin S1x4x1x512.rank → ℕ) (ho) (X : Vec Ideal S1x4x1x512 .f32) (kc : Fin 4) (hk : o = ![0, (kc : ℕ), 0, 0]) (j : Fin 512) :
    w_n14 I o ho X (ix4 0 kc 0 j) = (X : FVec Ideal S1x4x1x512 .f32) (ix4 0 kc 0 j) - (∑ r : Fin 256, DM I ⟨r, by omega⟩ j + ∑ r : Fin 256, DM I ⟨256 + r, by omega⟩ j) := by
  subst hk
  unfold w_n14
  rw [ov_in _ _ _ _ _ _ _ (ix4 0 0 0 j) (by intro a; fin_cases a <;> simp)]
  pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at]
  refine congrArg₂ (· - ·) rfl (congrArg₂ (· + ·) (Finset.sum_congr rfl fun x _ => ?_) (Finset.sum_congr rfl fun x _ => ?_))
  · exact wD_lo0 I hI x ⟨x, by omega⟩ j (by simp only []; omega) (by simp only []; omega)
  · exact wD_lo1 I hI x ⟨256 + x, by omega⟩ j (by simp only []; omega) (by simp only []; omega)

theorem w_n14_out (I : In Ideal) (o : Fin S1x4x1x512.rank → ℕ) (ho) (X : Vec Ideal S1x4x1x512 .f32) (kc : Fin 4) (hk : o = ![0, (kc : ℕ), 0, 0]) (a : Fin 4) (ha : a ≠ kc) (j : Fin 512) :
    w_n14 I o ho X (ix4 0 a 0 j) = (X : FVec Ideal S1x4x1x512 .f32) (ix4 0 a 0 j) := by
  subst hk
  unfold w_n14
  rw [ov_out _ _ _ _ _ _ _ 1 (by simp; omega)]; rfl

theorem w_n15_in (I : In Ideal) (hI : Msk I) (o : Fin S1x4x1x512.rank → ℕ) (ho) (X : Vec Ideal S1x4x1x512 .f32) (kc : Fin 4) (hk : o = ![0, (kc : ℕ), 0, 0]) (j : Fin 512) :
    w_n15 I o ho X (ix4 0 kc 0 j) = (X : FVec Ideal S1x4x1x512 .f32) (ix4 0 kc 0 j) - (∑ r : Fin 256, DM I ⟨512 + r, by omega⟩ j + ∑ r : Fin 256, DM I ⟨768 + r, by omega⟩ j) := by
  subst hk
  unfold w_n15
  rw [ov_in _ _ _ _ _ _ _ (ix4 0 0 0 j) (by intro a; fin_cases a <;> simp)]
  pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at]
  refine congrArg₂ (· - ·) rfl (congrArg₂ (· + ·) (Finset.sum_congr rfl fun x _ => ?_) (Finset.sum_congr rfl fun x _ => ?_))
  · exact wD_hi0 I hI x ⟨512 + x, by omega⟩ j (by simp only []; omega) (by simp only []; omega)
  · exact wD_hi1 I hI x ⟨768 + x, by omega⟩ j (by simp only []; omega) (by simp only []; omega)

theorem w_n15_out (I : In Ideal) (o : Fin S1x4x1x512.rank → ℕ) (ho) (X : Vec Ideal S1x4x1x512 .f32) (kc : Fin 4) (hk : o = ![0, (kc : ℕ), 0, 0]) (a : Fin 4) (ha : a ≠ kc) (j : Fin 512) :
    w_n15 I o ho X (ix4 0 a 0 j) = (X : FVec Ideal S1x4x1x512 .f32) (ix4 0 a 0 j) := by
  subst hk
  unfold w_n15
  rw [ov_out _ _ _ _ _ _ _ 1 (by simp; omega)]; rfl

theorem w_n16_at (I : In Ideal) (hI : Msk I) (X : Vec Ideal S1x512x1 .f32) (r : Fin 512) :
    w_n16 I X (ix3 0 r 0) = (X : FVec Ideal S1x512x1 .f32) (ix3 0 r 0) + ∑ j : Fin 512, DM I ⟨r, by omega⟩ j := by
  unfold w_n16
  by_cases hr : (r : ℕ) < 256
  · obtain ⟨q, hq⟩ : ∃ q : Fin 256, (r : ℕ) = q := ⟨⟨r, hr⟩, rfl⟩
    have e : r = ⟨q, by omega⟩ := Fin.ext hq
    rw [e]
    rw [ov_out _ _ _ _ _ _ _ 1 (by simp), ov_in _ _ _ _ _ _ _ (ix3 0 q 0) (by intro a; fin_cases a <;> simp)]
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at]
    refine congrArg₂ (· + ·) rfl (Finset.sum_congr rfl fun j _ => ?_)
    exact (wD_lo0 I hI q ⟨q, by omega⟩ j (by simp only []; omega) (by simp only []; omega)).trans (congrArg (DM I · j) (Fin.ext (by simp only [])))
  · obtain ⟨q, hq⟩ : ∃ q : Fin 256, (r : ℕ) = 256 + q := ⟨⟨r - 256, by omega⟩, by simp only []; omega⟩
    have e : r = ⟨256 + q, by omega⟩ := Fin.ext hq
    rw [e]
    rw [ov_in _ _ _ _ _ _ _ (ix3 0 q 0) (by intro a; fin_cases a <;> simp)]
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at]
    refine congrArg₂ (· + ·) rfl (Finset.sum_congr rfl fun j _ => ?_)
    exact (wD_lo1 I hI q ⟨256 + q, by omega⟩ j (by simp only []; omega) (by simp only []; omega)).trans (congrArg (DM I · j) (Fin.ext (by simp only []; try omega)))

theorem w_n17_at (I : In Ideal) (hI : Msk I) (X : Vec Ideal S1x512x1 .f32) (r : Fin 512) :
    w_n17 I X (ix3 0 r 0) = (X : FVec Ideal S1x512x1 .f32) (ix3 0 r 0) + ∑ j : Fin 512, DM I ⟨512 + r, by omega⟩ j := by
  unfold w_n17
  by_cases hr : (r : ℕ) < 256
  · obtain ⟨q, hq⟩ : ∃ q : Fin 256, (r : ℕ) = q := ⟨⟨r, hr⟩, rfl⟩
    have e : r = ⟨q, by omega⟩ := Fin.ext hq
    rw [e]
    rw [ov_out _ _ _ _ _ _ _ 1 (by simp), ov_in _ _ _ _ _ _ _ (ix3 0 q 0) (by intro a; fin_cases a <;> simp)]
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at]
    refine congrArg₂ (· + ·) rfl (Finset.sum_congr rfl fun j _ => ?_)
    exact (wD_hi0 I hI q ⟨512 + q, by omega⟩ j (by simp only []; omega) (by simp only []; omega)).trans (congrArg (DM I · j) (Fin.ext (by simp only [])))
  · obtain ⟨q, hq⟩ : ∃ q : Fin 256, (r : ℕ) = 256 + q := ⟨⟨r - 256, by omega⟩, by simp only []; omega⟩
    have e : r = ⟨256 + q, by omega⟩ := Fin.ext hq
    rw [e]
    rw [ov_in _ _ _ _ _ _ _ (ix3 0 q 0) (by intro a; fin_cases a <;> simp)]
    pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, u_v336_at, u_v344_at, u_v345_at, u_v339_at, u_v368_at, u_v376_at, u_v377_at, u_v371_at, u_v412_at, u_v420_at, u_v421_at, u_v415_at, u_v444_at, u_v452_at, u_v453_at, u_v447_at, w_v107_at, w_v122_at, w_v123_at, w_v117_at, w_v146_at, w_v161_at, w_v162_at, w_v156_at, w_v197_at, w_v212_at, w_v213_at, w_v207_at, w_v236_at, w_v251_at, w_v252_at, w_v246_at]
    refine congrArg₂ (· + ·) rfl (Finset.sum_congr rfl fun j _ => ?_)
    exact (wD_hi1 I hI q ⟨768 + q, by omega⟩ j (by simp only []; omega) (by simp only []; omega)).trans (congrArg (DM I · j) (Fin.ext (by simp only []; try omega)))

theorem w_n22_at (I : In Ideal) (hI : Msk I) (X : Vec Ideal S1024x128 .f32) (x : Fin 1024) (l : Fin 128) :
    w_n22 I X (ix2 x l) = (X : FVec Ideal S1024x128 .f32) (ix2 x l) + ∑ j : Fin 512, DM I x j * (I.kb : FVec Ideal S512x128 .bf16) (ix2 j l) := by
  unfold w_n22
  rw [ov_in _ _ _ _ _ _ _ (ix2 x l) (by intro a; fin_cases a <;> simp)]
  pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay91, w_v91, w_v105, w_v106, w_v108, w_v137, w_v176, w_v180, w_v195, w_v196, w_v211, w_v227, w_v250, w_v301_at I hI ]

end Cert.KernelIdeal.Fox
end
-- ==== Proof.FoxKernelIdeal.Exact.lean ====
module

public import Idealize.ShloMosaic.Lib.Pointwise

@[expose] public section

noncomputable section

namespace Cert.KernelIdeal.Fox

open Finset

/-- The attention's inputs as real numbers: queries, keys, values and output gradient by row, head and lane; the decays by head and row. -/
structure G where
  q : ℕ → ℕ → ℕ → ℝ
  k : ℕ → ℕ → ℕ → ℝ
  v : ℕ → ℕ → ℕ → ℝ
  d : ℕ → ℕ → ℕ → ℝ
  c : ℕ → ℕ → ℝ

namespace G

variable (g : G)

/-- The score of key `y` for query `r` in head `n`. -/
def S (n r y : ℕ) : ℝ := (∑ l ∈ range 64, g.q r n l * (1 / 8) * g.k y n l) - g.c n y
def Z (n r : ℕ) : ℝ := ∑ y ∈ range (r + 1), Real.exp (g.S n r y)
def lse (n r : ℕ) : ℝ := Real.log (g.Z n r)
def E (n r y : ℕ) : ℝ := Real.exp (g.S n r y - g.lse n r)
/-- The weights. -/
def P (n r y : ℕ) : ℝ := if y ≤ r then g.E n r y else 0
def T (n r y : ℕ) : ℝ := ∑ l ∈ range 64, g.d r n l * g.v y n l
def o (r n l : ℕ) : ℝ := ∑ y ∈ range 2048, g.P n r y * g.v y n l
def D (n r : ℕ) : ℝ := ∑ l ∈ range 64, g.d r n l * g.o r n l
/-- The gradient of the scores. -/
def δ (n r y : ℕ) : ℝ := g.P n r y * (g.T n r y - g.D n r)

theorem P_of_lt (n r y : ℕ) (h : r < y) : g.P n r y = 0 := if_neg (by omega)
theorem δ_of_lt (n r y : ℕ) (h : r < y) : g.δ n r y = 0 := by rw [δ, P_of_lt g n r y h, zero_mul]

theorem Z_pos (n r : ℕ) : 0 < g.Z n r := sum_pos (fun _ _ => Real.exp_pos _) ⟨0, by simp⟩

theorem E_eq (n r y : ℕ) : g.E n r y = Real.exp (g.S n r y) / g.Z n r := by
  rw [E, lse, Real.exp_sub, Real.exp_log (g.Z_pos n r)]

/-- The row sum of `do · o` is the weights' mean of `do · v`. -/
theorem D_eq (n r : ℕ) : g.D n r = ∑ y ∈ range 2048, g.P n r y * g.T n r y := by
  simp only [D, o, T, mul_sum]
  rw [sum_comm]
  exact sum_congr rfl fun y _ => sum_congr rfl fun l _ => by ring

end G

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over two heads' lanes of which one head's count. -/
theorem pick (e : ℕ) (he : e < 2) (f : ℕ → ℕ → ℝ) :
    ∑ l : Fin 128, (if e = (l : ℕ) / 64 then f ((l : ℕ) / 64) ((l : ℕ) % 64) else 0) = ∑ l ∈ range 64, f e l := by
  rw [Fin.sum_univ_eq_sum_range (fun l => if e = l / 64 then f (l / 64) (l % 64) else 0) 128, show 128 = 64 + 64 from rfl, sum_range_add]
  have h0 : ∀ l ∈ range 64, (if e = l / 64 then f (l / 64) (l % 64) else 0) = if e = 0 then f 0 l else 0 := fun l hl => by
    have := mem_range.1 hl
    rw [show l / 64 = 0 by omega, show l % 64 = l by omega]
  have h1 : ∀ l ∈ range 64, (if e = (64 + l) / 64 then f ((64 + l) / 64) ((64 + l) % 64) else 0) = if e = 1 then f 1 l else 0 := fun l hl => by
    have := mem_range.1 hl
    rw [show (64 + l) / 64 = 1 by omega, show (64 + l) % 64 = l by omega]
  rw [sum_congr rfl h0, sum_congr rfl h1]
  obtain rfl | rfl : e = 0 ∨ e = 1 := by omega
  · simp
  · simp

/-- A sum over two heads' rows of which one head's count. -/
theorem pick_row (e : ℕ) (he : e < 2) (f : ℕ → ℕ → ℝ) :
    ∑ x : Fin 1024, (if (x : ℕ) / 512 = e then f ((x : ℕ) / 512) ((x : ℕ) % 512) else 0) = ∑ r ∈ range 512, f e r := by
  rw [Fin.sum_univ_eq_sum_range (fun x => if x / 512 = e then f (x / 512) (x % 512) else 0) 1024, show 1024 = 512 + 512 from rfl, sum_range_add]
  have h0 : ∀ l ∈ range 512, (if l / 512 = e then f (l / 512) (l % 512) else 0) = if e = 0 then f 0 l else 0 := fun l hl => by
    have := mem_range.1 hl
    rw [show l / 512 = 0 by omega, show l % 512 = l by omega]
    simp only [eq_comm]
  have h1 : ∀ l ∈ range 512, (if (512 + l) / 512 = e then f ((512 + l) / 512) ((512 + l) % 512) else 0) = if e = 1 then f 1 l else 0 := fun l hl => by
    have := mem_range.1 hl
    rw [show (512 + l) / 512 = 1 by omega, show (512 + l) % 512 = l by omega]
    simp only [eq_comm]
  rw [sum_congr rfl h0, sum_congr rfl h1]
  obtain rfl | rfl : e = 0 ∨ e = 1 := by omega
  · simp
  · simp

/-- A sum by chunks of 512. -/
theorem sum_chunk (f : ℕ → ℝ) (n : ℕ) : ∑ y ∈ range (512 * (n + 1)), f y = ∑ y ∈ range (512 * n), f y + ∑ j : Fin 512, f (512 * n + j) := by
  rw [show 512 * (n + 1) = 512 * n + 512 by ring, sum_range_add, Fin.sum_univ_eq_sum_range (fun j => f (512 * n + j)) 512]

end Cert.KernelIdeal.Fox

end
-- ==== Proof.FoxKernelIdeal.Step.lean ====
module

public import proofs.«01_k».proof.Proof.FoxKernelIdeal.Chunk
public import proofs.«01_k».proof.Proof.FoxKernelIdeal.Exact

@[expose] public section

set_option maxRecDepth 16384

noncomputable section

namespace Cert.KernelIdeal.Fox

open Cert.KernelIdeal Cert.KernelIdeal.Gen
open Idealize.ShloMosaic Idealize.ShloMosaic.TcCoe Idealize.SL.Sem
open Idealize.ShloMosaic.Pipeline (Dat)
open Finset

/-- What one step of the key loop reads, as the real inputs give it: pair `h`, tile `i`, chunk `kc`. -/
structure GoodIn (I : In Ideal) (g : G) (h i kc : ℕ) : Prop where
  q : ∀ (x : Fin 1024) (l : Fin 128), I.q (ix2 x l) = ((if (x : ℕ) / 512 = (l : ℕ) / 64 then g.q (512 * i + (x : ℕ) % 512) (2 * h + (l : ℕ) / 64) ((l : ℕ) % 64) * (1 / 8) else 0 : ℝ) : EReal)
  d : ∀ (x : Fin 1024) (l : Fin 128), I.d (ix2 x l) = ((if (x : ℕ) / 512 = (l : ℕ) / 64 then g.d (512 * i + (x : ℕ) % 512) (2 * h + (l : ℕ) / 64) ((l : ℕ) % 64) else 0 : ℝ) : EReal)
  kb : ∀ (j : Fin 512) (l : Fin 128), (I.kb : FVec Ideal S512x128 .bf16) (ix2 j l) = ((g.k (512 * kc + j) (2 * h + (l : ℕ) / 64) ((l : ℕ) % 64) : ℝ) : EReal)
  vb : ∀ (j : Fin 512) (l : Fin 128), (I.vb : FVec Ideal S512x128 .bf16) (ix2 j l) = ((g.v (512 * kc + j) (2 * h + (l : ℕ) / 64) ((l : ℕ) % 64) : ℝ) : EReal)
  ca : ∀ j : Fin 512, (I.ca : FVec Ideal S1x1x1x512 .f32) (ix4 0 0 0 j) = ((g.c (2 * h) (512 * kc + j) : ℝ) : EReal)
  cb : ∀ j : Fin 512, (I.cb : FVec Ideal S1x1x1x512 .f32) (ix4 0 0 0 j) = ((g.c (2 * h + 1) (512 * kc + j) : ℝ) : EReal)
  la : ∀ r : Fin 512, (I.la : FVec Ideal S1x512x1 .f32) (ix3 0 r 0) = ((g.lse (2 * h) (512 * i + r) : ℝ) : EReal)
  lb : ∀ r : Fin 512, (I.lb : FVec Ideal S1x512x1 .f32) (ix3 0 r 0) = ((g.lse (2 * h + 1) (512 * i + r) : ℝ) : EReal)
  ds : ∀ x : Fin 1024, (I.ds : FVec Ideal S1024x1 .f32) (ix2 x 0) = ((g.D (2 * h + (x : ℕ) / 512) (512 * i + (x : ℕ) % 512) : ℝ) : EReal)

section
variable {I : In Ideal} {g : G} {h i kc : ℕ} (hG : GoodIn I g h i kc)
include hG

theorem SE_eq (x : Fin 1024) (j : Fin 512) :
    SE I x j = ((∑ l ∈ range 64, g.q (512 * i + (x : ℕ) % 512) (2 * h + (x : ℕ) / 512) l * (1 / 8) * g.k (512 * kc + j) (2 * h + (x : ℕ) / 512) l : ℝ) : EReal) := by
  unfold SE
  simp only [hG.q, hG.kb, ← EReal.coe_mul, ← coe_sum, ite_mul, zero_mul]
  rw [pick ((x : ℕ) / 512) (by omega) fun e l => g.q (512 * i + (x : ℕ) % 512) (2 * h + e) l * (1 / 8) * g.k (512 * kc + j) (2 * h + e) l]

theorem VE_eq (x : Fin 1024) (j : Fin 512) :
    VE I x j = ((g.T (2 * h + (x : ℕ) / 512) (512 * i + (x : ℕ) % 512) (512 * kc + j) : ℝ) : EReal) := by
  unfold VE
  simp only [hG.d, hG.vb, ← EReal.coe_mul, ← coe_sum, ite_mul, zero_mul]
  rw [pick ((x : ℕ) / 512) (by omega) fun e l => g.d (512 * i + (x : ℕ) % 512) (2 * h + e) l * g.v (512 * kc + j) (2 * h + e) l]
  rfl

theorem lrow_eq (x : Fin 1024) : lrow I x = ((g.lse (2 * h + (x : ℕ) / 512) (512 * i + (x : ℕ) % 512) : ℝ) : EReal) := by
  unfold lrow
  by_cases hx : (x : ℕ) < 512
  · rw [dif_pos hx, hG.la, show (x : ℕ) / 512 = 0 by omega, show (x : ℕ) % 512 = x by omega]; rfl
  · rw [dif_neg hx, hG.lb, show (x : ℕ) / 512 = 1 by omega, show (x : ℕ) % 512 = x - 512 by omega]

theorem crow_eq (x : Fin 1024) (j : Fin 512) : crow I x j = ((g.c (2 * h + (x : ℕ) / 512) (512 * kc + j) : ℝ) : EReal) := by
  unfold crow
  by_cases hx : (x : ℕ) < 512
  · rw [if_pos hx, hG.ca, show (x : ℕ) / 512 = 0 by omega]; rfl
  · rw [if_neg hx, hG.cb, show (x : ℕ) / 512 = 1 by omega]

theorem PE_eq (x : Fin 1024) (j : Fin 512) :
    PE I x j = ((g.E (2 * h + (x : ℕ) / 512) (512 * i + (x : ℕ) % 512) (512 * kc + j) : ℝ) : EReal) := by
  unfold PE
  rw [SE_eq hG, crow_eq hG, lrow_eq hG, ← EReal.coe_sub, ← EReal.coe_sub]
  rfl

/-- Before the tile's own chunk no key is masked. -/
theorem PE_eq_P (hlt : kc < i) (x : Fin 1024) (j : Fin 512) :
    PE I x j = ((g.P (2 * h + (x : ℕ) / 512) (512 * i + (x : ℕ) % 512) (512 * kc + j) : ℝ) : EReal) := by
  rw [PE_eq hG, G.P, if_pos (by omega)]

theorem PM_eq_P (hi : kc = i) (x : Fin 1024) (j : Fin 512) :
    PM I x j = ((g.P (2 * h + (x : ℕ) / 512) (512 * i + (x : ℕ) % 512) (512 * kc + j) : ℝ) : EReal) := by
  unfold PM
  rw [PE_eq hG, G.P]
  by_cases hc : (j : ℕ) ≤ (x : ℕ) % 512
  · rw [if_pos hc, if_pos (by omega)]
  · rw [if_neg hc, if_neg (by omega)]; rfl

theorem DE_eq (hlt : kc < i) (x : Fin 1024) (j : Fin 512) :
    DE I x j = ((g.δ (2 * h + (x : ℕ) / 512) (512 * i + (x : ℕ) % 512) (512 * kc + j) : ℝ) : EReal) := by
  unfold DE
  rw [PE_eq_P hG hlt, VE_eq hG, hG.ds, ← EReal.coe_sub, ← EReal.coe_mul]
  rfl

theorem DM_eq (hi : kc = i) (x : Fin 1024) (j : Fin 512) :
    DM I x j = ((g.δ (2 * h + (x : ℕ) / 512) (512 * i + (x : ℕ) % 512) (512 * kc + j) : ℝ) : EReal) := by
  unfold DM
  rw [PM_eq_P hG hi, VE_eq hG, hG.ds, ← EReal.coe_sub, ← EReal.coe_mul]
  rfl

/-- A chunk's product with the query tile, at a lane. -/
theorem sum_q (f : Fin 1024 → EReal) (a : ℕ → ℕ → ℝ) (hf : ∀ x : Fin 1024, f x = ((a (2 * h + (x : ℕ) / 512) (512 * i + (x : ℕ) % 512) : ℝ) : EReal)) (l : Fin 128) :
    ∑ x : Fin 1024, f x * I.q (ix2 x l) = ((∑ r ∈ range 512, a (2 * h + (l : ℕ) / 64) (512 * i + r) * (g.q (512 * i + r) (2 * h + (l : ℕ) / 64) ((l : ℕ) % 64) * (1 / 8)) : ℝ) : EReal) := by
  simp only [hf, hG.q, ← EReal.coe_mul, ← coe_sum, mul_ite, mul_zero]
  refine congrArg _ ?_
  rw [← pick_row ((l : ℕ) / 64) (by omega) fun e r => a (2 * h + e) (512 * i + r) * (g.q (512 * i + r) (2 * h + (l : ℕ) / 64) ((l : ℕ) % 64) * (1 / 8))]

theorem sum_d (f : Fin 1024 → EReal) (a : ℕ → ℕ → ℝ) (hf : ∀ x : Fin 1024, f x = ((a (2 * h + (x : ℕ) / 512) (512 * i + (x : ℕ) % 512) : ℝ) : EReal)) (l : Fin 128) :
    ∑ x : Fin 1024, f x * I.d (ix2 x l) = ((∑ r ∈ range 512, a (2 * h + (l : ℕ) / 64) (512 * i + r) * g.d (512 * i + r) (2 * h + (l : ℕ) / 64) ((l : ℕ) % 64) : ℝ) : EReal) := by
  simp only [hf, hG.d, ← EReal.coe_mul, ← coe_sum, mul_ite, mul_zero]
  refine congrArg _ ?_
  rw [← pick_row ((l : ℕ) / 64) (by omega) fun e r => a (2 * h + e) (512 * i + r) * g.d (512 * i + r) (2 * h + (l : ℕ) / 64) ((l : ℕ) % 64)]

theorem sum_k (x : Fin 1024) (f : Fin 512 → EReal) (a : ℕ → ℝ) (hf : ∀ j : Fin 512, f j = ((a (512 * kc + j) : ℝ) : EReal)) (l : Fin 128) :
    ∑ j : Fin 512, f j * (I.kb : FVec Ideal S512x128 .bf16) (ix2 j l) = ((∑ j : Fin 512, a (512 * kc + j) * g.k (512 * kc + j) (2 * h + (l : ℕ) / 64) ((l : ℕ) % 64) : ℝ) : EReal) := by
  simp only [hf, hG.kb, ← EReal.coe_mul, ← coe_sum]

end

/-- The two strips of a head's rows together. -/
theorem two_strips (o : ℕ) (ho : o ≤ 512) (f : Fin 1024 → EReal) (a : ℕ → ℝ) (hf : ∀ x : Fin 1024, o ≤ (x : ℕ) → (x : ℕ) < o + 512 → f x = ((a ((x : ℕ) - o) : ℝ) : EReal))
    (p0 : ∀ r : Fin 256, o + (r : ℕ) < 1024) (p1 : ∀ r : Fin 256, o + 256 + (r : ℕ) < 1024) :
    ∑ r : Fin 256, f ⟨o + r, p0 r⟩ + ∑ r : Fin 256, f ⟨o + 256 + r, p1 r⟩ = ((∑ r ∈ range 512, a r : ℝ) : EReal) := by
  have e0 : ∀ r : Fin 256, f ⟨o + r, p0 r⟩ = ((a r : ℝ) : EReal) := fun r => by
    rw [hf ⟨o + r, p0 r⟩ (by simp only []; omega) (by simp only []; omega)]; simp only []; rw [show o + (r : ℕ) - o = r by omega]
  have e1 : ∀ r : Fin 256, f ⟨o + 256 + r, p1 r⟩ = ((a (256 + r) : ℝ) : EReal) := fun r => by
    rw [hf ⟨o + 256 + r, p1 r⟩ (by simp only []; omega) (by simp only []; omega)]; simp only []; rw [show o + 256 + (r : ℕ) - o = 256 + r by omega]
  simp only [e0, e1, ← coe_sum, ← EReal.coe_add]
  refine congrArg _ ?_
  rw [show 512 = 256 + 256 from rfl, sum_range_add, Fin.sum_univ_eq_sum_range a 256, Fin.sum_univ_eq_sum_range (fun r => a (256 + r)) 256]

end Cert.KernelIdeal.Fox

end
-- ==== Proof.FoxKernelIdeal.Tile.lean ====
module

public import proofs.«01_k».proof.Proof.FoxKernelIdeal.Step
public import proofs.«01_k».proof.Proof.FoxKernelIdeal.Data

@[expose] public section

set_option maxRecDepth 16384

noncomputable section

namespace Cert.KernelIdeal.Fox

open Cert.KernelIdeal Cert.KernelIdeal.Gen
open Idealize.ShloMosaic Idealize.ShloMosaic.TcCoe Idealize.SL.Sem
open Idealize.ShloMosaic.Pipeline (Dat)
open Finset

/-! ## The grid's words -/

theorem trips_eq : ∀ t : Fin grid0.N, (k0_t1_loop (grid0.coords t)).trips = t.val % 4 := by decide +kernel
theorem off1_eq : ∀ t : Fin grid0.N, ∀ k : Fin (k0_t1_loop (grid0.coords t)).trips, k0_off1 (grid0.coords t) k = ![512 * k.val, 0] := by decide +kernel
theorem off2_eq : ∀ t : Fin grid0.N, ∀ k : Fin (k0_t1_loop (grid0.coords t)).trips, k0_off2 (grid0.coords t) k = ![0, k.val, 0, 0] := by decide +kernel
theorem off5_eq : ∀ t : Fin grid0.N, k0_off5 (grid0.coords t) = ![512 * (t.val % 4), 0] := by decide +kernel
theorem off6_eq : ∀ t : Fin grid0.N, k0_off6 (grid0.coords t) = ![0, t.val % 4, 0, 0] := by decide +kernel
theorem row0_eq : ∀ t : Fin grid0.N, row0 (grid0.coords t) = Scalar.muli (BitVec.ofNat 32 ((grid0.coords t) 1).val) 512#32 := by decide +kernel

theorem ld_at {s : Shape} {e : EltTy} (X : Vec Ideal s e) (o size : Fin s.rank → ℕ) (h) (z : s.Idx) (x : (Rect.unit (s := s) o size h).shape.Idx)
    (o' : Fin s.rank → ℕ) (ho : o = o') (hx : ∀ a, (z a : ℕ) = o' a + x a) : View.ld X (Rect.unit (s := s) o size h) x = X z := by
  subst ho
  have hz : z = (Rect.unit (s := s) o size h).emb x := by
    funext a; apply Fin.ext; rw [hx a]; simp
  rw [hz]; rfl

/-- What the key loop of tile `i` of pair `h` reads, as the real inputs give it. -/
structure GoodBase (B : Base Ideal) (g : G) (h i : ℕ) : Prop where
  q : ∀ (x : Fin 1024) (l : Fin 128), B.q (ix2 x l) = ((if (x : ℕ) / 512 = (l : ℕ) / 64 then g.q (512 * i + (x : ℕ) % 512) (2 * h + (l : ℕ) / 64) ((l : ℕ) % 64) * (1 / 8) else 0 : ℝ) : EReal)
  d : ∀ (x : Fin 1024) (l : Fin 128), B.d (ix2 x l) = ((if (x : ℕ) / 512 = (l : ℕ) / 64 then g.d (512 * i + (x : ℕ) % 512) (2 * h + (l : ℕ) / 64) ((l : ℕ) % 64) else 0 : ℝ) : EReal)
  X3 : ∀ (y : Fin 2048) (l : Fin 128), (B.X3 : FVec Ideal S2048x128 .bf16) (ix2 y l) = ((g.k y (2 * h + (l : ℕ) / 64) ((l : ℕ) % 64) : ℝ) : EReal)
  X4 : ∀ (y : Fin 2048) (l : Fin 128), (B.X4 : FVec Ideal S2048x128 .bf16) (ix2 y l) = ((g.v y (2 * h + (l : ℕ) / 64) ((l : ℕ) % 64) : ℝ) : EReal)
  X7 : ∀ (a : Fin 4) (j : Fin 512), (B.X7 : FVec Ideal S1x4x1x512 .f32) (ix4 0 a 0 j) = ((g.c (2 * h) (512 * a + j) : ℝ) : EReal)
  X8 : ∀ (a : Fin 4) (j : Fin 512), (B.X8 : FVec Ideal S1x4x1x512 .f32) (ix4 0 a 0 j) = ((g.c (2 * h + 1) (512 * a + j) : ℝ) : EReal)
  X9 : ∀ r : Fin 512, (B.X9 : FVec Ideal S1x512x1 .f32) (ix3 0 r 0) = ((g.lse (2 * h) (512 * i + r) : ℝ) : EReal)
  X10 : ∀ r : Fin 512, (B.X10 : FVec Ideal S1x512x1 .f32) (ix3 0 r 0) = ((g.lse (2 * h + 1) (512 * i + r) : ℝ) : EReal)
  X23 : ∀ x : Fin 1024, (B.X23 : FVec Ideal S1024x1 .f32) (ix2 x 0) = ((g.D (2 * h + (x : ℕ) / 512) (512 * i + (x : ℕ) % 512) : ℝ) : EReal)

section
variable {B : Base Ideal} {g : G} {h : ℕ} (t : Fin grid0.N) (hG : GoodBase B g h (t.val % 4))
include hG

theorem good_at1 (k : Fin (k0_t1_loop (grid0.coords t)).trips) : GoodIn (B.at1 (grid0.coords t) k) g h (t.val % 4) k.val := by
  have hk : k.val < t.val % 4 := lt_of_lt_of_eq k.isLt (trips_eq t)
  have o1 := off1_eq t k
  have o2 := off2_eq t k
  refine ⟨hG.q, hG.d, fun j l => ?_, fun j l => ?_, fun j => ?_, fun j => ?_, hG.X9, hG.X10, hG.X23⟩
  · refine (ld_at _ _ _ _ (ix2 ⟨512 * k.val + j, by omega⟩ l) (ix2 j l) _ o1 (by intro a; fin_cases a <;> simp)).trans ?_
    exact hG.X3 _ _
  · refine (ld_at _ _ _ _ (ix2 ⟨512 * k.val + j, by omega⟩ l) (ix2 j l) _ o1 (by intro a; fin_cases a <;> simp)).trans ?_
    exact hG.X4 _ _
  · refine (ld_at _ _ _ _ (ix4 0 ⟨k.val, by omega⟩ 0 j) (ix4 0 0 0 j) _ o2 (by intro a; fin_cases a <;> simp)).trans ?_
    exact hG.X7 _ _
  · refine (ld_at _ _ _ _ (ix4 0 ⟨k.val, by omega⟩ 0 j) (ix4 0 0 0 j) _ o2 (by intro a; fin_cases a <;> simp)).trans ?_
    exact hG.X8 _ _

theorem good_at2 : GoodIn (B.at2 (grid0.coords t)) g h (t.val % 4) (t.val % 4) := by
  have o1 := off5_eq t
  have o2 := off6_eq t
  refine ⟨hG.q, hG.d, fun j l => ?_, fun j l => ?_, fun j => ?_, fun j => ?_, hG.X9, hG.X10, hG.X23⟩
  · refine (ld_at _ _ _ _ (ix2 ⟨512 * (t.val % 4) + j, by omega⟩ l) (ix2 j l) _ o1 (by intro a; fin_cases a <;> simp)).trans ?_
    exact hG.X3 _ _
  · refine (ld_at _ _ _ _ (ix2 ⟨512 * (t.val % 4) + j, by omega⟩ l) (ix2 j l) _ o1 (by intro a; fin_cases a <;> simp)).trans ?_
    exact hG.X4 _ _
  · refine (ld_at _ _ _ _ (ix4 0 ⟨t.val % 4, by omega⟩ 0 j) (ix4 0 0 0 j) _ o2 (by intro a; fin_cases a <;> simp)).trans ?_
    exact hG.X7 _ _
  · refine (ld_at _ _ _ _ (ix4 0 ⟨t.val % 4, by omega⟩ 0 j) (ix4 0 0 0 j) _ o2 (by intro a; fin_cases a <;> simp)).trans ?_
    exact hG.X8 _ _

omit hG in
theorem msk_at2 : Msk (B.at2 (grid0.coords t)) := ⟨rfl, row0_eq t⟩

/-! ## The gradient of the keys, a point's share -/

/-- What tile `i` adds to the gradient of key `y`. -/
def dkT (g : G) (h i y l : ℕ) : ℝ := ∑ r ∈ range 512, g.δ (2 * h + l / 64) (512 * i + r) y * (g.q (512 * i + r) (2 * h + l / 64) (l % 64) * (1 / 8))
def dvT (g : G) (h i y l : ℕ) : ℝ := ∑ r ∈ range 512, g.P (2 * h + l / 64) (512 * i + r) y * g.d (512 * i + r) (2 * h + l / 64) (l % 64)
def dcT (g : G) (n i y : ℕ) : ℝ := ∑ r ∈ range 512, g.δ n (512 * i + r) y

omit hG in
theorem dkT_zero (g : G) (h i y l : ℕ) (hy : 512 * (i + 1) ≤ y) : dkT g h i y l = 0 :=
  sum_eq_zero fun r hr => by rw [G.δ_of_lt _ _ _ _ (by have := mem_range.1 hr; omega), zero_mul]
omit hG in
theorem dvT_zero (g : G) (h i y l : ℕ) (hy : 512 * (i + 1) ≤ y) : dvT g h i y l = 0 :=
  sum_eq_zero fun r hr => by rw [G.P_of_lt _ _ _ _ (by have := mem_range.1 hr; omega), zero_mul]
omit hG in
theorem dcT_zero (g : G) (n i y : ℕ) (hy : 512 * (i + 1) ≤ y) : dcT g n i y = 0 :=
  sum_eq_zero fun r hr => by rw [G.δ_of_lt _ _ _ _ (by have := mem_range.1 hr; omega)]

omit hG in
theorem sum_tail (f : ℕ → ℝ) (n : ℕ) (hn : n ≤ 2048) (hf : ∀ y, n ≤ y → f y = 0) : ∑ y ∈ range n, f y = ∑ y ∈ range 2048, f y := by
  obtain ⟨m, hm⟩ := Nat.exists_eq_add_of_le hn
  rw [hm, sum_range_add, sum_eq_zero (s := range m) fun y _ => hf (n + y) (by omega), add_zero]

omit hG in
theorem strips14 (h i kc : ℕ) (g : G) (f : Fin 1024 → EReal) (j : Fin 512) (hf : ∀ x : Fin 1024, f x = ((g.δ (2 * h + (x : ℕ) / 512) (512 * i + (x : ℕ) % 512) (512 * kc + j) : ℝ) : EReal)) :
    ∑ r : Fin 256, f ⟨r, by omega⟩ + ∑ r : Fin 256, f ⟨256 + r, by omega⟩ = ((dcT g (2 * h) i (512 * kc + j) : ℝ) : EReal) := by
  refine Eq.trans ?_ (two_strips 0 (by omega) f (fun r => g.δ (2 * h) (512 * i + r) (512 * kc + j)) (fun x h0 h1 => ?_) (fun r => by omega) (fun r => by omega))
  · simp only [zero_add]
  · rw [hf, show (x : ℕ) / 512 = 0 by omega, show (x : ℕ) % 512 = x - 0 by omega]; rfl
omit hG in
theorem strips15 (h i kc : ℕ) (g : G) (f : Fin 1024 → EReal) (j : Fin 512) (hf : ∀ x : Fin 1024, f x = ((g.δ (2 * h + (x : ℕ) / 512) (512 * i + (x : ℕ) % 512) (512 * kc + j) : ℝ) : EReal)) :
    ∑ r : Fin 256, f ⟨512 + r, by omega⟩ + ∑ r : Fin 256, f ⟨768 + r, by omega⟩ = ((dcT g (2 * h + 1) i (512 * kc + j) : ℝ) : EReal) := by
  refine two_strips 512 (by omega) f (fun r => g.δ (2 * h + 1) (512 * i + r) (512 * kc + j)) (fun x h0 h1 => ?_) (fun r => by omega) (fun r => by omega)
  rw [hf, show (x : ℕ) / 512 = 1 by omega, show (x : ℕ) % 512 = x - 512 by omega]

theorem s12_eq (X : Vec Ideal S2048x128 .f32) (a : ℕ → ℕ → ℝ) (hX : ∀ (y : Fin 2048) (l : Fin 128), (X : FVec Ideal S2048x128 .f32) (ix2 y l) = ((a y l : ℝ) : EReal)) (n : ℕ) (hn : n ≤ t.val % 4) :
    ∀ (y : Fin 2048) (l : Fin 128), (s12 (grid0.coords t) B X n : FVec Ideal S2048x128 .f32) (ix2 y l) = ((a y l + (if (y : ℕ) / 512 < n then dkT g h (t.val % 4) y l else 0) : ℝ) : EReal) := by
  induction n with
  | zero => intro y l; rw [if_neg (by omega), add_zero]; exact hX y l
  | succ n ih =>
    intro y l
    have hlt : n < (k0_t1_loop (grid0.coords t)).trips := by rw [trips_eq]; omega
    have e := s12_succ (grid0.coords t) B X ⟨n, hlt⟩
    simp only [] at e
    rw [e]
    by_cases hy : (y : ℕ) / 512 = n
    · obtain ⟨j, hj⟩ : ∃ j : Fin 512, (y : ℕ) = 512 * n + j := ⟨⟨(y : ℕ) % 512, by omega⟩, by simp only []; omega⟩
      have ey : y = ⟨512 * n + j, by omega⟩ := Fin.ext hj
      rw [ey, u_n12_in _ _ _ _ n (off1_eq t ⟨n, hlt⟩) j l, ih (by omega), sum_q (good_at1 t hG ⟨n, hlt⟩) _ (fun N r => g.δ N r (512 * n + j)) (DE_eq (good_at1 t hG ⟨n, hlt⟩) (by simp only []; omega) · j), ← EReal.coe_add]
      rw [if_neg (by simp only []; omega), if_pos (by simp only []; omega), add_zero]
      rfl
    · rw [u_n12_out _ _ _ _ n (off1_eq t ⟨n, hlt⟩) y l hy, ih (by omega)]
      by_cases h1 : (y : ℕ) / 512 < n
      · rw [if_pos h1, if_pos (by omega)]
      · rw [if_neg h1, if_neg (by omega)]

theorem o12_eq (X : Vec Ideal S2048x128 .f32) (a : ℕ → ℕ → ℝ) (hX : ∀ (y : Fin 2048) (l : Fin 128), (X : FVec Ideal S2048x128 .f32) (ix2 y l) = ((a y l : ℝ) : EReal)) (y : Fin 2048) (l : Fin 128) :
    (o12 (grid0.coords t) B X : FVec Ideal S2048x128 .f32) (ix2 y l) = ((a y l + dkT g h (t.val % 4) y l : ℝ) : EReal) := by
  unfold o12
  have ih := s12_eq t hG X a hX (t.val % 4) le_rfl
  rw [trips_eq]
  by_cases hy : (y : ℕ) / 512 = t.val % 4
  · obtain ⟨j, hj⟩ : ∃ j : Fin 512, (y : ℕ) = 512 * (t.val % 4) + j := ⟨⟨(y : ℕ) % 512, by omega⟩, by simp only []; omega⟩
    have ey : y = ⟨512 * (t.val % 4) + j, by omega⟩ := Fin.ext hj
    rw [ey, w_n12_in _ (msk_at2 t) _ _ _ (t.val % 4) (off5_eq t) j l, ih, sum_q (good_at2 t hG) _ (fun N r => g.δ N r (512 * (t.val % 4) + j)) (DM_eq (good_at2 t hG) rfl · j), ← EReal.coe_add]
    rw [if_neg (by simp only []; omega), add_zero]
    rfl
  · rw [w_n12_out _ _ _ _ (t.val % 4) (off5_eq t) y l hy, ih]
    by_cases h1 : (y : ℕ) / 512 < t.val % 4
    · rw [if_pos h1]
    · rw [if_neg h1, dkT_zero _ _ _ _ _ (by omega)]

theorem s24_eq (X : Vec Ideal S2048x128 .f32) (a : ℕ → ℕ → ℝ) (hX : ∀ (y : Fin 2048) (l : Fin 128), (X : FVec Ideal S2048x128 .f32) (ix2 y l) = ((a y l : ℝ) : EReal)) (n : ℕ) (hn : n ≤ t.val % 4) :
    ∀ (y : Fin 2048) (l : Fin 128), (s24 (grid0.coords t) B X n : FVec Ideal S2048x128 .f32) (ix2 y l) = ((a y l + (if (y : ℕ) / 512 < n then dvT g h (t.val % 4) y l else 0) : ℝ) : EReal) := by
  induction n with
  | zero => intro y l; rw [if_neg (by omega), add_zero]; exact hX y l
  | succ n ih =>
    intro y l
    have hlt : n < (k0_t1_loop (grid0.coords t)).trips := by rw [trips_eq]; omega
    have e := s24_succ (grid0.coords t) B X ⟨n, hlt⟩
    simp only [] at e
    rw [e]
    by_cases hy : (y : ℕ) / 512 = n
    · obtain ⟨j, hj⟩ : ∃ j : Fin 512, (y : ℕ) = 512 * n + j := ⟨⟨(y : ℕ) % 512, by omega⟩, by simp only []; omega⟩
      have ey : y = ⟨512 * n + j, by omega⟩ := Fin.ext hj
      rw [ey, u_n24_in _ _ _ _ n (off1_eq t ⟨n, hlt⟩) j l, ih (by omega), sum_d (good_at1 t hG ⟨n, hlt⟩) _ (fun N r => g.P N r (512 * n + j)) (PE_eq_P (good_at1 t hG ⟨n, hlt⟩) (by simp only []; omega) · j), ← EReal.coe_add]
      rw [if_neg (by simp only []; omega), if_pos (by simp only []; omega), add_zero]
      rfl
    · rw [u_n24_out _ _ _ _ n (off1_eq t ⟨n, hlt⟩) y l hy, ih (by omega)]
      by_cases h1 : (y : ℕ) / 512 < n
      · rw [if_pos h1, if_pos (by omega)]
      · rw [if_neg h1, if_neg (by omega)]

theorem o24_eq (X : Vec Ideal S2048x128 .f32) (a : ℕ → ℕ → ℝ) (hX : ∀ (y : Fin 2048) (l : Fin 128), (X : FVec Ideal S2048x128 .f32) (ix2 y l) = ((a y l : ℝ) : EReal)) (y : Fin 2048) (l : Fin 128) :
    (o24 (grid0.coords t) B X : FVec Ideal S2048x128 .f32) (ix2 y l) = ((a y l + dvT g h (t.val % 4) y l : ℝ) : EReal) := by
  unfold o24
  have ih := s24_eq t hG X a hX (t.val % 4) le_rfl
  rw [trips_eq]
  by_cases hy : (y : ℕ) / 512 = t.val % 4
  · obtain ⟨j, hj⟩ : ∃ j : Fin 512, (y : ℕ) = 512 * (t.val % 4) + j := ⟨⟨(y : ℕ) % 512, by omega⟩, by simp only []; omega⟩
    have ey : y = ⟨512 * (t.val % 4) + j, by omega⟩ := Fin.ext hj
    rw [ey, w_n24_in _ (msk_at2 t) _ _ _ (t.val % 4) (off5_eq t) j l, ih, sum_d (good_at2 t hG) _ (fun N r => g.P N r (512 * (t.val % 4) + j)) (PM_eq_P (good_at2 t hG) rfl · j), ← EReal.coe_add]
    rw [if_neg (by simp only []; omega), add_zero]
    rfl
  · rw [w_n24_out _ _ _ _ (t.val % 4) (off5_eq t) y l hy, ih]
    by_cases h1 : (y : ℕ) / 512 < t.val % 4
    · rw [if_pos h1]
    · rw [if_neg h1, dvT_zero _ _ _ _ _ (by omega)]

theorem s14_eq (X : Vec Ideal S1x4x1x512 .f32) (a : ℕ → ℝ) (hX : ∀ (b : Fin 4) (j : Fin 512), (X : FVec Ideal S1x4x1x512 .f32) (ix4 0 b 0 j) = ((a (512 * b + j) : ℝ) : EReal)) (n : ℕ) (hn : n ≤ t.val % 4) :
    ∀ (b : Fin 4) (j : Fin 512), (s14 (grid0.coords t) B X n : FVec Ideal S1x4x1x512 .f32) (ix4 0 b 0 j) = ((a (512 * b + j) - (if (b : ℕ) < n then dcT g (2 * h) (t.val % 4) (512 * b + j) else 0) : ℝ) : EReal) := by
  induction n with
  | zero => intro b j; rw [if_neg (by omega), sub_zero]; exact hX b j
  | succ n ih =>
    intro b j
    have hlt : n < (k0_t1_loop (grid0.coords t)).trips := by rw [trips_eq]; omega
    have e := s14_succ (grid0.coords t) B X ⟨n, hlt⟩
    simp only [] at e
    rw [e]
    by_cases hb : (b : ℕ) = n
    · have eb : b = ⟨n, by omega⟩ := Fin.ext hb
      rw [eb, u_n14_in _ _ _ _ ⟨n, by omega⟩ (off2_eq t ⟨n, hlt⟩) j, ih (by omega)]
      refine (congrArg (_ - ·) (strips14 h (t.val % 4) n g _ j (DE_eq (good_at1 t hG ⟨n, hlt⟩) (by simp only []; omega) · j))).trans ?_
      rw [← EReal.coe_sub, if_neg (by simp only []; omega), if_pos (by simp only []; omega), sub_zero]
    · rw [u_n14_out _ _ _ _ ⟨n, by omega⟩ (off2_eq t ⟨n, hlt⟩) b (fun h => hb (congrArg Fin.val h)) j, ih (by omega)]
      by_cases h1 : (b : ℕ) < n
      · rw [if_pos h1, if_pos (by omega)]
      · rw [if_neg h1, if_neg (by omega)]

theorem o14_eq (X : Vec Ideal S1x4x1x512 .f32) (a : ℕ → ℝ) (hX : ∀ (b : Fin 4) (j : Fin 512), (X : FVec Ideal S1x4x1x512 .f32) (ix4 0 b 0 j) = ((a (512 * b + j) : ℝ) : EReal)) (b : Fin 4) (j : Fin 512) :
    (o14 (grid0.coords t) B X : FVec Ideal S1x4x1x512 .f32) (ix4 0 b 0 j) = ((a (512 * b + j) - dcT g (2 * h) (t.val % 4) (512 * b + j) : ℝ) : EReal) := by
  unfold o14
  have ih := s14_eq t hG X a hX (t.val % 4) le_rfl
  rw [trips_eq]
  by_cases hb : (b : ℕ) = t.val % 4
  · have eb : b = ⟨t.val % 4, by omega⟩ := Fin.ext hb
    rw [eb, w_n14_in _ (msk_at2 t) _ _ _ ⟨t.val % 4, by omega⟩ (off6_eq t) j, ih]
    refine (congrArg (_ - ·) (strips14 h (t.val % 4) (t.val % 4) g _ j (DM_eq (good_at2 t hG) rfl · j))).trans ?_
    rw [← EReal.coe_sub, if_neg (by simp only []; omega), sub_zero]
  · rw [w_n14_out _ _ _ _ ⟨t.val % 4, by omega⟩ (off6_eq t) b (fun h => hb (congrArg Fin.val h)) j, ih]
    by_cases h1 : (b : ℕ) < t.val % 4
    · rw [if_pos h1]
    · rw [if_neg h1, dcT_zero _ _ _ _ (by omega)]

theorem s15_eq (X : Vec Ideal S1x4x1x512 .f32) (a : ℕ → ℝ) (hX : ∀ (b : Fin 4) (j : Fin 512), (X : FVec Ideal S1x4x1x512 .f32) (ix4 0 b 0 j) = ((a (512 * b + j) : ℝ) : EReal)) (n : ℕ) (hn : n ≤ t.val % 4) :
    ∀ (b : Fin 4) (j : Fin 512), (s15 (grid0.coords t) B X n : FVec Ideal S1x4x1x512 .f32) (ix4 0 b 0 j) = ((a (512 * b + j) - (if (b : ℕ) < n then dcT g (2 * h + 1) (t.val % 4) (512 * b + j) else 0) : ℝ) : EReal) := by
  induction n with
  | zero => intro b j; rw [if_neg (by omega), sub_zero]; exact hX b j
  | succ n ih =>
    intro b j
    have hlt : n < (k0_t1_loop (grid0.coords t)).trips := by rw [trips_eq]; omega
    have e := s15_succ (grid0.coords t) B X ⟨n, hlt⟩
    simp only [] at e
    rw [e]
    by_cases hb : (b : ℕ) = n
    · have eb : b = ⟨n, by omega⟩ := Fin.ext hb
      rw [eb, u_n15_in _ _ _ _ ⟨n, by omega⟩ (off2_eq t ⟨n, hlt⟩) j, ih (by omega)]
      refine (congrArg (_ - ·) (strips15 h (t.val % 4) n g _ j (DE_eq (good_at1 t hG ⟨n, hlt⟩) (by simp only []; omega) · j))).trans ?_
      rw [← EReal.coe_sub, if_neg (by simp only []; omega), if_pos (by simp only []; omega), sub_zero]
    · rw [u_n15_out _ _ _ _ ⟨n, by omega⟩ (off2_eq t ⟨n, hlt⟩) b (fun h => hb (congrArg Fin.val h)) j, ih (by omega)]
      by_cases h1 : (b : ℕ) < n
      · rw [if_pos h1, if_pos (by omega)]
      · rw [if_neg h1, if_neg (by omega)]

theorem o15_eq (X : Vec Ideal S1x4x1x512 .f32) (a : ℕ → ℝ) (hX : ∀ (b : Fin 4) (j : Fin 512), (X : FVec Ideal S1x4x1x512 .f32) (ix4 0 b 0 j) = ((a (512 * b + j) : ℝ) : EReal)) (b : Fin 4) (j : Fin 512) :
    (o15 (grid0.coords t) B X : FVec Ideal S1x4x1x512 .f32) (ix4 0 b 0 j) = ((a (512 * b + j) - dcT g (2 * h + 1) (t.val % 4) (512 * b + j) : ℝ) : EReal) := by
  unfold o15
  have ih := s15_eq t hG X a hX (t.val % 4) le_rfl
  rw [trips_eq]
  by_cases hb : (b : ℕ) = t.val % 4
  · have eb : b = ⟨t.val % 4, by omega⟩ := Fin.ext hb
    rw [eb, w_n15_in _ (msk_at2 t) _ _ _ ⟨t.val % 4, by omega⟩ (off6_eq t) j, ih]
    refine (congrArg (_ - ·) (strips15 h (t.val % 4) (t.val % 4) g _ j (DM_eq (good_at2 t hG) rfl · j))).trans ?_
    rw [← EReal.coe_sub, if_neg (by simp only []; omega), sub_zero]
  · rw [w_n15_out _ _ _ _ ⟨t.val % 4, by omega⟩ (off6_eq t) b (fun h => hb (congrArg Fin.val h)) j, ih]
    by_cases h1 : (b : ℕ) < t.val % 4
    · rw [if_pos h1]
    · rw [if_neg h1, dcT_zero _ _ _ _ (by omega)]

theorem s16_eq (X : Vec Ideal S1x512x1 .f32) (hX : ∀ r : Fin 512, (X : FVec Ideal S1x512x1 .f32) (ix3 0 r 0) = ((0 : ℝ) : EReal)) (n : ℕ) (hn : n ≤ t.val % 4) :
    ∀ r : Fin 512, (s16 (grid0.coords t) B X n : FVec Ideal S1x512x1 .f32) (ix3 0 r 0) = ((∑ y ∈ range (512 * n), g.δ (2 * h) (512 * (t.val % 4) + r) y : ℝ) : EReal) := by
  induction n with
  | zero => intro r; refine (hX r).trans ?_; rw [mul_zero, range_zero, sum_empty]
  | succ n ih =>
    intro r
    have hlt : n < (k0_t1_loop (grid0.coords t)).trips := by rw [trips_eq]; omega
    have e := s16_succ (grid0.coords t) B X ⟨n, hlt⟩
    simp only [] at e
    have ed : ∀ j : Fin 512, DE (B.at1 (grid0.coords t) ⟨n, hlt⟩) ⟨r, by omega⟩ j = ((g.δ (2 * h) (512 * (t.val % 4) + r) (512 * n + j) : ℝ) : EReal) := fun j => by
      rw [DE_eq (good_at1 t hG ⟨n, hlt⟩) (by simp only []; omega) ⟨r, by omega⟩ j]
      rw [show ((⟨r, by omega⟩ : Fin 1024) : ℕ) / 512 = 0 by simp only []; omega, show ((⟨r, by omega⟩ : Fin 1024) : ℕ) % 512 = r by simp only []; omega]; rfl
    rw [e, u_n16_at, ih (by omega), sum_chunk]
    simp only [ed, ← coe_sum, ← EReal.coe_add]

theorem o16_eq (X : Vec Ideal S1x512x1 .f32) (hX : ∀ r : Fin 512, (X : FVec Ideal S1x512x1 .f32) (ix3 0 r 0) = ((0 : ℝ) : EReal)) (r : Fin 512) :
    (o16 (grid0.coords t) B X : FVec Ideal S1x512x1 .f32) (ix3 0 r 0) = ((∑ y ∈ range 2048, g.δ (2 * h) (512 * (t.val % 4) + r) y : ℝ) : EReal) := by
  unfold o16
  have ih := s16_eq t hG X hX (t.val % 4) le_rfl
  have ed : ∀ j : Fin 512, DM (B.at2 (grid0.coords t)) ⟨r, by omega⟩ j = ((g.δ (2 * h) (512 * (t.val % 4) + r) (512 * (t.val % 4) + j) : ℝ) : EReal) := fun j => by
    rw [DM_eq (good_at2 t hG) rfl ⟨r, by omega⟩ j]
    rw [show ((⟨r, by omega⟩ : Fin 1024) : ℕ) / 512 = 0 by simp only []; omega, show ((⟨r, by omega⟩ : Fin 1024) : ℕ) % 512 = r by simp only []; omega]; rfl
  rw [trips_eq, w_n16_at _ (msk_at2 t), ih]
  simp only [ed, ← coe_sum, ← EReal.coe_add]
  rw [← sum_chunk, sum_tail _ (512 * (t.val % 4 + 1)) (by omega) fun y hy => G.δ_of_lt _ _ _ _ (by omega)]

theorem s17_eq (X : Vec Ideal S1x512x1 .f32) (hX : ∀ r : Fin 512, (X : FVec Ideal S1x512x1 .f32) (ix3 0 r 0) = ((0 : ℝ) : EReal)) (n : ℕ) (hn : n ≤ t.val % 4) :
    ∀ r : Fin 512, (s17 (grid0.coords t) B X n : FVec Ideal S1x512x1 .f32) (ix3 0 r 0) = ((∑ y ∈ range (512 * n), g.δ (2 * h + 1) (512 * (t.val % 4) + r) y : ℝ) : EReal) := by
  induction n with
  | zero => intro r; refine (hX r).trans ?_; rw [mul_zero, range_zero, sum_empty]
  | succ n ih =>
    intro r
    have hlt : n < (k0_t1_loop (grid0.coords t)).trips := by rw [trips_eq]; omega
    have e := s17_succ (grid0.coords t) B X ⟨n, hlt⟩
    simp only [] at e
    have ed : ∀ j : Fin 512, DE (B.at1 (grid0.coords t) ⟨n, hlt⟩) ⟨512 + r, by omega⟩ j = ((g.δ (2 * h + 1) (512 * (t.val % 4) + r) (512 * n + j) : ℝ) : EReal) := fun j => by
      rw [DE_eq (good_at1 t hG ⟨n, hlt⟩) (by simp only []; omega) ⟨512 + r, by omega⟩ j]
      rw [show ((⟨512 + r, by omega⟩ : Fin 1024) : ℕ) / 512 = 1 by simp only []; omega, show ((⟨512 + r, by omega⟩ : Fin 1024) : ℕ) % 512 = r by simp only []; omega]
    rw [e, u_n17_at, ih (by omega), sum_chunk]
    simp only [ed, ← coe_sum, ← EReal.coe_add]

theorem o17_eq (X : Vec Ideal S1x512x1 .f32) (hX : ∀ r : Fin 512, (X : FVec Ideal S1x512x1 .f32) (ix3 0 r 0) = ((0 : ℝ) : EReal)) (r : Fin 512) :
    (o17 (grid0.coords t) B X : FVec Ideal S1x512x1 .f32) (ix3 0 r 0) = ((∑ y ∈ range 2048, g.δ (2 * h + 1) (512 * (t.val % 4) + r) y : ℝ) : EReal) := by
  unfold o17
  have ih := s17_eq t hG X hX (t.val % 4) le_rfl
  have ed : ∀ j : Fin 512, DM (B.at2 (grid0.coords t)) ⟨512 + r, by omega⟩ j = ((g.δ (2 * h + 1) (512 * (t.val % 4) + r) (512 * (t.val % 4) + j) : ℝ) : EReal) := fun j => by
    rw [DM_eq (good_at2 t hG) rfl ⟨512 + r, by omega⟩ j]
    rw [show ((⟨512 + r, by omega⟩ : Fin 1024) : ℕ) / 512 = 1 by simp only []; omega, show ((⟨512 + r, by omega⟩ : Fin 1024) : ℕ) % 512 = r by simp only []; omega]
  rw [trips_eq, w_n17_at _ (msk_at2 t), ih]
  simp only [ed, ← coe_sum, ← EReal.coe_add]
  rw [← sum_chunk, sum_tail _ (512 * (t.val % 4 + 1)) (by omega) fun y hy => G.δ_of_lt _ _ _ _ (by omega)]

theorem s22_eq (X : Vec Ideal S1024x128 .f32) (hX : ∀ (x : Fin 1024) (l : Fin 128), (X : FVec Ideal S1024x128 .f32) (ix2 x l) = ((0 : ℝ) : EReal)) (n : ℕ) (hn : n ≤ t.val % 4) :
    ∀ (x : Fin 1024) (l : Fin 128), (s22 (grid0.coords t) B X n : FVec Ideal S1024x128 .f32) (ix2 x l) = ((∑ y ∈ range (512 * n), g.δ (2 * h + (x : ℕ) / 512) (512 * (t.val % 4) + (x : ℕ) % 512) y * g.k y (2 * h + (l : ℕ) / 64) ((l : ℕ) % 64) : ℝ) : EReal) := by
  induction n with
  | zero => intro x l; refine (hX x l).trans ?_; rw [mul_zero, range_zero, sum_empty]
  | succ n ih =>
    intro x l
    have hlt : n < (k0_t1_loop (grid0.coords t)).trips := by rw [trips_eq]; omega
    have e := s22_succ (grid0.coords t) B X ⟨n, hlt⟩
    simp only [] at e
    rw [e, u_n22_at, ih (by omega), sum_chunk, sum_k (good_at1 t hG ⟨n, hlt⟩) x _ (fun y => g.δ (2 * h + (x : ℕ) / 512) (512 * (t.val % 4) + (x : ℕ) % 512) y) (DE_eq (good_at1 t hG ⟨n, hlt⟩) (by simp only []; omega) x), ← EReal.coe_add]

theorem o22_eq (X : Vec Ideal S1024x128 .f32) (hX : ∀ (x : Fin 1024) (l : Fin 128), (X : FVec Ideal S1024x128 .f32) (ix2 x l) = ((0 : ℝ) : EReal)) (x : Fin 1024) (l : Fin 128) :
    (o22 (grid0.coords t) B X : FVec Ideal S1024x128 .f32) (ix2 x l) = ((∑ y ∈ range 2048, g.δ (2 * h + (x : ℕ) / 512) (512 * (t.val % 4) + (x : ℕ) % 512) y * g.k y (2 * h + (l : ℕ) / 64) ((l : ℕ) % 64) : ℝ) : EReal) := by
  unfold o22
  have ih := s22_eq t hG X hX (t.val % 4) le_rfl
  rw [trips_eq, w_n22_at _ (msk_at2 t), ih, sum_k (good_at2 t hG) x _ (fun y => g.δ (2 * h + (x : ℕ) / 512) (512 * (t.val % 4) + (x : ℕ) % 512) y) (DM_eq (good_at2 t hG) rfl x), ← EReal.coe_add]
  rw [← sum_chunk (fun y => g.δ (2 * h + (x : ℕ) / 512) (512 * (t.val % 4) + (x : ℕ) % 512) y * g.k y (2 * h + (l : ℕ) / 64) ((l : ℕ) % 64)), sum_tail _ (512 * (t.val % 4 + 1)) (by omega) fun y hy => by rw [G.δ_of_lt _ _ _ _ (by omega), zero_mul]]

omit hG in
theorem z22_at (x : Fin 1024) (l : Fin 128) : (z22 (F := Ideal) : FVec Ideal S1024x128 .f32) (ix2 x l) = ((0 : ℝ) : EReal) := by
  unfold z22
  canon_tiles y h
  pointwise [k0_pay81]
  exact EReal.coe_zero.symm

omit hG in
theorem lane_bit (l : Fin 128) : IntOp.cmpi CmpIPredicate.slt (BitVec.ofNat 32 (l : ℕ)) 64#32 = if (l : ℕ) < 64 then 1#1 else 0#1 := by
  revert l; decide +kernel
omit hG in
theorem eighth : Ideal.ofBits FTy.f32 1040187392#32 = ((1 / 8 : ℝ) : EReal) := by
  simp [Ideal.ofBits, Ideal.ieee, -EReal.coe_mul]; norm_num

/-- The query gradient's accumulator after the masked chunk. -/
def acc (I : In Ideal) (X22 : Vec Ideal S1024x128 .f32) : Vec Ideal S1024x128 .f32 :=
  View.canon [⟨(Rect.unit (s := S1024x128) ![0, 0] S1024x128.size inb_S1024x128_S1024x128_0_0), (k0_pay129 (w_v91 I) (View.ld X22 (Rect.unit (s := S1024x128) ![0, 0] S1024x128.size inb_S1024x128_S1024x128_0_0)) (w_v301 I))⟩]

omit hG in
theorem acc_at (I : In Ideal) (hI : Msk I) (X : Vec Ideal S1024x128 .f32) (x : Fin 1024) (l : Fin 128) :
    acc I X (ix2 x l) = w_n22 I X (ix2 x l) := by
  rw [w_n22_at I hI]
  unfold acc
  canon_tiles y h
  obtain ⟨y0, y1, rfl⟩ : ∃ y0 y1, y = ix2 y0 y1 := ⟨y 0, y 1, eq_ix2 y⟩
  have e0 : y0 = x := Fin.ext h0.symm
  have e1 : y1 = l := Fin.ext h1.symm
  rw [e0, e1]
  pointwise [k0_pay129, w_v91, k0_pay91, w_v301_at I hI]

omit hG in
theorem w_n11_at (I : In Ideal) (hI : Msk I) (hlo : I.lo = k0_pay73) (X : Vec Ideal S1024x128 .f32) (r : Fin 512) (l : Fin 128) :
    (w_n11 I X : FVec Ideal S512x128 .f32) (ix2 r l) = (if (l : ℕ) < 64 then (w_n22 I X : FVec Ideal S1024x128 .f32) (ix2 ⟨r, by omega⟩ l) else (w_n22 I X : FVec Ideal S1024x128 .f32) (ix2 ⟨512 + r, by omega⟩ l)) * ((1 / 8 : ℝ) : EReal) := by
  have e : w_n11 I X = View.canon [⟨(Rect.unit (s := S512x128) ![0, 0] S512x128.size inb_S512x128_S512x128_0_0), (k0_pay130 I.lo (View.ld (acc I X) (Rect.unit (s := S1024x128) ![0, 0] S512x128.size inb_S1024x128_S512x128_0_0)) (View.ld (acc I X) (Rect.unit (s := S1024x128) ![512, 0] S512x128.size inb_S1024x128_S512x128_512_0)))⟩] := rfl
  rw [e, hlo, ← acc_at I hI, ← acc_at I hI]
  canon_tiles y h
  obtain ⟨y0, y1, rfl⟩ : ∃ y0 y1, y = ix2 y0 y1 := ⟨y 0, y 1, eq_ix2 y⟩
  have e0 : y0 = r := Fin.ext h0.symm
  have e1 : y1 = l := Fin.ext h1.symm
  rw [e0, e1]
  pointwise [k0_pay130, k0_pay73]
  rw [lane_bit, eighth]
  refine congrArg (· * _) ?_
  generalize acc I X (ix2 ⟨r, _⟩ l) = u
  generalize acc I X (ix2 ⟨512 + r, _⟩ l) = w
  by_cases hl : (l : ℕ) < 64
  · rw [if_pos hl, if_pos hl]; rfl
  · rw [if_neg hl, if_neg hl]; rfl

/-- The tile's gradient of the queries. -/
theorem o11_eq (r : Fin 512) (l : Fin 128) :
    (o11 (grid0.coords t) B : FVec Ideal S512x128 .f32) (ix2 r l) = (((∑ y ∈ range 2048, g.δ (2 * h + (l : ℕ) / 64) (512 * (t.val % 4) + r) y * g.k y (2 * h + (l : ℕ) / 64) ((l : ℕ) % 64)) * (1 / 8) : ℝ) : EReal) := by
  have e : (o11 (grid0.coords t) B : FVec Ideal S512x128 .f32) (ix2 r l) = (if (l : ℕ) < 64 then (o22 (grid0.coords t) B z22 : FVec Ideal S1024x128 .f32) (ix2 ⟨r, by omega⟩ l) else (o22 (grid0.coords t) B z22 : FVec Ideal S1024x128 .f32) (ix2 ⟨512 + r, by omega⟩ l)) * ((1 / 8 : ℝ) : EReal) := by
    unfold o11 o22
    exact w_n11_at _ (msk_at2 t) rfl _ r l
  rw [e]
  by_cases hl : (l : ℕ) < 64
  · rw [if_pos hl, o22_eq t hG _ z22_at, ← EReal.coe_mul]
    simp only []
    rw [show (l : ℕ) / 64 = 0 by omega, show (r : ℕ) / 512 = 0 by omega, show (r : ℕ) % 512 = r by omega]
  · rw [if_neg hl, o22_eq t hG _ z22_at, ← EReal.coe_mul]
    simp only []
    rw [show (l : ℕ) / 64 = 1 by omega, show (512 + (r : ℕ)) / 512 = 1 by omega, show (512 + (r : ℕ)) % 512 = r by omega]

end

end Cert.KernelIdeal.Fox

end
-- ==== Proof.FoxKernelIdeal.Block.lean ====
module

public import proofs.«01_k».proof.Proof.FoxKernelIdeal.Tile

@[expose] public section

set_option maxRecDepth 16384

noncomputable section

namespace Cert.KernelIdeal.Fox

open Cert.KernelIdeal Cert.KernelIdeal.Gen
open Idealize.ShloMosaic Idealize.ShloMosaic.TcCoe Idealize.SL.Sem
open Idealize.ShloMosaic.Pipeline (Dat)
open Finset

/-- The blocks of tile `i` of pair `h`, as the real inputs give them. -/
structure GoodBlk (B : Blk Ideal) (g : G) (h i : ℕ) : Prop where
  X2 : ∀ (r : Fin 512) (l : Fin 128), (B.X2 : FVec Ideal S512x128 .bf16) (ix2 r l) = ((g.q (512 * i + r) (2 * h + (l : ℕ) / 64) ((l : ℕ) % 64) * (1 / 8) : ℝ) : EReal)
  X3 : ∀ (y : Fin 2048) (l : Fin 128), (B.X3 : FVec Ideal S2048x128 .bf16) (ix2 y l) = ((g.k y (2 * h + (l : ℕ) / 64) ((l : ℕ) % 64) : ℝ) : EReal)
  X4 : ∀ (y : Fin 2048) (l : Fin 128), (B.X4 : FVec Ideal S2048x128 .bf16) (ix2 y l) = ((g.v y (2 * h + (l : ℕ) / 64) ((l : ℕ) % 64) : ℝ) : EReal)
  X5 : ∀ (r : Fin 512) (l : Fin 128), (B.X5 : FVec Ideal S512x128 .f32) (ix2 r l) = ((g.o (512 * i + r) (2 * h + (l : ℕ) / 64) ((l : ℕ) % 64) : ℝ) : EReal)
  X6 : ∀ (r : Fin 512) (l : Fin 128), (B.X6 : FVec Ideal S512x128 .bf16) (ix2 r l) = ((g.d (512 * i + r) (2 * h + (l : ℕ) / 64) ((l : ℕ) % 64) : ℝ) : EReal)
  X7 : ∀ (a : Fin 4) (j : Fin 512), (B.X7 : FVec Ideal S1x4x1x512 .f32) (ix4 0 a 0 j) = ((g.c (2 * h) (512 * a + j) : ℝ) : EReal)
  X8 : ∀ (a : Fin 4) (j : Fin 512), (B.X8 : FVec Ideal S1x4x1x512 .f32) (ix4 0 a 0 j) = ((g.c (2 * h + 1) (512 * a + j) : ℝ) : EReal)
  X9 : ∀ r : Fin 512, (B.X9 : FVec Ideal S1x512x1 .f32) (ix3 0 r 0) = ((g.lse (2 * h) (512 * i + r) : ℝ) : EReal)
  X10 : ∀ r : Fin 512, (B.X10 : FVec Ideal S1x512x1 .f32) (ix3 0 r 0) = ((g.lse (2 * h + 1) (512 * i + r) : ℝ) : EReal)

theorem pay75_lo (X : Vec Ideal S512x128 .bf16) (r : Fin 512) (l : Fin 128) :
    (k0_pay75 X) (ix2 ⟨r, by omega⟩ l) = if (l : ℕ) < 64 then (X : FVec Ideal S512x128 .bf16) (ix2 r l) else 0 := by
  pointwise [k0_pay75, k0_pay73, k0_pay74]
  rw [lane_bit]
  by_cases hl : (l : ℕ) < 64
  · rw [if_pos hl, if_pos hl]; rfl
  · rw [if_neg hl, if_neg hl]; rfl
theorem pay75_hi (X : Vec Ideal S512x128 .bf16) (r : Fin 512) (l : Fin 128) :
    (k0_pay75 X) (ix2 ⟨512 + r, by omega⟩ l) = if (l : ℕ) < 64 then 0 else (X : FVec Ideal S512x128 .bf16) (ix2 r l) := by
  pointwise [k0_pay75, k0_pay73, k0_pay74]
  rw [lane_bit]
  by_cases hl : (l : ℕ) < 64
  · rw [if_pos hl, if_pos hl]; rfl
  · rw [if_neg hl, if_neg hl]; rfl

theorem pay76_lo (X : Vec Ideal S512x128 .bf16) (r : Fin 512) (l : Fin 128) :
    (k0_pay76 X) (ix2 ⟨r, by omega⟩ l) = if (l : ℕ) < 64 then (X : FVec Ideal S512x128 .bf16) (ix2 r l) else 0 := by
  pointwise [k0_pay76, k0_pay73, k0_pay74, k0_pay72]
  rw [lane_bit]
  by_cases hl : (l : ℕ) < 64
  · rw [if_pos hl, if_pos hl]; rfl
  · rw [if_neg hl, if_neg hl]; rfl
theorem pay76_hi (X : Vec Ideal S512x128 .bf16) (r : Fin 512) (l : Fin 128) :
    (k0_pay76 X) (ix2 ⟨512 + r, by omega⟩ l) = if (l : ℕ) < 64 then 0 else (X : FVec Ideal S512x128 .bf16) (ix2 r l) := by
  pointwise [k0_pay76, k0_pay73, k0_pay74, k0_pay72]
  rw [lane_bit]
  by_cases hl : (l : ℕ) < 64
  · rw [if_pos hl, if_pos hl]; rfl
  · rw [if_neg hl, if_neg hl]; rfl

/-- A row's product sum over one head's lanes. -/
def rowsum (e : ℕ) (a b : Fin 128 → EReal) : EReal := ∑ l : Fin 128, if e = (l : ℕ) / 64 then a l * b l else 0

theorem dsum_lo (X5 : Vec Ideal S512x128 .f32) (X6 : Vec Ideal S512x128 .bf16) (r : Fin 512) :
    (dsum X5 X6 : FVec Ideal S1024x1 .f32) (ix2 ⟨r, by omega⟩ 0) = rowsum 0 (fun l => (X6 : FVec Ideal S512x128 .bf16) (ix2 r l)) (fun l => (X5 : FVec Ideal S512x128 .f32) (ix2 r l)) := by
  unfold dsum
  canon_tiles y h
  · exfalso; have e : (r : ℕ) = 512 + (y 0 : ℕ) := h0; omega
  · obtain ⟨y0, y1, rfl⟩ : ∃ y0 y1, y = ix2 y0 y1 := ⟨y 0, y 1, eq_ix2 y⟩
    have e0 : y0 = r := Fin.ext h0.symm
    rw [e0]
    pointwise [k0_pay79, k0_pay78, k0_pay77, k0_pay72, k0_pay73]
    refine Finset.sum_congr rfl fun l _ => ?_
    rw [lane_bit]
    by_cases hl : (l : ℕ) < 64
    · rw [if_pos hl, if_pos (by omega)]; rfl
    · rw [if_neg hl, if_neg (by omega)]; rfl

theorem dsum_hi (X5 : Vec Ideal S512x128 .f32) (X6 : Vec Ideal S512x128 .bf16) (r : Fin 512) :
    (dsum X5 X6 : FVec Ideal S1024x1 .f32) (ix2 ⟨512 + r, by omega⟩ 0) = rowsum 1 (fun l => (X6 : FVec Ideal S512x128 .bf16) (ix2 r l)) (fun l => (X5 : FVec Ideal S512x128 .f32) (ix2 r l)) := by
  unfold dsum
  canon_tiles y h
  · obtain ⟨y0, y1, rfl⟩ : ∃ y0 y1, y = ix2 y0 y1 := ⟨y 0, y 1, eq_ix2 y⟩
    have e0 : y0 = r := Fin.ext (by have e : 512 + (r : ℕ) = 512 + (y0 : ℕ) := h0; omega)
    rw [e0]
    pointwise [k0_pay80, k0_pay77, k0_pay72, k0_pay73]
    refine Finset.sum_congr rfl fun l _ => ?_
    rw [lane_bit]
    by_cases hl : (l : ℕ) < 64
    · rw [if_pos hl, if_neg (by omega)]; rfl
    · rw [if_neg hl, if_pos (by omega)]; rfl
  · exfalso; have e : 512 + (r : ℕ) = (y 0 : ℕ) := h0; omega

theorem rowsum_eq (e : ℕ) (he : e < 2) (a b : Fin 128 → EReal) (f k : ℕ → ℕ → ℝ) (ha : ∀ l, a l = ((f ((l : ℕ) / 64) ((l : ℕ) % 64) : ℝ) : EReal)) (hb : ∀ l, b l = ((k ((l : ℕ) / 64) ((l : ℕ) % 64) : ℝ) : EReal)) :
    rowsum e a b = ((∑ l ∈ range 64, f e l * k e l : ℝ) : EReal) := by
  rw [← pick e he fun e l => f e l * k e l, coe_sum]
  refine sum_congr rfl fun l _ => ?_
  by_cases hl : e = (l : ℕ) / 64
  · rw [if_pos hl, if_pos hl, ha, hb, ← EReal.coe_mul]
  · rw [if_neg hl, if_neg hl]; exact EReal.coe_zero.symm

/-- The key loop's inputs from the blocks. -/
theorem good_base {B : Blk Ideal} {g : G} {h i : ℕ} (hB : GoodBlk B g h i) : GoodBase B.base g h i := by
  have split : ∀ x : Fin 1024, (∃ r : Fin 512, x = ⟨r, by omega⟩) ∨ ∃ r : Fin 512, x = ⟨512 + r, by omega⟩ := fun x => by
    by_cases hx : (x : ℕ) < 512
    · exact .inl ⟨⟨x, hx⟩, rfl⟩
    · exact .inr ⟨⟨x - 512, by omega⟩, Fin.ext (by simp only []; omega)⟩
  refine ⟨fun x l => ?_, fun x l => ?_, hB.X3, hB.X4, hB.X7, hB.X8, hB.X9, hB.X10, fun x => ?_⟩
  · have e : ∀ (r : Fin 512), (View.ld B.X2 (Rect.unit (s := S512x128) ![0, 0] S512x128.size inb_S512x128_S512x128_0_0)) (ix2 r l) = (B.X2 : FVec Ideal S512x128 .bf16) (ix2 r l) := fun r =>
      ld_at _ _ _ _ (ix2 r l) (ix2 r l) _ rfl (by intro a; fin_cases a <;> simp)
    obtain ⟨r, rfl⟩ | ⟨r, rfl⟩ := split x
    · refine (pay75_lo _ r l).trans ?_
      rw [e, hB.X2]; simp only []
      rw [show (r : ℕ) / 512 = 0 by omega, show (r : ℕ) % 512 = r by omega]
      by_cases hl : (l : ℕ) < 64
      · rw [if_pos hl, if_pos (by omega)]
      · rw [if_neg hl, if_neg (by omega)]; exact EReal.coe_zero.symm
    · refine (pay75_hi _ r l).trans ?_
      rw [e, hB.X2]; simp only []
      rw [show (512 + (r : ℕ)) / 512 = 1 by omega, show (512 + (r : ℕ)) % 512 = r by omega]
      by_cases hl : (l : ℕ) < 64
      · rw [if_pos hl, if_neg (by omega)]; exact EReal.coe_zero.symm
      · rw [if_neg hl, if_pos (by omega)]
  · have e : ∀ (r : Fin 512), (View.ld B.X6 (Rect.unit (s := S512x128) ![0, 0] S512x128.size inb_S512x128_S512x128_0_0)) (ix2 r l) = (B.X6 : FVec Ideal S512x128 .bf16) (ix2 r l) := fun r =>
      ld_at _ _ _ _ (ix2 r l) (ix2 r l) _ rfl (by intro a; fin_cases a <;> simp)
    obtain ⟨r, rfl⟩ | ⟨r, rfl⟩ := split x
    · refine (pay76_lo _ r l).trans ?_
      rw [e, hB.X6]; simp only []
      rw [show (r : ℕ) / 512 = 0 by omega, show (r : ℕ) % 512 = r by omega]
      by_cases hl : (l : ℕ) < 64
      · rw [if_pos hl, if_pos (by omega)]
      · rw [if_neg hl, if_neg (by omega)]; exact EReal.coe_zero.symm
    · refine (pay76_hi _ r l).trans ?_
      rw [e, hB.X6]; simp only []
      rw [show (512 + (r : ℕ)) / 512 = 1 by omega, show (512 + (r : ℕ)) % 512 = r by omega]
      by_cases hl : (l : ℕ) < 64
      · rw [if_pos hl, if_neg (by omega)]; exact EReal.coe_zero.symm
      · rw [if_neg hl, if_pos (by omega)]
  · obtain ⟨r, rfl⟩ | ⟨r, rfl⟩ := split x
    · refine (dsum_lo _ _ r).trans ?_
      rw [rowsum_eq 0 (by omega) _ _ (fun e l => g.d (512 * i + r) (2 * h + e) l) (fun e l => g.o (512 * i + r) (2 * h + e) l) (hB.X6 r) (hB.X5 r)]
      simp only []
      rw [show (r : ℕ) / 512 = 0 by omega, show (r : ℕ) % 512 = r by omega]; rfl
    · refine (dsum_hi _ _ r).trans ?_
      rw [rowsum_eq 1 (by omega) _ _ (fun e l => g.d (512 * i + r) (2 * h + e) l) (fun e l => g.o (512 * i + r) (2 * h + e) l) (hB.X6 r) (hB.X5 r)]
      simp only []
      rw [show (512 + (r : ℕ)) / 512 = 1 by omega, show (512 + (r : ℕ)) % 512 = r by omega]; rfl

end Cert.KernelIdeal.Fox

end
-- ==== Proof.FoxKernelIdeal.Pair.lean ====
module

public import proofs.«01_k».proof.Proof.FoxKernelIdeal.Block

@[expose] public section

set_option maxRecDepth 16384

noncomputable section

namespace Cert.KernelIdeal.Fox

open Cert.KernelIdeal Cert.KernelIdeal.Gen
open Idealize.ShloMosaic Idealize.ShloMosaic.TcCoe Idealize.SL.Sem
open Idealize.ShloMosaic.Pipeline (Dat)
open Finset

namespace G
variable (g : G)
/-- The gradients, as real numbers. -/
def dq (r n l : ℕ) : ℝ := (∑ y ∈ range 2048, g.δ n r y * g.k y n l) * (1 / 8)
def dk (y n l : ℕ) : ℝ := ∑ r ∈ range 2048, g.δ n r y * (g.q r n l * (1 / 8))
def dv (y n l : ℕ) : ℝ := ∑ r ∈ range 2048, g.P n r y * g.d r n l
def dck (n y : ℕ) : ℝ := - ∑ r ∈ range 2048, g.δ n r y
def dcq (n r : ℕ) : ℝ := ∑ y ∈ range 2048, g.δ n r y
end G

theorem sum_tiles (f : ℕ → ℝ) : ∑ i ∈ range 4, ∑ r ∈ range 512, f (512 * i + r) = ∑ r ∈ range 2048, f r := by
  have e : ∀ n, ∑ i ∈ range n, ∑ r ∈ range 512, f (512 * i + r) = ∑ r ∈ range (512 * n), f r := fun n => by
    induction n with
    | zero => simp
    | succ n ih => rw [sum_range_succ, ih, show 512 * (n + 1) = 512 * n + 512 by ring, sum_range_add]
  exact e 4

theorem z12_at (x : Fin 2048) (l : Fin 128) : (z12 (F := Ideal) : FVec Ideal S2048x128 .f32) (ix2 x l) = ((0 : ℝ) : EReal) := by
  unfold z12
  canon_tiles y h
  pointwise [k0_pay68]
  exact EReal.coe_zero.symm
theorem z24_at (x : Fin 2048) (l : Fin 128) : (z24 (F := Ideal) : FVec Ideal S2048x128 .f32) (ix2 x l) = ((0 : ℝ) : EReal) := by
  unfold z24
  canon_tiles y h
  pointwise [k0_pay69]
  exact EReal.coe_zero.symm
theorem z14_at (b : Fin 4) (j : Fin 512) : (z14 (F := Ideal) : FVec Ideal S1x4x1x512 .f32) (ix4 0 b 0 j) = ((0 : ℝ) : EReal) := by
  unfold z14
  canon_tiles y h
  pointwise [k0_pay70]
  exact EReal.coe_zero.symm
theorem z15_at (b : Fin 4) (j : Fin 512) : (z15 (F := Ideal) : FVec Ideal S1x4x1x512 .f32) (ix4 0 b 0 j) = ((0 : ℝ) : EReal) := by
  unfold z15
  canon_tiles y h
  pointwise [k0_pay71]
  exact EReal.coe_zero.symm
theorem z16_at (r : Fin 512) : (z16 (F := Ideal) : FVec Ideal S1x512x1 .f32) (ix3 0 r 0) = ((0 : ℝ) : EReal) := by
  unfold z16
  canon_tiles y h
  pointwise [k0_pay82]
  exact EReal.coe_zero.symm
theorem z17_at (r : Fin 512) : (z17 (F := Ideal) : FVec Ideal S1x512x1 .f32) (ix3 0 r 0) = ((0 : ℝ) : EReal) := by
  unfold z17
  canon_tiles y h
  pointwise [k0_pay83]
  exact EReal.coe_zero.symm

/-- What pair `h` has carried after its first `k` tiles. -/
structure GoodCarr (p : Carr Ideal) (g : G) (h k : ℕ) : Prop where
  c12 : ∀ (y : Fin 2048) (l : Fin 128), (p.c12 : FVec Ideal S2048x128 .f32) (ix2 y l) = ((∑ i ∈ range k, dkT g h i y l : ℝ) : EReal)
  c24 : ∀ (y : Fin 2048) (l : Fin 128), (p.c24 : FVec Ideal S2048x128 .f32) (ix2 y l) = ((∑ i ∈ range k, dvT g h i y l : ℝ) : EReal)
  c14 : ∀ (b : Fin 4) (j : Fin 512), (p.c14 : FVec Ideal S1x4x1x512 .f32) (ix4 0 b 0 j) = ((- ∑ i ∈ range k, dcT g (2 * h) i (512 * b + j) : ℝ) : EReal)
  c15 : ∀ (b : Fin 4) (j : Fin 512), (p.c15 : FVec Ideal S1x4x1x512 .f32) (ix4 0 b 0 j) = ((- ∑ i ∈ range k, dcT g (2 * h + 1) i (512 * b + j) : ℝ) : EReal)

theorem good_zero (g : G) (h : ℕ) : GoodCarr Carr.zero g h 0 := by
  refine ⟨fun y l => ?_, fun y l => ?_, fun b j => ?_, fun b j => ?_⟩
  · rw [range_zero, sum_empty]; exact z12_at y l
  · rw [range_zero, sum_empty]; exact z24_at y l
  · rw [range_zero, sum_empty, neg_zero]; exact z14_at b j
  · rw [range_zero, sum_empty, neg_zero]; exact z15_at b j

section
variable {p : Carr Ideal} {g : G} {h : ℕ} (t : Fin grid0.N) {B : Base Ideal} (hB : GoodBase B g h (t.val % 4)) (hp : GoodCarr p g h (t.val % 4))
include hB hp

theorem nxt12 (y : Fin 2048) (l : Fin 128) : (o12 (grid0.coords t) B p.c12 : FVec Ideal S2048x128 .f32) (ix2 y l) = ((∑ i ∈ range (t.val % 4 + 1), dkT g h i y l : ℝ) : EReal) := by
  rw [o12_eq t hB p.c12 (fun y l => ∑ i ∈ range (t.val % 4), dkT g h i y l) hp.c12 y l, sum_range_succ]
theorem nxt24 (y : Fin 2048) (l : Fin 128) : (o24 (grid0.coords t) B p.c24 : FVec Ideal S2048x128 .f32) (ix2 y l) = ((∑ i ∈ range (t.val % 4 + 1), dvT g h i y l : ℝ) : EReal) := by
  rw [o24_eq t hB p.c24 (fun y l => ∑ i ∈ range (t.val % 4), dvT g h i y l) hp.c24 y l, sum_range_succ]
theorem nxt14 (b : Fin 4) (j : Fin 512) : (o14 (grid0.coords t) B p.c14 : FVec Ideal S1x4x1x512 .f32) (ix4 0 b 0 j) = ((- ∑ i ∈ range (t.val % 4 + 1), dcT g (2 * h) i (512 * b + j) : ℝ) : EReal) := by
  rw [o14_eq t hB p.c14 (fun y => - ∑ i ∈ range (t.val % 4), dcT g (2 * h) i y) hp.c14 b j, sum_range_succ, neg_add, ← sub_eq_add_neg]
theorem nxt15 (b : Fin 4) (j : Fin 512) : (o15 (grid0.coords t) B p.c15 : FVec Ideal S1x4x1x512 .f32) (ix4 0 b 0 j) = ((- ∑ i ∈ range (t.val % 4 + 1), dcT g (2 * h + 1) i (512 * b + j) : ℝ) : EReal) := by
  rw [o15_eq t hB p.c15 (fun y => - ∑ i ∈ range (t.val % 4), dcT g (2 * h + 1) i y) hp.c15 b j, sum_range_succ, neg_add, ← sub_eq_add_neg]

theorem good_nxt : GoodCarr (Carr.nxt (grid0.coords t) B p) g h (t.val % 4 + 1) := by
  have h12 := nxt12 t hB hp
  have h24 := nxt24 t hB hp
  have h14 := nxt14 t hB hp
  have h15 := nxt15 t hB hp
  unfold Carr.nxt
  generalize o12 (grid0.coords t) B p.c12 = a at *
  generalize o24 (grid0.coords t) B p.c24 = b at *
  generalize o14 (grid0.coords t) B p.c14 = d at *
  generalize o15 (grid0.coords t) B p.c15 = e at *
  exact ⟨h12, h24, h14, h15⟩
end

variable (m : (ℓ : Loc nD τ sig) → Buf (Elt Ideal) ℓ) (c : Dev nD)

theorem good_carr (g : G) (hB : ∀ t : Fin cfg0.N, GoodBlk (blk m c t) g (t.val / 4) (t.val % 4)) (n : ℕ) :
    ∀ hn : n < cfg0.N, GoodCarr (carr m c (n + 1)) g (n / 4) (n % 4 + 1) := by
  induction n with
  | zero =>
    intro hn
    have e := carr_first m c ⟨0, hn⟩ rfl
    simp only [] at e
    rw [e]
    exact good_nxt ⟨0, hn⟩ (good_base (hB ⟨0, hn⟩)) (good_zero g 0)
  | succ n ih =>
    intro hn
    by_cases h0 : (n + 1) % 4 = 0
    · have e := carr_first m c ⟨n + 1, hn⟩ h0
      simp only [] at e
      rw [e]
      refine good_nxt ⟨n + 1, hn⟩ (good_base (hB ⟨n + 1, hn⟩)) ?_
      simp only []
      rw [h0]; exact good_zero g _
    · have e := carr_later m c ⟨n + 1, hn⟩ h0
      simp only [] at e
      rw [e]
      refine good_nxt ⟨n + 1, hn⟩ (good_base (hB ⟨n + 1, hn⟩)) ?_
      have := ih (by omega)
      simp only []
      rw [show (n + 1) / 4 = n / 4 by omega, show (n + 1) % 4 = n % 4 + 1 by omega]
      exact this

section
variable (g : G) (hB : ∀ t : Fin cfg0.N, GoodBlk (blk m c t) g (t.val / 4) (t.val % 4)) (t : Fin cfg0.N)
include hB

theorem dq_at (r : Fin 512) (l : Fin 128) :
    (o11 (grid0.coords t) (blk m c t).base : FVec Ideal S512x128 .f32) (ix2 r l) = ((g.dq (512 * (t.val % 4) + r) (2 * (t.val / 4) + (l : ℕ) / 64) ((l : ℕ) % 64) : ℝ) : EReal) :=
  o11_eq t (good_base (hB t)) r l

theorem dcq_at0 (r : Fin 512) :
    (o16 (grid0.coords t) (blk m c t).base z16 : FVec Ideal S1x512x1 .f32) (ix3 0 r 0) = ((g.dcq (2 * (t.val / 4)) (512 * (t.val % 4) + r) : ℝ) : EReal) :=
  o16_eq t (good_base (hB t)) z16 z16_at r
theorem dcq_at1 (r : Fin 512) :
    (o17 (grid0.coords t) (blk m c t).base z17 : FVec Ideal S1x512x1 .f32) (ix3 0 r 0) = ((g.dcq (2 * (t.val / 4) + 1) (512 * (t.val % 4) + r) : ℝ) : EReal) :=
  o17_eq t (good_base (hB t)) z17 z17_at r

theorem dk_at (ht : t.val % 4 = 3) (y : Fin 2048) (l : Fin 128) :
    ((carr m c (t.val + 1)).c12 : FVec Ideal S2048x128 .f32) (ix2 y l) = ((g.dk y (2 * (t.val / 4) + (l : ℕ) / 64) ((l : ℕ) % 64) : ℝ) : EReal) := by
  rw [(good_carr m c g hB t.val t.isLt).c12 y l, ht]
  refine congrArg _ ?_
  exact sum_tiles fun r => g.δ (2 * (t.val / 4) + (l : ℕ) / 64) r y * (g.q r (2 * (t.val / 4) + (l : ℕ) / 64) ((l : ℕ) % 64) * (1 / 8))
theorem dv_at (ht : t.val % 4 = 3) (y : Fin 2048) (l : Fin 128) :
    (o13 (carr m c (t.val + 1)).c24 : FVec Ideal S2048x128 .bf16) (ix2 y l) = ((g.dv y (2 * (t.val / 4) + (l : ℕ) / 64) ((l : ℕ) % 64) : ℝ) : EReal) := by
  have e : (o13 (carr m c (t.val + 1)).c24 : FVec Ideal S2048x128 .bf16) (ix2 y l) = ((carr m c (t.val + 1)).c24 : FVec Ideal S2048x128 .f32) (ix2 y l) := by
    unfold o13
    canon_tiles z h
    obtain ⟨y0, y1, rfl⟩ : ∃ y0 y1, z = ix2 y0 y1 := ⟨z 0, z 1, eq_ix2 z⟩
    have e0 : y0 = y := Fin.ext h0.symm
    have e1 : y1 = l := Fin.ext h1.symm
    rw [e0, e1]
    pointwise [k0_pay1]
  rw [e, (good_carr m c g hB t.val t.isLt).c24 y l, ht]
  refine congrArg _ ?_
  exact sum_tiles fun r => g.P (2 * (t.val / 4) + (l : ℕ) / 64) r y * g.d r (2 * (t.val / 4) + (l : ℕ) / 64) ((l : ℕ) % 64)
theorem dck_at0 (ht : t.val % 4 = 3) (b : Fin 4) (j : Fin 512) :
    ((carr m c (t.val + 1)).c14 : FVec Ideal S1x4x1x512 .f32) (ix4 0 b 0 j) = ((g.dck (2 * (t.val / 4)) (512 * b + j) : ℝ) : EReal) := by
  rw [(good_carr m c g hB t.val t.isLt).c14 b j, ht]
  refine congrArg _ (congrArg Neg.neg ?_)
  exact sum_tiles fun r => g.δ (2 * (t.val / 4)) r (512 * b + j)
theorem dck_at1 (ht : t.val % 4 = 3) (b : Fin 4) (j : Fin 512) :
    ((carr m c (t.val + 1)).c15 : FVec Ideal S1x4x1x512 .f32) (ix4 0 b 0 j) = ((g.dck (2 * (t.val / 4) + 1) (512 * b + j) : ℝ) : EReal) := by
  rw [(good_carr m c g hB t.val t.isLt).c15 b j, ht]
  refine congrArg _ (congrArg Neg.neg ?_)
  exact sum_tiles fun r => g.δ (2 * (t.val / 4) + 1) r (512 * b + j)
end

end Cert.KernelIdeal.Fox

end
-- ==== Proof.FoxKernelIdeal.Soft.lean ====
module

public import proofs.«01_k».proof.Proof.FoxKernelIdeal.Pair

@[expose] public section

set_option maxRecDepth 16384

noncomputable section

namespace Cert.KernelIdeal.Fox

open Idealize.ShloMosaic Idealize.ShloMosaic.TcCoe Idealize.SL.Sem
open Finset

/-! ## One masked row of the softmax, over the reals -/

theorem neg_inf : Ideal.ofBits .f32 4286578688#32 = (⊥ : EReal) := by
  simp [Ideal.ofBits, Ideal.ieee]

/-- The comparison of two positions below 2048 as words. -/
theorem causal_bit (r y : Fin 2048) {α : Type} (a b : α) :
    Scalar.select (IntOp.cmpi CmpIPredicate.sge (BitVec.ofNat 32 (r : ℕ)) (BitVec.ofNat 32 (y : ℕ))) a b = if (y : ℕ) ≤ r then a else b := by
  have e : IntOp.cmpi CmpIPredicate.sge (BitVec.ofNat 32 (r : ℕ)) (BitVec.ofNat 32 (y : ℕ)) = if (y : ℕ) ≤ r then 1#1 else 0#1 := by
    have hr : (BitVec.ofNat 32 (r : ℕ)).toInt = (r : ℕ) := by
      rw [BitVec.toInt_ofNat', Int.bmod_eq_of_le] <;> omega
    have hy : (BitVec.ofNat 32 (y : ℕ)).toInt = (y : ℕ) := by
      rw [BitVec.toInt_ofNat', Int.bmod_eq_of_le] <;> omega
    simp only [IntOp.cmpi, BitVec.sle, hr, hy]
    by_cases h : (y : ℕ) ≤ r <;> simp [h]
  rw [e]
  by_cases h : (y : ℕ) ≤ r
  · rw [if_pos h, if_pos h]; rfl
  · rw [if_neg h, if_neg h]; rfl

theorem row_max {s : Fin 2048 → EReal} {a : ℕ → ℝ} (r : Fin 2048) (h : ∀ y : Fin 2048, s y = if (y : ℕ) ≤ r then ((a y : ℝ) : EReal) else ⊥) :
    ∃ M : ℝ, (univ : Finset (Fin 2048)).fold max (⊥ : EReal) s = (M : EReal) := by
  have h1 : (univ : Finset (Fin 2048)).fold max (⊥ : EReal) s < ⊤ := by
    rw [fold_max_lt]
    refine ⟨bot_lt_top, fun y _ => ?_⟩
    rw [h y]; split
    · exact EReal.coe_lt_top _
    · exact bot_lt_top
  have h2 : ((a r : ℝ) : EReal) ≤ (univ : Finset (Fin 2048)).fold max (⊥ : EReal) s := by
    rw [le_fold_max]
    exact .inr ⟨r, mem_univ _, by rw [h r, if_pos le_rfl]⟩
  generalize (univ : Finset (Fin 2048)).fold max (⊥ : EReal) s = x at h1 h2
  induction x with
  | bot => exact absurd h2 (by simp)
  | top => exact absurd h1 (by simp)
  | coe M => exact ⟨M, rfl⟩

theorem row_exp {x : EReal} {p : Prop} [Decidable p] {a M : ℝ} (h : x = if p then ((a : ℝ) : EReal) else ⊥) :
    Ideal.exp (x - (M : EReal)) = ((if p then Real.exp (a - M) else 0 : ℝ) : EReal) := by
  rw [h]
  by_cases hp : p
  · rw [if_pos hp, if_pos hp, ← EReal.coe_sub, Ideal.exp_coe]
  · rw [if_neg hp, if_neg hp, EReal.bot_sub, Ideal.exp_bot]; exact EReal.coe_zero.symm

/-- A sum over the keys a row sees. -/
theorem row_sum (r : Fin 2048) (f : ℕ → ℝ) : ∑ y : Fin 2048, (if (y : ℕ) ≤ r then f y else 0) = ∑ y ∈ range (r + 1), f y := by
  rw [Fin.sum_univ_eq_sum_range (fun y => if y ≤ (r : ℕ) then f y else 0) 2048, ← sum_filter]
  congr 1
  ext y; simp only [mem_filter, mem_range]; omega

theorem div_real {x y : ℝ} (h : y ≠ 0) : Ideal.div (x : EReal) (y : EReal) = ((x / y : ℝ) : EReal) := by
  rw [Ideal.div_coe h, ← EReal.coe_mul]; congr 1; ring

/-- A weight from the shifted exponentials. -/
theorem G.P_scaled (g : G) (n r y : ℕ) {κ : ℝ} (hκ : 0 < κ) : (if y ≤ r then κ * Real.exp (g.S n r y) else 0) / (κ * g.Z n r) = g.P n r y := by
  have hZ := g.Z_pos n r
  rw [G.P]
  by_cases h : y ≤ r
  · rw [if_pos h, if_pos h, g.E_eq]; field_simp
  · rw [if_neg h, if_neg h, zero_div]

/-- The arrays as real inputs. -/
structure RealIn (Q K V D : FVec Ideal ⟨3, ![2048, 16, 64]⟩ .f32) (C : FVec Ideal ⟨2, ![16, 2048]⟩ .f32) (g : G) : Prop where
  q : ∀ (r : Fin 2048) (n : Fin 16) (l : Fin 64), Q (ix3 r n l) = ((g.q r n l : ℝ) : EReal)
  k : ∀ (r : Fin 2048) (n : Fin 16) (l : Fin 64), K (ix3 r n l) = ((g.k r n l : ℝ) : EReal)
  v : ∀ (r : Fin 2048) (n : Fin 16) (l : Fin 64), V (ix3 r n l) = ((g.v r n l : ℝ) : EReal)
  d : ∀ (r : Fin 2048) (n : Fin 16) (l : Fin 64), D (ix3 r n l) = ((g.d r n l : ℝ) : EReal)
  c : ∀ (n : Fin 16) (r : Fin 2048), C (ix2 n r) = ((g.c n r : ℝ) : EReal)

/-- A score before the decays. -/
theorem score_eq (g : G) (r y n : ℕ) (a b : Fin 64 → EReal) (ha : ∀ l, a l = ((g.q r n l : ℝ) : EReal)) (hb : ∀ l, b l = ((g.k y n l : ℝ) : EReal)) :
    (∑ l, a l * b l) * Ideal.ofBits .f32 1040187392#32 = ((g.S n r y + g.c n y : ℝ) : EReal) := by
  rw [eighth, G.S, show (∑ l, a l * b l) = ((∑ l : Fin 64, g.q r n l * g.k y n l : ℝ) : EReal) by
    rw [coe_sum]; exact sum_congr rfl fun l _ => by rw [ha, hb, ← EReal.coe_mul], ← EReal.coe_mul]
  congr 1
  rw [sub_add_cancel, sum_mul, Fin.sum_univ_eq_sum_range (fun l => g.q r n l * g.k y n l * (1 / 8)) 64]
  exact sum_congr rfl fun l _ => by ring

end Cert.KernelIdeal.Fox
end
-- ==== Proof.FoxKernelIdeal.Host.lean ====
module

public import proofs.«01_k».proof.Proof.FoxKernelIdeal.Soft

@[expose] public section

set_option maxRecDepth 16384

noncomputable section

namespace Cert.KernelIdeal.Fox

open Cert.KernelIdeal Cert.KernelIdeal.Gen
open Idealize.ShloMosaic Idealize.ShloMosaic.TcCoe Idealize.SL.Sem
open Finset

/-- The masked scores of the host lines. -/
def hS (Q K : FVec Ideal S2048x16x64 .f32) (C : FVec Ideal S16x2048 .f32) : FVec Ideal S16x2048x2048 .f32 :=
  select (broadcastInDim S16x2048x2048 ![1, 2] bcast_S2048x2048_S16x2048x2048_1_2 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))
    (subf (mulf (Host.dotGeneral dot_S2048x16x64_S2048x16x64_S16x2048x2048_2_2_0_0_1_1 none Q K) (broadcastInDim S16x2048x2048 ![] bcast_S_S16x2048x2048 (constant S_ .f32 0x3E000000#32))) (broadcastInDim S16x2048x2048 ![0, 1, 2] bcast_S16x1x2048_S16x2048x2048_0_1_2 (broadcastInDim S16x1x2048 ![0, 2] bcast_S16x2048_S16x1x2048_0_2 C)))
    (broadcastInDim S16x2048x2048 ![] bcast_S_S16x2048x2048 (id (constant S_ .f32 0xFF800000#32)))
def hM (S : FVec Ideal S16x2048x2048 .f32) : FVec Ideal S16x2048 .f32 := Host.reduce FloatOps.maximumf S (constant S_ .f32 0xFF800000#32) reducesTo_S16x2048x2048_S16x2048_d2 h_S_
def hE (S : FVec Ideal S16x2048x2048 .f32) (M : FVec Ideal S16x2048 .f32) : FVec Ideal S16x2048x2048 .f32 := Host.exp (subf S (broadcastInDim S16x2048x2048 ![0, 1, 2] bcast_S16x2048x1_S16x2048x2048_0_1_2 (broadcastInDim S16x2048x1 ![0, 1] bcast_S16x2048_S16x2048x1_0_1 M)))
def hL (E : FVec Ideal S16x2048x2048 .f32) : FVec Ideal S16x2048 .f32 := Host.reduceAdd E (constant S_ .f32 0x00000000#32) reducesTo_S16x2048x2048_S16x2048_d2 h_S_
def hO (V : FVec Ideal S2048x16x64 .f32) (E : FVec Ideal S16x2048x2048 .f32) (L : FVec Ideal S16x2048 .f32) : FVec Ideal S2048x16x64 .f32 :=
  transpose S2048x16x64 [2, 0, 1] (Host.dotGeneral dot_S2048x16x64_S16x2048x2048_S16x64x2048_0_2_2_1_1_0 none V (Host.divf E (broadcastInDim S16x2048x2048 ![0, 1, 2] bcast_S16x2048x1_S16x2048x2048_0_1_2 (broadcastInDim S16x2048x1 ![0, 1] bcast_S16x2048_S16x2048x1_0_1 L)))) transposes_S16x64x2048_S2048x16x64_2_0_1
def hLse (M L : FVec Ideal S16x2048 .f32) : FVec Ideal S16x2048x1 .f32 := addf (broadcastInDim S16x2048x1 ![0, 1] bcast_S16x2048_S16x2048x1_0_1 M) (Host.log (broadcastInDim S16x2048x1 ![0, 1] bcast_S16x2048_S16x2048x1_0_1 L))

theorem hM_eq (X : FVec Ideal S16x2048x2048 .f32) (n : Fin 16) (r : Fin 2048) : hM X (ix2 n r) = univ.fold max (⊥ : EReal) (fun y : Fin 2048 => X (ix3 n r y)) := by
  pointwise [hM]
  rw [neg_inf]
theorem hE_eq (X : FVec Ideal S16x2048x2048 .f32) (W : FVec Ideal S16x2048 .f32) (n : Fin 16) (r y : Fin 2048) : hE X W (ix3 n r y) = Ideal.exp (X (ix3 n r y) - W (ix2 n r)) := by
  pointwise [hE]
theorem hL_eq (X : FVec Ideal S16x2048x2048 .f32) (n : Fin 16) (r : Fin 2048) : hL X (ix2 n r) = ∑ y : Fin 2048, X (ix3 n r y) := by
  pointwise [hL]
theorem hO_eq (V : FVec Ideal S2048x16x64 .f32) (X : FVec Ideal S16x2048x2048 .f32) (W : FVec Ideal S16x2048 .f32) (n : Fin 16) (r : Fin 2048) (l : Fin 64) :
    hO V X W (ix3 r n l) = ∑ y : Fin 2048, V (ix3 y n l) * Ideal.div (X (ix3 n r y)) (W (ix2 n r)) := by
  pointwise [hO]
theorem hLse_eq (M L : FVec Ideal S16x2048 .f32) (n : Fin 16) (r : Fin 2048) : hLse M L (ix3 n r 0) = M (ix2 n r) + Ideal.log (L (ix2 n r)) := by
  pointwise [hLse]

section
variable {Q K V D : FVec Ideal S2048x16x64 .f32} {C : FVec Ideal S16x2048 .f32} {g : G} (hI : RealIn Q K V D C g)
include hI

theorem hS_at (n : Fin 16) (r y : Fin 2048) : hS Q K C (ix3 n r y) = if (y : ℕ) ≤ r then ((g.S n r y : ℝ) : EReal) else ⊥ := by
  pointwise [hS]
  rw [causal_bit, score_eq g r y n _ _ (fun l => hI.q r n l) (fun l => hI.k y n l), hI.c, ← EReal.coe_sub, add_sub_cancel_right]
  exact if_congr Iff.rfl rfl neg_inf

/-- The row's maximum is a real number, and what follows from it. -/
theorem rows (n : Fin 16) (r : Fin 2048) : ∃ M : ℝ, hM (hS Q K C) (ix2 n r) = (M : EReal)
    ∧ (∀ y : Fin 2048, hE (hS Q K C) (hM (hS Q K C)) (ix3 n r y) = ((if (y : ℕ) ≤ r then Real.exp (-M) * Real.exp (g.S n r y) else 0 : ℝ) : EReal))
    ∧ hL (hE (hS Q K C) (hM (hS Q K C))) (ix2 n r) = ((Real.exp (-M) * g.Z n r : ℝ) : EReal) := by
  obtain ⟨M, hM'⟩ := row_max (a := fun y => g.S n r y) r fun y => hS_at hI n r y
  have e1 : hM (hS Q K C) (ix2 n r) = (M : EReal) := (hM_eq _ n r).trans hM'
  have e2 : ∀ y : Fin 2048, hE (hS Q K C) (hM (hS Q K C)) (ix3 n r y) = ((if (y : ℕ) ≤ r then Real.exp (-M) * Real.exp (g.S n r y) else 0 : ℝ) : EReal) := fun y => by
    refine (hE_eq _ _ n r y).trans ?_
    rw [e1, row_exp (hS_at hI n r y), ← Real.exp_add, neg_add_eq_sub]
  refine ⟨M, e1, e2, (hL_eq _ n r).trans ?_⟩
  rw [sum_congr rfl fun y _ => e2 y, ← coe_sum, row_sum r fun y => Real.exp (-M) * Real.exp (g.S n r y), G.Z, mul_sum]

theorem hO_at (r : Fin 2048) (n : Fin 16) (l : Fin 64) :
    hO V (hE (hS Q K C) (hM (hS Q K C))) (hL (hE (hS Q K C) (hM (hS Q K C)))) (ix3 r n l) = ((g.o r n l : ℝ) : EReal) := by
  obtain ⟨M, -, e2, e3⟩ := rows hI n r
  refine (hO_eq _ _ _ n r l).trans ?_
  rw [G.o, ← Fin.sum_univ_eq_sum_range (fun y => g.P n r y * g.v y n l) 2048, coe_sum]
  refine sum_congr rfl fun y _ => ?_
  have hp : Real.exp (-M) * g.Z n r ≠ 0 := (mul_pos (Real.exp_pos _) (g.Z_pos n r)).ne'
  rw [e2, e3, hI.v, div_real hp, g.P_scaled n r y (Real.exp_pos _), ← EReal.coe_mul, mul_comm]

theorem hLse_at (n : Fin 16) (r : Fin 2048) :
    hLse (hM (hS Q K C)) (hL (hE (hS Q K C) (hM (hS Q K C)))) (ix3 n r 0) = ((g.lse n r : ℝ) : EReal) := by
  obtain ⟨M, e1, -, e3⟩ := rows hI n r
  refine (hLse_eq _ _ n r).trans ?_
  have hp : 0 < Real.exp (-M) * g.Z n r := mul_pos (Real.exp_pos _) (g.Z_pos n r)
  rw [e1, e3, Ideal.log_coe, if_neg (not_le.2 hp), ← EReal.coe_add, G.lse, Real.log_mul (Real.exp_pos _).ne' (g.Z_pos n r).ne', Real.log_exp]
  exact congrArg (fun x : ℝ => (x : EReal)) (by ring)
end
section
variable (m : (ℓ : Loc nD τ sig) → Buf (Elt Ideal) ℓ) (c : Dev nD)

abbrev aQ : FVec Ideal S2048x16x64 .f32 := m ((c : Thread nD τ).loc main_arg0)
abbrev aK : FVec Ideal S2048x16x64 .f32 := m ((c : Thread nD τ).loc main_arg1)
abbrev aV : FVec Ideal S2048x16x64 .f32 := m ((c : Thread nD τ).loc main_arg2)
abbrev aC : FVec Ideal S16x2048 .f32 := m ((c : Thread nD τ).loc main_arg3)
abbrev aD : FVec Ideal S2048x16x64 .f32 := m ((c : Thread nD τ).loc main_arg4)
abbrev vS := hS (aQ m c) (aK m c) (aC m c)
abbrev vM := hM (vS m c)
abbrev vE := hE (vS m c) (vM m c)
abbrev vL := hL (vE m c)

def vqk : FVec Ideal S2048x2048 .bf16 := truncf .bf16 (concatenate S2048x2048 1 [⟨S2048x1024, (shapeCast _ (mulf (aQ m c) (broadcastInDim S2048x16x64 ![] bcast_S_S2048x16x64 (constant S_ .f32 0x3E000000#32))) shapeCasts_S2048x16x64_S2048x1024 : FVec Ideal S2048x1024 .f32)⟩, ⟨S2048x1024, (shapeCast _ (aK m c) shapeCasts_S2048x16x64_S2048x1024 : FVec Ideal S2048x1024 .f32)⟩] concatenates_S2048x1024_S2048x1024_S2048x2048_d1) bitsLt_bf16_f32
def vcrow : FVec Ideal S16x4x1x512 .f32 := shapeCast _ (aC m c) shapeCasts_S16x2048_S16x4x1x512
def vv : FVec Ideal S2048x1024 .bf16 := truncf .bf16 (shapeCast _ (aV m c) shapeCasts_S2048x16x64_S2048x1024 : FVec Ideal S2048x1024 .f32) bitsLt_bf16_f32
def vo : FVec Ideal S2048x1024 .f32 := shapeCast _ (hO (aV m c) (vE m c) (vL m c)) shapeCasts_S2048x16x64_S2048x1024
def vd : FVec Ideal S2048x1024 .bf16 := truncf .bf16 (shapeCast _ (aD m c) shapeCasts_S2048x16x64_S2048x1024 : FVec Ideal S2048x1024 .f32) bitsLt_bf16_f32
def vla : FVec Ideal S8x2048x1 .f32 := shapeCast _ (extractStridedSlice S8x1x2048x1 ![0, 0, 0, 0] (shapeCast _ (hLse (vM m c) (vL m c)) shapeCasts_S16x2048x1_S8x2x2048x1 : FVec Ideal S8x2x2048x1 .f32) slices_S8x2x2048x1_S8x1x2048x1_0_0_0_0) shapeCasts_S8x1x2048x1_S8x2048x1
def vlb : FVec Ideal S8x2048x1 .f32 := shapeCast _ (extractStridedSlice S8x1x2048x1 ![0, 1, 0, 0] (shapeCast _ (hLse (vM m c) (vL m c)) shapeCasts_S16x2048x1_S8x2x2048x1 : FVec Ideal S8x2x2048x1 .f32) slices_S8x2x2048x1_S8x1x2048x1_0_1_0_0) shapeCasts_S8x1x2048x1_S8x2048x1

theorem V_31 : V m c main_v31 = vqk m c := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_32 : V m c main_v32 = vcrow m c := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_35 : V m c main_v35 = vv m c := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_36 : V m c main_v36 = vo m c := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_38 : V m c main_v38 = vd m c := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_40 : V m c main_v40 = vla m c := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_42 : V m c main_v42 = vlb m c := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl
end
end Cert.KernelIdeal.Fox
end
-- ==== Proof.FoxKernelIdeal.Operand.lean ====
module

public import proofs.«01_k».proof.Proof.FoxKernelIdeal.Host
public import proofs.«01_k».proof.Proof.FoxKernelIdeal.Data
public import Idealize.ShloMosaic.Lib.Pipeline.ValueKit

@[expose] public section

set_option maxRecDepth 16384

noncomputable section

namespace Cert.KernelIdeal.Fox

open Cert.KernelIdeal Cert.KernelIdeal.Gen
open Idealize.ShloMosaic Idealize.ShloMosaic.TcCoe Idealize.SL.Sem
open Idealize.ShloMosaic.Pipeline (Dat)

theorem idx : ∀ t : Fin cfg0.N, win0_0.index t = ![t.val % 4, t.val / 4] ∧ win0_1.index t = ![0, 8 + t.val / 4] ∧ win0_2.index t = ![0, t.val / 4]
    ∧ win0_3.index t = ![t.val % 4, t.val / 4] ∧ win0_4.index t = ![t.val % 4, t.val / 4] ∧ win0_5.index t = ![2 * (t.val / 4), 0, 0, 0] ∧ win0_6.index t = ![2 * (t.val / 4) + 1, 0, 0, 0]
    ∧ win0_7.index t = ![t.val / 4, t.val % 4, 0] ∧ win0_8.index t = ![t.val / 4, t.val % 4, 0] ∧ win0_9.index t = ![t.val % 4, t.val / 4] ∧ win0_10.index t = ![0, t.val / 4]
    ∧ win0_11.index t = ![0, 16 + t.val / 4] ∧ win0_12.index t = ![t.val / 4, 0, 0, 0] ∧ win0_13.index t = ![t.val / 4, 0, 0, 0]
    ∧ win0_14.index t = ![t.val / 4, t.val % 4, 0] ∧ win0_15.index t = ![t.val / 4, t.val % 4, 0] ∧ t.val / 4 < 8 :=
  (by decide +kernel : ∀ t : Fin grid0.N, _)

variable (m : (ℓ : Loc nD τ sig) → Buf (Elt Ideal) ℓ) (c : Dev nD)

theorem tlt (t : Fin cfg0.N) : (t : ℕ) / 4 < 8 := (idx t).2.2.2.2.2.2.2.2.2.2.2.2.2.2.2.2

theorem blk_X2 (t : Fin grid0.N) : (blk m c t).X2 = iblk m c 0 t := rfl
theorem blk_X3 (t : Fin grid0.N) : (blk m c t).X3 = iblk m c 1 t := rfl
theorem blk_X4 (t : Fin grid0.N) : (blk m c t).X4 = iblk m c 2 t := rfl
theorem blk_X5 (t : Fin grid0.N) : (blk m c t).X5 = iblk m c 3 t := rfl
theorem blk_X6 (t : Fin grid0.N) : (blk m c t).X6 = iblk m c 4 t := rfl
theorem blk_X7 (t : Fin grid0.N) : (blk m c t).X7 = iblk m c 5 t := rfl
theorem blk_X8 (t : Fin grid0.N) : (blk m c t).X8 = iblk m c 6 t := rfl
theorem blk_X9 (t : Fin grid0.N) : (blk m c t).X9 = iblk m c 7 t := rfl
theorem blk_X10 (t : Fin grid0.N) : (blk m c t).X10 = iblk m c 8 t := rfl
theorem blk0 (t : Fin cfg0.N) (r : Fin 512) (l : Fin 128) :
    (iblk m c 0 t : FVec Ideal S512x128 .bf16) (ix2 r l) = vqk m c (ix2 ⟨512 * (t % 4) + r, by omega⟩ ⟨128 * (t / 4) + l, by have := tlt t; omega⟩) := by
  blk_simp [iblk]
  refine (congrFun (V_31 m c) _).trans ?_
  blk_ext [idx t]

theorem blk1 (t : Fin cfg0.N) (y : Fin 2048) (l : Fin 128) :
    (iblk m c 1 t : FVec Ideal S2048x128 .bf16) (ix2 y l) = vqk m c (ix2 y ⟨1024 + 128 * (t / 4) + l, by have := tlt t; omega⟩) := by
  blk_simp [iblk]
  refine (congrFun (V_31 m c) _).trans ?_
  blk_ext [idx t]

theorem blk2 (t : Fin cfg0.N) (y : Fin 2048) (l : Fin 128) :
    (iblk m c 2 t : FVec Ideal S2048x128 .bf16) (ix2 y l) = vv m c (ix2 y ⟨128 * (t / 4) + l, by have := tlt t; omega⟩) := by
  blk_simp [iblk]
  refine (congrFun (V_35 m c) _).trans ?_
  blk_ext [idx t]

theorem blk3 (t : Fin cfg0.N) (r : Fin 512) (l : Fin 128) :
    (iblk m c 3 t : FVec Ideal S512x128 .f32) (ix2 r l) = vo m c (ix2 ⟨512 * (t % 4) + r, by omega⟩ ⟨128 * (t / 4) + l, by have := tlt t; omega⟩) := by
  blk_simp [iblk]
  refine (congrFun (V_36 m c) _).trans ?_
  blk_ext [idx t]

theorem blk4 (t : Fin cfg0.N) (r : Fin 512) (l : Fin 128) :
    (iblk m c 4 t : FVec Ideal S512x128 .bf16) (ix2 r l) = vd m c (ix2 ⟨512 * (t % 4) + r, by omega⟩ ⟨128 * (t / 4) + l, by have := tlt t; omega⟩) := by
  blk_simp [iblk]
  refine (congrFun (V_38 m c) _).trans ?_
  blk_ext [idx t]

theorem blk5 (t : Fin cfg0.N) (a : Fin 4) (j : Fin 512) :
    (iblk m c 5 t : FVec Ideal S1x4x1x512 .f32) (ix4 0 a 0 j) = vcrow m c (ix4 ⟨2 * (t / 4), by have := tlt t; omega⟩ a 0 j) := by
  blk_simp [iblk]
  refine (congrFun (V_32 m c) _).trans ?_
  blk_ext [idx t]

theorem blk6 (t : Fin cfg0.N) (a : Fin 4) (j : Fin 512) :
    (iblk m c 6 t : FVec Ideal S1x4x1x512 .f32) (ix4 0 a 0 j) = vcrow m c (ix4 ⟨2 * (t / 4) + 1, by have := tlt t; omega⟩ a 0 j) := by
  blk_simp [iblk]
  refine (congrFun (V_32 m c) _).trans ?_
  blk_ext [idx t]

theorem emb7 (t : Fin grid0.N) (r : Fin 512) (X : FVec Ideal S8x2048x1 .f32) :
    X ((win0_7.blk t).view.emb (ix3 0 r 0)) = X (ix3 ⟨(t : ℕ) / 4, tlt t⟩ ⟨512 * ((t : ℕ) % 4) + r, by omega⟩ 0) := by
  blk_ext [idx t]
theorem blk7 (t : Fin grid0.N) (r : Fin 512) (Z : EReal) (hZ : vla m c (ix3 ⟨(t : ℕ) / 4, tlt t⟩ ⟨512 * ((t : ℕ) % 4) + r, by omega⟩ 0) = Z) :
    (iblk m c 7 t : FVec Ideal S1x512x1 .f32) (ix3 0 r 0) = Z := by
  have h := (emb7 t r (vla m c)).trans hZ
  clear hZ
  revert h
  unfold iblk
  generalize (ix3 (0 : Fin 1) r (0 : Fin 1)) = y
  have hV : V m c (Pipeline.arrRef spec0 7) = vla m c := V_40 m c
  rw [hV]
  generalize vla m c = X
  intro h
  unfold View.read
  refine (cast_eq _ _).trans ?_
  exact h

theorem emb8 (t : Fin grid0.N) (r : Fin 512) (X : FVec Ideal S8x2048x1 .f32) :
    X ((win0_8.blk t).view.emb (ix3 0 r 0)) = X (ix3 ⟨(t : ℕ) / 4, tlt t⟩ ⟨512 * ((t : ℕ) % 4) + r, by omega⟩ 0) := by
  blk_ext [idx t]
theorem blk8 (t : Fin grid0.N) (r : Fin 512) (Z : EReal) (hZ : vlb m c (ix3 ⟨(t : ℕ) / 4, tlt t⟩ ⟨512 * ((t : ℕ) % 4) + r, by omega⟩ 0) = Z) :
    (iblk m c 8 t : FVec Ideal S1x512x1 .f32) (ix3 0 r 0) = Z := by
  have h := (emb8 t r (vlb m c)).trans hZ
  clear hZ
  revert h
  unfold iblk
  generalize (ix3 (0 : Fin 1) r (0 : Fin 1)) = y
  have hV : V m c (Pipeline.arrRef spec0 8) = vlb m c := V_42 m c
  rw [hV]
  generalize vlb m c = X
  intro h
  unfold View.read
  refine (cast_eq _ _).trans ?_
  exact h

theorem vv_at (r : Fin 2048) (j : Fin 1024) : vv m c (ix2 r j) = aV m c (ix3 r ⟨(j : ℕ) / 64, by omega⟩ ⟨(j : ℕ) % 64, by omega⟩) := by
  pointwise [vv]
theorem vd_at (r : Fin 2048) (j : Fin 1024) : vd m c (ix2 r j) = aD m c (ix3 r ⟨(j : ℕ) / 64, by omega⟩ ⟨(j : ℕ) % 64, by omega⟩) := by
  pointwise [vd]
theorem vqk_at (r : Fin 2048) (j : Fin 2048) : vqk m c (ix2 r j) = if h : (j : ℕ) < 1024 then aQ m c (ix3 r ⟨(j : ℕ) / 64, by omega⟩ ⟨(j : ℕ) % 64, by omega⟩) * Ideal.ofBits .f32 1040187392#32
    else aK m c (ix3 r ⟨((j : ℕ) - 1024) / 64, by omega⟩ ⟨((j : ℕ) - 1024) % 64, by omega⟩) := by
  pointwise [vqk]
theorem vla_at (h : Fin 8) (r : Fin 2048) : vla m c (ix3 h r 0) = hLse (vM m c) (vL m c) (ix3 ⟨h * 2, by omega⟩ r 0) := by
  unfold vla
  generalize hLse _ _ = X
  pointwise
theorem vlb_at (h : Fin 8) (r : Fin 2048) : vlb m c (ix3 h r 0) = hLse (vM m c) (vL m c) (ix3 ⟨h * 2 + 1, by omega⟩ r 0) := by
  unfold vlb
  generalize hLse _ _ = X
  pointwise
theorem vo_at (r : Fin 2048) (j : Fin 1024) : vo m c (ix2 r j) = hO (aV m c) (vE m c) (vL m c) (ix3 r ⟨(j : ℕ) / 64, by omega⟩ ⟨(j : ℕ) % 64, by omega⟩) := by
  unfold vo
  generalize hO _ _ _ = X
  pointwise
theorem vcrow_at (n : Fin 16) (a : Fin 4) (j : Fin 512) : vcrow m c (ix4 n a 0 j) = aC m c (ix2 n ⟨(a : ℕ) * 512 + j, by omega⟩) := by
  pointwise [vcrow]

variable {m c}
variable {g : G} (hI : RealIn (aQ m c) (aK m c) (aV m c) (aD m c) (aC m c) g)
include hI

theorem vo_real (r : Fin 2048) (j : Fin 1024) : vo m c (ix2 r j) = ((g.o r (j / 64) (j % 64) : ℝ) : EReal) :=
  (vo_at m c r j).trans (hO_at hI r ⟨(j : ℕ) / 64, by omega⟩ ⟨(j : ℕ) % 64, by omega⟩)
theorem vla_real (h : Fin 8) (r : Fin 2048) : vla m c (ix3 h r 0) = ((g.lse (2 * h) r : ℝ) : EReal) := by
  refine (vla_at m c h r).trans ((hLse_at hI ⟨h * 2, by omega⟩ r).trans ?_)
  simp only []
  rw [mul_comm (h : ℕ) 2]
theorem vlb_real (h : Fin 8) (r : Fin 2048) : vlb m c (ix3 h r 0) = ((g.lse (2 * h + 1) r : ℝ) : EReal) := by
  refine (vlb_at m c h r).trans ((hLse_at hI ⟨h * 2 + 1, by omega⟩ r).trans ?_)
  simp only []
  rw [mul_comm (h : ℕ) 2]
theorem good_X2 (t : Fin grid0.N) (r : Fin 512) (l : Fin 128) : (iblk m c 0 t : FVec Ideal S512x128 .bf16) (ix2 r l) = ((g.q (512 * (t % 4) + r) (2 * (t / 4) + (l : ℕ) / 64) ((l : ℕ) % 64) * (1 / 8) : ℝ) : EReal) := by
  have ht := tlt t
  refine (blk0 m c t r l).trans ((vqk_at m c _ _).trans ?_)
  rw [dif_pos (by simp only []; omega), hI.q, eighth, ← EReal.coe_mul]
  simp only []
  rw [show (128 * ((t : ℕ) / 4) + l) / 64 = 2 * (t / 4) + l / 64 by omega, show (128 * ((t : ℕ) / 4) + l) % 64 = l % 64 by omega]
theorem good_X3 (t : Fin grid0.N) (y : Fin 2048) (l : Fin 128) : (iblk m c 1 t : FVec Ideal S2048x128 .bf16) (ix2 y l) = ((g.k y (2 * (t / 4) + (l : ℕ) / 64) ((l : ℕ) % 64) : ℝ) : EReal) := by
  have ht := tlt t
  refine (blk1 m c t y l).trans ((vqk_at m c _ _).trans ?_)
  rw [dif_neg (by simp only []; omega), hI.k]
  simp only []
  rw [show (1024 + 128 * ((t : ℕ) / 4) + l - 1024) / 64 = 2 * (t / 4) + l / 64 by omega, show (1024 + 128 * ((t : ℕ) / 4) + l - 1024) % 64 = l % 64 by omega]
theorem good_X4 (t : Fin grid0.N) (y : Fin 2048) (l : Fin 128) : (iblk m c 2 t : FVec Ideal S2048x128 .bf16) (ix2 y l) = ((g.v y (2 * (t / 4) + (l : ℕ) / 64) ((l : ℕ) % 64) : ℝ) : EReal) := by
  have ht := tlt t
  refine (blk2 m c t y l).trans ((vv_at m c _ _).trans ?_)
  rw [hI.v]
  simp only []
  rw [show (128 * ((t : ℕ) / 4) + l) / 64 = 2 * (t / 4) + l / 64 by omega, show (128 * ((t : ℕ) / 4) + l) % 64 = l % 64 by omega]
theorem good_X5 (t : Fin grid0.N) (r : Fin 512) (l : Fin 128) : (iblk m c 3 t : FVec Ideal S512x128 .f32) (ix2 r l) = ((g.o (512 * (t % 4) + r) (2 * (t / 4) + (l : ℕ) / 64) ((l : ℕ) % 64) : ℝ) : EReal) := by
  have ht := tlt t
  refine (blk3 m c t r l).trans ((vo_real hI _ _).trans ?_)
  simp only []
  rw [show (128 * ((t : ℕ) / 4) + l) / 64 = 2 * (t / 4) + l / 64 by omega, show (128 * ((t : ℕ) / 4) + l) % 64 = l % 64 by omega]
theorem good_X6 (t : Fin grid0.N) (r : Fin 512) (l : Fin 128) : (iblk m c 4 t : FVec Ideal S512x128 .bf16) (ix2 r l) = ((g.d (512 * (t % 4) + r) (2 * (t / 4) + (l : ℕ) / 64) ((l : ℕ) % 64) : ℝ) : EReal) := by
  have ht := tlt t
  refine (blk4 m c t r l).trans ((vd_at m c _ _).trans ?_)
  rw [hI.d]
  simp only []
  rw [show (128 * ((t : ℕ) / 4) + l) / 64 = 2 * (t / 4) + l / 64 by omega, show (128 * ((t : ℕ) / 4) + l) % 64 = l % 64 by omega]
theorem good_X7 (t : Fin grid0.N) (a : Fin 4) (j : Fin 512) : (iblk m c 5 t : FVec Ideal S1x4x1x512 .f32) (ix4 0 a 0 j) = ((g.c (2 * (t / 4)) (512 * a + j) : ℝ) : EReal) := by
  have ht := tlt t
  refine (blk5 m c t a j).trans ((vcrow_at m c _ _ _).trans ?_)
  rw [hI.c]
  simp only []
  rw [mul_comm (a : ℕ) 512]
theorem good_X8 (t : Fin grid0.N) (a : Fin 4) (j : Fin 512) : (iblk m c 6 t : FVec Ideal S1x4x1x512 .f32) (ix4 0 a 0 j) = ((g.c (2 * (t / 4) + 1) (512 * a + j) : ℝ) : EReal) := by
  have ht := tlt t
  refine (blk6 m c t a j).trans ((vcrow_at m c _ _ _).trans ?_)
  rw [hI.c]
  simp only []
  rw [mul_comm (a : ℕ) 512]
theorem good_X9 (t : Fin grid0.N) (r : Fin 512) : (iblk m c 7 t : FVec Ideal S1x512x1 .f32) (ix3 0 r 0) = ((g.lse (2 * (t / 4)) (512 * (t % 4) + r) : ℝ) : EReal) := by
  have ht := tlt t
  exact blk7 m c t r _ (vla_real hI _ _)
theorem good_X10 (t : Fin grid0.N) (r : Fin 512) : (iblk m c 8 t : FVec Ideal S1x512x1 .f32) (ix3 0 r 0) = ((g.lse (2 * (t / 4) + 1) (512 * (t % 4) + r) : ℝ) : EReal) := by
  have ht := tlt t
  exact blk8 m c t r _ (vlb_real hI _ _)
/-- Every point's blocks are the real inputs' ones. -/
theorem good_blk (t : Fin grid0.N) : GoodBlk (blk m c t) g (t / 4) (t % 4) := by
  constructor
  · rw [blk_X2 m c t]; exact good_X2 hI t
  · rw [blk_X3 m c t]; exact good_X3 hI t
  · rw [blk_X4 m c t]; exact good_X4 hI t
  · rw [blk_X5 m c t]; exact good_X5 hI t
  · rw [blk_X6 m c t]; exact good_X6 hI t
  · rw [blk_X7 m c t]; exact good_X7 hI t
  · rw [blk_X8 m c t]; exact good_X8 hI t
  · rw [blk_X9 m c t]; exact good_X9 hI t
  · rw [blk_X10 m c t]; exact good_X10 hI t
end Cert.KernelIdeal.Fox
end
-- ==== Proof.FoxKernelIdeal.Result.lean ====
module

public import proofs.«01_k».proof.Proof.FoxKernelIdeal.Operand
public import proofs.«01_k».proof.Proof.FoxKernelIdeal.Pair
public import proofs.«01_k».proof.Proof.FoxKernelIdeal.Run
public import Idealize.ShloMosaic.Lib.Pipeline.ValueKit

@[expose] public section

set_option maxRecDepth 16384

noncomputable section

namespace Cert.KernelIdeal.Fox

open Cert.KernelIdeal Cert.KernelIdeal.Gen
open Idealize.ShloMosaic Idealize.ShloMosaic.TcCoe Idealize.SL.Sem
open Idealize.ShloMosaic.Pipeline (Dat)

def aDq (g : G) : FVec Ideal S2048x1024 .f32 := fun i => ((g.dq (i 0 : ℕ) ((i 1 : ℕ) / 64) ((i 1 : ℕ) % 64) : ℝ) : EReal)
def aDk (g : G) : FVec Ideal S2048x1024 .f32 := fun i => ((g.dk (i 0 : ℕ) ((i 1 : ℕ) / 64) ((i 1 : ℕ) % 64) : ℝ) : EReal)
def aDv (g : G) : FVec Ideal S2048x4608 .bf16 := fun i => ((g.dv (i 0 : ℕ) (((i 1 : ℕ) - 2048) / 64) (((i 1 : ℕ) - 2048) % 64) : ℝ) : EReal)
def aDck (e : ℕ) (g : G) : FVec Ideal S8x4x1x512 .f32 := fun i => ((g.dck (2 * (i 0 : ℕ) + e) (512 * (i 1 : ℕ) + (i 3 : ℕ)) : ℝ) : EReal)
def aDcq (e : ℕ) (g : G) : FVec Ideal S8x2048x1 .f32 := fun i => ((g.dcq (2 * (i 0 : ℕ) + e) (i 1 : ℕ) : ℝ) : EReal)

theorem ex2 {a b : ℕ} (y : (⟨2, ![a, b]⟩ : Shape).Idx) : ∃ (r : Fin a) (l : Fin b), y = ix2 r l := ⟨y 0, y 1, (ix2_eta y).symm⟩
theorem ex3 {a b c : ℕ} (y : (⟨3, ![a, b, c]⟩ : Shape).Idx) : ∃ (r : Fin a) (s : Fin b) (l : Fin c), y = ix3 r s l := ⟨y 0, y 1, y 2, (ix3_eta y).symm⟩
theorem ex4 {a b c d : ℕ} (y : (⟨4, ![a, b, c, d]⟩ : Shape).Idx) : ∃ (r : Fin a) (s : Fin b) (k : Fin c) (l : Fin d), y = ix4 r s k l := ⟨y 0, y 1, y 2, y 3, (ix4_eta y).symm⟩

theorem emb9 (t : Fin grid0.N) (r : Fin 512) (l : Fin 128) (X : FVec Ideal S2048x1024 .f32) :
    X ((win0_9.blk t).view.emb (ix2 r l)) = X (ix2 ⟨512 * ((t : ℕ) % 4) + r, by omega⟩ ⟨128 * ((t : ℕ) / 4) + l, by have := tlt t; omega⟩) := by
  blk_ext [idx t]
theorem emb10 (t : Fin grid0.N) (r : Fin 2048) (l : Fin 128) (X : FVec Ideal S2048x1024 .f32) :
    X ((win0_10.blk t).view.emb (ix2 r l)) = X (ix2 r ⟨128 * ((t : ℕ) / 4) + l, by have := tlt t; omega⟩) := by
  blk_ext [idx t]
theorem emb11 (t : Fin grid0.N) (r : Fin 2048) (l : Fin 128) (X : FVec Ideal S2048x4608 .bf16) :
    X ((win0_11.blk t).view.emb (ix2 r l)) = X (ix2 r ⟨2048 + 128 * ((t : ℕ) / 4) + l, by have := tlt t; omega⟩) := by
  blk_ext [idx t]
theorem emb12 (t : Fin grid0.N) (b : Fin 4) (j : Fin 512) (X : FVec Ideal S8x4x1x512 .f32) :
    X ((win0_12.blk t).view.emb (ix4 0 b 0 j)) = X (ix4 ⟨(t : ℕ) / 4, tlt t⟩ b 0 j) := by
  blk_ext [idx t]
theorem emb13 (t : Fin grid0.N) (b : Fin 4) (j : Fin 512) (X : FVec Ideal S8x4x1x512 .f32) :
    X ((win0_13.blk t).view.emb (ix4 0 b 0 j)) = X (ix4 ⟨(t : ℕ) / 4, tlt t⟩ b 0 j) := by
  blk_ext [idx t]
theorem emb14 (t : Fin grid0.N) (r : Fin 512) (X : FVec Ideal S8x2048x1 .f32) :
    X ((win0_14.blk t).view.emb (ix3 0 r 0)) = X (ix3 ⟨(t : ℕ) / 4, tlt t⟩ ⟨512 * ((t : ℕ) % 4) + r, by omega⟩ 0) := by
  blk_ext [idx t]
theorem emb15 (t : Fin grid0.N) (r : Fin 512) (X : FVec Ideal S8x2048x1 .f32) :
    X ((win0_15.blk t).view.emb (ix3 0 r 0)) = X (ix3 ⟨(t : ℕ) / 4, tlt t⟩ ⟨512 * ((t : ℕ) % 4) + r, by omega⟩ 0) := by
  blk_ext [idx t]

theorem col (q l : ℕ) (h : l < 128) : (128 * q + l) / 64 = 2 * q + l / 64 ∧ (128 * q + l) % 64 = l % 64 := by omega

theorem last : ∀ t : Fin cfg0.N, (win0_10.flush t = true → (t : ℕ) % 4 = 3) ∧ (win0_11.flush t = true → (t : ℕ) % 4 = 3)
    ∧ (win0_12.flush t = true → (t : ℕ) % 4 = 3) ∧ (win0_13.flush t = true → (t : ℕ) % 4 = 3) :=
  (by decide +kernel : ∀ t : Fin grid0.N, _)

variable {m : (ℓ : Loc nD τ sig) → Buf (Elt Ideal) ℓ} {c : Dev nD} {g : G} (hB : ∀ t : Fin grid0.N, GoodBlk (blk m c t) g (t / 4) (t % 4))
include hB

theorem final9 : (dats m 0 c).arrAt 9 cfg0.N = aDq g := by
  refine (dats m 0 c).arrAt_eq_of_covers 9 _ (by decide +kernel) fun t hf y => ?_
  blk_simp
  rw [after0_9]
  obtain ⟨r, l, rfl⟩ := ex2 (a := 512) (b := 128) y
  refine (dq_at m c g hB t r l).trans (Eq.trans ?_ (emb9 t r l (aDq g)).symm)
  obtain ⟨e1, e2⟩ := col ((t : ℕ) / 4) l l.isLt
  simp only [aDq, ix2, e1, e2]

theorem final10 : (dats m 0 c).arrAt 10 cfg0.N = aDk g := by
  refine (dats m 0 c).arrAt_eq_of_covers 10 _ (by decide +kernel) fun t hf y => ?_
  have h3 := (last t).1 hf
  blk_simp
  rw [after0_10]
  obtain ⟨r, l, rfl⟩ := ex2 (a := 2048) (b := 128) y
  refine (dk_at m c g hB t h3 r l).trans (Eq.trans ?_ (emb10 t r l (aDk g)).symm)
  obtain ⟨e1, e2⟩ := col ((t : ℕ) / 4) l l.isLt
  simp only [aDk, ix2, e1, e2]

theorem final12 : (dats m 0 c).arrAt 12 cfg0.N = aDck 0 g := by
  refine (dats m 0 c).arrAt_eq_of_covers 12 _ (by decide +kernel) fun t hf y => ?_
  have h3 := (last t).2.2.1 hf
  blk_simp
  rw [after0_12]
  obtain ⟨a, b, k, j, rfl⟩ := ex4 (a := 1) (b := 4) (c := 1) (d := 512) y
  obtain rfl : a = 0 := Subsingleton.elim _ _
  obtain rfl : k = 0 := Subsingleton.elim _ _
  exact (dck_at0 m c g hB t h3 b j).trans (emb12 t b j (aDck 0 g)).symm

theorem final13 : (dats m 0 c).arrAt 13 cfg0.N = aDck 1 g := by
  refine (dats m 0 c).arrAt_eq_of_covers 13 _ (by decide +kernel) fun t hf y => ?_
  have h3 := (last t).2.2.2 hf
  blk_simp
  rw [after0_13]
  obtain ⟨a, b, k, j, rfl⟩ := ex4 (a := 1) (b := 4) (c := 1) (d := 512) y
  obtain rfl : a = 0 := Subsingleton.elim _ _
  obtain rfl : k = 0 := Subsingleton.elim _ _
  exact (dck_at1 m c g hB t h3 b j).trans (emb13 t b j (aDck 1 g)).symm

theorem final14 : (dats m 0 c).arrAt 14 cfg0.N = aDcq 0 g := by
  refine (dats m 0 c).arrAt_eq_of_covers 14 _ (by decide +kernel) fun t hf y => ?_
  blk_simp
  rw [after0_14]
  obtain ⟨a, r, k, rfl⟩ := ex3 (a := 1) (b := 512) (c := 1) y
  obtain rfl : a = 0 := Subsingleton.elim _ _
  obtain rfl : k = 0 := Subsingleton.elim _ _
  exact (dcq_at0 m c g hB t r).trans (emb14 t r (aDcq 0 g)).symm

theorem final15 : (dats m 0 c).arrAt 15 cfg0.N = aDcq 1 g := by
  refine (dats m 0 c).arrAt_eq_of_covers 15 _ (by decide +kernel) fun t hf y => ?_
  blk_simp
  rw [after0_15]
  obtain ⟨a, r, k, rfl⟩ := ex3 (a := 1) (b := 512) (c := 1) y
  obtain rfl : a = 0 := Subsingleton.elim _ _
  obtain rfl : k = 0 := Subsingleton.elim _ _
  exact (dcq_at1 m c g hB t r).trans (emb15 t r (aDcq 1 g)).symm

/-- The third result on its written columns. -/
theorem final11 (r : Fin 2048) (j : Fin 1024) : ((dats m 0 c).arrAt 11 cfg0.N : FVec Ideal S2048x4608 .bf16) (ix2 r ⟨2048 + j, by omega⟩) = aDv g (ix2 r ⟨2048 + j, by omega⟩) := by
  have h := (dats m 0 c).arrAt_apply_of_coversWhere 11 (aDv g) (P := fun i : S2048x4608.Idx => 16 ≤ (i 1 : ℕ) / 128 ∧ (i 1 : ℕ) / 128 < 24) (fun β => 16 ≤ β (1 : Fin _) ∧ β (1 : Fin _) < 24) (by decide +kernel) (fun t hf y => ?_) (fun j => Iff.rfl) (ix2 r ⟨2048 + j, by omega⟩)
  · refine h.trans (if_pos ?_)
    have := j.isLt
    exact (show 16 ≤ (2048 + (j : ℕ)) / 128 ∧ (2048 + (j : ℕ)) / 128 < 24 by omega)
  · have h3 := (last t).2.1 hf
    blk_simp
    rw [after0_11]
    obtain ⟨r, l, rfl⟩ := ex2 (a := 2048) (b := 128) y
    refine (dv_at m c g hB t h3 r l).trans (Eq.trans ?_ (emb11 t r l (aDv g)).symm)
    obtain ⟨e1, e2⟩ := col ((t : ℕ) / 4) l l.isLt
    simp only [aDv, ix2, show 2048 + 128 * ((t : ℕ) / 4) + (l : ℕ) - 2048 = 128 * ((t : ℕ) / 4) + l by omega, e1, e2]
end Cert.KernelIdeal.Fox
end
-- ==== Proof.FoxKernelIdeal.Entry.lean ====
module

public import proofs.«01_k».proof.Defs
public import proofs.«01_k».proof.Proof.FoxKernelIdeal.Soft
public import Idealize.ShloMosaic.Lib.ReduceAll
public import Idealize.ShloMosaic.Lib.Pointwise

@[expose] public section

set_option maxRecDepth 16384

noncomputable section

namespace Cert.KernelIdeal.Fox

open Idealize.ShloMosaic

/-! ## What the precondition says of the arguments -/

instance preFacts : Cert.Pre_finite.Facts := ⟨by decide, by decide, by decide, by decide, by decide⟩
instance onFacts : Cert.On_written.Facts := ⟨by decide, by decide, by decide, by decide⟩

theorem pos_inf : Ideal.ofBits .f32 2139095040#32 = (⊤ : EReal) := by
  simp [Ideal.ofBits, Ideal.ieee]

/-- An entry whose size is below infinity is a real number. -/
theorem real_entry {s : Shape} (X : FVec Ideal s .f32) (i : s.Idx) (hb : (⟨0, ![]⟩ : Shape).BroadcastsInDim s (![] : Fin 0 → Fin s.rank))
    (h : cmpf .olt (Host.absf X) (broadcastInDim s ![] hb (constant (⟨0, ![]⟩ : Shape) .f32 0x7F800000#32 : FVec Ideal _ .f32)) i = 1#1) : ((X i : EReal).toReal : EReal) = X i := by
  have h' : Ideal.cmp .olt (max (X i) (-X i) : EReal) (Ideal.ofBits .f32 2139095040#32) = 1 := h
  rw [pos_inf, Ideal.cmp_olt_eq_one, max_lt_iff] at h'
  exact EReal.coe_toReal h'.1.ne (fun e => absurd h'.2 (by rw [show (X i : EReal) = ⊥ from e]; simp))

/-- The real numbers of five arrays. -/
def realG (Q K V D : FVec Ideal ⟨3, ![2048, 16, 64]⟩ .f32) (C : FVec Ideal ⟨2, ![16, 2048]⟩ .f32) : G where
  q r n l := if h : r < 2048 ∧ n < 16 ∧ l < 64 then (Q (ix3 ⟨r, h.1⟩ ⟨n, h.2.1⟩ ⟨l, h.2.2⟩) : EReal).toReal else 0
  k r n l := if h : r < 2048 ∧ n < 16 ∧ l < 64 then (K (ix3 ⟨r, h.1⟩ ⟨n, h.2.1⟩ ⟨l, h.2.2⟩) : EReal).toReal else 0
  v r n l := if h : r < 2048 ∧ n < 16 ∧ l < 64 then (V (ix3 ⟨r, h.1⟩ ⟨n, h.2.1⟩ ⟨l, h.2.2⟩) : EReal).toReal else 0
  d r n l := if h : r < 2048 ∧ n < 16 ∧ l < 64 then (D (ix3 ⟨r, h.1⟩ ⟨n, h.2.1⟩ ⟨l, h.2.2⟩) : EReal).toReal else 0
  c n r := if h : n < 16 ∧ r < 2048 then (C (ix2 ⟨n, h.1⟩ ⟨r, h.2⟩) : EReal).toReal else 0

theorem realIn [Cert.Pre_finite.Facts] (Q K V D : FVec Ideal ⟨3, ![2048, 16, 64]⟩ .f32) (C : FVec Ideal ⟨2, ![16, 2048]⟩ .f32)
    (h : Cert.Pre_finite.fn (F := Ideal) Q K V C D = fun _ => 1#1) : RealIn Q K V D C (realG Q K V D C) := by
  have h0 := congrFun h (fun a => a.elim0)
  unfold Cert.Pre_finite.fn Cert.Pre_finite.fn_part1 at h0
  dsimp only at h0
  obtain ⟨h1, hD⟩ := IntOp.andi_eq_one.1 h0
  obtain ⟨h1, hC⟩ := IntOp.andi_eq_one.1 h1
  obtain ⟨h1, hV⟩ := IntOp.andi_eq_one.1 h1
  obtain ⟨hQ, hK⟩ := IntOp.andi_eq_one.1 h1
  have : Subsingleton (Cert.Pre_finite.S_ : Shape).Idx := ⟨fun a b => funext fun i => i.elim0⟩
  have eQ := fun i => real_entry Q i _ (Host.reduce_andi_all _ _ _ _ _ hQ i)
  have eK := fun i => real_entry K i _ (Host.reduce_andi_all _ _ _ _ _ hK i)
  have eV := fun i => real_entry V i _ (Host.reduce_andi_all _ _ _ _ _ hV i)
  have eD := fun i => real_entry D i _ (Host.reduce_andi_all _ _ _ _ _ hD i)
  have eC := fun i => real_entry C i _ (Host.reduce_andi_all _ _ _ _ _ hC i)
  refine ⟨fun r n l => ?_, fun r n l => ?_, fun r n l => ?_, fun r n l => ?_, fun n r => ?_⟩
  · simpa [realG] using (eQ (ix3 r n l)).symm
  · simpa [realG] using (eK (ix3 r n l)).symm
  · simpa [realG] using (eV (ix3 r n l)).symm
  · simpa [realG] using (eD (ix3 r n l)).symm
  · simpa [realG] using (eC (ix2 n r)).symm

/-- The columns of the third result that the claim speaks of. -/
theorem on_third (Q K V D : FVec Ideal ⟨3, ![2048, 16, 64]⟩ .f32) (C : FVec Ideal ⟨2, ![16, 2048]⟩ .f32) (i : (⟨2, ![2048, 4608]⟩ : Shape).Idx)
    (h : (Cert.On_written.fn (F := Ideal) Q K V C D).2.2.1 i = 1#1) : ∃ (r : Fin 2048) (j : Fin 1024), i = ix2 r ⟨2048 + j, by omega⟩ := by
  obtain ⟨h1, h2⟩ := IntOp.andi_eq_one.1 h
  have hb : (i 1 : ℕ) < 4608 := (i 1).isLt
  have e : (BitVec.ofNat 32 (i 1 : ℕ)).toInt = (i 1 : ℕ) := by
    rw [BitVec.toInt_ofNat', Int.bmod_eq_of_le] <;> omega
  have h1' : (2048#32).toInt ≤ (BitVec.ofNat 32 (i 1 : ℕ)).toInt := IntOp.cmpi_sge.1 h1
  have h2' : (BitVec.ofNat 32 (i 1 : ℕ)).toInt < (3072#32).toInt := IntOp.cmpi_slt.1 h2
  rw [e, show (2048#32).toInt = 2048 by decide] at h1'
  rw [e, show (3072#32).toInt = 3072 by decide] at h2'
  refine ⟨i 0, ⟨(i 1 : ℕ) - 2048, by omega⟩, (ix2_eta i).symm.trans ?_⟩
  exact congrArg (ix2 (n0 := 2048) (n1 := 4608) (i 0)) (Fin.ext (show (i 1 : ℕ) = 2048 + ((i 1 : ℕ) - 2048) by omega))

end Cert.KernelIdeal.Fox
end
-- ==== Proof.FoxReference.Arrays.lean ====
module

public import proofs.«01_k».proof.Proof.FoxKernelIdeal.Soft
public import proofs.«01_k».proof.Proof.Gen.ReferenceIdeal.Run

@[expose] public section

set_option maxRecDepth 16384

noncomputable section

namespace Cert.ReferenceIdeal.Fox

open Cert.ReferenceIdeal Cert.ReferenceIdeal.Gen Cert.ReferenceIdeal.Value
open Cert.KernelIdeal.Fox (G RealIn neg_inf causal_bit row_max row_exp row_sum div_real score_eq eighth coe_sum)
open Idealize.ShloMosaic Idealize.ShloMosaic.TcCoe Idealize.SL.Sem
open Finset

/-! ## The reference's arrays, step by step -/

def rB : IVec S16x2048x2048 1 := broadcastInDim S16x2048x2048 ![1, 2] bcast_S2048x2048_S16x2048x2048_1_2 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))
/-- The masked scores. -/
def rS (Q K : FVec Ideal S2048x16x64 .f32) (C : FVec Ideal S16x2048 .f32) : FVec Ideal S16x2048x2048 .f32 :=
  select rB (subf (addf (mulf (Host.dotGeneral dot_S2048x16x64_S2048x16x64_S16x2048x2048_2_2_0_0_1_1 none Q K) (broadcastInDim S16x2048x2048 ![] bcast_S_S16x2048x2048 (constant S_ .f32 0x3E000000#32))) (broadcastInDim S16x2048x2048 ![0, 1, 2] bcast_S16x2048x1_S16x2048x2048_0_1_2 (broadcastInDim S16x2048x1 ![0, 1] bcast_S16x2048_S16x2048x1_0_1 C))) (broadcastInDim S16x2048x2048 ![0, 1, 2] bcast_S16x1x2048_S16x2048x2048_0_1_2 (broadcastInDim S16x1x2048 ![0, 2] bcast_S16x2048_S16x1x2048_0_2 C)))
    (broadcastInDim S16x2048x2048 ![] bcast_S_S16x2048x2048 (id (constant S_ .f32 0xFF800000#32)))
def rX (S : FVec Ideal S16x2048x2048 .f32) : FVec Ideal S16x2048 .f32 := Host.reduce FloatOps.maximumf S (constant S_ .f32 0xFF800000#32) reducesTo_S16x2048x2048_S16x2048_d2 h_S_
def rM (X : FVec Ideal S16x2048 .f32) : FVec Ideal S16x2048 .f32 := maximumf (broadcastInDim S16x2048 ![] bcast_S_S16x2048 (constant S_ .f32 0xFF800000#32)) X
def rE (S : FVec Ideal S16x2048x2048 .f32) (M : FVec Ideal S16x2048 .f32) : FVec Ideal S16x2048x2048 .f32 := Host.exp (subf S (broadcastInDim S16x2048x2048 ![0, 1, 2] bcast_S16x2048x1_S16x2048x2048_0_1_2 (broadcastInDim S16x2048x1 ![0, 1] bcast_S16x2048_S16x2048x1_0_1 M)))
def rL (E : FVec Ideal S16x2048x2048 .f32) : FVec Ideal S16x2048 .f32 := Host.reduceAdd E (constant S_ .f32 0x00000000#32) reducesTo_S16x2048x2048_S16x2048_d2 h_S_
def rP (E : FVec Ideal S16x2048x2048 .f32) (L : FVec Ideal S16x2048 .f32) : FVec Ideal S16x2048x2048 .f32 :=
  Host.divf E (broadcastInDim S16x2048x2048 ![0, 1, 2] bcast_S16x2048x1_S16x2048x2048_0_1_2 (broadcastInDim S16x2048x1 ![0, 1] bcast_S16x2048_S16x2048x1_0_1 L))
def rT (V D : FVec Ideal S2048x16x64 .f32) : FVec Ideal S16x2048x2048 .f32 :=
  Host.dotGeneral dot_S16x64x2048_S2048x16x64_S16x2048x2048_1_2_2_0_0_1 none (transpose S16x64x2048 [1, 2, 0] D transposes_S2048x16x64_S16x64x2048_1_2_0) V
def rDv (D : FVec Ideal S2048x16x64 .f32) (P : FVec Ideal S16x2048x2048 .f32) : FVec Ideal S2048x16x64 .f32 :=
  transpose S2048x16x64 [2, 0, 1] (Host.dotGeneral dot_S16x64x2048_S16x2048x2048_S16x64x2048_2_1_1_2_0_0 none (transpose S16x64x2048 [1, 2, 0] D transposes_S2048x16x64_S16x64x2048_1_2_0) P) transposes_S16x64x2048_S2048x16x64_2_0_1
/-- What the softmax's gradient takes off a row. -/
def rW (T E : FVec Ideal S16x2048x2048 .f32) (L : FVec Ideal S16x2048 .f32) : FVec Ideal S16x2048 .f32 :=
  Host.reduceAdd (Host.negf (shapeCast _ (Host.reduceAdd (mulf (mulf T (broadcastInDim S16x2048x2048 ![0, 1, 2] bcast_S16x2048x1_S16x2048x2048_0_1_2 (Host.divf (broadcastInDim S16x2048x1 ![] bcast_S_S16x2048x1 (constant S_ .f32 0x3F800000#32)) (mulf (broadcastInDim S16x2048x1 ![0, 1] bcast_S16x2048_S16x2048x1_0_1 L) (broadcastInDim S16x2048x1 ![0, 1] bcast_S16x2048_S16x2048x1_0_1 L))))) E) (constant S_ .f32 0x00000000#32) reducesTo_S16x2048x2048_S16x2048_d2 h_S_ : FVec Ideal S16x2048 .f32) shapeCasts_S16x2048_S16x2048x1 : FVec Ideal S16x2048x1 .f32))
    (constant S_ .f32 0x00000000#32) reducesTo_S16x2048x1_S16x2048_d2 h_S_
/-- The gradient of the scores. -/
def rG (T E : FVec Ideal S16x2048x2048 .f32) (L W : FVec Ideal S16x2048 .f32) : FVec Ideal S16x2048x2048 .f32 :=
  select rB (mulf (addf (Host.divf T (broadcastInDim S16x2048x2048 ![0, 1, 2] bcast_S16x2048x1_S16x2048x2048_0_1_2 (broadcastInDim S16x2048x1 ![0, 1] bcast_S16x2048_S16x2048x1_0_1 L))) (broadcastInDim S16x2048x2048 ![0, 1] bcast_S16x2048_S16x2048x2048_0_1 W)) E) (broadcastInDim S16x2048x2048 ![] bcast_S_S16x2048x2048 (constant S_ .f32 0x00000000#32))
def rDck (G : FVec Ideal S16x2048x2048 .f32) : FVec Ideal S16x2048 .f32 :=
  Host.reduceAdd (shapeCast _ (Host.reduceAdd (Host.negf G) (constant S_ .f32 0x00000000#32) reducesTo_S16x2048x2048_S16x2048_d1 h_S_ : FVec Ideal S16x2048 .f32) shapeCasts_S16x2048_S16x1x2048 : FVec Ideal S16x1x2048 .f32) (constant S_ .f32 0x00000000#32) reducesTo_S16x1x2048_S16x2048_d1 h_S_
def rDcq (G : FVec Ideal S16x2048x2048 .f32) : FVec Ideal S16x2048 .f32 :=
  Host.reduceAdd (shapeCast _ (Host.reduceAdd G (constant S_ .f32 0x00000000#32) reducesTo_S16x2048x2048_S16x2048_d2 h_S_ : FVec Ideal S16x2048 .f32) shapeCasts_S16x2048_S16x2048x1 : FVec Ideal S16x2048x1 .f32) (constant S_ .f32 0x00000000#32) reducesTo_S16x2048x1_S16x2048_d2 h_S_
def rDk (G : FVec Ideal S16x2048x2048 .f32) (Q : FVec Ideal S2048x16x64 .f32) : FVec Ideal S2048x16x64 .f32 :=
  transpose S2048x16x64 [1, 0, 2] (Host.dotGeneral dot_S16x2048x2048_S2048x16x64_S16x2048x64_1_0_2_2_0_1 none (mulf G (broadcastInDim S16x2048x2048 ![] bcast_S_S16x2048x2048 (constant S_ .f32 0x3E000000#32))) Q) transposes_S16x2048x64_S2048x16x64_1_0_2
def rDq (G : FVec Ideal S16x2048x2048 .f32) (K : FVec Ideal S2048x16x64 .f32) : FVec Ideal S2048x16x64 .f32 :=
  transpose S2048x16x64 [1, 0, 2] (Host.dotGeneral dot_S16x2048x2048_S2048x16x64_S16x2048x64_2_0_1_2_0_1 none (mulf G (broadcastInDim S16x2048x2048 ![] bcast_S_S16x2048x2048 (constant S_ .f32 0x3E000000#32))) K) transposes_S16x2048x64_S2048x16x64_1_0_2
def rFlat (X : FVec Ideal S2048x16x64 .f32) : FVec Ideal S2048x1024 .f32 := shapeCast _ X shapeCasts_S2048x16x64_S2048x1024
def rPad (X : FVec Ideal S2048x16x64 .f32) : FVec Ideal S2048x4608 .bf16 := truncf .bf16 (pad S2048x4608 ![0, 2048] ![0, 1536] ![0, 0] (rFlat X) (sitofp .f32 (constantI S_ 32 0#32)) pads_S2048x1024_S2048x4608_000_204815360 h_S_ : FVec Ideal S2048x4608 .f32) bitsLt_bf16_f32
def rKa (X : FVec Ideal S16x2048 .f32) : FVec Ideal S8x4x1x512 .f32 := shapeCast _ (shapeCast _ (extractStridedSlice S8x1x2048 ![0, 0, 0] (shapeCast _ X shapeCasts_S16x2048_S8x2x2048 : FVec Ideal S8x2x2048 .f32) slices_S8x2x2048_S8x1x2048_0_0_0) shapeCasts_S8x1x2048_S8x2048 : FVec Ideal S8x2048 .f32) shapeCasts_S8x2048_S8x4x1x512
def rKb (X : FVec Ideal S16x2048 .f32) : FVec Ideal S8x4x1x512 .f32 := shapeCast _ (shapeCast _ (extractStridedSlice S8x1x2048 ![0, 1, 0] (shapeCast _ X shapeCasts_S16x2048_S8x2x2048 : FVec Ideal S8x2x2048 .f32) slices_S8x2x2048_S8x1x2048_0_1_0) shapeCasts_S8x1x2048_S8x2048 : FVec Ideal S8x2048 .f32) shapeCasts_S8x2048_S8x4x1x512
def rQa (X : FVec Ideal S16x2048 .f32) : FVec Ideal S8x2048x1 .f32 := shapeCast _ (shapeCast _ (extractStridedSlice S8x1x2048 ![0, 0, 0] (shapeCast _ X shapeCasts_S16x2048_S8x2x2048 : FVec Ideal S8x2x2048 .f32) slices_S8x2x2048_S8x1x2048_0_0_0) shapeCasts_S8x1x2048_S8x2048 : FVec Ideal S8x2048 .f32) shapeCasts_S8x2048_S8x2048x1
def rQb (X : FVec Ideal S16x2048 .f32) : FVec Ideal S8x2048x1 .f32 := shapeCast _ (shapeCast _ (extractStridedSlice S8x1x2048 ![0, 1, 0] (shapeCast _ X shapeCasts_S16x2048_S8x2x2048 : FVec Ideal S8x2x2048 .f32) slices_S8x2x2048_S8x1x2048_0_1_0) shapeCasts_S8x1x2048_S8x2048 : FVec Ideal S8x2048 .f32) shapeCasts_S8x2048_S8x2048x1

section
variable (X T E P D' : FVec Ideal S16x2048x2048 .f32) (L W : FVec Ideal S16x2048 .f32) (Q K V D : FVec Ideal S2048x16x64 .f32) (C : FVec Ideal S16x2048 .f32) (n : Fin 16) (r y : Fin 2048) (l : Fin 64)

theorem rS_eq : rS Q K C (ix3 n r y) = if (y : ℕ) ≤ r then (∑ l : Fin 64, Q (ix3 r n l) * K (ix3 y n l)) * Ideal.ofBits .f32 1040187392#32 + C (ix2 n r) - C (ix2 n y) else Ideal.ofBits .f32 4286578688#32 := by
  pointwise [rS, rB]
  rw [causal_bit]
  rfl
theorem rX_eq : rX X (ix2 n r) = univ.fold max (⊥ : EReal) (fun y : Fin 2048 => X (ix3 n r y)) := by
  pointwise [rX]
  rw [neg_inf]
theorem rM_eq : rM W (ix2 n r) = W (ix2 n r) := by
  pointwise [rM]
  rw [neg_inf]
  exact max_eq_right bot_le
theorem rE_eq : rE X W (ix3 n r y) = Ideal.exp (X (ix3 n r y) - W (ix2 n r)) := by
  pointwise [rE]
theorem rL_eq : rL X (ix2 n r) = ∑ y : Fin 2048, X (ix3 n r y) := by
  pointwise [rL]
theorem rP_eq : rP X W (ix3 n r y) = Ideal.div (X (ix3 n r y)) (W (ix2 n r)) := by
  pointwise [rP]
theorem rT_eq : rT V D (ix3 n r y) = ∑ l : Fin 64, D (ix3 r n l) * V (ix3 y n l) := by
  pointwise [rT]
theorem rDv_eq : rDv D P (ix3 y n l) = ∑ r : Fin 2048, D (ix3 r n l) * P (ix3 n r y) := by
  pointwise [rDv]
theorem rW_eq : rW T E L (ix2 n r) = -∑ y : Fin 2048, T (ix3 n r y) * Ideal.div (1) (L (ix2 n r) * L (ix2 n r)) * E (ix3 n r y) := by
  pointwise [rW]
  exact Fin.sum_univ_one _
theorem rG_eq : rG T E L W (ix3 n r y) = if (y : ℕ) ≤ r then (Ideal.div (T (ix3 n r y)) (L (ix2 n r)) + W (ix2 n r)) * E (ix3 n r y) else 0 := by
  pointwise [rG, rB]
  rw [causal_bit]
theorem rDck_eq : rDck X (ix2 n y) = ∑ r : Fin 2048, -X (ix3 n r y) := by
  pointwise [rDck]
  exact Fin.sum_univ_one _
theorem rDcq_eq : rDcq X (ix2 n r) = ∑ y : Fin 2048, X (ix3 n r y) := by
  pointwise [rDcq]
  exact Fin.sum_univ_one _
theorem rDk_eq : rDk X Q (ix3 y n l) = ∑ r : Fin 2048, X (ix3 n r y) * Ideal.ofBits .f32 1040187392#32 * Q (ix3 r n l) := by
  pointwise [rDk]
theorem rDq_eq : rDq X K (ix3 r n l) = ∑ y : Fin 2048, X (ix3 n r y) * Ideal.ofBits .f32 1040187392#32 * K (ix3 y n l) := by
  pointwise [rDq]
theorem rFlat_eq (j : Fin 1024) : rFlat Q (ix2 r j) = Q (ix3 r ⟨(j : ℕ) / 64, by omega⟩ ⟨(j : ℕ) % 64, by omega⟩) := by
  pointwise [rFlat]
theorem rPad_eq (j : Fin 1024) : rPad Q (ix2 r ⟨2048 + j, by omega⟩) = Q (ix3 r ⟨(j : ℕ) / 64, by omega⟩ ⟨(j : ℕ) % 64, by omega⟩) := by
  pointwise [rPad, rFlat]
theorem rKa_eq (h : Fin 8) (a : Fin 4) (j : Fin 512) : rKa W (ix4 h a 0 j) = W (ix2 ⟨(h : ℕ) * 2, by omega⟩ ⟨(a : ℕ) * 512 + j, by omega⟩) := by
  pointwise [rKa]
theorem rKb_eq (h : Fin 8) (a : Fin 4) (j : Fin 512) : rKb W (ix4 h a 0 j) = W (ix2 ⟨(h : ℕ) * 2 + 1, by omega⟩ ⟨(a : ℕ) * 512 + j, by omega⟩) := by
  pointwise [rKb]
theorem rQa_eq (h : Fin 8) : rQa W (ix3 h r 0) = W (ix2 ⟨(h : ℕ) * 2, by omega⟩ r) := by
  pointwise [rQa]
theorem rQb_eq (h : Fin 8) : rQb W (ix3 h r 0) = W (ix2 ⟨(h : ℕ) * 2 + 1, by omega⟩ r) := by
  pointwise [rQb]
end

section
variable {Q K V D : FVec Ideal S2048x16x64 .f32} {C : FVec Ideal S16x2048 .f32} {g : G} (hI : RealIn Q K V D C g)
include hI

theorem rS_at (n : Fin 16) (r y : Fin 2048) : rS Q K C (ix3 n r y) = if (y : ℕ) ≤ r then ((g.S n r y + g.c n r : ℝ) : EReal) else ⊥ := by
  refine (rS_eq Q K C n r y).trans ?_
  rw [score_eq g r y n _ _ (fun l => hI.q r n l) (fun l => hI.k y n l), hI.c, hI.c, ← EReal.coe_add, ← EReal.coe_sub, neg_inf,
    show g.S n r y + g.c n y + g.c n r - g.c n y = g.S n r y + g.c n r by ring]

/-- The row's exponentials are its weights times their sum. -/
theorem rows (n : Fin 16) (r : Fin 2048) : ∃ w : ℝ, w ≠ 0
    ∧ (∀ y : Fin 2048, rE (rS Q K C) (rM (rX (rS Q K C))) (ix3 n r y) = ((w * g.P n r y : ℝ) : EReal))
    ∧ rL (rE (rS Q K C) (rM (rX (rS Q K C)))) (ix2 n r) = (w : EReal) := by
  obtain ⟨M, hM'⟩ := row_max (a := fun y => g.S n r y + g.c n r) r fun y => rS_at hI n r y
  have e1 : rM (rX (rS Q K C)) (ix2 n r) = (M : EReal) := (rM_eq _ n r).trans ((rX_eq _ n r).trans hM')
  have hκ : 0 < Real.exp (g.c n r - M) := Real.exp_pos _
  have hw : Real.exp (g.c n r - M) * g.Z n r ≠ 0 := (mul_pos hκ (g.Z_pos n r)).ne'
  have e0 : ∀ y : Fin 2048, rE (rS Q K C) (rM (rX (rS Q K C))) (ix3 n r y) = ((if (y : ℕ) ≤ r then Real.exp (g.c n r - M) * Real.exp (g.S n r y) else 0 : ℝ) : EReal) := fun y => by
    refine (rE_eq _ _ n r y).trans ?_
    rw [e1, row_exp (rS_at hI n r y), ← Real.exp_add, show g.c n r - M + g.S n r y = g.S n r y + g.c n r - M by ring]
  refine ⟨Real.exp (g.c n r - M) * g.Z n r, hw, fun y => (e0 y).trans ?_, (rL_eq _ n r).trans ?_⟩
  · rw [← g.P_scaled n r y hκ, mul_div_cancel₀ _ hw]
  · rw [sum_congr rfl fun y _ => e0 y, ← coe_sum, row_sum r fun y => Real.exp (g.c n r - M) * Real.exp (g.S n r y), G.Z, mul_sum]

theorem rT_at (n : Fin 16) (r y : Fin 2048) : rT V D (ix3 n r y) = ((g.T n r y : ℝ) : EReal) := by
  refine (rT_eq V D n r y).trans ?_
  rw [G.T, ← Fin.sum_univ_eq_sum_range (fun l => g.d r n l * g.v y n l) 64, coe_sum]
  exact sum_congr rfl fun l _ => by rw [hI.d, hI.v, ← EReal.coe_mul]

theorem rG_at (n : Fin 16) (r y : Fin 2048) :
    rG (rT V D) (rE (rS Q K C) (rM (rX (rS Q K C)))) (rL (rE (rS Q K C) (rM (rX (rS Q K C)))))
      (rW (rT V D) (rE (rS Q K C) (rM (rX (rS Q K C)))) (rL (rE (rS Q K C) (rM (rX (rS Q K C)))))) (ix3 n r y) = ((g.δ n r y : ℝ) : EReal) := by
  obtain ⟨w, hw, e2, e3⟩ := rows hI n r
  have e4 : rW (rT V D) (rE (rS Q K C) (rM (rX (rS Q K C)))) (rL (rE (rS Q K C) (rM (rX (rS Q K C))))) (ix2 n r) = ((-(g.D n r / w) : ℝ) : EReal) := by
    refine (rW_eq _ _ _ n r).trans ?_
    rw [e3, ← EReal.coe_mul, ← EReal.coe_one, div_real (mul_ne_zero hw hw), g.D_eq, sum_div,
      ← Fin.sum_univ_eq_sum_range (fun y => g.P n r y * g.T n r y / w) 2048, EReal.coe_neg, coe_sum]
    refine congrArg _ (sum_congr rfl fun y _ => ?_)
    rw [rT_at hI, e2, ← EReal.coe_mul, ← EReal.coe_mul]
    exact congrArg (fun x : ℝ => (x : EReal)) (by field_simp)
  refine (rG_eq _ _ _ _ n r y).trans ?_
  by_cases h : (y : ℕ) ≤ r
  · rw [if_pos h, e3, e4, e2, rT_at hI, div_real hw, ← EReal.coe_add, ← EReal.coe_mul, G.δ]
    exact congrArg (fun x : ℝ => (x : EReal)) (by field_simp; ring)
  · rw [if_neg h, g.δ_of_lt n r y (by omega)]; exact EReal.coe_zero.symm

theorem rP_at (n : Fin 16) (r y : Fin 2048) :
    rP (rE (rS Q K C) (rM (rX (rS Q K C)))) (rL (rE (rS Q K C) (rM (rX (rS Q K C))))) (ix3 n r y) = ((g.P n r y : ℝ) : EReal) := by
  obtain ⟨w, hw, e2, e3⟩ := rows hI n r
  refine (rP_eq _ _ n r y).trans ?_
  rw [e2, e3, div_real hw, mul_div_cancel_left₀ _ hw]
end

section
variable {Q K D : FVec Ideal S2048x16x64 .f32} {X : FVec Ideal S16x2048x2048 .f32} {g : G}

theorem rDq_at (hK : ∀ (r : Fin 2048) (n : Fin 16) (l : Fin 64), K (ix3 r n l) = ((g.k r n l : ℝ) : EReal))
    (hX : ∀ (n : Fin 16) (r y : Fin 2048), X (ix3 n r y) = ((g.δ n r y : ℝ) : EReal)) (r : Fin 2048) (n : Fin 16) (l : Fin 64) :
    rDq X K (ix3 r n l) = ((g.dq r n l : ℝ) : EReal) := by
  refine (rDq_eq X K n r l).trans ?_
  rw [G.dq, sum_mul, ← Fin.sum_univ_eq_sum_range (fun y => g.δ n r y * g.k y n l * (1 / 8)) 2048, coe_sum]
  refine sum_congr rfl fun y _ => ?_
  rw [hX, hK, eighth, ← EReal.coe_mul, ← EReal.coe_mul]
  exact congrArg (fun x : ℝ => (x : EReal)) (by ring)

theorem rDk_at (hQ : ∀ (r : Fin 2048) (n : Fin 16) (l : Fin 64), Q (ix3 r n l) = ((g.q r n l : ℝ) : EReal))
    (hX : ∀ (n : Fin 16) (r y : Fin 2048), X (ix3 n r y) = ((g.δ n r y : ℝ) : EReal)) (y : Fin 2048) (n : Fin 16) (l : Fin 64) :
    rDk X Q (ix3 y n l) = ((g.dk y n l : ℝ) : EReal) := by
  refine (rDk_eq X Q n y l).trans ?_
  rw [G.dk, ← Fin.sum_univ_eq_sum_range (fun r => g.δ n r y * (g.q r n l * (1 / 8))) 2048, coe_sum]
  refine sum_congr rfl fun r _ => ?_
  rw [hX, hQ, eighth, ← EReal.coe_mul, ← EReal.coe_mul]
  exact congrArg (fun x : ℝ => (x : EReal)) (by ring)

theorem rDv_at (hD : ∀ (r : Fin 2048) (n : Fin 16) (l : Fin 64), D (ix3 r n l) = ((g.d r n l : ℝ) : EReal))
    (hX : ∀ (n : Fin 16) (r y : Fin 2048), X (ix3 n r y) = ((g.P n r y : ℝ) : EReal)) (y : Fin 2048) (n : Fin 16) (l : Fin 64) :
    rDv D X (ix3 y n l) = ((g.dv y n l : ℝ) : EReal) := by
  refine (rDv_eq X D n y l).trans ?_
  rw [G.dv, ← Fin.sum_univ_eq_sum_range (fun r => g.P n r y * g.d r n l) 2048, coe_sum]
  refine sum_congr rfl fun r _ => ?_
  rw [hX, hD, ← EReal.coe_mul, mul_comm]

theorem rDck_at (hX : ∀ (n : Fin 16) (r y : Fin 2048), X (ix3 n r y) = ((g.δ n r y : ℝ) : EReal)) (n : Fin 16) (y : Fin 2048) :
    rDck X (ix2 n y) = ((g.dck n y : ℝ) : EReal) := by
  refine (rDck_eq X n y).trans ?_
  rw [G.dck, ← sum_neg_distrib, ← Fin.sum_univ_eq_sum_range (fun r => -g.δ n r y) 2048, coe_sum]
  exact sum_congr rfl fun r _ => by rw [hX, ← EReal.coe_neg]

theorem rDcq_at (hX : ∀ (n : Fin 16) (r y : Fin 2048), X (ix3 n r y) = ((g.δ n r y : ℝ) : EReal)) (n : Fin 16) (r : Fin 2048) :
    rDcq X (ix2 n r) = ((g.dcq n r : ℝ) : EReal) := by
  refine (rDcq_eq X n r).trans ?_
  rw [G.dcq, ← Fin.sum_univ_eq_sum_range (fun y => g.δ n r y) 2048, coe_sum]
  exact sum_congr rfl fun y _ => by rw [hX]
end

section
variable (m : (ℓ : Loc nD τ sig) → Buf (Elt Ideal) ℓ) (c : Dev nD)

abbrev aQ : FVec Ideal S2048x16x64 .f32 := m ((c : Thread nD τ).loc main_arg0)
abbrev aK : FVec Ideal S2048x16x64 .f32 := m ((c : Thread nD τ).loc main_arg1)
abbrev aV : FVec Ideal S2048x16x64 .f32 := m ((c : Thread nD τ).loc main_arg2)
abbrev aC : FVec Ideal S16x2048 .f32 := m ((c : Thread nD τ).loc main_arg3)
abbrev aD : FVec Ideal S2048x16x64 .f32 := m ((c : Thread nD τ).loc main_arg4)
abbrev vS := rS (aQ m c) (aK m c) (aC m c)
abbrev vE := rE (vS m c) (rM (rX (vS m c)))
abbrev vL := rL (vE m c)
abbrev vT := rT (aV m c) (aD m c)
abbrev vG := rG (vT m c) (vE m c) (vL m c) (rW (vT m c) (vE m c) (vL m c))

theorem out0_eq : res_main_v79 m c = rFlat (rDq (vG m c) (aK m c)) := rfl
theorem out1_eq : res_main_v80 m c = rFlat (rDk (vG m c) (aQ m c)) := rfl
theorem out2_eq : res_main_v78 m c = rPad (rDv (aD m c) (rP (vE m c) (vL m c))) := rfl
theorem out3_eq : res_main_v84 m c = rKa (rDck (vG m c)) := rfl
theorem out4_eq : res_main_v88 m c = rKb (rDck (vG m c)) := rfl
theorem out5_eq : res_main_v92 m c = rQa (rDcq (vG m c)) := rfl
theorem out6_eq : res_main_v96 m c = rQb (rDcq (vG m c)) := rfl
end

section
variable {m : (ℓ : Loc nD τ sig) → Buf (Elt Ideal) ℓ} {c : Dev nD} {g : G} (hI : RealIn (aQ m c) (aK m c) (aV m c) (aD m c) (aC m c) g)
include hI

theorem out0_at (r : Fin 2048) (j : Fin 1024) : (res_main_v79 m c : FVec Ideal S2048x1024 .f32) (ix2 r j) = ((g.dq r (j / 64) (j % 64) : ℝ) : EReal) :=
  (congrFun (out0_eq m c) _).trans ((rFlat_eq _ r j).trans (rDq_at hI.k (rG_at hI) _ _ _))
theorem out1_at (r : Fin 2048) (j : Fin 1024) : (res_main_v80 m c : FVec Ideal S2048x1024 .f32) (ix2 r j) = ((g.dk r (j / 64) (j % 64) : ℝ) : EReal) :=
  (congrFun (out1_eq m c) _).trans ((rFlat_eq _ r j).trans (rDk_at hI.q (rG_at hI) _ _ _))
theorem out2_at (r : Fin 2048) (j : Fin 1024) : (res_main_v78 m c : FVec Ideal S2048x4608 .bf16) (ix2 r ⟨2048 + j, by omega⟩) = ((g.dv r (j / 64) (j % 64) : ℝ) : EReal) :=
  (congrFun (out2_eq m c) _).trans ((rPad_eq _ r j).trans (rDv_at hI.d (rP_at hI) _ _ _))
theorem out3_at (h : Fin 8) (a : Fin 4) (j : Fin 512) : (res_main_v84 m c : FVec Ideal S8x4x1x512 .f32) (ix4 h a 0 j) = ((g.dck (h * 2) (a * 512 + j) : ℝ) : EReal) :=
  (congrFun (out3_eq m c) _).trans ((rKa_eq _ h a j).trans (rDck_at (rG_at hI) _ _))
theorem out4_at (h : Fin 8) (a : Fin 4) (j : Fin 512) : (res_main_v88 m c : FVec Ideal S8x4x1x512 .f32) (ix4 h a 0 j) = ((g.dck (h * 2 + 1) (a * 512 + j) : ℝ) : EReal) :=
  (congrFun (out4_eq m c) _).trans ((rKb_eq _ h a j).trans (rDck_at (rG_at hI) _ _))
theorem out5_at (h : Fin 8) (r : Fin 2048) : (res_main_v92 m c : FVec Ideal S8x2048x1 .f32) (ix3 h r 0) = ((g.dcq (h * 2) r : ℝ) : EReal) :=
  (congrFun (out5_eq m c) _).trans ((rQa_eq _ r h).trans (rDcq_at (rG_at hI) _ _))
theorem out6_at (h : Fin 8) (r : Fin 2048) : (res_main_v96 m c : FVec Ideal S8x2048x1 .f32) (ix3 h r 0) = ((g.dcq (h * 2 + 1) r : ℝ) : EReal) :=
  (congrFun (out6_eq m c) _).trans ((rQb_eq _ r h).trans (rDcq_at (rG_at hI) _ _))
end

end Cert.ReferenceIdeal.Fox
end
-- ==== Proof.FoxReference.Agree.lean ====
module

public import proofs.«01_k».proof.Proof.FoxReference.Arrays
public import proofs.«01_k».proof.Proof.FoxKernelIdeal.Result

@[expose] public section

set_option maxRecDepth 16384

noncomputable section

namespace Cert.ReferenceIdeal.Fox

open Cert.ReferenceIdeal Cert.ReferenceIdeal.Gen Cert.ReferenceIdeal.Value
open Cert.KernelIdeal.Fox (G RealIn aDq aDk aDv aDck aDcq ex2 ex3 ex4)
open Idealize.ShloMosaic Idealize.ShloMosaic.TcCoe Idealize.SL.Sem

/-! ## The reference's results are the arrays the kernel leaves -/

variable {m : (ℓ : Loc nD τ sig) → Buf (Elt Ideal) ℓ} {c : Dev nD} {g : G} (hI : RealIn (aQ m c) (aK m c) (aV m c) (aD m c) (aC m c) g)
include hI

theorem ref0 : (res_main_v79 m c : FVec Ideal S2048x1024 .f32) = aDq g := funext fun i => by
  obtain ⟨r, j, rfl⟩ := ex2 i
  exact out0_at hI r j
theorem ref1 : (res_main_v80 m c : FVec Ideal S2048x1024 .f32) = aDk g := funext fun i => by
  obtain ⟨r, j, rfl⟩ := ex2 i
  exact out1_at hI r j
theorem ref2 (r : Fin 2048) (j : Fin 1024) : (res_main_v78 m c : FVec Ideal S2048x4608 .bf16) (ix2 r ⟨2048 + j, by omega⟩) = aDv g (ix2 r ⟨2048 + j, by omega⟩) := by
  refine (out2_at hI r j).trans ?_
  simp only [aDv, ix2, Nat.add_sub_cancel_left]
theorem ref3 : (res_main_v84 m c : FVec Ideal S8x4x1x512 .f32) = aDck 0 g := funext fun i => by
  obtain ⟨h, a, k, j, rfl⟩ := ex4 i
  obtain rfl : k = 0 := Subsingleton.elim _ _
  refine (out3_at hI h a j).trans ?_
  rw [mul_comm (h : ℕ) 2, mul_comm (a : ℕ) 512]; rfl
theorem ref4 : (res_main_v88 m c : FVec Ideal S8x4x1x512 .f32) = aDck 1 g := funext fun i => by
  obtain ⟨h, a, k, j, rfl⟩ := ex4 i
  obtain rfl : k = 0 := Subsingleton.elim _ _
  refine (out4_at hI h a j).trans ?_
  rw [mul_comm (h : ℕ) 2, mul_comm (a : ℕ) 512]; rfl
theorem ref5 : (res_main_v92 m c : FVec Ideal S8x2048x1 .f32) = aDcq 0 g := funext fun i => by
  obtain ⟨h, r, k, rfl⟩ := ex3 i
  obtain rfl : k = 0 := Subsingleton.elim _ _
  refine (out5_at hI h r).trans ?_
  rw [mul_comm (h : ℕ) 2]; rfl
theorem ref6 : (res_main_v96 m c : FVec Ideal S8x2048x1 .f32) = aDcq 1 g := funext fun i => by
  obtain ⟨h, r, k, rfl⟩ := ex3 i
  obtain rfl : k = 0 := Subsingleton.elim _ _
  refine (out6_at hI h r).trans ?_
  rw [mul_comm (h : ℕ) 2]; rfl

end Cert.ReferenceIdeal.Fox
end
-- ==== Proof.Ffn.Mid.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable (m : (ℓ : Loc nD τ sig) → Buf (Elt Ideal) ℓ)

/-- The gradient of the hidden columns. -/
def refH (X : FVec Ideal S2048x2048 .bf16) (W : FVec Ideal S8x704x2048 .bf16) : FVec Ideal S8x2048x704 .f32 :=
  transpose Cert.Reference2Ideal.S8x2048x704 [1, 0, 2] (Host.dotGeneral Cert.Reference2Ideal.dot_S2048x2048_S8x704x2048_S2048x8x704_1_2_0_01_n_n none (extf .f32 X Cert.Reference2Ideal.Gen.bitsLt_bf16_f32) (extf .f32 W Cert.Reference2Ideal.Gen.bitsLt_bf16_f32)) Cert.Reference2Ideal.Gen.transposes_S2048x8x704_S8x2048x704_1_0_2
def refS (A : FVec Ideal S8x2048x704 .f32) : FVec Ideal S8x2048x704 .f32 := (Host.divf (broadcastInDim Cert.Reference2Ideal.S8x2048x704 ![] Cert.Reference2Ideal.Gen.bcast_S_S8x2048x704 (constant Cert.Reference2Ideal.S_ .f32 0x3F800000#32)) (addf (broadcastInDim Cert.Reference2Ideal.S8x2048x704 ![] Cert.Reference2Ideal.Gen.bcast_S_S8x2048x704 (constant Cert.Reference2Ideal.S_ .f32 0x3F800000#32)) (Host.exp (Host.negf A))))
/-- The gradient of the gate's input. -/
def refA (H A B : FVec Ideal S8x2048x704 .f32) : FVec Ideal S8x2048x704 .bf16 :=
  truncf .bf16 (addf (mulf (mulf H B) (refS A)) (mulf (mulf A (mulf H B)) (mulf (refS A) (subf (broadcastInDim Cert.Reference2Ideal.S8x2048x704 ![] Cert.Reference2Ideal.Gen.bcast_S_S8x2048x704 (constant Cert.Reference2Ideal.S_ .f32 0x3F800000#32)) (refS A))))) Cert.Reference2Ideal.Gen.bitsLt_bf16_f32
/-- The gradient of the other factor. -/
def refB (H A : FVec Ideal S8x2048x704 .f32) : FVec Ideal S8x2048x704 .bf16 :=
  truncf .bf16 (mulf (mulf A (refS A)) H) Cert.Reference2Ideal.Gen.bitsLt_bf16_f32
def wide (A : FVec Ideal S8x2048x704 .bf16) : FVec Ideal S8x2048x704 .f32 := extf .f32 A Cert.Reference2Ideal.Gen.bitsLt_bf16_f32

theorem refH_at (X : FVec Ideal S2048x2048 .bf16) (W : FVec Ideal S8x704x2048 .bf16) (j : Fin 8) (r : Fin 2048) (f : Fin 704) :
    refH X W (ix3 j r f) = ∑ d : Fin 2048, X (ix2 r d) * W (ix3 j f d) := by pointwise [refH]
theorem refA_at (H A B : FVec Ideal S8x2048x704 .f32) (y) : refA H A B y = H y * B y * Ideal.div 1 (1 + Ideal.exp (-A y)) + A y * (H y * B y) * (Ideal.div 1 (1 + Ideal.exp (-A y)) * (1 - Ideal.div 1 (1 + Ideal.exp (-A y)))) := by
  pointwise [refA, refS]
theorem refB_at (H A : FVec Ideal S8x2048x704 .f32) (y) : refB H A y = A y * Ideal.div 1 (1 + Ideal.exp (-A y)) * H y := by
  pointwise [refB, refS]

theorem idx : ∀ t : Fin cfg0.N, win0_0.index t = ![t.val % 2, 0] ∧ win0_1.index t = ![t.val / 2, 0, 0] ∧ win0_2.index t = ![t.val / 2, t.val % 2, 0]
    ∧ win0_3.index t = ![t.val / 2, t.val % 2, 0] ∧ win0_4.index t = ![t.val / 2, t.val % 2, 0] ∧ win0_5.index t = ![t.val / 2, t.val % 2, 0] ∧ t.val / 2 < 8 :=
  (by decide +kernel : ∀ t : Fin grid0.N, _)

theorem payA_at (x : FVec Ideal S1024x2048 .bf16) (w : FVec Ideal S1x704x2048 .bf16) (a b : FVec Ideal S1x1024x704 .bf16) (r : Fin 1024) (f : Fin 704) :
    k0_pay4 (F := Ideal) x w a b (ix3 0 r f) = (∑ d : Fin 2048, x (ix2 r d) * w (ix3 0 f d)) * b (ix3 0 r f)
      * (Ideal.logistic (a (ix3 0 r f)) * (1 + a (ix3 0 r f) * (1 - Ideal.logistic (a (ix3 0 r f))))) := by
  pointwise [k0_pay4, k0_pay1, k0_pay2, k0_pay3]
theorem payB_at (x : FVec Ideal S1024x2048 .bf16) (w : FVec Ideal S1x704x2048 .bf16) (a : FVec Ideal S1x1024x704 .bf16) (r : Fin 1024) (f : Fin 704) :
    k0_pay5 (F := Ideal) x w a (ix3 0 r f) = (∑ d : Fin 2048, x (ix2 r d) * w (ix3 0 f d)) * (a (ix3 0 r f) * Ideal.logistic (a (ix3 0 r f))) := by
  pointwise [k0_pay5, k0_pay1, k0_pay2, k0_pay3]

/-- The derivative of `silu`, factored as the kernel does, times a real number. -/
theorem silu_grad (x : ℝ) (a : EReal) : (x : EReal) * (Ideal.logistic a * (1 + a * (1 - Ideal.logistic a)))
    = x * Ideal.logistic a + a * x * (Ideal.logistic a * (1 - Ideal.logistic a)) := by
  induction a with
  | bot => simp
  | top =>
    rw [Ideal.logistic_top, show (1 : EReal) - 1 = 0 from (by rw [← EReal.coe_one, ← EReal.coe_sub, sub_self, EReal.coe_zero])]
    simp
  | coe a =>
    rw [Ideal.logistic_coe, ← EReal.coe_one]
    simp only [← EReal.coe_mul, ← EReal.coe_sub, ← EReal.coe_add]
    congr 1
    ring

theorem silu_grad_mul (h b a : EReal) (hh : ∃ x : ℝ, h = x) (hb : (b.toReal : EReal) = b) :
    h * b * (Ideal.logistic a * (1 + a * (1 - Ideal.logistic a)))
      = h * b * Ideal.div 1 (1 + Ideal.exp (-a)) + a * (h * b) * (Ideal.div 1 (1 + Ideal.exp (-a)) * (1 - Ideal.div 1 (1 + Ideal.exp (-a)))) := by
  obtain ⟨x, rfl⟩ := hh
  rw [← hb, ← EReal.coe_mul]
  exact silu_grad _ a

theorem real_sum {n : ℕ} (u v : Fin n → EReal) (hu : ∀ i, ((u i).toReal : EReal) = u i) (hv : ∀ i, ((v i).toReal : EReal) = v i) :
    ∃ x : ℝ, ∑ i, u i * v i = x := by
  have h : ∀ s : Finset (Fin n), ∃ x : ℝ, ∑ i ∈ s, u i * v i = x := fun s => by
    induction s using Finset.induction_on with
    | empty => exact ⟨0, by simp⟩
    | insert i s hi ih =>
      obtain ⟨x, hx⟩ := ih
      refine ⟨(u i).toReal * (v i).toReal + x, ?_⟩
      rw [Finset.sum_insert hi, hx, EReal.coe_add, EReal.coe_mul, hu, hv]
  exact h Finset.univ

section
variable (X : FVec Ideal S2048x2048 .bf16) (W : FVec Ideal S8x704x2048 .bf16) (A B : FVec Ideal S8x2048x704 .bf16)

/-- What the precondition says: three of the arrays hold real numbers. -/
structure Real3 : Prop where
  x : ∀ i, ((X i : EReal).toReal : EReal) = X i
  w : ∀ i, ((W i : EReal).toReal : EReal) = W i
  b : ∀ i, ((B i : EReal).toReal : EReal) = B i

end

variable {m} {c : Dev nD}

theorem blk_x (t : Fin cfg0.N) (r : Fin 1024) (d : Fin 2048) : (iblk m c 0 t : FVec Ideal S1024x2048 .bf16) (ix2 r d)
    = (m ((c : Thread nD τ).loc main_arg0) : FVec Ideal S2048x2048 .bf16) (ix2 ⟨1024 * (t % 2) + r, by omega⟩ d) := by
  blk_ext [iblk, V, idx t]
theorem blk_w (t : Fin cfg0.N) (f : Fin 704) (d : Fin 2048) : (iblk m c 1 t : FVec Ideal S1x704x2048 .bf16) (ix3 0 f d)
    = (m ((c : Thread nD τ).loc main_arg1) : FVec Ideal S8x704x2048 .bf16) (ix3 ⟨t / 2, (idx t).2.2.2.2.2.2⟩ f d) := by
  blk_ext [iblk, V, idx t]
theorem blk_a (t : Fin cfg0.N) (r : Fin 1024) (f : Fin 704) : (iblk m c 2 t : FVec Ideal S1x1024x704 .bf16) (ix3 0 r f)
    = (m ((c : Thread nD τ).loc main_arg2) : FVec Ideal S8x2048x704 .bf16) (ix3 ⟨t / 2, (idx t).2.2.2.2.2.2⟩ ⟨1024 * (t % 2) + r, by omega⟩ f) := by
  blk_ext [iblk, V, idx t]
theorem blk_b (t : Fin cfg0.N) (r : Fin 1024) (f : Fin 704) : (iblk m c 3 t : FVec Ideal S1x1024x704 .bf16) (ix3 0 r f)
    = (m ((c : Thread nD τ).loc main_arg3) : FVec Ideal S8x2048x704 .bf16) (ix3 ⟨t / 2, (idx t).2.2.2.2.2.2⟩ ⟨1024 * (t % 2) + r, by omega⟩ f) := by
  blk_ext [iblk, V, idx t]
theorem emb4 (t : Fin cfg0.N) (r : Fin 1024) (f : Fin 704) (Y : FVec Ideal S8x2048x704 .bf16) :
    Y ((win0_4.blk t).view.emb (ix3 0 r f)) = Y (ix3 ⟨t / 2, (idx t).2.2.2.2.2.2⟩ ⟨1024 * (t % 2) + r, by omega⟩ f) := by
  blk_ext [idx t]
theorem emb5 (t : Fin cfg0.N) (r : Fin 1024) (f : Fin 704) (Y : FVec Ideal S8x2048x704 .bf16) :
    Y ((win0_5.blk t).view.emb (ix3 0 r f)) = Y (ix3 ⟨t / 2, (idx t).2.2.2.2.2.2⟩ ⟨1024 * (t % 2) + r, by omega⟩ f) := by
  blk_ext [idx t]

theorem ex3 {b e : ℕ} (y : (⟨3, ![1, b, e]⟩ : Shape).Idx) : ∃ (s : Fin b) (l : Fin e), y = ix3 0 s l :=
  ⟨y 1, y 2, by rw [← ix3_eta y]; congr 1; exact Subsingleton.elim (α := Fin 1) _ _⟩

theorem final4 (hr : Real3 (m ((c : Thread nD τ).loc main_arg0)) (m ((c : Thread nD τ).loc main_arg1)) (m ((c : Thread nD τ).loc main_arg3))) :
    (dats m 0 c).arrAt 4 (cfgs 0).N = refA (refH (m ((c : Thread nD τ).loc main_arg0)) (m ((c : Thread nD τ).loc main_arg1)))
      (wide (m ((c : Thread nD τ).loc main_arg2))) (wide (m ((c : Thread nD τ).loc main_arg3))) := by
  refine (dats m 0 c).arrAt_eq_of_covers 4 _ (by decide +kernel) fun t _ y => ?_
  blk_simp
  rw [after0_4]; frame_out
  obtain ⟨r, f, rfl⟩ := ex3 (b := 1024) (e := 704) y
  refine (payA_at _ _ _ _ r f).trans (Eq.trans ?_ (emb4 t r f _).symm)
  rw [refA_at, refH_at]
  simp only [blk_x, blk_w, blk_a, blk_b]
  exact silu_grad_mul _ _ _ (real_sum _ _ (fun d => hr.x _) (fun d => hr.w _)) (hr.b _)

theorem final5 :
    (dats m 0 c).arrAt 5 (cfgs 0).N = refB (refH (m ((c : Thread nD τ).loc main_arg0)) (m ((c : Thread nD τ).loc main_arg1)))
      (wide (m ((c : Thread nD τ).loc main_arg2))) := by
  refine (dats m 0 c).arrAt_eq_of_covers 5 _ (by decide +kernel) fun t _ y => ?_
  blk_simp
  rw [after0_5]; frame_out
  obtain ⟨r, f, rfl⟩ := ex3 (b := 1024) (e := 704) y
  refine (payB_at _ _ _ r f).trans (Eq.trans ?_ (emb5 t r f _).symm)
  rw [refB_at, refH_at]
  simp only [blk_x, blk_w, blk_a]
  exact mul_comm _ _

end Cert.Kernel2Ideal.Ffn
end
-- ==== Proof.Ffn.Down.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen

variable (m : (ℓ : Loc nD τ sig) → Buf (Elt Ideal) ℓ)

/-- The gradient of the down weights, as the reference writes it. -/
abbrev ref (X : FVec Ideal S8x2048x704 .bf16) (Y : FVec Ideal S2048x2048 .bf16) : FVec Ideal S8x704x2048 .bf16 :=
  truncf .bf16 (transpose Cert.Reference3Ideal.S8x704x2048 [1, 2, 0] (Host.dotGeneral Cert.Reference3Ideal.dot_S2048x2048_S8x2048x704_S2048x8x704_0_1_1_02_n_n none (extf .f32 Y Cert.Reference3Ideal.Gen.bitsLt_bf16_f32) (extf .f32 X Cert.Reference3Ideal.Gen.bitsLt_bf16_f32)) Cert.Reference3Ideal.Gen.transposes_S2048x8x704_S8x704x2048_1_2_0) Cert.Reference3Ideal.Gen.bitsLt_bf16_f32

theorem idx : ∀ t : Fin cfg0.N, win0_0.index t = ![t.val, 0, 0] ∧ win0_1.index t = ![0, 0] ∧ win0_2.index t = ![t.val, 0, 0] :=
  (by decide +kernel : ∀ t : Fin grid0.N, _)

theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref]
  refine (Fin.sum_fin_congr fun _ => mul_comm _ _).trans ?_
  blk_point [iblk, V, idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel3Ideal.Ffn
end
-- ==== Proof.Ffn.Up.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Ffn

open Cert.Kernel4Ideal Cert.Kernel4Ideal.Gen

variable (m : (ℓ : Loc nD τ sig) → Buf (Elt Ideal) ℓ)

/-- The gradient of the gate (or of the up) weights, as the reference writes it. -/
abbrev ref (N : FVec Ideal S2048x2048 .bf16) (X : FVec Ideal S8x2048x704 .bf16) : FVec Ideal S8x704x2048 .bf16 :=
  truncf .bf16 (Host.dotGeneral Cert.Reference4Ideal.dot_S8x704x2048_S2048x2048_S8x704x2048_2_0_01_1_n_n none (transpose Cert.Reference4Ideal.S8x704x2048 [0, 2, 1] (extf .f32 X Cert.Reference4Ideal.Gen.bitsLt_bf16_f32) Cert.Reference4Ideal.Gen.transposes_S8x2048x704_S8x704x2048_0_2_1) (extf .f32 N Cert.Reference4Ideal.Gen.bitsLt_bf16_f32)) Cert.Reference4Ideal.Gen.bitsLt_bf16_f32

theorem idx : ∀ t : Fin cfg0.N, win0_0.index t = ![0, t.val % 2] ∧ win0_1.index t = ![t.val / 2, 0, 0] ∧ win0_2.index t = ![t.val / 2, 0, 0] ∧ win0_3.index t = ![t.val / 2, 0, t.val % 2] ∧ win0_4.index t = ![t.val / 2, 0, t.val % 2] ∧ t.val / 2 < 8 :=
  (by decide +kernel : ∀ t : Fin grid0.N, _)

theorem point3 (c : Dev nD) (t : Fin cfg0.N) (y) : k0_pay1 (iblk m c 0 t) (iblk m c 1 t) y
    = ref (m ((c : Thread nD τ).loc main_arg0)) (m ((c : Thread nD τ).loc main_arg1)) (((cfg0.win 3).blk t).view.emb y) := by
  pointwise [k0_pay1, ref]
  blk_point [iblk, V, idx t]

theorem point4 (c : Dev nD) (t : Fin cfg0.N) (y) : k0_pay2 (iblk m c 0 t) (iblk m c 2 t) y
    = ref (m ((c : Thread nD τ).loc main_arg0)) (m ((c : Thread nD τ).loc main_arg2)) (((cfg0.win 4).blk t).view.emb y) := by
  pointwise [k0_pay2, ref]
  blk_point [iblk, V, idx t]

theorem final3 (c : Dev nD) : (dats m 0 c).arrAt 3 (cfgs 0).N
    = ref (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

theorem final4 (c : Dev nD) : (dats m 0 c).arrAt 4 (cfgs 0).N
    = ref (m ((c : Thread nD τ).loc main_arg0)) (m ((c : Thread nD τ).loc main_arg2)) := by
  refine (dats m 0 c).arrAt_eq_of_covers 4 _ (by decide +kernel) fun t _ y => ?_
  blk_simp
  rw [after0_4]; frame_out
  exact point4 m c t y

end Cert.Kernel4Ideal.Ffn
end
-- ==== Proof.Ffn.Reduce.lean ====
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Ffn

open Cert.Kernel5Ideal Cert.Kernel5Ideal.Gen

variable (m : (ℓ : Loc nD τ sig) → Buf (Elt Ideal) ℓ)

/-- The gradient of the layer's input, as the reference writes it. -/
abbrev ref (A : FVec Ideal S8x2048x704 .bf16) (G : FVec Ideal S8x704x2048 .bf16) (B : FVec Ideal S8x2048x704 .bf16) (U : FVec Ideal S8x704x2048 .bf16) : FVec Ideal S2048x2048 .f32 :=
  addf (Host.dotGeneral Cert.Reference5Ideal.dot_S8x704x2048_S8x704x2048_S2048x2048_01_01_2_2_n_n none (transpose Cert.Reference5Ideal.S8x704x2048 [0, 2, 1] (extf .f32 B Cert.Reference5Ideal.Gen.bitsLt_bf16_f32) Cert.Reference5Ideal.Gen.transposes_S8x2048x704_S8x704x2048_0_2_1) (extf .f32 U Cert.Reference5Ideal.Gen.bitsLt_bf16_f32))
    (Host.dotGeneral Cert.Reference5Ideal.dot_S8x704x2048_S8x704x2048_S2048x2048_01_01_2_2_n_n none (transpose Cert.Reference5Ideal.S8x704x2048 [0, 2, 1] (extf .f32 A Cert.Reference5Ideal.Gen.bitsLt_bf16_f32) Cert.Reference5Ideal.Gen.transposes_S8x2048x704_S8x704x2048_0_2_1) (extf .f32 G Cert.Reference5Ideal.Gen.bitsLt_bf16_f32))

theorem zero_at (y) : k0_pay1 (F := Ideal) y = 0 := by pointwise [k0_pay1]

theorem first_at (s : FVec Ideal S1024x2048 .f32) (a : FVec Ideal S1x1024x704 .bf16) (w : FVec Ideal S1x704x2048 .bf16) (y) :
    k0_pay2 s a w y = s y + ∑ k : Fin 704, a (ix3 0 (y 0) k) * w (ix3 0 k (y 1)) := by pointwise [k0_pay2]

theorem second_at (s : FVec Ideal S1024x2048 .f32) (a : FVec Ideal S1x1024x704 .bf16) (w : FVec Ideal S1x704x2048 .bf16) (y) :
    k0_pay3 s a w y = s y + ∑ k : Fin 704, a (ix3 0 (y 0) k) * w (ix3 0 k (y 1)) := by pointwise [k0_pay3]

theorem ref_at (A : FVec Ideal S8x2048x704 .bf16) (G : FVec Ideal S8x704x2048 .bf16) (B : FVec Ideal S8x2048x704 .bf16) (U : FVec Ideal S8x704x2048 .bf16) (y) :
    ref A G B U y = (∑ j : Fin 8, ∑ k : Fin 704, B (ix3 j (y 0) k) * U (ix3 j k (y 1))) + ∑ j : Fin 8, ∑ k : Fin 704, A (ix3 j (y 0) k) * G (ix3 j k (y 1)) := by
  pointwise [ref]

theorem idx : ∀ t : Fin cfg0.N, win0_0.index t = ![t.val % 8, t.val / 8, 0] ∧ win0_1.index t = ![t.val % 8, 0, 0] ∧ win0_2.index t = ![t.val % 8, t.val / 8, 0]
    ∧ win0_3.index t = ![t.val % 8, 0, 0] ∧ win0_4.index t = ![t.val / 8, 0] ∧ t.val / 8 < 2 :=
  (by decide +kernel : ∀ t : Fin grid0.N, _)

theorem final (c : Dev nD) : (dats m 0 c).arrAt 4 (cfgs 0).N
    = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, Pipeline.eq_sum_fin_of_reset_step_apply_of_flush (fun n h => outsAt0 m c n h) 8 (fun _ => 0) _
    (fun t h j => by rw [outsAt0_A m c t h]; frame_out; rw [second_at, first_at, zero_at, add_assoc])
    (fun t h j => by rw [outsAt0_B m c t h]; frame_out; rw [second_at, first_at, add_assoc])
    t ((flush0_4 t).mp hf) _, zero_add, ref_at]
  refine (Fin.sum_fin_congr fun _ => add_comm _ _).trans (Eq.trans (Finset.sum_add_distrib (M := EReal)) ?_)
  have hl := fun s : Fin 8 => idx ⟨_, Pipeline.run_point_lt_of_flush t ((flush0_4 t).mp hf) s⟩
  refine congrArg₂ (fun a b : EReal => a + b) (Fin.sum_fin_congr fun s => ?_) (Fin.sum_fin_congr fun s => ?_)
  · blk_point [iblk, V, idx t, hl s]
  · blk_point [iblk, V, idx t, hl s]

end Cert.Kernel5Ideal.Ffn
end
-- ==== Proof.Ffn.Claims.lean ====
module

public import proofs.«01_k».proof.Defs
public import proofs.«01_k».proof.Proof.Ffn.Mid
public import proofs.«01_k».proof.Proof.Ffn.Down
public import proofs.«01_k».proof.Proof.Ffn.Up
public import proofs.«01_k».proof.Proof.Ffn.Reduce
public import Idealize.ShloMosaic.Lib.ReduceAll

@[expose] public section

set_option maxRecDepth 16384

noncomputable section

namespace Cert.Proof

open Idealize.ShloMosaic Idealize.ShloMosaic.TcCoe Idealize.SL.Sem

/-! ## The calls of the feed-forward layers' backward pass -/

instance preMid : Cert.Pre_finite_mid.Facts := ⟨by decide, by decide, by decide, by decide, by decide, by decide, by decide⟩

/-- A bf16 entry whose size is below infinity is a real number. -/
theorem real_entry {s : Shape} (X : FVec Ideal s .bf16) (i : s.Idx) (hb : (⟨0, ![]⟩ : Shape).BroadcastsInDim s (![] : Fin 0 → Fin s.rank))
    (h : cmpf .olt (Host.absf X) (broadcastInDim s ![] hb (constant (⟨0, ![]⟩ : Shape) .bf16 0x7F80#16 : FVec Ideal _ .bf16)) i = 1#1) : ((X i : EReal).toReal : EReal) = X i := by
  have h' : Ideal.cmp .olt (max (X i) (-X i) : EReal) (Ideal.ofBits .bf16 0x7F80#16) = 1 := h
  rw [show Ideal.ofBits .bf16 0x7F80#16 = (⊤ : EReal) by simp [Ideal.ofBits, Ideal.ieee], Ideal.cmp_olt_eq_one, max_lt_iff] at h'
  exact EReal.coe_toReal h'.1.ne (fun e => absurd h'.2 (by rw [show (X i : EReal) = ⊥ from e]; simp))

theorem real3 (X : FVec Ideal ⟨2, ![2048, 2048]⟩ .bf16) (W : FVec Ideal ⟨3, ![8, 704, 2048]⟩ .bf16) (A B : FVec Ideal ⟨3, ![8, 2048, 704]⟩ .bf16)
    (h : Cert.Pre_finite_mid.fn (F := Ideal) X W A B = fun _ => 1#1) : Cert.Kernel2Ideal.Ffn.Real3 X W B := by
  have h0 := congrFun h (fun a => a.elim0)
  unfold Cert.Pre_finite_mid.fn at h0
  dsimp only at h0
  obtain ⟨h1, hB⟩ := IntOp.andi_eq_one.1 h0
  obtain ⟨hX, hW⟩ := IntOp.andi_eq_one.1 h1
  have : Subsingleton (Cert.Pre_finite_mid.S_ : Shape).Idx := ⟨fun a b => funext fun i => i.elim0⟩
  exact ⟨fun i => real_entry X i _ (Host.reduce_andi_all _ _ _ _ _ hX i), fun i => real_entry W i _ (Host.reduce_andi_all _ _ _ _ _ hW i),
    fun i => real_entry B i _ (Host.reduce_andi_all _ _ _ _ _ hB i)⟩

theorem algebraic2 : Cert.algebraic_Kernel2Ideal_Reference2Ideal_pre_finite_mid (hKernel2Ideal := Cert.Kernel2Ideal.Gen.facts)
    (hReference2Ideal := Cert.Reference2Ideal.Gen.facts) (hPre_finite_mid := preMid) := by
  intro m ρ m' ρ' hp ha
  refine ⟨fun c => Cert.Kernel2Ideal.Ffn.refA (Cert.Kernel2Ideal.Ffn.refH (m (c.tc.loc Cert.Kernel2Ideal.main_arg0)) (m (c.tc.loc Cert.Kernel2Ideal.main_arg1))) (Cert.Kernel2Ideal.Ffn.wide (m (c.tc.loc Cert.Kernel2Ideal.main_arg2))) (Cert.Kernel2Ideal.Ffn.wide (m (c.tc.loc Cert.Kernel2Ideal.main_arg3))), fun c => Cert.Kernel2Ideal.Ffn.refB (Cert.Kernel2Ideal.Ffn.refH (m (c.tc.loc Cert.Kernel2Ideal.main_arg0)) (m (c.tc.loc Cert.Kernel2Ideal.main_arg1))) (Cert.Kernel2Ideal.Ffn.wide (m (c.tc.loc Cert.Kernel2Ideal.main_arg2))), ?_, ?_⟩
  · refine (θ_run Cert.Kernel2Ideal.defs _ _).mono (fun r h c => ?_) (Cert.Kernel2Ideal.Value.run_blocks (F := Ideal) m ρ)
    obtain ⟨h0, h1, hr⟩ := h c
    exact ⟨h0.trans (Cert.Kernel2Ideal.Ffn.final4 (real3 _ _ _ _ (hp c))), h1.trans Cert.Kernel2Ideal.Ffn.final5, hr⟩
  · refine (θ_run Cert.Reference2Ideal.defs _ _).mono (fun r h c => ?_) (Cert.Reference2Ideal.Value.run (F := Ideal) m' ρ')
    obtain ⟨h0, h1, hr⟩ := h c
    obtain ⟨e0, e1, e2, e3⟩ := ha c
    rw [e0, e1, e2, e3] at h0
    rw [e0, e1, e2] at h1
    exact ⟨h0, h1, hr⟩

theorem algebraic3 : Cert.algebraic_Kernel3Ideal_Reference3Ideal (hKernel3Ideal := Cert.Kernel3Ideal.Gen.facts)
    (hReference3Ideal := Cert.Reference3Ideal.Gen.facts) := by
  intro m ρ m' ρ' _ ha
  refine ⟨fun c => Cert.Kernel3Ideal.Ffn.ref (m (c.tc.loc Cert.Kernel3Ideal.main_arg0)) (m (c.tc.loc Cert.Kernel3Ideal.main_arg1)), ?_, ?_⟩
  · refine (θ_run Cert.Kernel3Ideal.defs _ _).mono (fun r h c => ?_) (Cert.Kernel3Ideal.Value.run_blocks (F := Ideal) m ρ)
    exact ⟨(h c).1.trans (Cert.Kernel3Ideal.Ffn.final m c), (h c).2⟩
  · refine (θ_run Cert.Reference3Ideal.defs _ _).mono (fun r h c => ?_) (Cert.Reference3Ideal.Value.run (F := Ideal) m' ρ')
    obtain ⟨h0, hr⟩ := h c
    obtain ⟨e0, e1⟩ := ha c
    rw [e0, e1] at h0
    exact ⟨h0, hr⟩

theorem algebraic4 : Cert.algebraic_Kernel4Ideal_Reference4Ideal (hKernel4Ideal := Cert.Kernel4Ideal.Gen.facts)
    (hReference4Ideal := Cert.Reference4Ideal.Gen.facts) := by
  intro m ρ m' ρ' _ ha
  refine ⟨fun c => Cert.Kernel4Ideal.Ffn.ref (m (c.tc.loc Cert.Kernel4Ideal.main_arg0)) (m (c.tc.loc Cert.Kernel4Ideal.main_arg1)), fun c => Cert.Kernel4Ideal.Ffn.ref (m (c.tc.loc Cert.Kernel4Ideal.main_arg0)) (m (c.tc.loc Cert.Kernel4Ideal.main_arg2)), ?_, ?_⟩
  · refine (θ_run Cert.Kernel4Ideal.defs _ _).mono (fun r h c => ?_) (Cert.Kernel4Ideal.Value.run_blocks (F := Ideal) m ρ)
    exact ⟨(h c).1.trans (Cert.Kernel4Ideal.Ffn.final3 m c), (h c).2.1.trans (Cert.Kernel4Ideal.Ffn.final4 m c), (h c).2.2⟩
  · refine (θ_run Cert.Reference4Ideal.defs _ _).mono (fun r h c => ?_) (Cert.Reference4Ideal.Value.run (F := Ideal) m' ρ')
    obtain ⟨h0, h1, hr⟩ := h c
    obtain ⟨e0, e1, e2⟩ := ha c
    rw [e0, e1] at h0
    rw [e0, e2] at h1
    exact ⟨h0, h1, hr⟩

theorem algebraic5 : Cert.algebraic_Kernel5Ideal_Reference5Ideal (hKernel5Ideal := Cert.Kernel5Ideal.Gen.facts)
    (hReference5Ideal := Cert.Reference5Ideal.Gen.facts) := by
  intro m ρ m' ρ' _ ha
  refine ⟨fun c => Cert.Kernel5Ideal.Ffn.ref (m (c.tc.loc Cert.Kernel5Ideal.main_arg0)) (m (c.tc.loc Cert.Kernel5Ideal.main_arg1)) (m (c.tc.loc Cert.Kernel5Ideal.main_arg2)) (m (c.tc.loc Cert.Kernel5Ideal.main_arg3)), ?_, ?_⟩
  · refine (θ_run Cert.Kernel5Ideal.defs _ _).mono (fun r h c => ?_) (Cert.Kernel5Ideal.Value.run_blocks (F := Ideal) m ρ)
    exact ⟨(h c).1.trans (Cert.Kernel5Ideal.Ffn.final m c), (h c).2⟩
  · refine (θ_run Cert.Reference5Ideal.defs _ _).mono (fun r h c => ?_) (Cert.Reference5Ideal.Value.run (F := Ideal) m' ρ')
    obtain ⟨h0, hr⟩ := h c
    obtain ⟨e0, e1, e2, e3⟩ := ha c
    rw [e0, e1, e2, e3] at h0
    exact ⟨h0, hr⟩

theorem frame_reference2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩) (Cert.Reference2Ideal.Value.run (F := Ideal) m ρ)
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩) (Cert.Reference3Ideal.Value.run (F := Ideal) m ρ)
theorem frame_reference4 : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩) (Cert.Reference4Ideal.Value.run (F := Ideal) m ρ)
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩) (Cert.Reference5Ideal.Value.run (F := Ideal) m ρ)

end Cert.Proof
end
-- ==== Proof.Ffn.AdamSmall.lean ====
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Ffn

open Cert.Kernel6Ideal Cert.Kernel6Ideal.Gen

variable (m : (ℓ : Loc nD τ sig) → Buf (Elt Ideal) ℓ)

/-- The sum of the devices' parts, as the reference writes it. -/
def total (P : FVec Ideal S8x8x2048 .f32) : FVec Ideal S8x2048 .f32 :=
  Host.reduceAdd P (constant Cert.Reference6Ideal.S_ .f32 0x00000000#32) Cert.Reference6Ideal.Gen.reducesTo_S8x8x2048_S8x2048_d0 Cert.Reference6Ideal.Gen.h_S_
theorem total_at (P : FVec Ideal S8x8x2048 .f32) (r : Fin 8) (l : Fin 2048) : total P (ix2 r l) = ∑ d : Fin 8, P (ix3 d r l) := by
  pointwise [total]

/-- A number spread over the array, as the reference writes it. -/
abbrev num (b : BitVec 32) : FVec Ideal S8x2048 .f32 := broadcastInDim Cert.Reference6Ideal.S8x2048 ![] Cert.Reference6Ideal.Gen.bcast_S_S8x2048 (constant Cert.Reference6Ideal.S_ .f32 b)
/-- The first moment, as the reference writes it. -/
def moment (g M : FVec Ideal S8x2048 .f32) : FVec Ideal S8x2048 .f32 :=
  addf (mulf (num 0x3F666666#32) M) (mulf (num 0x3DCCCCCD#32) g)
/-- The second moment. -/
def square (g V : FVec Ideal S8x2048 .f32) : FVec Ideal S8x2048 .f32 :=
  addf (mulf (num 0x3F7FBE77#32) V) (mulf (num 0x3A83126F#32) (mulf g g))
/-- The step. -/
def delta (g W M V : FVec Ideal S8x2048 .f32) : FVec Ideal S8x2048 .f32 :=
  mulf (num 0xBA83126F#32) (addf (Host.divf (Host.divf (moment g M) (num 0x3F26BD02#32))
    (addf (Host.sqrt (Host.divf (square g V) (num 0x3C231ACC#32))) (num 0x322BCC77#32))) (mulf (num 0x3C23D70A#32) W))

theorem sum_eq (P : FVec Ideal S8x8x2048 .f32) (x1 x2 x3 : FVec Ideal S8x2048 .f32) : k0_pay6 (F := Ideal) P x1 x2 x3 = total P := by
  funext y
  obtain ⟨r, l, rfl⟩ : ∃ (r : Fin 8) (l : Fin 2048), y = ix2 r l := ⟨y 0, y 1, (ix2_eta y).symm⟩
  rw [total_at, Fin.sum_univ_eight]
  pointwise [k0_pay6, k0_pay4]
theorem load_eq (x0 : FVec Ideal S8x8x2048 .f32) (x1 x2 x3 : FVec Ideal S8x2048 .f32) : k0_pay7 (F := Ideal) x0 x1 x2 x3 = k0_pay5 x2 := by
  funext y; pointwise [k0_pay7, k0_pay5]
theorem moment_eq (g M : FVec Ideal S8x2048 .f32) : k0_pay1 (F := Ideal) g (k0_pay5 M) = moment g M := by
  funext y; pointwise [k0_pay1, k0_pay5, moment, num]
theorem square_eq (g V : FVec Ideal S8x2048 .f32) : k0_pay2 (F := Ideal) g V = square g V := by
  funext y; pointwise [k0_pay2, square, num]
theorem delta_eq (g W M V : FVec Ideal S8x2048 .f32) : k0_pay3 (F := Ideal) g W V (k0_pay5 M) = delta g W M V := by
  funext y; pointwise [k0_pay1, k0_pay2, k0_pay3, k0_pay5, moment, square, delta, num]

theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

variable {m} {c : Dev nD}

theorem blk_p (t : Fin cfg0.N) : (iblk m c 0 t : FVec Ideal S8x8x2048 .f32) = (m ((c : Thread nD τ).loc main_arg0) : FVec Ideal S8x8x2048 .f32) := by
  funext y; blk_ext [iblk, V, idx t]
theorem blk_1 (t : Fin cfg0.N) : (iblk m c 1 t : FVec Ideal S8x2048 .f32) = (m ((c : Thread nD τ).loc main_arg1) : FVec Ideal S8x2048 .f32) := by
  funext y; blk_ext [iblk, V, idx t]
theorem blk_2 (t : Fin cfg0.N) : (iblk m c 2 t : FVec Ideal S8x2048 .f32) = (m ((c : Thread nD τ).loc main_arg2) : FVec Ideal S8x2048 .f32) := by
  funext y; blk_ext [iblk, V, idx t]
theorem blk_3 (t : Fin cfg0.N) : (iblk m c 3 t : FVec Ideal S8x2048 .f32) = (m ((c : Thread nD τ).loc main_arg3) : FVec Ideal S8x2048 .f32) := by
  funext y; blk_ext [iblk, V, idx t]
theorem emb4 (t : Fin cfg0.N) (y : S8x2048.Idx) (Y : FVec Ideal S8x2048 .f32) : Y ((win0_4.blk t).view.emb y) = Y y := by
  blk_ext [idx t]
theorem emb5 (t : Fin cfg0.N) (y : S8x2048.Idx) (Y : FVec Ideal S8x2048 .f32) : Y ((win0_5.blk t).view.emb y) = Y y := by
  blk_ext [idx t]
theorem emb6 (t : Fin cfg0.N) (y : S8x2048.Idx) (Y : FVec Ideal S8x2048 .f32) : Y ((win0_6.blk t).view.emb y) = Y y := by
  blk_ext [idx t]
theorem emb7 (t : Fin cfg0.N) (y : S8x2048.Idx) (Y : FVec Ideal S8x2048 .f32) : Y ((win0_7.blk t).view.emb y) = Y y := by
  blk_ext [idx t]

theorem final4 : (dats m 0 c).arrAt 4 (cfgs 0).N = total (m ((c : Thread nD τ).loc main_arg0)) := by
  refine (dats m 0 c).arrAt_eq_of_covers 4 _ (by decide +kernel) fun t _ y => ?_
  blk_simp
  rw [after0_4]; frame_out
  refine Eq.trans (congrFun ?_ y) (emb4 t y _).symm
  exact (sum_eq _ _ _ _).trans (congrArg total (blk_p t))

theorem final5 : (dats m 0 c).arrAt 5 (cfgs 0).N = delta (total (m ((c : Thread nD τ).loc main_arg0))) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine Eq.trans (congrFun ?_ y) (emb5 t y _).symm
  exact by rw [sum_eq, load_eq, delta_eq, blk_p, blk_1, blk_2, blk_3]

theorem final6 : (dats m 0 c).arrAt 6 (cfgs 0).N = moment (total (m ((c : Thread nD τ).loc main_arg0))) (m ((c : Thread nD τ).loc main_arg2)) := by
  refine (dats m 0 c).arrAt_eq_of_covers 6 _ (by decide +kernel) fun t _ y => ?_
  blk_simp
  rw [after0_6]; frame_out
  refine Eq.trans (congrFun ?_ y) (emb6 t y _).symm
  exact by rw [sum_eq, load_eq, moment_eq, blk_p, blk_2]

theorem final7 : (dats m 0 c).arrAt 7 (cfgs 0).N = square (total (m ((c : Thread nD τ).loc main_arg0))) (m ((c : Thread nD τ).loc main_arg3)) := by
  refine (dats m 0 c).arrAt_eq_of_covers 7 _ (by decide +kernel) fun t _ y => ?_
  blk_simp
  rw [after0_7]; frame_out
  refine Eq.trans (congrFun ?_ y) (emb7 t y _).symm
  exact by rw [sum_eq, square_eq, blk_p, blk_3]

end Cert.Kernel6Ideal.Ffn
end
-- ==== Proof.Ffn.One.lean ====
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.Ffn

open Cert.Kernel7Ideal Cert.Kernel7Ideal.Gen

variable (m : (ℓ : Loc nD τ sig) → Buf (Elt Ideal) ℓ)

/-- The gradient of the layer's input through one factor, as the reference writes it. -/
abbrev ref (A : FVec Ideal S8x2048x704 .bf16) (G : FVec Ideal S8x704x2048 .bf16) : FVec Ideal S2048x2048 .f32 :=
  Host.dotGeneral Cert.Reference7Ideal.dot_S8x704x2048_S8x704x2048_S2048x2048_01_01_2_2_n_n none (transpose Cert.Reference7Ideal.S8x704x2048 [0, 2, 1] (extf .f32 A Cert.Reference7Ideal.Gen.bitsLt_bf16_f32) Cert.Reference7Ideal.Gen.transposes_S8x2048x704_S8x704x2048_0_2_1) (extf .f32 G Cert.Reference7Ideal.Gen.bitsLt_bf16_f32)

theorem zero_at (y) : k0_pay1 (F := Ideal) y = 0 := by pointwise [k0_pay1]

theorem step_at (s : FVec Ideal S1024x2048 .f32) (a : FVec Ideal S1x1024x704 .bf16) (w : FVec Ideal S1x704x2048 .bf16) (y) :
    k0_pay2 s a w y = s y + ∑ k : Fin 704, a (ix3 0 (y 0) k) * w (ix3 0 k (y 1)) := by pointwise [k0_pay2]

theorem ref_at (A : FVec Ideal S8x2048x704 .bf16) (G : FVec Ideal S8x704x2048 .bf16) (y) :
    ref A G y = ∑ j : Fin 8, ∑ k : Fin 704, A (ix3 j (y 0) k) * G (ix3 j k (y 1)) := by
  pointwise [ref]

theorem idx : ∀ t : Fin cfg0.N, win0_0.index t = ![t.val % 8, t.val / 8, 0] ∧ win0_1.index t = ![t.val % 8, 0, 0]
    ∧ win0_2.index t = ![t.val / 8, 0] ∧ t.val / 8 < 2 :=
  (by decide +kernel : ∀ t : Fin grid0.N, _)

theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [step_at, zero_at])
    (fun t h j => by rw [outsAt0_B m c t h]; frame_out; rw [step_at])
    t ((flush0_2 t).mp hf) _, zero_add, ref_at]
  have hl := fun s : Fin 8 => idx ⟨_, Pipeline.run_point_lt_of_flush t ((flush0_2 t).mp hf) s⟩
  refine Fin.sum_fin_congr fun s => ?_
  blk_point [iblk, V, idx t, hl s]

end Cert.Kernel7Ideal.Ffn
end
-- ==== Proof.Ffn.Two.lean ====
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.Ffn

open Cert.Kernel8Ideal Cert.Kernel8Ideal.Gen

variable (m : (ℓ : Loc nD τ sig) → Buf (Elt Ideal) ℓ)

/-- The gradient of the layer's input, a part of it given, as the reference writes it. -/
abbrev ref (A : FVec Ideal S8x2048x704 .bf16) (G : FVec Ideal S8x704x2048 .bf16) (Z : FVec Ideal S2048x2048 .f32) : FVec Ideal S2048x2048 .f32 :=
  addf Z (Host.dotGeneral Cert.Reference8Ideal.dot_S8x704x2048_S8x704x2048_S2048x2048_01_01_2_2_n_n none (transpose Cert.Reference8Ideal.S8x704x2048 [0, 2, 1] (extf .f32 A Cert.Reference8Ideal.Gen.bitsLt_bf16_f32) Cert.Reference8Ideal.Gen.transposes_S8x2048x704_S8x704x2048_0_2_1) (extf .f32 G Cert.Reference8Ideal.Gen.bitsLt_bf16_f32))

theorem step_at (s : FVec Ideal S1024x2048 .f32) (a : FVec Ideal S1x1024x704 .bf16) (w : FVec Ideal S1x704x2048 .bf16) (y) :
    k0_pay1 s a w y = s y + ∑ k : Fin 704, a (ix3 0 (y 0) k) * w (ix3 0 k (y 1)) := by pointwise [k0_pay1]

theorem ref_at (A : FVec Ideal S8x2048x704 .bf16) (G : FVec Ideal S8x704x2048 .bf16) (Z : FVec Ideal S2048x2048 .f32) (y) :
    ref A G Z y = Z y + ∑ j : Fin 8, ∑ k : Fin 704, A (ix3 j (y 0) k) * G (ix3 j k (y 1)) := by
  pointwise [ref]

theorem idx : ∀ t : Fin cfg0.N, win0_0.index t = ![t.val % 8, t.val / 8, 0] ∧ win0_1.index t = ![t.val % 8, 0, 0]
    ∧ win0_2.index t = ![t.val / 8, 0] ∧ win0_3.index t = ![t.val / 8, 0] ∧ t.val / 8 < 2 :=
  (by decide +kernel : ∀ t : Fin grid0.N, _)

theorem first_only (q : ℕ) (f : Fin 8 → EReal) : (∑ s : Fin 8, if (8 * q + s.val) % 8 = 0 then f s else 0) = f 0 := by
  rw [Finset.sum_eq_single (0 : Fin 8)]
  · simp
  · intro s _ hs
    rw [if_neg]
    have := Fin.val_ne_of_ne hs
    have := s.isLt
    simp only [Fin.val_zero] at *
    omega
  · exact fun h => absurd (Finset.mem_univ _) h

/-- The blocks at a grid point. -/
def Z (c : Dev nD) (p : Fin cfg0.N) : FVec Ideal S1024x2048 .f32 := iblk m c 2 p
def X (c : Dev nD) (p : Fin cfg0.N) : FVec Ideal S1x1024x704 .bf16 := iblk m c 0 p
def G (c : Dev nD) (p : Fin cfg0.N) : FVec Ideal S1x704x2048 .bf16 := iblk m c 1 p

theorem final (c : Dev nD) : (dats m 0 c).arrAt 3 (cfgs 0).N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, Pipeline.eq_sum_fin_of_reset_step_apply_of_flush (fun n h => outsAt0 m c n h) 8 (fun _ => 0)
    (fun p j => (if p.val % 8 = 0 then Z m c p j else 0)
      + ∑ k : Fin 704, X m c p (ix3 0 (j 0) k) * G m c p (ix3 0 k (j 1)))
    (fun t h j => by rw [outsAt0_A m c t h]; frame_out; rw [step_at, if_pos h, zero_add]; rfl)
    (fun t h j => by rw [outsAt0_B m c t h]; frame_out; rw [step_at, if_neg h, zero_add]; rfl)
    t ((flush0_3 t).mp hf) _, zero_add, ref_at]
  refine (Finset.sum_add_distrib (M := EReal)).trans ?_
  have hl := fun s : Fin 8 => idx ⟨_, Pipeline.run_point_lt_of_flush t ((flush0_3 t).mp hf) s⟩
  refine congrArg₂ (fun a b : EReal => a + b) ((first_only (t.val / 8) _).trans ?_) (Fin.sum_fin_congr fun s => ?_)
  · blk_point [Z, iblk, V, idx t, hl 0]
  · blk_point [X, G, iblk, V, idx t, hl s]

end Cert.Kernel8Ideal.Ffn
end
-- ==== Proof.Ffn.UpTwo.lean ====
module

public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel9Ideal.Ffn

open Cert.Kernel9Ideal Cert.Kernel9Ideal.Gen

variable (m : (ℓ : Loc nD τ sig) → Buf (Elt Ideal) ℓ)

/-- A product with the weights, as the reference writes it. -/
def lin (X : FVec Ideal S2048x2048 .bf16) (W : FVec Ideal S8x704x2048 .bf16) : FVec Ideal S8x2048x704 .f32 :=
  transpose Cert.Reference9Ideal.S8x2048x704 [0, 2, 1] (Host.dotGeneral Cert.Reference9Ideal.dot_S8x704x2048_S2048x2048_S8x704x2048_2_1_01_0_n_n none (extf .f32 W Cert.Reference9Ideal.Gen.bitsLt_bf16_f32) (extf .f32 X Cert.Reference9Ideal.Gen.bitsLt_bf16_f32)) Cert.Reference9Ideal.Gen.transposes_S8x704x2048_S8x2048x704_0_2_1
theorem lin_at (X : FVec Ideal S2048x2048 .bf16) (W : FVec Ideal S8x704x2048 .bf16) (j : Fin 8) (r : Fin 2048) (f : Fin 704) :
    lin X W (ix3 j r f) = ∑ d : Fin 2048, X (ix2 r d) * W (ix3 j f d) := by
  refine Eq.trans ?_ (Fin.sum_fin_congr fun _ => mul_comm _ _)
  pointwise [lin]
def low (Y : FVec Ideal S8x2048x704 .f32) : FVec Ideal S8x2048x704 .bf16 := truncf .bf16 Y Cert.Reference9Ideal.Gen.bitsLt_bf16_f32
theorem low_at (Y : FVec Ideal S8x2048x704 .f32) (y) : low Y y = Y y := by pointwise [low]
/-- The hidden row, `silu(a) * b`, as the reference writes it. -/
def gated (A B : FVec Ideal S8x2048x704 .f32) : FVec Ideal S8x2048x704 .f32 := mulf (mulf A (Host.divf (broadcastInDim Cert.Reference9Ideal.S8x2048x704 ![] Cert.Reference9Ideal.Gen.bcast_S_S8x2048x704 (constant Cert.Reference9Ideal.S_ .f32 0x3F800000#32)) (addf (broadcastInDim Cert.Reference9Ideal.S8x2048x704 ![] Cert.Reference9Ideal.Gen.bcast_S_S8x2048x704 (constant Cert.Reference9Ideal.S_ .f32 0x3F800000#32)) (Host.exp (Host.negf A))))) B
theorem gated_div (A B : FVec Ideal S8x2048x704 .f32) (y) : gated A B y = A y * Ideal.div 1 (1 + Ideal.exp (-A y)) * B y := by
  pointwise [gated]
theorem gated_at (A B : FVec Ideal S8x2048x704 .f32) (y) : gated A B y = A y * Ideal.logistic (A y) * B y := gated_div A B y
theorem pay3_at (x : FVec Ideal S1024x2048 .bf16) (w : FVec Ideal S1x704x2048 .bf16) (r : Fin 1024) (f : Fin 704) :
    k0_pay3 (F := Ideal) x w (ix3 0 r f) = ∑ d : Fin 2048, x (ix2 r d) * w (ix3 0 f d) := by
  pointwise [k0_pay3, k0_pay1]
theorem pay4_at (x : FVec Ideal S1024x2048 .bf16) (w : FVec Ideal S1x704x2048 .bf16) (r : Fin 1024) (f : Fin 704) :
    k0_pay4 (F := Ideal) x w (ix3 0 r f) = ∑ d : Fin 2048, x (ix2 r d) * w (ix3 0 f d) := by
  pointwise [k0_pay4, k0_pay2]
theorem pay5_at (x : FVec Ideal S1024x2048 .bf16) (w u : FVec Ideal S1x704x2048 .bf16) (r : Fin 1024) (f : Fin 704) :
    k0_pay5 (F := Ideal) x w u (ix3 0 r f) = (∑ d : Fin 2048, x (ix2 r d) * w (ix3 0 f d)) * Ideal.logistic (∑ d : Fin 2048, x (ix2 r d) * w (ix3 0 f d))
      * ∑ d : Fin 2048, x (ix2 r d) * u (ix3 0 f d) := by
  pointwise [k0_pay5, k0_pay1, k0_pay2]

theorem idx : ∀ t : Fin cfg0.N, win0_0.index t = ![t.val % 2, 0] ∧ win0_1.index t = ![t.val / 2, 0, 0] ∧ win0_2.index t = ![t.val / 2, 0, 0] ∧ win0_3.index t = ![t.val / 2, t.val % 2, 0] ∧ win0_4.index t = ![t.val / 2, t.val % 2, 0] ∧ win0_5.index t = ![t.val / 2, t.val % 2, 0] ∧ t.val / 2 < 8 :=
  (by decide +kernel : ∀ t : Fin grid0.N, _)
theorem lt8 (t : Fin cfg0.N) : t.val / 2 < 8 := (idx t).2.2.2.2.2.2

variable {m} {c : Dev nD}

theorem blk_x (t : Fin cfg0.N) (r : Fin 1024) (d : Fin 2048) : (iblk m c 0 t : FVec Ideal S1024x2048 .bf16) (ix2 r d)
    = (m ((c : Thread nD τ).loc main_arg0) : FVec Ideal S2048x2048 .bf16) (ix2 ⟨1024 * (t % 2) + r, by omega⟩ d) := by
  blk_ext [iblk, V, idx t]
theorem blk_w1 (t : Fin cfg0.N) (f : Fin 704) (d : Fin 2048) : (iblk m c 1 t : FVec Ideal S1x704x2048 .bf16) (ix3 0 f d)
    = (m ((c : Thread nD τ).loc main_arg1) : FVec Ideal S8x704x2048 .bf16) (ix3 ⟨t / 2, lt8 t⟩ f d) := by
  blk_ext [iblk, V, idx t]
theorem blk_w2 (t : Fin cfg0.N) (f : Fin 704) (d : Fin 2048) : (iblk m c 2 t : FVec Ideal S1x704x2048 .bf16) (ix3 0 f d)
    = (m ((c : Thread nD τ).loc main_arg2) : FVec Ideal S8x704x2048 .bf16) (ix3 ⟨t / 2, lt8 t⟩ f d) := by
  blk_ext [iblk, V, idx t]
theorem emb3 (t : Fin cfg0.N) (r : Fin 1024) (f : Fin 704) (Y : FVec Ideal S8x2048x704 .bf16) :
    Y ((win0_3.blk t).view.emb (ix3 0 r f)) = Y (ix3 ⟨t / 2, lt8 t⟩ ⟨1024 * (t % 2) + r, by omega⟩ f) := by
  blk_ext [idx t]
theorem emb4 (t : Fin cfg0.N) (r : Fin 1024) (f : Fin 704) (Y : FVec Ideal S8x2048x704 .bf16) :
    Y ((win0_4.blk t).view.emb (ix3 0 r f)) = Y (ix3 ⟨t / 2, lt8 t⟩ ⟨1024 * (t % 2) + r, by omega⟩ f) := by
  blk_ext [idx t]
theorem emb5 (t : Fin cfg0.N) (r : Fin 1024) (f : Fin 704) (Y : FVec Ideal S8x2048x704 .bf16) :
    Y ((win0_5.blk t).view.emb (ix3 0 r f)) = Y (ix3 ⟨t / 2, lt8 t⟩ ⟨1024 * (t % 2) + r, by omega⟩ f) := by
  blk_ext [idx t]

theorem ex3 {b e : ℕ} (y : (⟨3, ![1, b, e]⟩ : Shape).Idx) : ∃ (s : Fin b) (l : Fin e), y = ix3 0 s l :=
  ⟨y 1, y 2, by rw [← ix3_eta y]; congr 1; exact Subsingleton.elim (α := Fin 1) _ _⟩

theorem final3 : (dats m 0 c).arrAt 3 (cfgs 0).N = low (lin (m ((c : Thread nD τ).loc main_arg0)) (m ((c : Thread nD τ).loc main_arg1))) := by
  refine (dats m 0 c).arrAt_eq_of_covers 3 _ (by decide +kernel) fun t _ y => ?_
  blk_simp
  rw [after0_3]; frame_out
  obtain ⟨r, f, rfl⟩ := ex3 (b := 1024) (e := 704) y
  refine (pay3_at _ _ r f).trans (Eq.trans ?_ (emb3 t r f _).symm)
  simp only [low_at, lin_at, blk_x, blk_w1]

theorem final4 : (dats m 0 c).arrAt 4 (cfgs 0).N = low (lin (m ((c : Thread nD τ).loc main_arg0)) (m ((c : Thread nD τ).loc main_arg2))) := by
  refine (dats m 0 c).arrAt_eq_of_covers 4 _ (by decide +kernel) fun t _ y => ?_
  blk_simp
  rw [after0_4]; frame_out
  obtain ⟨r, f, rfl⟩ := ex3 (b := 1024) (e := 704) y
  refine (pay4_at _ _ r f).trans (Eq.trans ?_ (emb4 t r f _).symm)
  simp only [low_at, lin_at, blk_x, blk_w2]

theorem final5 : (dats m 0 c).arrAt 5 (cfgs 0).N = low (gated (lin (m ((c : Thread nD τ).loc main_arg0)) (m ((c : Thread nD τ).loc main_arg1))) (lin (m ((c : Thread nD τ).loc main_arg0)) (m ((c : Thread nD τ).loc main_arg2)))) := by
  refine (dats m 0 c).arrAt_eq_of_covers 5 _ (by decide +kernel) fun t _ y => ?_
  blk_simp
  rw [after0_5]; frame_out
  obtain ⟨r, f, rfl⟩ := ex3 (b := 1024) (e := 704) y
  refine (pay5_at _ _ _ r f).trans (Eq.trans ?_ (emb5 t r f _).symm)
  simp only [low_at, gated_at, lin_at, blk_x, blk_w1, blk_w2]

end Cert.Kernel9Ideal.Ffn
end
-- ==== Proof.Ffn.Gate.lean ====
module

public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel10Ideal.Ffn

open Cert.Kernel10Ideal Cert.Kernel10Ideal.Gen

variable (m : (ℓ : Loc nD τ sig) → Buf (Elt Ideal) ℓ)

/-- A product with the weights, as the reference writes it. -/
def lin (X : FVec Ideal S2048x2048 .bf16) (W : FVec Ideal S8x704x2048 .bf16) : FVec Ideal S8x2048x704 .f32 :=
  transpose Cert.Reference10Ideal.S8x2048x704 [0, 2, 1] (Host.dotGeneral Cert.Reference10Ideal.dot_S8x704x2048_S2048x2048_S8x704x2048_2_1_01_0_n_n none (extf .f32 W Cert.Reference10Ideal.Gen.bitsLt_bf16_f32) (extf .f32 X Cert.Reference10Ideal.Gen.bitsLt_bf16_f32)) Cert.Reference10Ideal.Gen.transposes_S8x704x2048_S8x2048x704_0_2_1
theorem lin_at (X : FVec Ideal S2048x2048 .bf16) (W : FVec Ideal S8x704x2048 .bf16) (j : Fin 8) (r : Fin 2048) (f : Fin 704) :
    lin X W (ix3 j r f) = ∑ d : Fin 2048, X (ix2 r d) * W (ix3 j f d) := by
  refine Eq.trans ?_ (Fin.sum_fin_congr fun _ => mul_comm _ _)
  pointwise [lin]
def low (Y : FVec Ideal S8x2048x704 .f32) : FVec Ideal S8x2048x704 .bf16 := truncf .bf16 Y Cert.Reference10Ideal.Gen.bitsLt_bf16_f32
theorem low_at (Y : FVec Ideal S8x2048x704 .f32) (y) : low Y y = Y y := by pointwise [low]
theorem pay1_at (x : FVec Ideal S512x2048 .bf16) (w : FVec Ideal S1x704x2048 .bf16) (r : Fin 512) (f : Fin 704) :
    k0_pay1 (F := Ideal) x w (ix3 0 r f) = ∑ d : Fin 2048, x (ix2 r d) * w (ix3 0 f d) := by
  pointwise [k0_pay1]
theorem idx : ∀ t : Fin cfg0.N, win0_0.index t = ![t.val % 4, 0] ∧ win0_1.index t = ![t.val / 4, 0, 0] ∧ win0_2.index t = ![t.val / 4, t.val % 4, 0] ∧ t.val / 4 < 8 :=
  (by decide +kernel : ∀ t : Fin grid0.N, _)
theorem lt8 (t : Fin cfg0.N) : t.val / 4 < 8 := (idx t).2.2.2

variable {m} {c : Dev nD}

theorem blk_x (t : Fin cfg0.N) (r : Fin 512) (d : Fin 2048) : (iblk m c 0 t : FVec Ideal S512x2048 .bf16) (ix2 r d)
    = (m ((c : Thread nD τ).loc main_arg0) : FVec Ideal S2048x2048 .bf16) (ix2 ⟨512 * (t % 4) + r, by omega⟩ d) := by
  blk_ext [iblk, V, idx t]
theorem blk_w1 (t : Fin cfg0.N) (f : Fin 704) (d : Fin 2048) : (iblk m c 1 t : FVec Ideal S1x704x2048 .bf16) (ix3 0 f d)
    = (m ((c : Thread nD τ).loc main_arg1) : FVec Ideal S8x704x2048 .bf16) (ix3 ⟨t / 4, lt8 t⟩ f d) := by
  blk_ext [iblk, V, idx t]
theorem emb2 (t : Fin cfg0.N) (r : Fin 512) (f : Fin 704) (Y : FVec Ideal S8x2048x704 .bf16) :
    Y ((win0_2.blk t).view.emb (ix3 0 r f)) = Y (ix3 ⟨t / 4, lt8 t⟩ ⟨512 * (t % 4) + r, by omega⟩ f) := by
  blk_ext [idx t]

theorem ex3 {b e : ℕ} (y : (⟨3, ![1, b, e]⟩ : Shape).Idx) : ∃ (s : Fin b) (l : Fin e), y = ix3 0 s l :=
  ⟨y 1, y 2, by rw [← ix3_eta y]; congr 1; exact Subsingleton.elim (α := Fin 1) _ _⟩

theorem final : (dats m 0 c).arrAt 2 (cfgs 0).N = low (lin (m ((c : Thread nD τ).loc main_arg0)) (m ((c : Thread nD τ).loc main_arg1))) := by
  refine (dats m 0 c).arrAt_eq_of_covers 2 _ (by decide +kernel) fun t _ y => ?_
  blk_simp
  rw [after0_2]; frame_out
  obtain ⟨r, f, rfl⟩ := ex3 (b := 512) (e := 704) y
  refine (pay1_at _ _ r f).trans (Eq.trans ?_ (emb2 t r f _).symm)
  simp only [low_at, lin_at, blk_x, blk_w1]

end Cert.Kernel10Ideal.Ffn
end
-- ==== Proof.Ffn.UpOne.lean ====
module

public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel11Ideal.Ffn

open Cert.Kernel11Ideal Cert.Kernel11Ideal.Gen

variable (m : (ℓ : Loc nD τ sig) → Buf (Elt Ideal) ℓ)

/-- A product with the weights, as the reference writes it. -/
def lin (X : FVec Ideal S2048x2048 .bf16) (W : FVec Ideal S8x704x2048 .bf16) : FVec Ideal S8x2048x704 .f32 :=
  transpose Cert.Reference11Ideal.S8x2048x704 [0, 2, 1] (Host.dotGeneral Cert.Reference11Ideal.dot_S8x704x2048_S2048x2048_S8x704x2048_2_1_01_0_n_n none (extf .f32 W Cert.Reference11Ideal.Gen.bitsLt_bf16_f32) (extf .f32 X Cert.Reference11Ideal.Gen.bitsLt_bf16_f32)) Cert.Reference11Ideal.Gen.transposes_S8x704x2048_S8x2048x704_0_2_1
theorem lin_at (X : FVec Ideal S2048x2048 .bf16) (W : FVec Ideal S8x704x2048 .bf16) (j : Fin 8) (r : Fin 2048) (f : Fin 704) :
    lin X W (ix3 j r f) = ∑ d : Fin 2048, X (ix2 r d) * W (ix3 j f d) := by
  refine Eq.trans ?_ (Fin.sum_fin_congr fun _ => mul_comm _ _)
  pointwise [lin]
def low (Y : FVec Ideal S8x2048x704 .f32) : FVec Ideal S8x2048x704 .bf16 := truncf .bf16 Y Cert.Reference11Ideal.Gen.bitsLt_bf16_f32
theorem low_at (Y : FVec Ideal S8x2048x704 .f32) (y) : low Y y = Y y := by pointwise [low]
/-- The hidden row, `silu(a) * b`, as the reference writes it. -/
def gated (A B : FVec Ideal S8x2048x704 .f32) : FVec Ideal S8x2048x704 .f32 := mulf (mulf A (Host.divf (broadcastInDim Cert.Reference11Ideal.S8x2048x704 ![] Cert.Reference11Ideal.Gen.bcast_S_S8x2048x704 (constant Cert.Reference11Ideal.S_ .f32 0x3F800000#32)) (addf (broadcastInDim Cert.Reference11Ideal.S8x2048x704 ![] Cert.Reference11Ideal.Gen.bcast_S_S8x2048x704 (constant Cert.Reference11Ideal.S_ .f32 0x3F800000#32)) (Host.exp (Host.negf A))))) B
theorem gated_div (A B : FVec Ideal S8x2048x704 .f32) (y) : gated A B y = A y * Ideal.div 1 (1 + Ideal.exp (-A y)) * B y := by
  pointwise [gated]
theorem gated_at (A B : FVec Ideal S8x2048x704 .f32) (y) : gated A B y = A y * Ideal.logistic (A y) * B y := gated_div A B y
def wide (A : FVec Ideal S8x2048x704 .bf16) : FVec Ideal S8x2048x704 .f32 := extf .f32 A Cert.Reference11Ideal.Gen.bitsLt_bf16_f32
theorem wide_at (A : FVec Ideal S8x2048x704 .bf16) (y) : wide A y = A y := by pointwise [wide]
theorem pay2_at (x : FVec Ideal S512x2048 .bf16) (w : FVec Ideal S1x704x2048 .bf16) (r : Fin 512) (f : Fin 704) :
    k0_pay2 (F := Ideal) x w (ix3 0 r f) = ∑ d : Fin 2048, x (ix2 r d) * w (ix3 0 f d) := by
  pointwise [k0_pay2, k0_pay1]
theorem pay3_at (x : FVec Ideal S512x2048 .bf16) (w : FVec Ideal S1x704x2048 .bf16) (a : FVec Ideal S1x512x704 .bf16) (r : Fin 512) (f : Fin 704) :
    k0_pay3 (F := Ideal) x w a (ix3 0 r f) = a (ix3 0 r f) * Ideal.logistic (a (ix3 0 r f)) * ∑ d : Fin 2048, x (ix2 r d) * w (ix3 0 f d) := by
  pointwise [k0_pay3, k0_pay1]

theorem idx : ∀ t : Fin cfg0.N, win0_0.index t = ![t.val % 4, 0] ∧ win0_1.index t = ![t.val / 4, 0, 0] ∧ win0_2.index t = ![t.val / 4, t.val % 4, 0] ∧ win0_3.index t = ![t.val / 4, t.val % 4, 0] ∧ win0_4.index t = ![t.val / 4, t.val % 4, 0] ∧ t.val / 4 < 8 :=
  (by decide +kernel : ∀ t : Fin grid0.N, _)
theorem lt8 (t : Fin cfg0.N) : t.val / 4 < 8 := (idx t).2.2.2.2.2

variable {m} {c : Dev nD}

theorem blk_x (t : Fin cfg0.N) (r : Fin 512) (d : Fin 2048) : (iblk m c 0 t : FVec Ideal S512x2048 .bf16) (ix2 r d)
    = (m ((c : Thread nD τ).loc main_arg0) : FVec Ideal S2048x2048 .bf16) (ix2 ⟨512 * (t % 4) + r, by omega⟩ d) := by
  blk_ext [iblk, V, idx t]
theorem blk_w1 (t : Fin cfg0.N) (f : Fin 704) (d : Fin 2048) : (iblk m c 1 t : FVec Ideal S1x704x2048 .bf16) (ix3 0 f d)
    = (m ((c : Thread nD τ).loc main_arg1) : FVec Ideal S8x704x2048 .bf16) (ix3 ⟨t / 4, lt8 t⟩ f d) := by
  blk_ext [iblk, V, idx t]
theorem blk_a2 (t : Fin cfg0.N) (r : Fin 512) (f : Fin 704) : (iblk m c 2 t : FVec Ideal S1x512x704 .bf16) (ix3 0 r f)
    = (m ((c : Thread nD τ).loc main_arg2) : FVec Ideal S8x2048x704 .bf16) (ix3 ⟨t / 4, lt8 t⟩ ⟨512 * (t % 4) + r, by omega⟩ f) := by
  blk_ext [iblk, V, idx t]
theorem emb3 (t : Fin cfg0.N) (r : Fin 512) (f : Fin 704) (Y : FVec Ideal S8x2048x704 .bf16) :
    Y ((win0_3.blk t).view.emb (ix3 0 r f)) = Y (ix3 ⟨t / 4, lt8 t⟩ ⟨512 * (t % 4) + r, by omega⟩ f) := by
  blk_ext [idx t]
theorem emb4 (t : Fin cfg0.N) (r : Fin 512) (f : Fin 704) (Y : FVec Ideal S8x2048x704 .bf16) :
    Y ((win0_4.blk t).view.emb (ix3 0 r f)) = Y (ix3 ⟨t / 4, lt8 t⟩ ⟨512 * (t % 4) + r, by omega⟩ f) := by
  blk_ext [idx t]

theorem ex3 {b e : ℕ} (y : (⟨3, ![1, b, e]⟩ : Shape).Idx) : ∃ (s : Fin b) (l : Fin e), y = ix3 0 s l :=
  ⟨y 1, y 2, by rw [← ix3_eta y]; congr 1; exact Subsingleton.elim (α := Fin 1) _ _⟩

theorem final3 : (dats m 0 c).arrAt 3 (cfgs 0).N = low (lin (m ((c : Thread nD τ).loc main_arg0)) (m ((c : Thread nD τ).loc main_arg1))) := by
  refine (dats m 0 c).arrAt_eq_of_covers 3 _ (by decide +kernel) fun t _ y => ?_
  blk_simp
  rw [after0_3]; frame_out
  obtain ⟨r, f, rfl⟩ := ex3 (b := 512) (e := 704) y
  refine (pay2_at _ _ r f).trans (Eq.trans ?_ (emb3 t r f _).symm)
  simp only [low_at, lin_at, blk_x, blk_w1]

theorem final4 : (dats m 0 c).arrAt 4 (cfgs 0).N = low (gated (wide (m ((c : Thread nD τ).loc main_arg2))) (lin (m ((c : Thread nD τ).loc main_arg0)) (m ((c : Thread nD τ).loc main_arg1)))) := by
  refine (dats m 0 c).arrAt_eq_of_covers 4 _ (by decide +kernel) fun t _ y => ?_
  blk_simp
  rw [after0_4]; frame_out
  obtain ⟨r, f, rfl⟩ := ex3 (b := 512) (e := 704) y
  refine (pay3_at _ _ _ r f).trans (Eq.trans ?_ (emb4 t r f _).symm)
  simp only [low_at, gated_at, wide_at, lin_at, blk_x, blk_w1, blk_a2]

end Cert.Kernel11Ideal.Ffn
end
-- ==== Proof.Ffn.DownOne.lean ====
module

public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel12Ideal.Ffn

open Cert.Kernel12Ideal Cert.Kernel12Ideal.Gen

variable (m : (ℓ : Loc nD τ sig) → Buf (Elt Ideal) ℓ)

/-- The layer's output, as the reference writes it. -/
abbrev ref (A : FVec Ideal S8x2048x704 .bf16) (G : FVec Ideal S8x704x2048 .bf16) (Z : FVec Ideal S2048x2048 .f32) : FVec Ideal S2048x2048 .f32 :=
  addf Z (mulf (broadcastInDim Cert.Reference12Ideal.S2048x2048 ![] Cert.Reference12Ideal.Gen.bcast_S_S2048x2048 (constant Cert.Reference12Ideal.S_ .f32 0x3F000000#32)) (Host.dotGeneral Cert.Reference12Ideal.dot_S8x2048x704_S8x704x2048_S2048x2048_20_10_1_2_n_n none (extf .f32 A Cert.Reference12Ideal.Gen.bitsLt_bf16_f32) (extf .f32 G Cert.Reference12Ideal.Gen.bitsLt_bf16_f32)))

/-- One half. -/
abbrev half : EReal := ((1 / 2 : ℝ) : EReal)

theorem half_low : Ideal.ofBits .bf16 16128#16 = half := by
  simp [Ideal.ofBits, Ideal.ieee, -EReal.coe_mul]; norm_num
theorem half_high : Ideal.ofBits .f32 1056964608#32 = half := by
  simp [Ideal.ofBits, Ideal.ieee, -EReal.coe_mul]; norm_num

theorem half_sum {n : ℕ} (f : Fin n → EReal) : half * ∑ i, f i = ∑ i, half * f i := by
  have h : ∀ s : Finset (Fin n), half * ∑ i ∈ s, f i = ∑ i ∈ s, half * f i := fun s => by
    induction s using Finset.induction_on with
    | empty => simp
    | insert i s hi ih =>
      rw [Finset.sum_insert hi, Finset.sum_insert hi, ← ih]
      exact EReal.left_distrib_of_nonneg_of_ne_top (EReal.coe_nonneg.2 (by norm_num)) (EReal.coe_ne_top _) _ _
  exact h Finset.univ

theorem step_at (s : FVec Ideal S512x2048 .f32) (a : FVec Ideal S1x512x704 .bf16) (w : FVec Ideal S1x704x2048 .bf16) (y) :
    k0_pay1 s a w y = s y + ∑ k : Fin 704, a (ix3 0 (y 0) k) * half * w (ix3 0 k (y 1)) := by rw [← half_low]; pointwise [k0_pay1]

theorem ref_half (A : FVec Ideal S8x2048x704 .bf16) (G : FVec Ideal S8x704x2048 .bf16) (Z : FVec Ideal S2048x2048 .f32) (y) :
    ref A G Z y = Z y + half * ∑ j : Fin 8, ∑ k : Fin 704, A (ix3 j (y 0) k) * G (ix3 j k (y 1)) := by
  rw [← half_high, Finset.sum_comm]; pointwise [ref]

theorem ref_at (A : FVec Ideal S8x2048x704 .bf16) (G : FVec Ideal S8x704x2048 .bf16) (Z : FVec Ideal S2048x2048 .f32) (y) :
    ref A G Z y = Z y + ∑ j : Fin 8, ∑ k : Fin 704, A (ix3 j (y 0) k) * half * G (ix3 j k (y 1)) := by
  rw [ref_half, half_sum]
  refine congrArg (Z y + · : EReal → EReal) (Fin.sum_fin_congr fun j => ?_)
  rw [half_sum]
  refine Fin.sum_fin_congr fun k => ?_
  rw [← mul_assoc, mul_comm half]

theorem idx : ∀ t : Fin cfg0.N, win0_0.index t = ![t.val % 8, t.val / 8, 0] ∧ win0_1.index t = ![t.val % 8, 0, 0]
    ∧ win0_2.index t = ![t.val / 8, 0] ∧ win0_3.index t = ![t.val / 8, 0] ∧ t.val / 8 < 4 :=
  (by decide +kernel : ∀ t : Fin grid0.N, _)

theorem first_only (q : ℕ) (f : Fin 8 → EReal) : (∑ s : Fin 8, if (8 * q + s.val) % 8 = 0 then f s else 0) = f 0 := by
  rw [Finset.sum_eq_single (0 : Fin 8)]
  · simp
  · intro s _ hs
    rw [if_neg]
    have := Fin.val_ne_of_ne hs
    have := s.isLt
    simp only [Fin.val_zero] at *
    omega
  · exact fun h => absurd (Finset.mem_univ _) h

/-- The blocks at a grid point. -/
def Z (c : Dev nD) (p : Fin cfg0.N) : FVec Ideal S512x2048 .f32 := iblk m c 2 p
def X (c : Dev nD) (p : Fin cfg0.N) : FVec Ideal S1x512x704 .bf16 := iblk m c 0 p
def G (c : Dev nD) (p : Fin cfg0.N) : FVec Ideal S1x704x2048 .bf16 := iblk m c 1 p

theorem final (c : Dev nD) : (dats m 0 c).arrAt 3 (cfgs 0).N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, Pipeline.eq_sum_fin_of_reset_step_apply_of_flush (fun n h => outsAt0 m c n h) 8 (fun _ => 0)
    (fun p j => (if p.val % 8 = 0 then Z m c p j else 0)
      + ∑ k : Fin 704, X m c p (ix3 0 (j 0) k) * half * G m c p (ix3 0 k (j 1)))
    (fun t h j => by rw [outsAt0_A m c t h]; frame_out; rw [step_at, if_pos h, zero_add]; rfl)
    (fun t h j => by rw [outsAt0_B m c t h]; frame_out; rw [step_at, if_neg h, zero_add]; rfl)
    t ((flush0_3 t).mp hf) _, zero_add, ref_at]
  refine (Finset.sum_add_distrib (M := EReal)).trans ?_
  have hl := fun s : Fin 8 => idx ⟨_, Pipeline.run_point_lt_of_flush t ((flush0_3 t).mp hf) s⟩
  refine congrArg₂ (fun a b : EReal => a + b) ((first_only (t.val / 8) _).trans ?_) (Fin.sum_fin_congr fun s => ?_)
  · blk_point [Z, iblk, V, idx t, hl 0]
  · blk_point [X, G, iblk, V, idx t, hl s]

end Cert.Kernel12Ideal.Ffn
end
-- ==== Proof.Ffn.DownTwo.lean ====
module

public import proofs.«01_k».proof.Proof.Gen.Kernel13Ideal.Value
public import proofs.«01_k».proof.Proof.Gen.Reference13Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel13Ideal.Ffn

open Cert.Kernel13Ideal Cert.Kernel13Ideal.Gen

variable (m : (ℓ : Loc nD τ sig) → Buf (Elt Ideal) ℓ)

/-- The layer's output, as the reference writes it. -/
abbrev ref (A : FVec Ideal S8x2048x704 .bf16) (G : FVec Ideal S8x704x2048 .bf16) (Z : FVec Ideal S2048x2048 .f32) : FVec Ideal S2048x2048 .f32 :=
  addf Z (mulf (broadcastInDim Cert.Reference13Ideal.S2048x2048 ![] Cert.Reference13Ideal.Gen.bcast_S_S2048x2048 (constant Cert.Reference13Ideal.S_ .f32 0x3F000000#32)) (Host.dotGeneral Cert.Reference13Ideal.dot_S8x2048x704_S8x704x2048_S2048x2048_20_10_1_2_n_n none (extf .f32 A Cert.Reference13Ideal.Gen.bitsLt_bf16_f32) (extf .f32 G Cert.Reference13Ideal.Gen.bitsLt_bf16_f32)))

/-- One half. -/
abbrev half : EReal := ((1 / 2 : ℝ) : EReal)

theorem half_low : Ideal.ofBits .bf16 16128#16 = half := by
  simp [Ideal.ofBits, Ideal.ieee, -EReal.coe_mul]; norm_num
theorem half_high : Ideal.ofBits .f32 1056964608#32 = half := by
  simp [Ideal.ofBits, Ideal.ieee, -EReal.coe_mul]; norm_num

theorem half_sum {n : ℕ} (f : Fin n → EReal) : half * ∑ i, f i = ∑ i, half * f i := by
  have h : ∀ s : Finset (Fin n), half * ∑ i ∈ s, f i = ∑ i ∈ s, half * f i := fun s => by
    induction s using Finset.induction_on with
    | empty => simp
    | insert i s hi ih =>
      rw [Finset.sum_insert hi, Finset.sum_insert hi, ← ih]
      exact EReal.left_distrib_of_nonneg_of_ne_top (EReal.coe_nonneg.2 (by norm_num)) (EReal.coe_ne_top _) _ _
  exact h Finset.univ

theorem step_at (s : FVec Ideal S1024x2048 .f32) (a : FVec Ideal S1x1024x704 .bf16) (w : FVec Ideal S1x704x2048 .bf16) (y) :
    k0_pay1 s a w y = s y + ∑ k : Fin 704, a (ix3 0 (y 0) k) * half * w (ix3 0 k (y 1)) := by rw [← half_low]; pointwise [k0_pay1]

theorem ref_half (A : FVec Ideal S8x2048x704 .bf16) (G : FVec Ideal S8x704x2048 .bf16) (Z : FVec Ideal S2048x2048 .f32) (y) :
    ref A G Z y = Z y + half * ∑ j : Fin 8, ∑ k : Fin 704, A (ix3 j (y 0) k) * G (ix3 j k (y 1)) := by
  rw [← half_high, Finset.sum_comm]; pointwise [ref]

theorem ref_at (A : FVec Ideal S8x2048x704 .bf16) (G : FVec Ideal S8x704x2048 .bf16) (Z : FVec Ideal S2048x2048 .f32) (y) :
    ref A G Z y = Z y + ∑ j : Fin 8, ∑ k : Fin 704, A (ix3 j (y 0) k) * half * G (ix3 j k (y 1)) := by
  rw [ref_half, half_sum]
  refine congrArg (Z y + · : EReal → EReal) (Fin.sum_fin_congr fun j => ?_)
  rw [half_sum]
  refine Fin.sum_fin_congr fun k => ?_
  rw [← mul_assoc, mul_comm half]

theorem idx : ∀ t : Fin cfg0.N, win0_0.index t = ![t.val % 8, t.val / 8, 0] ∧ win0_1.index t = ![t.val % 8, 0, 0]
    ∧ win0_2.index t = ![t.val / 8, 0] ∧ win0_3.index t = ![t.val / 8, 0] ∧ t.val / 8 < 2 :=
  (by decide +kernel : ∀ t : Fin grid0.N, _)

theorem first_only (q : ℕ) (f : Fin 8 → EReal) : (∑ s : Fin 8, if (8 * q + s.val) % 8 = 0 then f s else 0) = f 0 := by
  rw [Finset.sum_eq_single (0 : Fin 8)]
  · simp
  · intro s _ hs
    rw [if_neg]
    have := Fin.val_ne_of_ne hs
    have := s.isLt
    simp only [Fin.val_zero] at *
    omega
  · exact fun h => absurd (Finset.mem_univ _) h

/-- The blocks at a grid point. -/
def Z (c : Dev nD) (p : Fin cfg0.N) : FVec Ideal S1024x2048 .f32 := iblk m c 2 p
def X (c : Dev nD) (p : Fin cfg0.N) : FVec Ideal S1x1024x704 .bf16 := iblk m c 0 p
def G (c : Dev nD) (p : Fin cfg0.N) : FVec Ideal S1x704x2048 .bf16 := iblk m c 1 p

theorem final (c : Dev nD) : (dats m 0 c).arrAt 3 (cfgs 0).N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, Pipeline.eq_sum_fin_of_reset_step_apply_of_flush (fun n h => outsAt0 m c n h) 8 (fun _ => 0)
    (fun p j => (if p.val % 8 = 0 then Z m c p j else 0)
      + ∑ k : Fin 704, X m c p (ix3 0 (j 0) k) * half * G m c p (ix3 0 k (j 1)))
    (fun t h j => by rw [outsAt0_A m c t h]; frame_out; rw [step_at, if_pos h, zero_add]; rfl)
    (fun t h j => by rw [outsAt0_B m c t h]; frame_out; rw [step_at, if_neg h, zero_add]; rfl)
    t ((flush0_3 t).mp hf) _, zero_add, ref_at]
  refine (Finset.sum_add_distrib (M := EReal)).trans ?_
  have hl := fun s : Fin 8 => idx ⟨_, Pipeline.run_point_lt_of_flush t ((flush0_3 t).mp hf) s⟩
  refine congrArg₂ (fun a b : EReal => a + b) ((first_only (t.val / 8) _).trans ?_) (Fin.sum_fin_congr fun s => ?_)
  · blk_point [Z, iblk, V, idx t, hl 0]
  · blk_point [X, G, iblk, V, idx t, hl s]

end Cert.Kernel13Ideal.Ffn
end
-- ==== Proof.Ffn.RmsBack.lean ====
module

public import proofs.«01_k».proof.Proof.Gen.Kernel14Ideal.Value
public import proofs.«01_k».proof.Proof.Gen.Reference14Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel14Ideal.Ffn

open Cert.Kernel14Ideal Cert.Kernel14Ideal.Gen

variable (m : (ℓ : Loc nD τ sig) → Buf (Elt Ideal) ℓ)

/-- The mean square and the small number, as the reference writes them. -/
def mean (X : FVec Ideal S2048x2048 .f32) : FVec Ideal Cert.Reference14Ideal.S2048x1 .f32 := addf (Host.divf (broadcastInDim Cert.Reference14Ideal.S2048x1 ![0] Cert.Reference14Ideal.Gen.bcast_S2048_S2048x1_0 (Host.reduceAdd (mulf X X) (constant Cert.Reference14Ideal.S_ .f32 0x00000000#32) Cert.Reference14Ideal.Gen.reducesTo_S2048x2048_S2048_d1 Cert.Reference14Ideal.Gen.h_S_)) (broadcastInDim Cert.Reference14Ideal.S2048x1 ![] Cert.Reference14Ideal.Gen.bcast_S_S2048x1 (constant Cert.Reference14Ideal.S_ .f32 0x45000000#32))) (broadcastInDim Cert.Reference14Ideal.S2048x1 ![] Cert.Reference14Ideal.Gen.bcast_S_S2048x1 (constant Cert.Reference14Ideal.S_ .f32 0x358637BD#32))
/-- The inverse root of the mean square, as the reference writes it. -/
def inv (X : FVec Ideal S2048x2048 .f32) : FVec Ideal Cert.Reference14Ideal.S2048x1 .f32 := Host.rsqrt (mean X)

/-- The gradient of the input, as the reference writes it. -/
def ref (N X : FVec Ideal S2048x2048 .f32) (G : FVec Ideal S1x2048 .f32) (H : FVec Ideal S2048x2048 .f32) : FVec Ideal S2048x2048 .f32 :=
  addf H (addf (addf (mulf (mulf N (broadcastInDim Cert.Reference14Ideal.S2048x2048 ![0, 1] Cert.Reference14Ideal.Gen.bcast_S1x2048_S2048x2048_0_1 G)) (broadcastInDim Cert.Reference14Ideal.S2048x2048 ![0, 1] Cert.Reference14Ideal.Gen.bcast_S2048x1_S2048x2048_0_1 (inv X))) (mulf X (broadcastInDim Cert.Reference14Ideal.S2048x2048 ![0] Cert.Reference14Ideal.Gen.bcast_S2048_S2048x2048_0 (Host.reduceAdd (Host.divf (mulf (shapeCast _ (Host.reduceAdd (mulf X (mulf N (broadcastInDim Cert.Reference14Ideal.S2048x2048 ![0, 1] Cert.Reference14Ideal.Gen.bcast_S1x2048_S2048x2048_0_1 G))) (constant Cert.Reference14Ideal.S_ .f32 0x00000000#32) Cert.Reference14Ideal.Gen.reducesTo_S2048x2048_S2048_d1 Cert.Reference14Ideal.Gen.h_S_) Cert.Reference14Ideal.Gen.shapeCasts_S2048_S2048x1) (mulf (broadcastInDim Cert.Reference14Ideal.S2048x1 ![] Cert.Reference14Ideal.Gen.bcast_S_S2048x1 (constant Cert.Reference14Ideal.S_ .f32 0xBF000000#32)) (Host.divf (inv X) (mean X)))) (broadcastInDim Cert.Reference14Ideal.S2048x1 ![] Cert.Reference14Ideal.Gen.bcast_S_S2048x1 (constant Cert.Reference14Ideal.S_ .f32 0x45000000#32))) (constant Cert.Reference14Ideal.S_ .f32 0x00000000#32) Cert.Reference14Ideal.Gen.reducesTo_S2048x1_S2048_d1 Cert.Reference14Ideal.Gen.h_S_)))) (mulf (broadcastInDim Cert.Reference14Ideal.S2048x2048 ![0] Cert.Reference14Ideal.Gen.bcast_S2048_S2048x2048_0 (Host.reduceAdd (Host.divf (mulf (shapeCast _ (Host.reduceAdd (mulf X (mulf N (broadcastInDim Cert.Reference14Ideal.S2048x2048 ![0, 1] Cert.Reference14Ideal.Gen.bcast_S1x2048_S2048x2048_0_1 G))) (constant Cert.Reference14Ideal.S_ .f32 0x00000000#32) Cert.Reference14Ideal.Gen.reducesTo_S2048x2048_S2048_d1 Cert.Reference14Ideal.Gen.h_S_) Cert.Reference14Ideal.Gen.shapeCasts_S2048_S2048x1) (mulf (broadcastInDim Cert.Reference14Ideal.S2048x1 ![] Cert.Reference14Ideal.Gen.bcast_S_S2048x1 (constant Cert.Reference14Ideal.S_ .f32 0xBF000000#32)) (Host.divf (inv X) (mean X)))) (broadcastInDim Cert.Reference14Ideal.S2048x1 ![] Cert.Reference14Ideal.Gen.bcast_S_S2048x1 (constant Cert.Reference14Ideal.S_ .f32 0x45000000#32))) (constant Cert.Reference14Ideal.S_ .f32 0x00000000#32) Cert.Reference14Ideal.Gen.reducesTo_S2048x1_S2048_d1 Cert.Reference14Ideal.Gen.h_S_)) X))

/-- The gradient of the gain, as the reference writes it. -/
def gain (N X : FVec Ideal S2048x2048 .f32) : FVec Ideal S1x2048 .f32 :=
  shapeCast _ (Host.reduceAdd (mulf (mulf X (broadcastInDim Cert.Reference14Ideal.S2048x2048 ![0, 1] Cert.Reference14Ideal.Gen.bcast_S2048x1_S2048x2048_0_1 (inv X))) N) (constant Cert.Reference14Ideal.S_ .f32 0x00000000#32) Cert.Reference14Ideal.Gen.reducesTo_S2048x2048_S2048_d0 Cert.Reference14Ideal.Gen.h_S_) Cert.Reference14Ideal.Gen.shapeCasts_S2048_S1x2048

def size : EReal := ((2048 : ℝ) : EReal)
def tiny : EReal := Ideal.ofBits .f32 897988541#32
theorem size_bits : Ideal.ofBits .f32 1157627904#32 = size := by
  simp [size, Ideal.ofBits, Ideal.ieee, -EReal.coe_mul]; norm_num
theorem half_bits : Ideal.ofBits .f32 3204448256#32 = ((-(1 / 2) : ℝ) : EReal) := by
  simp [Ideal.ofBits, Ideal.ieee, -EReal.coe_mul]; norm_num
theorem tiny_pos : 0 < tiny := by
  simp [tiny, Ideal.ofBits, Ideal.ieee, -EReal.coe_mul]

/-- A row's mean square and the small number. -/
def sq (x : Fin 2048 → EReal) : EReal := Ideal.div (∑ k, x k * x k) size + tiny

/-- The gradient in a row, as the kernel computes it. -/
def low (a x : Fin 2048 → EReal) (d : Fin 2048) : EReal :=
  Ideal.rsqrt (sq x) * (a d - x d * Ideal.rsqrt (sq x) * Ideal.div (∑ k, a k * (x k * Ideal.rsqrt (sq x))) size)

/-- The gradient in a row, as the reference computes it. -/
def high (a x : Fin 2048 → EReal) (d : Fin 2048) : EReal :=
  a d * Ideal.rsqrt (sq x) + x d * Ideal.div ((∑ k, x k * a k) * (((-(1 / 2) : ℝ) : EReal) * Ideal.div (Ideal.rsqrt (sq x)) (sq x))) size
    + Ideal.div ((∑ k, x k * a k) * (((-(1 / 2) : ℝ) : EReal) * Ideal.div (Ideal.rsqrt (sq x)) (sq x))) size * x d

theorem self_nonneg (x : EReal) : 0 ≤ x * x := by
  induction x with
  | bot => simp
  | top => simp
  | coe r => rw [← EReal.coe_mul]; exact EReal.coe_nonneg.2 (mul_self_nonneg r)

theorem sq_pos (x : Fin 2048 → EReal) : 0 < sq x := by
  refine lt_of_lt_of_le tiny_pos (le_add_of_nonneg_left ?_)
  rw [size, Ideal.div_coe (by norm_num)]
  exact mul_nonneg (Finset.sum_nonneg fun k _ => self_nonneg _) (EReal.coe_nonneg.2 (by norm_num))

theorem tame (v : EReal) (hv : 0 < v) : ∃ ρ : ℝ, 0 ≤ ρ ∧ Ideal.rsqrt v = (ρ : EReal) ∧ Ideal.div (Ideal.rsqrt v) v = ((ρ * ρ * ρ : ℝ) : EReal) := by
  induction v with
  | bot => exact absurd hv (by simp)
  | top => exact ⟨0, le_refl _, by simp, by simp [Ideal.div]⟩
  | coe w =>
    have hw : 0 < w := EReal.coe_pos.1 hv
    have h : Ideal.rsqrt (w : EReal) = (((Real.sqrt w)⁻¹ : ℝ) : EReal) := by
      rw [Ideal.rsqrt_coe, if_neg (not_lt.2 hw.le), if_neg hw.ne']
    refine ⟨(Real.sqrt w)⁻¹, inv_nonneg.2 (Real.sqrt_nonneg _), h, ?_⟩
    rw [h, Ideal.div_coe hw.ne', ← EReal.coe_mul]
    refine congrArg (fun r : ℝ => (r : EReal)) ?_
    rw [mul_comm, mul_comm _ (Real.sqrt w)⁻¹, ← mul_inv, Real.mul_self_sqrt hw.le, one_div, mul_comm]

theorem scale_sum {n : ℕ} (ρ : ℝ) (h : 0 ≤ ρ) (f : Fin n → EReal) : (ρ : EReal) * ∑ i, f i = ∑ i, (ρ : EReal) * f i := by
  have h : ∀ s : Finset (Fin n), (ρ : EReal) * ∑ i ∈ s, f i = ∑ i ∈ s, (ρ : EReal) * f i := fun s => by
    induction s using Finset.induction_on with
    | empty => simp
    | insert i s hi ih =>
      rw [Finset.sum_insert hi, Finset.sum_insert hi, ← ih]
      exact EReal.left_distrib_of_nonneg_of_ne_top (EReal.coe_nonneg.2 h) (EReal.coe_ne_top _) _ _
  exact h Finset.univ

theorem double (y : EReal) : y + y = ((2 : ℝ) : EReal) * y := by
  induction y with
  | bot => simp [EReal.coe_mul_bot_of_pos]
  | top => simp [EReal.coe_mul_top_of_pos]
  | coe r => rw [← EReal.coe_add, ← EReal.coe_mul, two_mul]

theorem twice (y : EReal) (q : ℝ) : y * (q : EReal) + y * (q : EReal) = y * ((2 * q : ℝ) : EReal) := by
  rw [double, EReal.coe_mul, ← mul_assoc, ← mul_assoc, mul_comm _ y]

theorem low_high (a x : Fin 2048 → EReal) (d : Fin 2048) : low a x d = high a x d := by
  obtain ⟨ρ, h, h1, h2⟩ := tame (sq x) (sq_pos x)
  rw [low, high, h2, h1]
  have hs : (∑ k, a k * (x k * (ρ : EReal))) = (ρ : EReal) * ∑ k, x k * a k := by
    rw [scale_sum ρ h]
    exact Finset.sum_congr rfl fun k _ => by rw [mul_comm (ρ : EReal), mul_comm (x k) (a k), mul_assoc]
  rw [hs]
  generalize (∑ k, x k * a k) = P
  have e1 : (ρ : EReal) * (a d - x d * (ρ : EReal) * Ideal.div ((ρ : EReal) * P) size) = a d * (ρ : EReal) + x d * P * ((2 * (-(1 / 2) * (ρ * ρ * ρ) * (1 / 2048)) : ℝ) : EReal) := by
    rw [sub_eq_add_neg, EReal.left_distrib_of_nonneg_of_ne_top (EReal.coe_nonneg.2 h) (EReal.coe_ne_top _), mul_comm (ρ : EReal) (a d), size, Ideal.div_coe (by norm_num)]
    refine congrArg (a d * (ρ : EReal) + ·) ?_
    rw [show (2 * (-(1 / 2) * (ρ * ρ * ρ) * (1 / 2048)) : ℝ) = -(ρ * ρ * ρ * (1 / 2048)) by ring, EReal.coe_neg, mul_neg, mul_neg, EReal.coe_mul, EReal.coe_mul, EReal.coe_mul]
    refine congrArg (fun e : EReal => -e) ?_
    ac_rfl
  have e2 : x d * Ideal.div (P * (((-(1 / 2) : ℝ) : EReal) * ((ρ * ρ * ρ : ℝ) : EReal))) size = x d * P * ((-(1 / 2) * (ρ * ρ * ρ) * (1 / 2048) : ℝ) : EReal) := by
    rw [size, Ideal.div_coe (by norm_num), ← EReal.coe_mul, EReal.coe_mul (-(1 / 2) * (ρ * ρ * ρ))]
    ac_rfl
  rw [e1, mul_comm _ (x d), e2, add_assoc, twice]

theorem mean_at (X : FVec Ideal S2048x2048 .f32) (r : Fin 2048) : mean X (ix2 r 0) = sq fun k => X (ix2 r k) := by
  pointwise [mean]
  exact congrArg (fun s => Ideal.div _ s + tiny) size_bits
theorem inv_at (X : FVec Ideal S2048x2048 .f32) (r : Fin 2048) : inv X (ix2 r 0) = Ideal.rsqrt (sq fun k => X (ix2 r k)) := by
  rw [← mean_at]
  pointwise [inv]
theorem ref_at (N X : FVec Ideal S2048x2048 .f32) (G : FVec Ideal S1x2048 .f32) (H : FVec Ideal S2048x2048 .f32) (r d : Fin 2048) :
    ref N X G H (ix2 r d) = H (ix2 r d) + high (fun k => N (ix2 r k) * G (ix2 0 k)) (fun k => X (ix2 r k)) d := by
  rw [high, ← inv_at, ← mean_at, ← half_bits, ← size_bits]
  pointwise [ref]
  simp only [Fin.sum_univ_one]
theorem gain_at (N X : FVec Ideal S2048x2048 .f32) (d : Fin 2048) :
    gain N X (ix2 0 d) = ∑ r : Fin 2048, N (ix2 r d) * (X (ix2 r d) * Ideal.rsqrt (sq fun k => X (ix2 r k))) := by
  refine Eq.trans ?_ (Finset.sum_congr rfl fun r _ => (congrArg (fun e : EReal => X (ix2 r d) * e * N (ix2 r d)) (inv_at X r)).trans (mul_comm _ _))
  pointwise [gain]
theorem root_at (x : FVec Ideal S256x2048 .f32) (r : Fin 256) : k0_pay2 (F := Ideal) x (ix2 r 0) = Ideal.rsqrt (sq fun k => x (ix2 r k)) := by
  rw [sq, ← size_bits, tiny]
  pointwise [k0_pay2]
theorem norm_at (x : FVec Ideal S256x2048 .f32) (r : Fin 256) (d : Fin 2048) : k0_pay3 (F := Ideal) x (ix2 r d) = x (ix2 r d) * Ideal.rsqrt (sq fun k => x (ix2 r k)) := by
  rw [← root_at]
  pointwise [k0_pay3]
theorem low_at (n x : FVec Ideal S256x2048 .f32) (g : FVec Ideal S1x2048 .f32) (h : FVec Ideal S256x2048 .f32) (r : Fin 256) (d : Fin 2048) :
    k0_pay5 (F := Ideal) n x g h (ix2 r d) = h (ix2 r d) + low (fun k => n (ix2 r k) * g (ix2 0 k)) (fun k => x (ix2 r k)) d := by
  rw [low, ← size_bits]
  simp only [← norm_at]
  rw [← root_at]
  pointwise [k0_pay5]
theorem part_col (n x : FVec Ideal S256x2048 .f32) (d : Fin 2048) : k0_pay4 (F := Ideal) n x (ix2 0 d) = ∑ r : Fin 256, n (ix2 r d) * (x (ix2 r d) * Ideal.rsqrt (sq fun k => x (ix2 r k))) := by
  refine Eq.trans ?_ (Finset.sum_congr rfl fun r _ => congrArg (fun e : EReal => n (ix2 r d) * e) (norm_at x r d))
  pointwise [k0_pay4]
theorem part_at (n x : FVec Ideal S256x2048 .f32) (y : S1x2048.Idx) : k0_pay4 (F := Ideal) n x y = ∑ r : Fin 256, n (ix2 r (y 1)) * (x (ix2 r (y 1)) * Ideal.rsqrt (sq fun k => x (ix2 r k))) := by
  obtain ⟨z, d, rfl⟩ : ∃ (z : Fin 1) (d : Fin 2048), y = ix2 z d := ⟨y 0, y 1, (ix2_eta y).symm⟩
  obtain rfl : z = 0 := Fin.ext (by omega)
  exact part_col n x d
theorem step_at (n x : FVec Ideal S256x2048 .f32) (s : FVec Ideal S1x2048 .f32) (y) : k0_pay1 (F := Ideal) (k0_pay4 (F := Ideal) n x) s y
    = s y + ∑ r : Fin 256, n (ix2 r (y 1)) * (x (ix2 r (y 1)) * Ideal.rsqrt (sq fun k => x (ix2 r k))) := by
  rw [← part_at]
  pointwise [k0_pay1]

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![0, 0] ∧ t.val < 8 :=
  (by decide +kernel : ∀ t : Fin grid0.N, _)

/-- The blocks at a grid point. -/
def Dn (c : Dev nD) (p : Fin cfg0.N) : FVec Ideal S256x2048 .f32 := iblk m c 0 p
def X (c : Dev nD) (p : Fin cfg0.N) : FVec Ideal S256x2048 .f32 := iblk m c 1 p
def G (c : Dev nD) (p : Fin cfg0.N) : FVec Ideal S1x2048 .f32 := iblk m c 2 p
def H (c : Dev nD) (p : Fin cfg0.N) : FVec Ideal S256x2048 .f32 := iblk m c 3 p

variable {m} {c : Dev nD}
theorem Dn_at (t : Fin cfg0.N) (r : Fin 256) (d : Fin 2048) : Dn m c t (ix2 r d)
    = ((m ((c : Thread nD τ).loc main_arg0)) : FVec Ideal S2048x2048 .f32) (ix2 ⟨256 * t + r, by have := (idx t).2.2.2.2.2.2; omega⟩ d) := by
  blk_ext [Dn, iblk, V, idx t]
theorem X_at (t : Fin cfg0.N) (r : Fin 256) (d : Fin 2048) : X m c t (ix2 r d)
    = ((m ((c : Thread nD τ).loc main_arg1)) : FVec Ideal S2048x2048 .f32) (ix2 ⟨256 * t + r, by have := (idx t).2.2.2.2.2.2; omega⟩ d) := by
  blk_ext [X, iblk, V, idx t]
theorem G_at (t : Fin cfg0.N) (d : Fin 2048) : G m c t (ix2 0 d)
    = ((m ((c : Thread nD τ).loc main_arg2)) : FVec Ideal S1x2048 .f32) (ix2 0 d) := by
  blk_ext [G, iblk, V, idx t]
theorem H_at (t : Fin cfg0.N) (r : Fin 256) (d : Fin 2048) : H m c t (ix2 r d)
    = ((m ((c : Thread nD τ).loc main_arg3)) : FVec Ideal S2048x2048 .f32) (ix2 ⟨256 * t + r, by have := (idx t).2.2.2.2.2.2; omega⟩ d) := by
  blk_ext [H, iblk, V, idx t]
theorem emb (t : Fin cfg0.N) (r : Fin 256) (d : Fin 2048) (Y : FVec Ideal S2048x2048 .f32) :
    Y ((win0_4.blk t).view.emb (ix2 r d)) = Y (ix2 ⟨256 * t + r, by have := (idx t).2.2.2.2.2.2; omega⟩ d) := by
  blk_ext [idx t]
theorem emb_gain (t : Fin cfg0.N) (d : Fin 2048) (Y : FVec Ideal S1x2048 .f32) :
    Y ((win0_5.blk t).view.emb (ix2 0 d)) = Y (ix2 0 d) := by
  blk_ext [idx t]

theorem point (t : Fin cfg0.N) (y : S256x2048.Idx) :
    k0_pay5 (F := Ideal) (Dn m c t) (X m c t) (G m c t) (H m c t) y = ref (m ((c : Thread nD τ).loc main_arg0)) (m ((c : Thread nD τ).loc main_arg1)) (m ((c : Thread nD τ).loc main_arg2)) (m ((c : Thread nD τ).loc main_arg3)) ((win0_4.blk t).view.emb y) := by
  obtain ⟨r, d, rfl⟩ : ∃ (r : Fin 256) (d : Fin 2048), y = ix2 r d := ⟨y 0, y 1, (ix2_eta y).symm⟩
  rw [low_at, low_high]
  refine Eq.trans ?_ (emb t r d _).symm
  rw [ref_at, H_at]
  simp only [Dn_at, X_at, G_at]

theorem final4 : (dats m 0 c).arrAt 4 (cfgs 0).N = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  refine Eq.trans ?_ (point t y)
  by_cases h : t.val % 8 = 0
  · rw [outsAt0_A m c t h (by have := (idx t).2.2.2.2.2.2; omega)]; frame_out; rfl
  · rw [outsAt0_B m c t h (by omega)]; frame_out; rfl

theorem split_sum (f : Fin 2048 → EReal) : ∑ o, f o = ∑ s : Fin 8, ∑ k : Fin 256, f ⟨256 * s + k, by omega⟩ := by
  have h := Fin.sum_univ_univ_mul_add (M := EReal) 8 256 (fun n => if h : n < 2048 then f ⟨n, h⟩ else 0)
  refine Eq.trans ?_ (h.symm.trans ?_)
  · refine Finset.sum_congr rfl fun o _ => ?_
    show f o = if h : o.val < 2048 then f ⟨o.val, h⟩ else 0
    rw [dif_pos o.isLt]
  · refine Finset.sum_congr rfl fun s _ => Finset.sum_congr rfl fun k _ => ?_
    rw [dif_pos (by omega)]
    exact congrArg f (Fin.ext (by show s.val * 256 + k.val = 256 * s.val + k.val; omega))

theorem final5 : (dats m 0 c).arrAt 5 (cfgs 0).N = gain (m ((c : Thread nD τ).loc main_arg0)) (m ((c : Thread nD τ).loc main_arg1)) := by
  refine (dats m 0 c).arrAt_eq_of_covers 5 _ (by decide +kernel) fun t hf y => ?_
  blk_simp
  obtain ⟨z, d, rfl⟩ : ∃ (z : Fin 1) (d : Fin 2048), y = ix2 z d := ⟨y 0, y 1, (ix2_eta y).symm⟩
  obtain rfl : z = 0 := Fin.ext (by omega)
  have hf' := (flush0_5 t).mp hf
  rw [after0_5, Pipeline.eq_sum_fin_of_reset_step_apply_of_flush (fun n h => (outsAt0 m c n h).2) 8 (fun _ => 0)
    (fun p j => ∑ r : Fin 256, Dn m c p (ix2 r (j 1)) * (X m c p (ix2 r (j 1)) * Ideal.rsqrt (sq fun k => X m c p (ix2 r k))))
    (fun t h j => by rw [outsAt0_A m c t h (by have := (idx t).2.2.2.2.2.2; omega)]; frame_out; rw [part_at, zero_add]; rfl)
    (fun t h j => by rw [outsAt0_B m c t h (by omega)]; frame_out; rw [step_at]; rfl)
    t hf' _, zero_add]
  refine Eq.trans ?_ (emb_gain t d _).symm
  rw [gain_at, split_sum]
  refine Fin.sum_fin_congr fun s => Fin.sum_fin_congr fun r => ?_
  have e : 256 * (8 * (t.val / 8) + s.val) + r.val = 256 * s.val + r.val := by have := (idx t).2.2.2.2.2.2; omega
  have ex : ∀ k : Fin 2048, X m c ⟨8 * (t.val / 8) + s.val, Pipeline.run_point_lt_of_flush t hf' s⟩ (ix2 r k) = ((m ((c : Thread nD τ).loc main_arg1)) : FVec Ideal S2048x2048 .f32) (ix2 ⟨256 * s + r, by omega⟩ k) := fun k =>
    (X_at _ _ _).trans (congrArg (fun a => ((m ((c : Thread nD τ).loc main_arg1)) : FVec Ideal S2048x2048 .f32) (ix2 a k)) (Fin.ext e))
  refine congrArg₂ (fun a b : EReal => a * b) ((Dn_at _ _ _).trans (congrArg (fun a => ((m ((c : Thread nD τ).loc main_arg0)) : FVec Ideal S2048x2048 .f32) (ix2 a d)) (Fin.ext e))) ?_
  exact congrArg₂ (fun a b : EReal => a * b) (ex d) (congrArg (fun f => Ideal.rsqrt (sq f)) (funext ex))

end Cert.Kernel14Ideal.Ffn
end
-- ==== Proof.Ffn.ProjOut.lean ====
module

public import proofs.«01_k».proof.Proof.Gen.Kernel15Ideal.Value
public import proofs.«01_k».proof.Proof.Gen.Reference15Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel15Ideal.Ffn

open Cert.Kernel15Ideal Cert.Kernel15Ideal.Gen

variable (m : (ℓ : Loc nD τ sig) → Buf (Elt Ideal) ℓ)

/-- The residual and the product, as the reference writes them. -/
abbrev ref (X W : FVec Ideal S2048x2048 .bf16) (Z : FVec Ideal S2048x2048 .f32) : FVec Ideal S2048x2048 .f32 :=
  addf Z (Host.dotGeneral Cert.Reference15Ideal.dot_S2048x2048_S2048x2048_S2048x2048_1_0_0_1_n_n none (extf .f32 X Cert.Reference15Ideal.Gen.bitsLt_bf16_f32) (extf .f32 W Cert.Reference15Ideal.Gen.bitsLt_bf16_f32))

theorem idx : ∀ t : Fin cfg0.N, win0_0.index t = ![t.val % 2, 0] ∧ win0_1.index t = ![0, t.val / 2] ∧ win0_2.index t = ![t.val % 2, t.val / 2]
    ∧ win0_3.index t = ![t.val % 2, t.val / 2] ∧ t.val / 2 < 4 :=
  (by decide +kernel : ∀ t : Fin grid0.N, _)

theorem point (c : Dev nD) (t : Fin cfg0.N) (y : S1024x512.Idx) :
    k0_pay1 (iblk m c 2 t) (iblk m c 0 t) (iblk m c 1 t) y = ref (m ((c : Thread nD τ).loc main_arg0)) (m ((c : Thread nD τ).loc main_arg1)) (m ((c : Thread nD τ).loc main_arg2)) ((win0_3.blk t).view.emb y) := by
  pointwise [k0_pay1, ref]
  blk_point [iblk, V, idx t]

theorem final (c : Dev nD) : (dats m 0 c).arrAt 3 (cfgs 0).N = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel15Ideal.Ffn
end
-- ==== Proof.Ffn.ProjOutWeight.lean ====
module

public import proofs.«01_k».proof.Proof.Gen.Kernel16Ideal.Value
public import proofs.«01_k».proof.Proof.Gen.Reference16Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel16Ideal.Ffn

open Cert.Kernel16Ideal Cert.Kernel16Ideal.Gen

variable (m : (ℓ : Loc nD τ sig) → Buf (Elt Ideal) ℓ)

/-- The gradient of the weight, as the reference writes it. -/
abbrev ref (X D : FVec Ideal S2048x2048 .bf16) : FVec Ideal S2048x2048 .bf16 :=
  truncf .bf16 (transpose Cert.Reference16Ideal.S2048x2048 [1, 0] (Host.dotGeneral Cert.Reference16Ideal.dot_S2048x2048_S2048x2048_S2048x2048_0_0_1_1_n_n none (extf .f32 D Cert.Reference16Ideal.Gen.bitsLt_bf16_f32) (extf .f32 X Cert.Reference16Ideal.Gen.bitsLt_bf16_f32)) Cert.Reference16Ideal.Gen.transposes_S2048x2048_S2048x2048_1_0) Cert.Reference16Ideal.Gen.bitsLt_bf16_f32

theorem idx : ∀ t : Fin cfg0.N, win0_0.index t = ![0, t.val] ∧ win0_1.index t = ![0, 0] ∧ win0_2.index t = ![t.val, 0] ∧ t.val < 4 :=
  (by decide +kernel : ∀ t : Fin grid0.N, _)

theorem point (c : Dev nD) (t : Fin cfg0.N) (y : S512x2048.Idx) :
    k0_pay1 (F := Ideal) (iblk m c 0 t) (iblk m c 1 t) y = ref (m ((c : Thread nD τ).loc main_arg0)) (m ((c : Thread nD τ).loc main_arg1)) ((win0_2.blk t).view.emb y) := by
  pointwise [k0_pay1, ref]
  refine (Fin.sum_fin_congr fun _ => mul_comm _ _).trans ?_
  blk_point [iblk, V, idx t]

theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel16Ideal.Ffn
end
-- ==== Proof.Ffn.ProjIn.lean ====
module

public import proofs.«01_k».proof.Proof.Gen.Kernel17Ideal.Value
public import proofs.«01_k».proof.Proof.Gen.Reference17Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel17Ideal.Ffn

open Cert.Kernel17Ideal Cert.Kernel17Ideal.Gen

variable (m : (ℓ : Loc nD τ sig) → Buf (Elt Ideal) ℓ)

/-- The weight without the forget gate's rows, as the reference writes it. -/
def rows (W : FVec Ideal S4624x2048 .bf16) : FVec Ideal Cert.Reference17Ideal.S4608x2048 .bf16 :=
  concatenate Cert.Reference17Ideal.S4608x2048 0 [⟨Cert.Reference17Ideal.S3072x2048, (extractStridedSlice Cert.Reference17Ideal.S3072x2048 ![0, 0] W Cert.Reference17Ideal.Gen.slices_S4624x2048_S3072x2048_0_0)⟩, ⟨Cert.Reference17Ideal.S1536x2048, (extractStridedSlice Cert.Reference17Ideal.S1536x2048 ![3088, 0] W Cert.Reference17Ideal.Gen.slices_S4624x2048_S1536x2048_3088_0)⟩] Cert.Reference17Ideal.Gen.concatenates_S3072x2048_S1536x2048_S4608x2048_d0

/-- The projection, as the reference writes it. -/
def ref (X : FVec Ideal S2048x2048 .bf16) (W : FVec Ideal S4624x2048 .bf16) : FVec Ideal S2048x4608 .f32 :=
  Host.dotGeneral Cert.Reference17Ideal.dot_S2048x2048_S2048x4608_S2048x4608_1_0_0_1_n_n none (extf .f32 X Cert.Reference17Ideal.Gen.bitsLt_bf16_f32) (transpose Cert.Reference17Ideal.S2048x4608 [1, 0] (extf .f32 (rows W) Cert.Reference17Ideal.Gen.bitsLt_bf16_f32) Cert.Reference17Ideal.Gen.transposes_S4608x2048_S2048x4608_1_0)
def low (Y : FVec Ideal S2048x4608 .f32) : FVec Ideal S2048x4608 .bf16 := truncf .bf16 Y Cert.Reference17Ideal.Gen.bitsLt_bf16_f32
theorem low_at (Y : FVec Ideal S2048x4608 .f32) (y) : low Y y = Y y := by pointwise [low]

theorem rows_at (W : FVec Ideal S4624x2048 .bf16) (o : Fin 4608) (d : Fin 2048) :
    rows W (ix2 o d) = W (ix2 ⟨(o : ℕ) + if (o : ℕ) < 3072 then 0 else 16, by split <;> omega⟩ d) := by
  pointwise [rows]
  split <;> rename_i h
  · congr 1
  · refine congrArg (fun k : Fin 4624 => W (ix2 k d)) (Fin.ext ?_)
    simp only [h, if_false]; omega
theorem ref_at (X : FVec Ideal S2048x2048 .bf16) (W : FVec Ideal S4624x2048 .bf16) (r : Fin 2048) (o : Fin 4608) :
    ref X W (ix2 r o) = ∑ d : Fin 2048, X (ix2 r d) * rows W (ix2 o d) := by pointwise [ref]
theorem pay1_at (x : FVec Ideal S2048x2048 .bf16) (w : FVec Ideal S512x2048 .bf16) (r : Fin 2048) (o : Fin 512) :
    k0_pay1 (F := Ideal) x w (ix2 r o) = ∑ d : Fin 2048, x (ix2 r d) * w (ix2 o d) := by pointwise [k0_pay1]
theorem pay2_at (x : FVec Ideal S2048x2048 .bf16) (w : FVec Ideal S512x2048 .bf16) (r : Fin 2048) (o : Fin 512) :
    k0_pay2 (F := Ideal) x w (ix2 r o) = ∑ d : Fin 2048, x (ix2 r d) * w (ix2 o d) := by pointwise [k0_pay2, k0_pay1]

theorem idx : ∀ t : Fin cfg0.N, win0_0.index t = ![0, 0] ∧ win0_1.index t = ![512 * t.val + if t.val < 6 then 0 else 16, 0]
    ∧ win0_2.index t = ![0, t.val] ∧ win0_3.index t = ![0, t.val] ∧ t.val < 9 :=
  (by decide +kernel : ∀ t : Fin grid0.N, _)

variable {m} {c : Dev nD}
theorem blk_w (t : Fin cfg0.N) (o : Fin 512) (d : Fin 2048) : (iblk m c 1 t : FVec Ideal S512x2048 .bf16) (ix2 o d)
    = (m ((c : Thread nD τ).loc main_arg1) : FVec Ideal S4624x2048 .bf16) (ix2 ⟨512 * t + o + if 512 * t.val + o < 3072 then 0 else 16, by have := t.isLt; have : cfg0.N = 9 := rfl; split <;> omega⟩ d) := by
  blk_ext [iblk, V, idx t]
  · refine (show _ = win0_1.index t 0 + 1 * (o : ℕ) from rfl).trans ((congrArg (fun v : Fin 2 → ℕ => v 0 + 1 * (o : ℕ)) (idx t).2.1).trans ?_)
    show 512 * t.val + (if t.val < 6 then 0 else 16) + 1 * (o : ℕ) = _
    split <;> split <;> omega
  · refine (show _ = win0_1.index t 1 + 1 * (d : ℕ) from rfl).trans ((congrArg (fun v : Fin 2 → ℕ => v 1 + 1 * (d : ℕ)) (idx t).2.1).trans ?_)
    show 0 + 1 * (d : ℕ) = _
    omega
theorem blk_x (t : Fin cfg0.N) (r d : Fin 2048) : (iblk m c 0 t : FVec Ideal S2048x2048 .bf16) (ix2 r d)
    = (m ((c : Thread nD τ).loc main_arg0) : FVec Ideal S2048x2048 .bf16) (ix2 r d) := by
  blk_ext [iblk, V, idx t]
theorem emb2 (t : Fin cfg0.N) (r : Fin 2048) (o : Fin 512) (Y : FVec Ideal S2048x4608 .f32) :
    Y ((win0_2.blk t).view.emb (ix2 r o)) = Y (ix2 r ⟨512 * t + o, by have := t.isLt; have : cfg0.N = 9 := rfl; omega⟩) := by
  blk_ext [idx t]
theorem emb3 (t : Fin cfg0.N) (r : Fin 2048) (o : Fin 512) (Y : FVec Ideal S2048x4608 .bf16) :
    Y ((win0_3.blk t).view.emb (ix2 r o)) = Y (ix2 r ⟨512 * t + o, by have := t.isLt; have : cfg0.N = 9 := rfl; omega⟩) := by
  blk_ext [idx t]

theorem final2 : (dats m 0 c).arrAt 2 (cfgs 0).N = ref (m ((c : Thread nD τ).loc main_arg0)) (m ((c : Thread nD τ).loc main_arg1)) := by
  refine (dats m 0 c).arrAt_eq_of_covers 2 _ (by decide +kernel) fun t _ y => ?_
  blk_simp
  rw [after0_2]; frame_out
  obtain ⟨r, o, rfl⟩ : ∃ (r : Fin 2048) (o : Fin 512), y = ix2 r o := ⟨y 0, y 1, (ix2_eta y).symm⟩
  refine (pay1_at _ _ r o).trans (Eq.trans ?_ (emb2 t r o _).symm)
  rw [ref_at]
  simp only [rows_at, blk_x, blk_w]

theorem final3 : (dats m 0 c).arrAt 3 (cfgs 0).N = low (ref (m ((c : Thread nD τ).loc main_arg0)) (m ((c : Thread nD τ).loc main_arg1))) := by
  refine (dats m 0 c).arrAt_eq_of_covers 3 _ (by decide +kernel) fun t _ y => ?_
  blk_simp
  rw [after0_3]; frame_out
  obtain ⟨r, o, rfl⟩ : ∃ (r : Fin 2048) (o : Fin 512), y = ix2 r o := ⟨y 0, y 1, (ix2_eta y).symm⟩
  refine (pay2_at _ _ r o).trans (Eq.trans ?_ (emb3 t r o _).symm)
  rw [low_at, ref_at]
  simp only [rows_at, blk_x, blk_w]

end Cert.Kernel17Ideal.Ffn
end
-- ==== Proof.Ffn.ProjInBack.lean ====
module

public import proofs.«01_k».proof.Proof.Gen.Kernel18Ideal.Value
public import proofs.«01_k».proof.Proof.Gen.Reference18Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel18Ideal.Ffn

open Cert.Kernel18Ideal Cert.Kernel18Ideal.Gen

variable (m : (ℓ : Loc nD τ sig) → Buf (Elt Ideal) ℓ)

/-- The weight without the forget gate's rows, as the reference writes it. -/
def rows (W : FVec Ideal S4624x2048 .bf16) : FVec Ideal Cert.Reference18Ideal.S4608x2048 .bf16 :=
  concatenate Cert.Reference18Ideal.S4608x2048 0 [⟨Cert.Reference18Ideal.S3072x2048, (extractStridedSlice Cert.Reference18Ideal.S3072x2048 ![0, 0] W Cert.Reference18Ideal.Gen.slices_S4624x2048_S3072x2048_0_0)⟩, ⟨Cert.Reference18Ideal.S1536x2048, (extractStridedSlice Cert.Reference18Ideal.S1536x2048 ![3088, 0] W Cert.Reference18Ideal.Gen.slices_S4624x2048_S1536x2048_3088_0)⟩] Cert.Reference18Ideal.Gen.concatenates_S3072x2048_S1536x2048_S4608x2048_d0

/-- The gradient of the input, as the reference writes it. -/
def ref (Y : FVec Ideal S2048x4608 .bf16) (W : FVec Ideal S4624x2048 .bf16) (Z : FVec Ideal S2048x128 .bf16) (U : FVec Ideal S128x2048 .bf16) : FVec Ideal S2048x2048 .f32 :=
  addf (Host.dotGeneral Cert.Reference18Ideal.dot_S2048x128_S2048x128_S2048x2048_1_1_0_0_n_n none (extf .f32 Z Cert.Reference18Ideal.Gen.bitsLt_bf16_f32) (transpose Cert.Reference18Ideal.S2048x128 [1, 0] (extf .f32 U Cert.Reference18Ideal.Gen.bitsLt_bf16_f32) Cert.Reference18Ideal.Gen.transposes_S128x2048_S2048x128_1_0)) (Host.dotGeneral Cert.Reference18Ideal.dot_S2048x4608_S2048x4608_S2048x2048_1_1_0_0_n_n none (extf .f32 Y Cert.Reference18Ideal.Gen.bitsLt_bf16_f32) (transpose Cert.Reference18Ideal.S2048x4608 [1, 0] (extf .f32 (rows W) Cert.Reference18Ideal.Gen.bitsLt_bf16_f32) Cert.Reference18Ideal.Gen.transposes_S4608x2048_S2048x4608_1_0))

theorem rows_at (W : FVec Ideal S4624x2048 .bf16) (o : Fin 4608) (d : Fin 2048) :
    rows W (ix2 o d) = W (ix2 ⟨(o : ℕ) + if (o : ℕ) < 3072 then 0 else 16, by split <;> omega⟩ d) := by
  pointwise [rows]
  split <;> rename_i h
  · congr 1
  · refine congrArg (fun k : Fin 4624 => W (ix2 k d)) (Fin.ext ?_)
    simp only [h, if_false]; omega

theorem ref_sum (Y : FVec Ideal S2048x4608 .bf16) (W : FVec Ideal S4624x2048 .bf16) (Z : FVec Ideal S2048x128 .bf16) (U : FVec Ideal S128x2048 .bf16) (r d : Fin 2048) :
    ref Y W Z U (ix2 r d) = (∑ k : Fin 128, Z (ix2 r k) * U (ix2 k d)) + ∑ o : Fin 4608, Y (ix2 r o) * rows W (ix2 o d) := by
  pointwise [ref]

theorem split_sum (f : Fin 4608 → EReal) : ∑ o, f o = ∑ s : Fin 9, ∑ k : Fin 512, f ⟨512 * s + k, by omega⟩ := by
  have h := Fin.sum_univ_univ_mul_add (M := EReal) 9 512 (fun n => if h : n < 4608 then f ⟨n, h⟩ else 0)
  refine Eq.trans ?_ (h.symm.trans ?_)
  · refine Finset.sum_congr rfl fun o _ => ?_
    show f o = if h : o.val < 4608 then f ⟨o.val, h⟩ else 0
    rw [dif_pos o.isLt]
  · refine Finset.sum_congr rfl fun s _ => Finset.sum_congr rfl fun k _ => ?_
    rw [dif_pos (by omega)]
    exact congrArg f (Fin.ext (by show s.val * 512 + k.val = 512 * s.val + k.val; omega))

theorem zero_at (y) : k0_pay1 (F := Ideal) y = 0 := by pointwise [k0_pay1]

theorem step_at (s : FVec Ideal S1024x2048 .f32) (a : FVec Ideal S1024x512 .bf16) (w : FVec Ideal S512x2048 .bf16) (y) :
    k0_pay2 s a w y = s y + ∑ k : Fin 512, a (ix2 (y 0) k) * w (ix2 k (y 1)) := by pointwise [k0_pay2]
theorem last_at (s : FVec Ideal S1024x2048 .f32) (a : FVec Ideal S1024x128 .bf16) (w : FVec Ideal S128x2048 .bf16) (y) :
    k0_pay3 s a w y = s y + ∑ k : Fin 128, a (ix2 (y 0) k) * w (ix2 k (y 1)) := by pointwise [k0_pay3]

theorem idx : ∀ t : Fin cfg0.N, win0_0.index t = ![t.val / 9, t.val % 9] ∧ win0_1.index t = ![512 * (t.val % 9) + if t.val % 9 < 6 then 0 else 16, 0]
    ∧ win0_2.index t = ![t.val / 9, 0] ∧ win0_3.index t = ![0, 0] ∧ win0_4.index t = ![t.val / 9, 0] ∧ t.val / 9 < 2 :=
  (by decide +kernel : ∀ t : Fin grid0.N, _)

theorem last_only (q : ℕ) (f : Fin 9 → EReal) : (∑ s : Fin 9, if (9 * q + s.val) % 9 = 8 then f s else 0) = f 8 := by
  rw [Finset.sum_eq_single (8 : Fin 9)]
  · rw [if_pos]; show (9 * q + 8) % 9 = 8; omega
  · intro s _ hs
    rw [if_neg]
    have h8 : (s : ℕ) ≠ 8 := fun h => hs (Fin.ext h)
    have := s.isLt
    omega
  · exact fun h => absurd (Finset.mem_univ _) h

/-- The blocks at a grid point. -/
def X (c : Dev nD) (p : Fin cfg0.N) : FVec Ideal S1024x512 .bf16 := iblk m c 0 p
def G (c : Dev nD) (p : Fin cfg0.N) : FVec Ideal S512x2048 .bf16 := iblk m c 1 p
def Z (c : Dev nD) (p : Fin cfg0.N) : FVec Ideal S1024x128 .bf16 := iblk m c 2 p
def U (c : Dev nD) (p : Fin cfg0.N) : FVec Ideal S128x2048 .bf16 := iblk m c 3 p

variable {m} {c : Dev nD}
theorem G_at (t : Fin cfg0.N) (o : Fin 512) (d : Fin 2048) : G m c t (ix2 o d)
    = (m ((c : Thread nD τ).loc main_arg1) : FVec Ideal S4624x2048 .bf16) (ix2 ⟨512 * (t % 9) + o + if 512 * (t % 9) + o.val < 3072 then 0 else 16, by split <;> omega⟩ d) := by
  blk_ext [G, iblk, V, idx t]
  · refine (show _ = win0_1.index t 0 + 1 * (o : ℕ) from rfl).trans ((congrArg (fun v : Fin 2 → ℕ => v 0 + 1 * (o : ℕ)) (idx t).2.1).trans ?_)
    show 512 * (t.val % 9) + (if t.val % 9 < 6 then 0 else 16) + 1 * (o : ℕ) = _
    split <;> split <;> omega
  · refine (show _ = win0_1.index t 1 + 1 * (d : ℕ) from rfl).trans ((congrArg (fun v : Fin 2 → ℕ => v 1 + 1 * (d : ℕ)) (idx t).2.1).trans ?_)
    show 0 + 1 * (d : ℕ) = _
    omega
theorem X_at (t : Fin cfg0.N) (r : Fin 1024) (o : Fin 512) : X m c t (ix2 r o)
    = (m ((c : Thread nD τ).loc main_arg0) : FVec Ideal S2048x4608 .bf16) (ix2 ⟨1024 * (t / 9) + r, by have := (idx t).2.2.2.2.2; omega⟩ ⟨512 * (t % 9) + o, by omega⟩) := by
  blk_ext [X, iblk, V, idx t]
theorem Z_at (t : Fin cfg0.N) (r : Fin 1024) (o : Fin 128) : Z m c t (ix2 r o)
    = (m ((c : Thread nD τ).loc main_arg2) : FVec Ideal S2048x128 .bf16) (ix2 ⟨1024 * (t / 9) + r, by have := (idx t).2.2.2.2.2; omega⟩ o) := by
  blk_ext [Z, iblk, V, idx t]
theorem U_at (t : Fin cfg0.N) (o : Fin 128) (d : Fin 2048) : U m c t (ix2 o d)
    = (m ((c : Thread nD τ).loc main_arg3) : FVec Ideal S128x2048 .bf16) (ix2 o d) := by
  blk_ext [U, iblk, V, idx t]
theorem emb (t : Fin cfg0.N) (r : Fin 1024) (d : Fin 2048) (Y : FVec Ideal S2048x2048 .f32) :
    Y ((win0_4.blk t).view.emb (ix2 r d)) = Y (ix2 ⟨1024 * (t / 9) + r, by have := (idx t).2.2.2.2.2; omega⟩ d) := by
  blk_ext [idx t]

theorem final : (dats m 0 c).arrAt 4 (cfgs 0).N = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  obtain ⟨r, d, rfl⟩ : ∃ (r : Fin 1024) (d : Fin 2048), y = ix2 r d := ⟨y 0, y 1, (ix2_eta y).symm⟩
  rw [after0_4, Pipeline.eq_sum_fin_of_reset_step_apply_of_flush (fun n h => outsAt0 m c n h) 9 (fun _ => 0)
    (fun p j => (∑ k : Fin 512, X m c p (ix2 (j 0) k) * G m c p (ix2 k (j 1)))
      + if p.val % 9 = 8 then ∑ k : Fin 128, Z m c p (ix2 (j 0) k) * U m c p (ix2 k (j 1)) else 0)
    (fun t h j => by rw [outsAt0_A m c t h (by omega)]; frame_out; rw [step_at, zero_at, if_neg (by omega), add_zero]; rfl)
    (fun t h j => by
      by_cases h8 : t.val % 9 = 8
      · rw [outsAt0_C m c t h h8]; frame_out; rw [last_at, step_at, if_pos h8, add_assoc]; rfl
      · rw [outsAt0_B m c t h h8]; frame_out; rw [step_at, if_neg h8, add_zero]; rfl)
    t ((flush0_4 t).mp hf) _, zero_add]
  refine Eq.trans ?_ (emb t r d _).symm
  rw [ref_sum, split_sum, add_comm]
  refine (Finset.sum_add_distrib (M := EReal)).trans ?_
  have hf' := (flush0_4 t).mp hf
  refine congrArg₂ (fun a b : EReal => a + b) (Fin.sum_fin_congr fun s => Fin.sum_fin_congr fun k => ?_) ((last_only (t.val / 9) _).trans (Fin.sum_fin_congr fun k => ?_))
  · refine congrArg₂ (fun a b : EReal => a * b) ((X_at _ _ _).trans ?_) ((G_at _ _ _).trans ?_)
    · refine congrArg₂ (fun a b => (m ((c : Thread nD τ).loc main_arg0) : FVec Ideal S2048x4608 .bf16) (ix2 a b)) (Fin.ext ?_) (Fin.ext ?_)
      · show 1024 * ((9 * (t.val / 9) + s.val) / 9) + r.val = 1024 * (t.val / 9) + r.val
        omega
      · show 512 * ((9 * (t.val / 9) + s.val) % 9) + k.val = 512 * s.val + k.val
        omega
    · rw [rows_at]
      refine congrArg (fun a => (m ((c : Thread nD τ).loc main_arg1) : FVec Ideal S4624x2048 .bf16) (ix2 a d)) (Fin.ext ?_)
      show 512 * ((9 * (t.val / 9) + s.val) % 9) + k.val + (if 512 * ((9 * (t.val / 9) + s.val) % 9) + k.val < 3072 then 0 else 16) = 512 * s.val + k.val + (if 512 * s.val + k.val < 3072 then 0 else 16)
      rw [show (9 * (t.val / 9) + s.val) % 9 = s.val by omega]
  · refine congrArg₂ (fun a b : EReal => a * b) ((Z_at _ _ _).trans ?_) (U_at _ _ _)
    refine congrArg (fun a => (m ((c : Thread nD τ).loc main_arg2) : FVec Ideal S2048x128 .bf16) (ix2 a k)) (Fin.ext ?_)
    show 1024 * ((9 * (t.val / 9) + 8) / 9) + r.val = 1024 * (t.val / 9) + r.val
    omega

end Cert.Kernel18Ideal.Ffn
end
-- ==== Proof.Ffn.Further.lean ====
module

public import proofs.«01_k».proof.Defs
public import proofs.«01_k».proof.Proof.Ffn.AdamSmall
public import proofs.«01_k».proof.Proof.Ffn.One
public import proofs.«01_k».proof.Proof.Ffn.Two
public import proofs.«01_k».proof.Proof.Ffn.UpTwo
public import proofs.«01_k».proof.Proof.Ffn.Gate
public import proofs.«01_k».proof.Proof.Ffn.UpOne
public import proofs.«01_k».proof.Proof.Ffn.DownOne
public import proofs.«01_k».proof.Proof.Ffn.DownTwo
public import proofs.«01_k».proof.Proof.Ffn.RmsBack
public import proofs.«01_k».proof.Proof.Ffn.ProjOut
public import proofs.«01_k».proof.Proof.Ffn.ProjOutWeight
public import proofs.«01_k».proof.Proof.Ffn.ProjIn
public import proofs.«01_k».proof.Proof.Ffn.ProjInBack

@[expose] public section

set_option maxRecDepth 16384

noncomputable section

namespace Cert.Proof

open Idealize.ShloMosaic Idealize.ShloMosaic.TcCoe Idealize.SL.Sem

/-! ## The further calls of the step: feed-forward layers, the mixer's projections, the norm's gradients, the small update -/

theorem algebraic6 : Cert.algebraic_Kernel6Ideal_Reference6Ideal (hKernel6Ideal := Cert.Kernel6Ideal.Gen.facts)
    (hReference6Ideal := Cert.Reference6Ideal.Gen.facts) := by
  intro m ρ m' ρ' _ ha
  refine ⟨fun c => Cert.Kernel6Ideal.Ffn.total (m (c.tc.loc Cert.Kernel6Ideal.main_arg0)), fun c => Cert.Kernel6Ideal.Ffn.delta (Cert.Kernel6Ideal.Ffn.total (m (c.tc.loc Cert.Kernel6Ideal.main_arg0))) (m (c.tc.loc Cert.Kernel6Ideal.main_arg1)) (m (c.tc.loc Cert.Kernel6Ideal.main_arg2)) (m (c.tc.loc Cert.Kernel6Ideal.main_arg3)), fun c => Cert.Kernel6Ideal.Ffn.moment (Cert.Kernel6Ideal.Ffn.total (m (c.tc.loc Cert.Kernel6Ideal.main_arg0))) (m (c.tc.loc Cert.Kernel6Ideal.main_arg2)), fun c => Cert.Kernel6Ideal.Ffn.square (Cert.Kernel6Ideal.Ffn.total (m (c.tc.loc Cert.Kernel6Ideal.main_arg0))) (m (c.tc.loc Cert.Kernel6Ideal.main_arg3)), ?_, ?_⟩
  · refine (θ_run Cert.Kernel6Ideal.defs _ _).mono (fun r h c => ?_) (Cert.Kernel6Ideal.Value.run_blocks (F := Ideal) m ρ)
    obtain ⟨h0, h1, h2, h3, hr⟩ := h c
    exact ⟨h0.trans Cert.Kernel6Ideal.Ffn.final4, h1.trans Cert.Kernel6Ideal.Ffn.final5, h2.trans Cert.Kernel6Ideal.Ffn.final6, h3.trans Cert.Kernel6Ideal.Ffn.final7, hr⟩
  · refine (θ_run Cert.Reference6Ideal.defs _ _).mono (fun r h c => ?_) (Cert.Reference6Ideal.Value.run (F := Ideal) m' ρ')
    obtain ⟨h0, h1, h2, h3, hr⟩ := h c
    obtain ⟨e0, e1, e2, e3⟩ := ha c
    rw [e0] at h0
    rw [e0, e1, e2, e3] at h1
    rw [e0, e2] at h2
    rw [e0, e3] at h3
    exact ⟨h0, h1, h2, h3, hr⟩

theorem frame_reference6 : Cert.quiescent_Reference6Ideal (hReference6Ideal := Cert.Reference6Ideal.Gen.facts) := fun m ρ _ =>
  (θ_run Cert.Reference6Ideal.defs _ _).mono (fun r h => ⟨fun c => (h c).2.2.2.2, sem_eq_zero_of_no_sems (by decide) r.2⟩) (Cert.Reference6Ideal.Value.run (F := Ideal) m ρ)

theorem algebraic7 : Cert.algebraic_Kernel7Ideal_Reference7Ideal (hKernel7Ideal := Cert.Kernel7Ideal.Gen.facts)
    (hReference7Ideal := Cert.Reference7Ideal.Gen.facts) := by
  intro m ρ m' ρ' _ ha
  refine ⟨fun c => Cert.Kernel7Ideal.Ffn.ref (m (c.tc.loc Cert.Kernel7Ideal.main_arg0)) (m (c.tc.loc Cert.Kernel7Ideal.main_arg1)), ?_, ?_⟩
  · refine (θ_run Cert.Kernel7Ideal.defs _ _).mono (fun r h c => ?_) (Cert.Kernel7Ideal.Value.run_blocks (F := Ideal) m ρ)
    obtain ⟨h0, hr⟩ := h c
    exact ⟨h0.trans (Cert.Kernel7Ideal.Ffn.final m c), hr⟩
  · refine (θ_run Cert.Reference7Ideal.defs _ _).mono (fun r h c => ?_) (Cert.Reference7Ideal.Value.run (F := Ideal) m' ρ')
    obtain ⟨h0, hr⟩ := h c
    obtain ⟨e0, e1⟩ := ha c
    rw [e0, e1] at h0
    exact ⟨h0, hr⟩

theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩) (Cert.Reference7Ideal.Value.run (F := Ideal) m ρ)

theorem algebraic8 : Cert.algebraic_Kernel8Ideal_Reference8Ideal (hKernel8Ideal := Cert.Kernel8Ideal.Gen.facts)
    (hReference8Ideal := Cert.Reference8Ideal.Gen.facts) := by
  intro m ρ m' ρ' _ ha
  refine ⟨fun c => Cert.Kernel8Ideal.Ffn.ref (m (c.tc.loc Cert.Kernel8Ideal.main_arg0)) (m (c.tc.loc Cert.Kernel8Ideal.main_arg1)) (m (c.tc.loc Cert.Kernel8Ideal.main_arg2)), ?_, ?_⟩
  · refine (θ_run Cert.Kernel8Ideal.defs _ _).mono (fun r h c => ?_) (Cert.Kernel8Ideal.Value.run_blocks (F := Ideal) m ρ)
    obtain ⟨h0, hr⟩ := h c
    exact ⟨h0.trans (Cert.Kernel8Ideal.Ffn.final m c), hr⟩
  · refine (θ_run Cert.Reference8Ideal.defs _ _).mono (fun r h c => ?_) (Cert.Reference8Ideal.Value.run (F := Ideal) m' ρ')
    obtain ⟨h0, hr⟩ := h c
    obtain ⟨e0, e1, e2⟩ := ha c
    rw [e0, e1, e2] at h0
    exact ⟨h0, hr⟩

theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩) (Cert.Reference8Ideal.Value.run (F := Ideal) m ρ)

theorem algebraic9 : Cert.algebraic_Kernel9Ideal_Reference9Ideal (hKernel9Ideal := Cert.Kernel9Ideal.Gen.facts)
    (hReference9Ideal := Cert.Reference9Ideal.Gen.facts) := by
  intro m ρ m' ρ' _ ha
  refine ⟨fun c => Cert.Kernel9Ideal.Ffn.low (Cert.Kernel9Ideal.Ffn.lin (m (c.tc.loc Cert.Kernel9Ideal.main_arg0)) (m (c.tc.loc Cert.Kernel9Ideal.main_arg1))), fun c => Cert.Kernel9Ideal.Ffn.low (Cert.Kernel9Ideal.Ffn.lin (m (c.tc.loc Cert.Kernel9Ideal.main_arg0)) (m (c.tc.loc Cert.Kernel9Ideal.main_arg2))), fun c => Cert.Kernel9Ideal.Ffn.low (Cert.Kernel9Ideal.Ffn.gated (Cert.Kernel9Ideal.Ffn.lin (m (c.tc.loc Cert.Kernel9Ideal.main_arg0)) (m (c.tc.loc Cert.Kernel9Ideal.main_arg1))) (Cert.Kernel9Ideal.Ffn.lin (m (c.tc.loc Cert.Kernel9Ideal.main_arg0)) (m (c.tc.loc Cert.Kernel9Ideal.main_arg2)))), ?_, ?_⟩
  · refine (θ_run Cert.Kernel9Ideal.defs _ _).mono (fun r h c => ?_) (Cert.Kernel9Ideal.Value.run_blocks (F := Ideal) m ρ)
    obtain ⟨h0, h1, h2, hr⟩ := h c
    exact ⟨h0.trans Cert.Kernel9Ideal.Ffn.final3, h1.trans Cert.Kernel9Ideal.Ffn.final4, h2.trans Cert.Kernel9Ideal.Ffn.final5, hr⟩
  · refine (θ_run Cert.Reference9Ideal.defs _ _).mono (fun r h c => ?_) (Cert.Reference9Ideal.Value.run (F := Ideal) m' ρ')
    obtain ⟨h0, h1, h2, hr⟩ := h c
    obtain ⟨e0, e1, e2⟩ := ha c
    rw [e0, e1] at h0
    rw [e0, e2] at h1
    rw [e0, e1, e2] at h2
    exact ⟨h0, h1, h2, hr⟩

theorem frame_reference9 : Cert.quiescent_Reference9Ideal (hReference9Ideal := Cert.Reference9Ideal.Gen.facts) := fun m ρ _ =>
  (θ_run Cert.Reference9Ideal.defs _ _).mono (fun r h => ⟨fun c => (h c).2.2.2, sem_eq_zero_of_no_sems (by decide) r.2⟩) (Cert.Reference9Ideal.Value.run (F := Ideal) m ρ)

theorem algebraic10 : Cert.algebraic_Kernel10Ideal_Reference10Ideal (hKernel10Ideal := Cert.Kernel10Ideal.Gen.facts)
    (hReference10Ideal := Cert.Reference10Ideal.Gen.facts) := by
  intro m ρ m' ρ' _ ha
  refine ⟨fun c => Cert.Kernel10Ideal.Ffn.low (Cert.Kernel10Ideal.Ffn.lin (m (c.tc.loc Cert.Kernel10Ideal.main_arg0)) (m (c.tc.loc Cert.Kernel10Ideal.main_arg1))), ?_, ?_⟩
  · refine (θ_run Cert.Kernel10Ideal.defs _ _).mono (fun r h c => ?_) (Cert.Kernel10Ideal.Value.run_blocks (F := Ideal) m ρ)
    obtain ⟨h0, hr⟩ := h c
    exact ⟨h0.trans Cert.Kernel10Ideal.Ffn.final, hr⟩
  · refine (θ_run Cert.Reference10Ideal.defs _ _).mono (fun r h c => ?_) (Cert.Reference10Ideal.Value.run (F := Ideal) m' ρ')
    obtain ⟨h0, hr⟩ := h c
    obtain ⟨e0, e1⟩ := ha c
    rw [e0, e1] at h0
    exact ⟨h0, hr⟩

theorem frame_reference10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩) (Cert.Reference10Ideal.Value.run (F := Ideal) m ρ)

theorem algebraic11 : Cert.algebraic_Kernel11Ideal_Reference11Ideal (hKernel11Ideal := Cert.Kernel11Ideal.Gen.facts)
    (hReference11Ideal := Cert.Reference11Ideal.Gen.facts) := by
  intro m ρ m' ρ' _ ha
  refine ⟨fun c => Cert.Kernel11Ideal.Ffn.low (Cert.Kernel11Ideal.Ffn.lin (m (c.tc.loc Cert.Kernel11Ideal.main_arg0)) (m (c.tc.loc Cert.Kernel11Ideal.main_arg1))), fun c => Cert.Kernel11Ideal.Ffn.low (Cert.Kernel11Ideal.Ffn.gated (Cert.Kernel11Ideal.Ffn.wide (m (c.tc.loc Cert.Kernel11Ideal.main_arg2))) (Cert.Kernel11Ideal.Ffn.lin (m (c.tc.loc Cert.Kernel11Ideal.main_arg0)) (m (c.tc.loc Cert.Kernel11Ideal.main_arg1)))), ?_, ?_⟩
  · refine (θ_run Cert.Kernel11Ideal.defs _ _).mono (fun r h c => ?_) (Cert.Kernel11Ideal.Value.run_blocks (F := Ideal) m ρ)
    obtain ⟨h0, h1, hr⟩ := h c
    exact ⟨h0.trans Cert.Kernel11Ideal.Ffn.final3, h1.trans Cert.Kernel11Ideal.Ffn.final4, hr⟩
  · refine (θ_run Cert.Reference11Ideal.defs _ _).mono (fun r h c => ?_) (Cert.Reference11Ideal.Value.run (F := Ideal) m' ρ')
    obtain ⟨h0, h1, hr⟩ := h c
    obtain ⟨e0, e1, e2⟩ := ha c
    rw [e0, e1] at h0
    rw [e0, e1, e2] at h1
    exact ⟨h0, h1, hr⟩

theorem frame_reference11 : Cert.quiescent_Reference11Ideal (hReference11Ideal := Cert.Reference11Ideal.Gen.facts) := fun m ρ _ =>
  (θ_run Cert.Reference11Ideal.defs _ _).mono (fun r h => ⟨fun c => (h c).2.2, sem_eq_zero_of_no_sems (by decide) r.2⟩) (Cert.Reference11Ideal.Value.run (F := Ideal) m ρ)

theorem algebraic12 : Cert.algebraic_Kernel12Ideal_Reference12Ideal (hKernel12Ideal := Cert.Kernel12Ideal.Gen.facts)
    (hReference12Ideal := Cert.Reference12Ideal.Gen.facts) := by
  intro m ρ m' ρ' _ ha
  refine ⟨fun c => Cert.Kernel12Ideal.Ffn.ref (m (c.tc.loc Cert.Kernel12Ideal.main_arg0)) (m (c.tc.loc Cert.Kernel12Ideal.main_arg1)) (m (c.tc.loc Cert.Kernel12Ideal.main_arg2)), ?_, ?_⟩
  · refine (θ_run Cert.Kernel12Ideal.defs _ _).mono (fun r h c => ?_) (Cert.Kernel12Ideal.Value.run_blocks (F := Ideal) m ρ)
    obtain ⟨h0, hr⟩ := h c
    exact ⟨h0.trans (Cert.Kernel12Ideal.Ffn.final m c), hr⟩
  · refine (θ_run Cert.Reference12Ideal.defs _ _).mono (fun r h c => ?_) (Cert.Reference12Ideal.Value.run (F := Ideal) m' ρ')
    obtain ⟨h0, hr⟩ := h c
    obtain ⟨e0, e1, e2⟩ := ha c
    rw [e0, e1, e2] at h0
    exact ⟨h0, hr⟩

theorem frame_reference12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩) (Cert.Reference12Ideal.Value.run (F := Ideal) m ρ)

theorem algebraic13 : Cert.algebraic_Kernel13Ideal_Reference13Ideal (hKernel13Ideal := Cert.Kernel13Ideal.Gen.facts)
    (hReference13Ideal := Cert.Reference13Ideal.Gen.facts) := by
  intro m ρ m' ρ' _ ha
  refine ⟨fun c => Cert.Kernel13Ideal.Ffn.ref (m (c.tc.loc Cert.Kernel13Ideal.main_arg0)) (m (c.tc.loc Cert.Kernel13Ideal.main_arg1)) (m (c.tc.loc Cert.Kernel13Ideal.main_arg2)), ?_, ?_⟩
  · refine (θ_run Cert.Kernel13Ideal.defs _ _).mono (fun r h c => ?_) (Cert.Kernel13Ideal.Value.run_blocks (F := Ideal) m ρ)
    obtain ⟨h0, hr⟩ := h c
    exact ⟨h0.trans (Cert.Kernel13Ideal.Ffn.final m c), hr⟩
  · refine (θ_run Cert.Reference13Ideal.defs _ _).mono (fun r h c => ?_) (Cert.Reference13Ideal.Value.run (F := Ideal) m' ρ')
    obtain ⟨h0, hr⟩ := h c
    obtain ⟨e0, e1, e2⟩ := ha c
    rw [e0, e1, e2] at h0
    exact ⟨h0, hr⟩

theorem frame_reference13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩) (Cert.Reference13Ideal.Value.run (F := Ideal) m ρ)

theorem algebraic14 : Cert.algebraic_Kernel14Ideal_Reference14Ideal (hKernel14Ideal := Cert.Kernel14Ideal.Gen.facts)
    (hReference14Ideal := Cert.Reference14Ideal.Gen.facts) := by
  intro m ρ m' ρ' _ ha
  refine ⟨fun c => Cert.Kernel14Ideal.Ffn.ref (m (c.tc.loc Cert.Kernel14Ideal.main_arg0)) (m (c.tc.loc Cert.Kernel14Ideal.main_arg1)) (m (c.tc.loc Cert.Kernel14Ideal.main_arg2)) (m (c.tc.loc Cert.Kernel14Ideal.main_arg3)), fun c => Cert.Kernel14Ideal.Ffn.gain (m (c.tc.loc Cert.Kernel14Ideal.main_arg0)) (m (c.tc.loc Cert.Kernel14Ideal.main_arg1)), ?_, ?_⟩
  · refine (θ_run Cert.Kernel14Ideal.defs _ _).mono (fun r h c => ?_) (Cert.Kernel14Ideal.Value.run_blocks (F := Ideal) m ρ)
    obtain ⟨h0, h1, hr⟩ := h c
    exact ⟨h0.trans Cert.Kernel14Ideal.Ffn.final4, h1.trans Cert.Kernel14Ideal.Ffn.final5, hr⟩
  · refine (θ_run Cert.Reference14Ideal.defs _ _).mono (fun r h c => ?_) (Cert.Reference14Ideal.Value.run (F := Ideal) m' ρ')
    obtain ⟨h0, h1, hr⟩ := h c
    obtain ⟨e0, e1, e2, e3⟩ := ha c
    rw [e0, e1, e2, e3] at h0
    rw [e0, e1] at h1
    exact ⟨h0, h1, hr⟩

theorem frame_reference14 : Cert.quiescent_Reference14Ideal (hReference14Ideal := Cert.Reference14Ideal.Gen.facts) := fun m ρ _ =>
  (θ_run Cert.Reference14Ideal.defs _ _).mono (fun r h => ⟨fun c => (h c).2.2, sem_eq_zero_of_no_sems (by decide) r.2⟩) (Cert.Reference14Ideal.Value.run (F := Ideal) m ρ)

theorem algebraic15 : Cert.algebraic_Kernel15Ideal_Reference15Ideal (hKernel15Ideal := Cert.Kernel15Ideal.Gen.facts)
    (hReference15Ideal := Cert.Reference15Ideal.Gen.facts) := by
  intro m ρ m' ρ' _ ha
  refine ⟨fun c => Cert.Kernel15Ideal.Ffn.ref (m (c.tc.loc Cert.Kernel15Ideal.main_arg0)) (m (c.tc.loc Cert.Kernel15Ideal.main_arg1)) (m (c.tc.loc Cert.Kernel15Ideal.main_arg2)), ?_, ?_⟩
  · refine (θ_run Cert.Kernel15Ideal.defs _ _).mono (fun r h c => ?_) (Cert.Kernel15Ideal.Value.run_blocks (F := Ideal) m ρ)
    obtain ⟨h0, hr⟩ := h c
    exact ⟨h0.trans (Cert.Kernel15Ideal.Ffn.final m c), hr⟩
  · refine (θ_run Cert.Reference15Ideal.defs _ _).mono (fun r h c => ?_) (Cert.Reference15Ideal.Value.run (F := Ideal) m' ρ')
    obtain ⟨h0, hr⟩ := h c
    obtain ⟨e0, e1, e2⟩ := ha c
    rw [e0, e1, e2] at h0
    exact ⟨h0, hr⟩

theorem frame_reference15 : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩) (Cert.Reference15Ideal.Value.run (F := Ideal) m ρ)

theorem algebraic16 : Cert.algebraic_Kernel16Ideal_Reference16Ideal (hKernel16Ideal := Cert.Kernel16Ideal.Gen.facts)
    (hReference16Ideal := Cert.Reference16Ideal.Gen.facts) := by
  intro m ρ m' ρ' _ ha
  refine ⟨fun c => Cert.Kernel16Ideal.Ffn.ref (m (c.tc.loc Cert.Kernel16Ideal.main_arg0)) (m (c.tc.loc Cert.Kernel16Ideal.main_arg1)), ?_, ?_⟩
  · refine (θ_run Cert.Kernel16Ideal.defs _ _).mono (fun r h c => ?_) (Cert.Kernel16Ideal.Value.run_blocks (F := Ideal) m ρ)
    obtain ⟨h0, hr⟩ := h c
    exact ⟨h0.trans (Cert.Kernel16Ideal.Ffn.final m c), hr⟩
  · refine (θ_run Cert.Reference16Ideal.defs _ _).mono (fun r h c => ?_) (Cert.Reference16Ideal.Value.run (F := Ideal) m' ρ')
    obtain ⟨h0, hr⟩ := h c
    obtain ⟨e0, e1⟩ := ha c
    rw [e0, e1] at h0
    exact ⟨h0, hr⟩

theorem frame_reference16 : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩) (Cert.Reference16Ideal.Value.run (F := Ideal) m ρ)

theorem algebraic17 : Cert.algebraic_Kernel17Ideal_Reference17Ideal (hKernel17Ideal := Cert.Kernel17Ideal.Gen.facts)
    (hReference17Ideal := Cert.Reference17Ideal.Gen.facts) := by
  intro m ρ m' ρ' _ ha
  refine ⟨fun c => Cert.Kernel17Ideal.Ffn.ref (m (c.tc.loc Cert.Kernel17Ideal.main_arg0)) (m (c.tc.loc Cert.Kernel17Ideal.main_arg1)), fun c => Cert.Kernel17Ideal.Ffn.low (Cert.Kernel17Ideal.Ffn.ref (m (c.tc.loc Cert.Kernel17Ideal.main_arg0)) (m (c.tc.loc Cert.Kernel17Ideal.main_arg1))), ?_, ?_⟩
  · refine (θ_run Cert.Kernel17Ideal.defs _ _).mono (fun r h c => ?_) (Cert.Kernel17Ideal.Value.run_blocks (F := Ideal) m ρ)
    obtain ⟨h0, h1, hr⟩ := h c
    exact ⟨h0.trans Cert.Kernel17Ideal.Ffn.final2, h1.trans Cert.Kernel17Ideal.Ffn.final3, hr⟩
  · refine (θ_run Cert.Reference17Ideal.defs _ _).mono (fun r h c => ?_) (Cert.Reference17Ideal.Value.run (F := Ideal) m' ρ')
    obtain ⟨h0, h1, hr⟩ := h c
    obtain ⟨e0, e1⟩ := ha c
    rw [e0, e1] at h0
    rw [e0, e1] at h1
    exact ⟨h0, h1, hr⟩

theorem frame_reference17 : Cert.quiescent_Reference17Ideal (hReference17Ideal := Cert.Reference17Ideal.Gen.facts) := fun m ρ _ =>
  (θ_run Cert.Reference17Ideal.defs _ _).mono (fun r h => ⟨fun c => (h c).2.2, sem_eq_zero_of_no_sems (by decide) r.2⟩) (Cert.Reference17Ideal.Value.run (F := Ideal) m ρ)

theorem algebraic18 : Cert.algebraic_Kernel18Ideal_Reference18Ideal (hKernel18Ideal := Cert.Kernel18Ideal.Gen.facts)
    (hReference18Ideal := Cert.Reference18Ideal.Gen.facts) := by
  intro m ρ m' ρ' _ ha
  refine ⟨fun c => Cert.Kernel18Ideal.Ffn.ref (m (c.tc.loc Cert.Kernel18Ideal.main_arg0)) (m (c.tc.loc Cert.Kernel18Ideal.main_arg1)) (m (c.tc.loc Cert.Kernel18Ideal.main_arg2)) (m (c.tc.loc Cert.Kernel18Ideal.main_arg3)), ?_, ?_⟩
  · refine (θ_run Cert.Kernel18Ideal.defs _ _).mono (fun r h c => ?_) (Cert.Kernel18Ideal.Value.run_blocks (F := Ideal) m ρ)
    obtain ⟨h0, hr⟩ := h c
    exact ⟨h0.trans Cert.Kernel18Ideal.Ffn.final, hr⟩
  · refine (θ_run Cert.Reference18Ideal.defs _ _).mono (fun r h c => ?_) (Cert.Reference18Ideal.Value.run (F := Ideal) m' ρ')
    obtain ⟨h0, hr⟩ := h c
    obtain ⟨e0, e1, e2, e3⟩ := ha c
    rw [e0, e1, e2, e3] at h0
    exact ⟨h0, hr⟩

theorem frame_reference18 : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩) (Cert.Reference18Ideal.Value.run (F := Ideal) m ρ)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.FoxKernel.Run
public import proofs.«01_k».proof.Proof.FoxKernelIdeal.Run
public import proofs.«01_k».proof.Proof.FoxKernelIdeal.Result
public import proofs.«01_k».proof.Proof.FoxKernelIdeal.Entry
public import proofs.«01_k».proof.Proof.FoxReference.Agree
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal
public import proofs.«01_k».proof.Proof.Gen.Kernel13.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal
public import proofs.«01_k».proof.Proof.Gen.Kernel14.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal
public import proofs.«01_k».proof.Proof.Gen.Kernel15.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16Ideal
public import proofs.«01_k».proof.Proof.Gen.Kernel16.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17Ideal
public import proofs.«01_k».proof.Proof.Gen.Kernel17.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18Ideal
public import proofs.«01_k».proof.Proof.Gen.Kernel18.Frame
public import proofs.«01_k».proof.Proof.Gen.Kernel18Ideal.Value
public import proofs.«01_k».proof.Proof.Gen.Reference18Ideal
public import proofs.«01_k».proof.Proof.Gen.Reference18Ideal.Run
public import proofs.«01_k».proof.Proof.Ffn.Claims
public import proofs.«01_k».proof.Proof.Ffn.Further
public import Idealize.ShloMosaic.Lib.Claim

@[expose] public section

noncomputable section

namespace Cert.Proof

open Idealize.ShloMosaic Idealize.ShloMosaic.TcCoe Idealize.SL.Sem
open Cert.KernelIdeal.Fox (G aDq aDk aDv aDck aDcq realG realIn RealIn)

section
open Cert.KernelIdeal Cert.KernelIdeal.Gen Cert.KernelIdeal.Fox

theorem at9 (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_v43_0) = (dats m 0 c).arrAt 9 cfg0.N := (h c).1 9
theorem at10 (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_v43_1) = (dats m 0 c).arrAt 10 cfg0.N := (h c).1 10
theorem at11 (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_v43_2) = (dats m 0 c).arrAt 11 cfg0.N := (h c).1 11
theorem at12 (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_v43_3) = (dats m 0 c).arrAt 12 cfg0.N := (h c).1 12
theorem at13 (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_v43_4) = (dats m 0 c).arrAt 13 cfg0.N := (h c).1 13
theorem at14 (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_v43_5) = (dats m 0 c).arrAt 14 cfg0.N := (h c).1 14
theorem at15 (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_v43_6) = (dats m 0 c).arrAt 15 cfg0.N := (h c).1 15
/-- What the kernel leaves in its results, its arguments unchanged. -/
theorem kernel_run (m : (ℓ : Loc nD τ sig) → Buf (Elt Ideal) ℓ) (ρ : Dev nD → PrngReg) (gg : Dev nD → G)
    (hI : ∀ c, RealIn (aQ m c) (aK m c) (aV m c) (aD m c) (aC m c) (gg c)) :
    θ_run (Cert.KernelIdeal.defs (F := Ideal)) (onTc (τ := τ) (main (F := Ideal))) ⟨m, fun _ => 0, ρ⟩ fun r => ∀ c : Dev nD,
      (r.2.mem ((c.tc : Thread nD τ).loc main_v43_0) = aDq (gg c)
      ∧ r.2.mem ((c.tc : Thread nD τ).loc main_v43_1) = aDk (gg c)
      ∧ (∀ (p : Fin 2048) (j : Fin 1024), (r.2.mem ((c.tc : Thread nD τ).loc main_v43_2) : FVec Ideal S2048x4608 .bf16) (ix2 p ⟨2048 + j, by omega⟩) = aDv (gg c) (ix2 p ⟨2048 + j, by omega⟩))
      ∧ r.2.mem ((c.tc : Thread nD τ).loc main_v43_3) = aDck 0 (gg c)
      ∧ r.2.mem ((c.tc : Thread nD τ).loc main_v43_4) = aDck 1 (gg c)
      ∧ r.2.mem ((c.tc : Thread nD τ).loc main_v43_5) = aDcq 0 (gg c)
      ∧ r.2.mem ((c.tc : Thread nD τ).loc main_v43_6) = aDcq 1 (gg c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨?_, h.2.1 c⟩) (θ_run_and (run_main m ρ) (frame m ρ))
  have hB := fun t : Fin grid0.N => good_blk (hI c) t
  have h1 := h.1
  clear h
  refine ⟨(at9 m r h1 c).trans (final9 hB), (at10 m r h1 c).trans (final10 hB), fun p j => (congrFun (at11 m r h1 c) _).trans (final11 hB p j),
    (at12 m r h1 c).trans (final12 hB), (at13 m r h1 c).trans (final13 hB), (at14 m r h1 c).trans (final14 hB), (at15 m r h1 c).trans (final15 hB)⟩
end

section
open Cert.ReferenceIdeal Cert.ReferenceIdeal.Gen Cert.ReferenceIdeal.Fox Cert.ReferenceIdeal.Value

/-- What the reference leaves in its results, its arguments unchanged. -/
theorem reference_run (m : (ℓ : Loc nD τ sig) → Buf (Elt Ideal) ℓ) (ρ : Dev nD → PrngReg) (gg : Dev nD → G)
    (hI : ∀ c, RealIn (aQ m c) (aK m c) (aV m c) (aD m c) (aC m c) (gg c)) :
    θ_run (Cert.ReferenceIdeal.defs (F := Ideal)) (onTc (τ := τ) (main (F := Ideal))) ⟨m, fun _ => 0, ρ⟩ fun r => ∀ c : Dev nD,
      (r.2.mem ((c.tc : Thread nD τ).loc main_v79) = aDq (gg c)
      ∧ r.2.mem ((c.tc : Thread nD τ).loc main_v80) = aDk (gg c)
      ∧ (∀ (p : Fin 2048) (j : Fin 1024), (r.2.mem ((c.tc : Thread nD τ).loc main_v78) : FVec Ideal S2048x4608 .bf16) (ix2 p ⟨2048 + j, by omega⟩) = aDv (gg c) (ix2 p ⟨2048 + j, by omega⟩))
      ∧ r.2.mem ((c.tc : Thread nD τ).loc main_v84) = aDck 0 (gg c)
      ∧ r.2.mem ((c.tc : Thread nD τ).loc main_v88) = aDck 1 (gg c)
      ∧ r.2.mem ((c.tc : Thread nD τ).loc main_v92) = aDcq 0 (gg c)
      ∧ r.2.mem ((c.tc : Thread nD τ).loc main_v96) = aDcq 1 (gg c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ?_) (Cert.ReferenceIdeal.Value.run (F := Ideal) m ρ)
  obtain ⟨h0, h1, h2, h3, h4, h5, h6, ha⟩ := h c
  exact ⟨⟨h0.trans (ref0 (hI c)), h1.trans (ref1 (hI c)), fun p j => (congrFun h2 _).trans (ref2 (hI c) p j), h3.trans (ref3 (hI c)),
    h4.trans (ref4 (hI c)), h5.trans (ref5 (hI c)), h6.trans (ref6 (hI c))⟩, ha⟩
end

theorem algebraic : Cert.algebraic_KernelIdeal_ReferenceIdeal_on_written_pre_finite (hKernelIdeal := Cert.KernelIdeal.Gen.facts)
    (hReferenceIdeal := Cert.ReferenceIdeal.Gen.facts) (hPre_finite := Cert.KernelIdeal.Fox.preFacts) (hOn_written := Cert.KernelIdeal.Fox.onFacts) := by
  intro m ρ m' ρ' hp ha
  have hI := fun c => realIn (Cert.KernelIdeal.Fox.aQ m c) (Cert.KernelIdeal.Fox.aK m c) (Cert.KernelIdeal.Fox.aV m c) (Cert.KernelIdeal.Fox.aD m c) (Cert.KernelIdeal.Fox.aC m c) (hp c)
  generalize hgg : (fun c => realG (Cert.KernelIdeal.Fox.aQ m c) (Cert.KernelIdeal.Fox.aK m c) (Cert.KernelIdeal.Fox.aV m c) (Cert.KernelIdeal.Fox.aD m c) (Cert.KernelIdeal.Fox.aC m c)) = gg
  replace hI : ∀ c, RealIn (Cert.KernelIdeal.Fox.aQ m c) (Cert.KernelIdeal.Fox.aK m c) (Cert.KernelIdeal.Fox.aV m c) (Cert.KernelIdeal.Fox.aD m c) (Cert.KernelIdeal.Fox.aC m c) (gg c) := fun c => by
    rw [← hgg]; exact hI c
  have hI' : ∀ c, RealIn (Cert.ReferenceIdeal.Fox.aQ m' c) (Cert.ReferenceIdeal.Fox.aK m' c) (Cert.ReferenceIdeal.Fox.aV m' c) (Cert.ReferenceIdeal.Fox.aD m' c) (Cert.ReferenceIdeal.Fox.aC m' c) (gg c) := fun c => by
    obtain ⟨e0, e1, e2, e3, e4⟩ := ha c
    unfold Cert.ReferenceIdeal.Fox.aQ Cert.ReferenceIdeal.Fox.aK Cert.ReferenceIdeal.Fox.aV Cert.ReferenceIdeal.Fox.aD Cert.ReferenceIdeal.Fox.aC
    rw [e0, e1, e2, e3, e4]
    exact hI c
  refine ⟨fun c => aDq (gg c), fun c => aDk (gg c), fun c => aDv (gg c), fun c => aDck 0 (gg c), fun c => aDck 1 (gg c), fun c => aDcq 0 (gg c), fun c => aDcq 1 (gg c),
    (θ_run _ _ _).mono (fun r h c => ?_) (kernel_run m ρ gg hI), (θ_run _ _ _).mono (fun r h c => ?_) (reference_run m' ρ' gg hI')⟩
  · obtain ⟨⟨h0, h1, h2, h3, h4, h5, h6⟩, ha⟩ := h c
    refine ⟨fun i _ => congrFun h0 i, fun i _ => congrFun h1 i, fun i hi => ?_, fun i _ => congrFun h3 i, fun i _ => congrFun h4 i, fun i _ => congrFun h5 i, fun i _ => congrFun h6 i, ha⟩
    obtain ⟨p, j, rfl⟩ := Cert.KernelIdeal.Fox.on_third _ _ _ _ _ i hi
    exact h2 p j
  · obtain ⟨⟨h0, h1, h2, h3, h4, h5, h6⟩, ha⟩ := h c
    refine ⟨fun i _ => congrFun h0 i, fun i _ => congrFun h1 i, fun i hi => ?_, fun i _ => congrFun h3 i, fun i _ => congrFun h4 i, fun i _ => congrFun h5 i, fun i _ => congrFun h6 i, ha⟩
    obtain ⟨p, j, rfl⟩ := Cert.KernelIdeal.Fox.on_third _ _ _ _ _ i hi
    exact h2 p j

/-- The reference's run leaves its arguments as they were, and it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.KernelIdeal.Fox.preFacts, preMid, Cert.KernelIdeal.Fox.onFacts,
  fun m ρ _ => Cert.Kernel.Fox.frame m ρ, fun m ρ _ => Cert.KernelIdeal.Fox.frame m ρ, fun m ρ _ => Cert.KernelIdeal.Fox.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  IdealRules.named_const.statement Cert.KernelIdeal.κ "mask" .f32 0xF149F2CA#32 ⊥ rfl, algebraic,
  trivial, algebraic2, trivial, algebraic3, trivial, algebraic4, trivial, algebraic5,
  trivial, algebraic6, trivial, algebraic7, trivial, algebraic8, trivial, algebraic9,
  trivial, algebraic10, trivial, algebraic11, trivial, algebraic12, trivial, algebraic13,
  trivial, algebraic14, trivial, algebraic15, trivial, algebraic16, trivial, algebraic17, trivial, algebraic18⟩

end Cert.Proof
end
